-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_KernelHIdeal_finite_h [hPre_finite_h : Cert.Pre_finite_h.Facts] (m : (ℓ : Loc Cert.KernelHIdeal.nD Cert.KernelHIdeal.τ Cert.KernelHIdeal.sig) → Buf (Elt Ideal) ℓ) : Prop :=
  ∀ c : Dev Cert.KernelHIdeal.nD,
    (Cert.Pre_finite_h.fn (F := Ideal) (m ((c.tc : Thread Cert.KernelHIdeal.nD Cert.KernelHIdeal.τ).loc Cert.KernelHIdeal.main_arg0)) (m ((c.tc : Thread Cert.KernelHIdeal.nD Cert.KernelHIdeal.τ).loc Cert.KernelHIdeal.main_arg1)) (m ((c.tc : Thread Cert.KernelHIdeal.nD Cert.KernelHIdeal.τ).loc Cert.KernelHIdeal.main_arg2)) (m ((c.tc : Thread Cert.KernelHIdeal.nD Cert.KernelHIdeal.τ).loc Cert.KernelHIdeal.main_arg3)) (m ((c.tc : Thread Cert.KernelHIdeal.nD Cert.KernelHIdeal.τ).loc Cert.KernelHIdeal.main_arg4)) (m ((c.tc : Thread Cert.KernelHIdeal.nD Cert.KernelHIdeal.τ).loc Cert.KernelHIdeal.main_arg5)) (m ((c.tc : Thread Cert.KernelHIdeal.nD Cert.KernelHIdeal.τ).loc Cert.KernelHIdeal.main_arg6)) (m ((c.tc : Thread Cert.KernelHIdeal.nD Cert.KernelHIdeal.τ).loc Cert.KernelHIdeal.main_arg7)) (m ((c.tc : Thread Cert.KernelHIdeal.nD Cert.KernelHIdeal.τ).loc Cert.KernelHIdeal.main_arg8))).1 = (fun _ => 1#1)
    ∧ (Cert.Pre_finite_h.fn (F := Ideal) (m ((c.tc : Thread Cert.KernelHIdeal.nD Cert.KernelHIdeal.τ).loc Cert.KernelHIdeal.main_arg0)) (m ((c.tc : Thread Cert.KernelHIdeal.nD Cert.KernelHIdeal.τ).loc Cert.KernelHIdeal.main_arg1)) (m ((c.tc : Thread Cert.KernelHIdeal.nD Cert.KernelHIdeal.τ).loc Cert.KernelHIdeal.main_arg2)) (m ((c.tc : Thread Cert.KernelHIdeal.nD Cert.KernelHIdeal.τ).loc Cert.KernelHIdeal.main_arg3)) (m ((c.tc : Thread Cert.KernelHIdeal.nD Cert.KernelHIdeal.τ).loc Cert.KernelHIdeal.main_arg4)) (m ((c.tc : Thread Cert.KernelHIdeal.nD Cert.KernelHIdeal.τ).loc Cert.KernelHIdeal.main_arg5)) (m ((c.tc : Thread Cert.KernelHIdeal.nD Cert.KernelHIdeal.τ).loc Cert.KernelHIdeal.main_arg6)) (m ((c.tc : Thread Cert.KernelHIdeal.nD Cert.KernelHIdeal.τ).loc Cert.KernelHIdeal.main_arg7)) (m ((c.tc : Thread Cert.KernelHIdeal.nD Cert.KernelHIdeal.τ).loc Cert.KernelHIdeal.main_arg8))).2.1 = (fun _ => 1#1)
    ∧ (Cert.Pre_finite_h.fn (F := Ideal) (m ((c.tc : Thread Cert.KernelHIdeal.nD Cert.KernelHIdeal.τ).loc Cert.KernelHIdeal.main_arg0)) (m ((c.tc : Thread Cert.KernelHIdeal.nD Cert.KernelHIdeal.τ).loc Cert.KernelHIdeal.main_arg1)) (m ((c.tc : Thread Cert.KernelHIdeal.nD Cert.KernelHIdeal.τ).loc Cert.KernelHIdeal.main_arg2)) (m ((c.tc : Thread Cert.KernelHIdeal.nD Cert.KernelHIdeal.τ).loc Cert.KernelHIdeal.main_arg3)) (m ((c.tc : Thread Cert.KernelHIdeal.nD Cert.KernelHIdeal.τ).loc Cert.KernelHIdeal.main_arg4)) (m ((c.tc : Thread Cert.KernelHIdeal.nD Cert.KernelHIdeal.τ).loc Cert.KernelHIdeal.main_arg5)) (m ((c.tc : Thread Cert.KernelHIdeal.nD Cert.KernelHIdeal.τ).loc Cert.KernelHIdeal.main_arg6)) (m ((c.tc : Thread Cert.KernelHIdeal.nD Cert.KernelHIdeal.τ).loc Cert.KernelHIdeal.main_arg7)) (m ((c.tc : Thread Cert.KernelHIdeal.nD Cert.KernelHIdeal.τ).loc Cert.KernelHIdeal.main_arg8))).2.2.1 = (fun _ => 1#1)
    ∧ (Cert.Pre_finite_h.fn (F := Ideal) (m ((c.tc : Thread Cert.KernelHIdeal.nD Cert.KernelHIdeal.τ).loc Cert.KernelHIdeal.main_arg0)) (m ((c.tc : Thread Cert.KernelHIdeal.nD Cert.KernelHIdeal.τ).loc Cert.KernelHIdeal.main_arg1)) (m ((c.tc : Thread Cert.KernelHIdeal.nD Cert.KernelHIdeal.τ).loc Cert.KernelHIdeal.main_arg2)) (m ((c.tc : Thread Cert.KernelHIdeal.nD Cert.KernelHIdeal.τ).loc Cert.KernelHIdeal.main_arg3)) (m ((c.tc : Thread Cert.KernelHIdeal.nD Cert.KernelHIdeal.τ).loc Cert.KernelHIdeal.main_arg4)) (m ((c.tc : Thread Cert.KernelHIdeal.nD Cert.KernelHIdeal.τ).loc Cert.KernelHIdeal.main_arg5)) (m ((c.tc : Thread Cert.KernelHIdeal.nD Cert.KernelHIdeal.τ).loc Cert.KernelHIdeal.main_arg6)) (m ((c.tc : Thread Cert.KernelHIdeal.nD Cert.KernelHIdeal.τ).loc Cert.KernelHIdeal.main_arg7)) (m ((c.tc : Thread Cert.KernelHIdeal.nD Cert.KernelHIdeal.τ).loc Cert.KernelHIdeal.main_arg8))).2.2.2 = (fun _ => 1#1)

def Pre_ReferenceHIdeal (m : (ℓ : Loc Cert.ReferenceHIdeal.nD Cert.ReferenceHIdeal.τ Cert.ReferenceHIdeal.sig) → Buf (Elt Ideal) ℓ) : Prop :=
  True

def Pre_ReferenceHIdeal_finite_h [hPre_finite_h : Cert.Pre_finite_h.Facts] (m : (ℓ : Loc Cert.ReferenceHIdeal.nD Cert.ReferenceHIdeal.τ Cert.ReferenceHIdeal.sig) → Buf (Elt Ideal) ℓ) : Prop :=
  ∀ c : Dev Cert.ReferenceHIdeal.nD,
    (Cert.Pre_finite_h.fn (F := Ideal) (m ((c.tc : Thread Cert.ReferenceHIdeal.nD Cert.ReferenceHIdeal.τ).loc Cert.ReferenceHIdeal.main_arg0)) (m ((c.tc : Thread Cert.ReferenceHIdeal.nD Cert.ReferenceHIdeal.τ).loc Cert.ReferenceHIdeal.main_arg1)) (m ((c.tc : Thread Cert.ReferenceHIdeal.nD Cert.ReferenceHIdeal.τ).loc Cert.ReferenceHIdeal.main_arg2)) (m ((c.tc : Thread Cert.ReferenceHIdeal.nD Cert.ReferenceHIdeal.τ).loc Cert.ReferenceHIdeal.main_arg3)) (m ((c.tc : Thread Cert.ReferenceHIdeal.nD Cert.ReferenceHIdeal.τ).loc Cert.ReferenceHIdeal.main_arg4)) (m ((c.tc : Thread Cert.ReferenceHIdeal.nD Cert.ReferenceHIdeal.τ).loc Cert.ReferenceHIdeal.main_arg5)) (m ((c.tc : Thread Cert.ReferenceHIdeal.nD Cert.ReferenceHIdeal.τ).loc Cert.ReferenceHIdeal.main_arg6)) (m ((c.tc : Thread Cert.ReferenceHIdeal.nD Cert.ReferenceHIdeal.τ).loc Cert.ReferenceHIdeal.main_arg7)) (m ((c.tc : Thread Cert.ReferenceHIdeal.nD Cert.ReferenceHIdeal.τ).loc Cert.ReferenceHIdeal.main_arg8))).1 = (fun _ => 1#1)
    ∧ (Cert.Pre_finite_h.fn (F := Ideal) (m ((c.tc : Thread Cert.ReferenceHIdeal.nD Cert.ReferenceHIdeal.τ).loc Cert.ReferenceHIdeal.main_arg0)) (m ((c.tc : Thread Cert.ReferenceHIdeal.nD Cert.ReferenceHIdeal.τ).loc Cert.ReferenceHIdeal.main_arg1)) (m ((c.tc : Thread Cert.ReferenceHIdeal.nD Cert.ReferenceHIdeal.τ).loc Cert.ReferenceHIdeal.main_arg2)) (m ((c.tc : Thread Cert.ReferenceHIdeal.nD Cert.ReferenceHIdeal.τ).loc Cert.ReferenceHIdeal.main_arg3)) (m ((c.tc : Thread Cert.ReferenceHIdeal.nD Cert.ReferenceHIdeal.τ).loc Cert.ReferenceHIdeal.main_arg4)) (m ((c.tc : Thread Cert.ReferenceHIdeal.nD Cert.ReferenceHIdeal.τ).loc Cert.ReferenceHIdeal.main_arg5)) (m ((c.tc : Thread Cert.ReferenceHIdeal.nD Cert.ReferenceHIdeal.τ).loc Cert.ReferenceHIdeal.main_arg6)) (m ((c.tc : Thread Cert.ReferenceHIdeal.nD Cert.ReferenceHIdeal.τ).loc Cert.ReferenceHIdeal.main_arg7)) (m ((c.tc : Thread Cert.ReferenceHIdeal.nD Cert.ReferenceHIdeal.τ).loc Cert.ReferenceHIdeal.main_arg8))).2.1 = (fun _ => 1#1)
    ∧ (Cert.Pre_finite_h.fn (F := Ideal) (m ((c.tc : Thread Cert.ReferenceHIdeal.nD Cert.ReferenceHIdeal.τ).loc Cert.ReferenceHIdeal.main_arg0)) (m ((c.tc : Thread Cert.ReferenceHIdeal.nD Cert.ReferenceHIdeal.τ).loc Cert.ReferenceHIdeal.main_arg1)) (m ((c.tc : Thread Cert.ReferenceHIdeal.nD Cert.ReferenceHIdeal.τ).loc Cert.ReferenceHIdeal.main_arg2)) (m ((c.tc : Thread Cert.ReferenceHIdeal.nD Cert.ReferenceHIdeal.τ).loc Cert.ReferenceHIdeal.main_arg3)) (m ((c.tc : Thread Cert.ReferenceHIdeal.nD Cert.ReferenceHIdeal.τ).loc Cert.ReferenceHIdeal.main_arg4)) (m ((c.tc : Thread Cert.ReferenceHIdeal.nD Cert.ReferenceHIdeal.τ).loc Cert.ReferenceHIdeal.main_arg5)) (m ((c.tc : Thread Cert.ReferenceHIdeal.nD Cert.ReferenceHIdeal.τ).loc Cert.ReferenceHIdeal.main_arg6)) (m ((c.tc : Thread Cert.ReferenceHIdeal.nD Cert.ReferenceHIdeal.τ).loc Cert.ReferenceHIdeal.main_arg7)) (m ((c.tc : Thread Cert.ReferenceHIdeal.nD Cert.ReferenceHIdeal.τ).loc Cert.ReferenceHIdeal.main_arg8))).2.2.1 = (fun _ => 1#1)
    ∧ (Cert.Pre_finite_h.fn (F := Ideal) (m ((c.tc : Thread Cert.ReferenceHIdeal.nD Cert.ReferenceHIdeal.τ).loc Cert.ReferenceHIdeal.main_arg0)) (m ((c.tc : Thread Cert.ReferenceHIdeal.nD Cert.ReferenceHIdeal.τ).loc Cert.ReferenceHIdeal.main_arg1)) (m ((c.tc : Thread Cert.ReferenceHIdeal.nD Cert.ReferenceHIdeal.τ).loc Cert.ReferenceHIdeal.main_arg2)) (m ((c.tc : Thread Cert.ReferenceHIdeal.nD Cert.ReferenceHIdeal.τ).loc Cert.ReferenceHIdeal.main_arg3)) (m ((c.tc : Thread Cert.ReferenceHIdeal.nD Cert.ReferenceHIdeal.τ).loc Cert.ReferenceHIdeal.main_arg4)) (m ((c.tc : Thread Cert.ReferenceHIdeal.nD Cert.ReferenceHIdeal.τ).loc Cert.ReferenceHIdeal.main_arg5)) (m ((c.tc : Thread Cert.ReferenceHIdeal.nD Cert.ReferenceHIdeal.τ).loc Cert.ReferenceHIdeal.main_arg6)) (m ((c.tc : Thread Cert.ReferenceHIdeal.nD Cert.ReferenceHIdeal.τ).loc Cert.ReferenceHIdeal.main_arg7)) (m ((c.tc : Thread Cert.ReferenceHIdeal.nD Cert.ReferenceHIdeal.τ).loc Cert.ReferenceHIdeal.main_arg8))).2.2.2 = (fun _ => 1#1)

def Pre_KernelM0 (m : (ℓ : Loc Cert.KernelM0.nD Cert.KernelM0.τ Cert.KernelM0.sig) → Buf (Elt Bits) ℓ) : Prop :=
  True

def Pre_KernelM0Ideal (m : (ℓ : Loc Cert.KernelM0Ideal.nD Cert.KernelM0Ideal.τ Cert.KernelM0Ideal.sig) → Buf (Elt Ideal) ℓ) : Prop :=
  True

def Pre_ReferenceM0Ideal (m : (ℓ : Loc Cert.ReferenceM0Ideal.nD Cert.ReferenceM0Ideal.τ Cert.ReferenceM0Ideal.sig) → Buf (Elt Ideal) ℓ) : Prop :=
  True

def Pre_KernelM1 (m : (ℓ : Loc Cert.KernelM1.nD Cert.KernelM1.τ Cert.KernelM1.sig) → Buf (Elt Bits) ℓ) : Prop :=
  True

def Pre_KernelM1Ideal (m : (ℓ : Loc Cert.KernelM1Ideal.nD Cert.KernelM1Ideal.τ Cert.KernelM1Ideal.sig) → Buf (Elt Ideal) ℓ) : Prop :=
  True

def Pre_ReferenceM1Ideal (m : (ℓ : Loc Cert.ReferenceM1Ideal.nD Cert.ReferenceM1Ideal.τ Cert.ReferenceM1Ideal.sig) → Buf (Elt Ideal) ℓ) : Prop :=
  True

def Pre_KernelMkv (m : (ℓ : Loc Cert.KernelMkv.nD Cert.KernelMkv.τ Cert.KernelMkv.sig) → Buf (Elt Bits) ℓ) : Prop :=
  True

def Pre_KernelMkvIdeal (m : (ℓ : Loc Cert.KernelMkvIdeal.nD Cert.KernelMkvIdeal.τ Cert.KernelMkvIdeal.sig) → Buf (Elt Ideal) ℓ) : Prop :=
  True

def Pre_ReferenceMkvIdeal (m : (ℓ : Loc Cert.ReferenceMkvIdeal.nD Cert.ReferenceMkvIdeal.τ Cert.ReferenceMkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2)
      ∧ r.2.mem ((c.tc : Thread Cert.KernelQ.nD Cert.KernelQ.τ).loc Cert.KernelQ.main_arg3) = m ((c.tc : Thread Cert.KernelQ.nD Cert.KernelQ.τ).loc Cert.KernelQ.main_arg3)
      ∧ r.2.mem ((c.tc : Thread Cert.KernelQ.nD Cert.KernelQ.τ).loc Cert.KernelQ.main_arg4) = m ((c.tc : Thread Cert.KernelQ.nD Cert.KernelQ.τ).loc Cert.KernelQ.main_arg4))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
      ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3)
      ∧ r.2.mem ((c.tc : Thread Cert.KernelQIdeal.nD Cert.KernelQIdeal.τ).loc Cert.KernelQIdeal.main_arg4) = m ((c.tc : Thread Cert.KernelQIdeal.nD Cert.KernelQIdeal.τ).loc Cert.KernelQIdeal.main_arg4))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2)
      ∧ r.2.mem ((c.tc : Thread Cert.ReferenceQIdeal.nD Cert.ReferenceQIdeal.τ).loc Cert.ReferenceQIdeal.main_arg3) = m ((c.tc : Thread Cert.ReferenceQIdeal.nD Cert.ReferenceQIdeal.τ).loc Cert.ReferenceQIdeal.main_arg3)
      ∧ r.2.mem ((c.tc : Thread Cert.ReferenceQIdeal.nD Cert.ReferenceQIdeal.τ).loc Cert.ReferenceQIdeal.main_arg4) = m ((c.tc : Thread Cert.ReferenceQIdeal.nD Cert.ReferenceQIdeal.τ).loc Cert.ReferenceQIdeal.main_arg4))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3)
      ∧ r.2.mem ((c.tc : Thread Cert.KernelKv.nD Cert.KernelKv.τ).loc Cert.KernelKv.main_arg4) = m ((c.tc : Thread Cert.KernelKv.nD Cert.KernelKv.τ).loc Cert.KernelKv.main_arg4))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4)
      ∧ r.2.mem ((c.tc : Thread Cert.KernelH.nD Cert.KernelH.τ).loc Cert.KernelH.main_arg5) = m ((c.tc : Thread Cert.KernelH.nD Cert.KernelH.τ).loc Cert.KernelH.main_arg5)
      ∧ r.2.mem ((c.tc : Thread Cert.KernelH.nD Cert.KernelH.τ).loc Cert.KernelH.main_arg6) = m ((c.tc : Thread Cert.KernelH.nD Cert.KernelH.τ).loc Cert.KernelH.main_arg6)
      ∧ r.2.mem ((c.tc : Thread Cert.KernelH.nD Cert.KernelH.τ).loc Cert.KernelH.main_arg7) = m ((c.tc : Thread Cert.KernelH.nD Cert.KernelH.τ).loc Cert.KernelH.main_arg7)
      ∧ r.2.mem ((c.tc : Thread Cert.KernelH.nD Cert.KernelH.τ).loc Cert.KernelH.main_arg8) = m ((c.tc : Thread Cert.KernelH.nD Cert.KernelH.τ).loc Cert.KernelH.main_arg8))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
      ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6)
      ∧ r.2.mem ((c.tc : Thread Cert.KernelHIdeal.nD Cert.KernelHIdeal.τ).loc Cert.KernelHIdeal.main_arg7) = m ((c.tc : Thread Cert.KernelHIdeal.nD Cert.KernelHIdeal.τ).loc Cert.KernelHIdeal.main_arg7)
      ∧ r.2.mem ((c.tc : Thread Cert.KernelHIdeal.nD Cert.KernelHIdeal.τ).loc Cert.KernelHIdeal.main_arg8) = m ((c.tc : Thread Cert.KernelHIdeal.nD Cert.KernelHIdeal.τ).loc Cert.KernelHIdeal.main_arg8))
      ∧ r.2.sem = fun _ => 0)

def quiescent_KernelHIdeal_pre_finite_h [hKernelHIdeal : Cert.KernelHIdeal.Facts] [hPre_finite_h : Cert.Pre_finite_h.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal_finite_h m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
      ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6)
      ∧ r.2.mem ((c.tc : Thread Cert.KernelHIdeal.nD Cert.KernelHIdeal.τ).loc Cert.KernelHIdeal.main_arg7) = m ((c.tc : Thread Cert.KernelHIdeal.nD Cert.KernelHIdeal.τ).loc Cert.KernelHIdeal.main_arg7)
      ∧ r.2.mem ((c.tc : Thread Cert.KernelHIdeal.nD Cert.KernelHIdeal.τ).loc Cert.KernelHIdeal.main_arg8) = m ((c.tc : Thread Cert.KernelHIdeal.nD Cert.KernelHIdeal.τ).loc Cert.KernelHIdeal.main_arg8))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3)
      ∧ r.2.mem ((c.tc : Thread Cert.ReferenceHIdeal.nD Cert.ReferenceHIdeal.τ).loc Cert.ReferenceHIdeal.main_arg4) = m ((c.tc : Thread Cert.ReferenceHIdeal.nD Cert.ReferenceHIdeal.τ).loc Cert.ReferenceHIdeal.main_arg4)
      ∧ r.2.mem ((c.tc : Thread Cert.ReferenceHIdeal.nD Cert.ReferenceHIdeal.τ).loc Cert.ReferenceHIdeal.main_arg5) = m ((c.tc : Thread Cert.ReferenceHIdeal.nD Cert.ReferenceHIdeal.τ).loc Cert.ReferenceHIdeal.main_arg5)
      ∧ r.2.mem ((c.tc : Thread Cert.ReferenceHIdeal.nD Cert.ReferenceHIdeal.τ).loc Cert.ReferenceHIdeal.main_arg6) = m ((c.tc : Thread Cert.ReferenceHIdeal.nD Cert.ReferenceHIdeal.τ).loc Cert.ReferenceHIdeal.main_arg6)
      ∧ r.2.mem ((c.tc : Thread Cert.ReferenceHIdeal.nD Cert.ReferenceHIdeal.τ).loc Cert.ReferenceHIdeal.main_arg7) = m ((c.tc : Thread Cert.ReferenceHIdeal.nD Cert.ReferenceHIdeal.τ).loc Cert.ReferenceHIdeal.main_arg7)
      ∧ r.2.mem ((c.tc : Thread Cert.ReferenceHIdeal.nD Cert.ReferenceHIdeal.τ).loc Cert.ReferenceHIdeal.main_arg8) = m ((c.tc : Thread Cert.ReferenceHIdeal.nD Cert.ReferenceHIdeal.τ).loc Cert.ReferenceHIdeal.main_arg8))
      ∧ r.2.sem = fun _ => 0)

def quiescent_ReferenceHIdeal_pre_finite_h [hReferenceHIdeal : Cert.ReferenceHIdeal.Facts] [hPre_finite_h : Cert.Pre_finite_h.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal_finite_h m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3)
      ∧ r.2.mem ((c.tc : Thread Cert.ReferenceHIdeal.nD Cert.ReferenceHIdeal.τ).loc Cert.ReferenceHIdeal.main_arg4) = m ((c.tc : Thread Cert.ReferenceHIdeal.nD Cert.ReferenceHIdeal.τ).loc Cert.ReferenceHIdeal.main_arg4)
      ∧ r.2.mem ((c.tc : Thread Cert.ReferenceHIdeal.nD Cert.ReferenceHIdeal.τ).loc Cert.ReferenceHIdeal.main_arg5) = m ((c.tc : Thread Cert.ReferenceHIdeal.nD Cert.ReferenceHIdeal.τ).loc Cert.ReferenceHIdeal.main_arg5)
      ∧ r.2.mem ((c.tc : Thread Cert.ReferenceHIdeal.nD Cert.ReferenceHIdeal.τ).loc Cert.ReferenceHIdeal.main_arg6) = m ((c.tc : Thread Cert.ReferenceHIdeal.nD Cert.ReferenceHIdeal.τ).loc Cert.ReferenceHIdeal.main_arg6)
      ∧ r.2.mem ((c.tc : Thread Cert.ReferenceHIdeal.nD Cert.ReferenceHIdeal.τ).loc Cert.ReferenceHIdeal.main_arg7) = m ((c.tc : Thread Cert.ReferenceHIdeal.nD Cert.ReferenceHIdeal.τ).loc Cert.ReferenceHIdeal.main_arg7)
      ∧ r.2.mem ((c.tc : Thread Cert.ReferenceHIdeal.nD Cert.ReferenceHIdeal.τ).loc Cert.ReferenceHIdeal.main_arg8) = m ((c.tc : Thread Cert.ReferenceHIdeal.nD Cert.ReferenceHIdeal.τ).loc Cert.ReferenceHIdeal.main_arg8))
      ∧ r.2.sem = fun _ => 0)

def quiescent_KernelM0 [hKernelM0 : Cert.KernelM0.Facts] : Prop :=
  ∀ (m : (ℓ : Loc Cert.KernelM0.nD Cert.KernelM0.τ Cert.KernelM0.sig) → Buf (Elt Bits) ℓ) (g : Dev Cert.KernelM0.nD → PrngReg), Pre_KernelM0 m →
    θ_run (Cert.KernelM0.defs (F := Bits)) (onTc (τ := Cert.KernelM0.τ) (Cert.KernelM0.main (F := Bits))) ⟨m, fun _ => 0, g⟩ (fun r => (∀ c : Dev Cert.KernelM0.nD,
      r.2.mem ((c.tc : Thread Cert.KernelM0.nD Cert.KernelM0.τ).loc Cert.KernelM0.main_arg0) = m ((c.tc : Thread Cert.KernelM0.nD Cert.KernelM0.τ).loc Cert.KernelM0.main_arg0)
      ∧ r.2.mem ((c.tc : Thread Cert.KernelM0.nD Cert.KernelM0.τ).loc Cert.KernelM0.main_arg1) = m ((c.tc : Thread Cert.KernelM0.nD Cert.KernelM0.τ).loc Cert.KernelM0.main_arg1)
      ∧ r.2.mem ((c.tc : Thread Cert.KernelM0.nD Cert.KernelM0.τ).loc Cert.KernelM0.main_arg2) = m ((c.tc : Thread Cert.KernelM0.nD Cert.KernelM0.τ).loc Cert.KernelM0.main_arg2))
      ∧ r.2.sem = fun _ => 0)

def quiescent_KernelM0Ideal [hKernelM0Ideal : Cert.KernelM0Ideal.Facts] : Prop :=
  ∀ (m : (ℓ : Loc Cert.KernelM0Ideal.nD Cert.KernelM0Ideal.τ Cert.KernelM0Ideal.sig) → Buf (Elt Ideal) ℓ) (g : Dev Cert.KernelM0Ideal.nD → PrngReg), Pre_KernelM0Ideal m →
    θ_run (Cert.KernelM0Ideal.defs (F := Ideal)) (onTc (τ := Cert.KernelM0Ideal.τ) (Cert.KernelM0Ideal.main (F := Ideal))) ⟨m, fun _ => 0, g⟩ (fun r => (∀ c : Dev Cert.KernelM0Ideal.nD,
      r.2.mem ((c.tc : Thread Cert.KernelM0Ideal.nD Cert.KernelM0Ideal.τ).loc Cert.KernelM0Ideal.main_arg0) = m ((c.tc : Thread Cert.KernelM0Ideal.nD Cert.KernelM0Ideal.τ).loc Cert.KernelM0Ideal.main_arg0)
      ∧ r.2.mem ((c.tc : Thread Cert.KernelM0Ideal.nD Cert.KernelM0Ideal.τ).loc Cert.KernelM0Ideal.main_arg1) = m ((c.tc : Thread Cert.KernelM0Ideal.nD Cert.KernelM0Ideal.τ).loc Cert.KernelM0Ideal.main_arg1)
      ∧ r.2.mem ((c.tc : Thread Cert.KernelM0Ideal.nD Cert.KernelM0Ideal.τ).loc Cert.KernelM0Ideal.main_arg2) = m ((c.tc : Thread Cert.KernelM0Ideal.nD Cert.KernelM0Ideal.τ).loc Cert.KernelM0Ideal.main_arg2))
      ∧ r.2.sem = fun _ => 0)

def quiescent_ReferenceM0Ideal [hReferenceM0Ideal : Cert.ReferenceM0Ideal.Facts] : Prop :=
  ∀ (m : (ℓ : Loc Cert.ReferenceM0Ideal.nD Cert.ReferenceM0Ideal.τ Cert.ReferenceM0Ideal.sig) → Buf (Elt Ideal) ℓ) (g : Dev Cert.ReferenceM0Ideal.nD → PrngReg), Pre_ReferenceM0Ideal m →
    θ_run (Cert.ReferenceM0Ideal.defs (F := Ideal)) (onTc (τ := Cert.ReferenceM0Ideal.τ) (Cert.ReferenceM0Ideal.main (F := Ideal))) ⟨m, fun _ => 0, g⟩ (fun r => (∀ c : Dev Cert.ReferenceM0Ideal.nD,
      r.2.mem ((c.tc : Thread Cert.ReferenceM0Ideal.nD Cert.ReferenceM0Ideal.τ).loc Cert.ReferenceM0Ideal.main_arg0) = m ((c.tc : Thread Cert.ReferenceM0Ideal.nD Cert.ReferenceM0Ideal.τ).loc Cert.ReferenceM0Ideal.main_arg0)
      ∧ r.2.mem ((c.tc : Thread Cert.ReferenceM0Ideal.nD Cert.ReferenceM0Ideal.τ).loc Cert.ReferenceM0Ideal.main_arg1) = m ((c.tc : Thread Cert.ReferenceM0Ideal.nD Cert.ReferenceM0Ideal.τ).loc Cert.ReferenceM0Ideal.main_arg1)
      ∧ r.2.mem ((c.tc : Thread Cert.ReferenceM0Ideal.nD Cert.ReferenceM0Ideal.τ).loc Cert.ReferenceM0Ideal.main_arg2) = m ((c.tc : Thread Cert.ReferenceM0Ideal.nD Cert.ReferenceM0Ideal.τ).loc Cert.ReferenceM0Ideal.main_arg2))
      ∧ r.2.sem = fun _ => 0)

def quiescent_KernelM1 [hKernelM1 : Cert.KernelM1.Facts] : Prop :=
  ∀ (m : (ℓ : Loc Cert.KernelM1.nD Cert.KernelM1.τ Cert.KernelM1.sig) → Buf (Elt Bits) ℓ) (g : Dev Cert.KernelM1.nD → PrngReg), Pre_KernelM1 m →
    θ_run (Cert.KernelM1.defs (F := Bits)) (onTc (τ := Cert.KernelM1.τ) (Cert.KernelM1.main (F := Bits))) ⟨m, fun _ => 0, g⟩ (fun r => (∀ c : Dev Cert.KernelM1.nD,
      r.2.mem ((c.tc : Thread Cert.KernelM1.nD Cert.KernelM1.τ).loc Cert.KernelM1.main_arg0) = m ((c.tc : Thread Cert.KernelM1.nD Cert.KernelM1.τ).loc Cert.KernelM1.main_arg0)
      ∧ r.2.mem ((c.tc : Thread Cert.KernelM1.nD Cert.KernelM1.τ).loc Cert.KernelM1.main_arg1) = m ((c.tc : Thread Cert.KernelM1.nD Cert.KernelM1.τ).loc Cert.KernelM1.main_arg1)
      ∧ r.2.mem ((c.tc : Thread Cert.KernelM1.nD Cert.KernelM1.τ).loc Cert.KernelM1.main_arg2) = m ((c.tc : Thread Cert.KernelM1.nD Cert.KernelM1.τ).loc Cert.KernelM1.main_arg2))
      ∧ r.2.sem = fun _ => 0)

def quiescent_KernelM1Ideal [hKernelM1Ideal : Cert.KernelM1Ideal.Facts] : Prop :=
  ∀ (m : (ℓ : Loc Cert.KernelM1Ideal.nD Cert.KernelM1Ideal.τ Cert.KernelM1Ideal.sig) → Buf (Elt Ideal) ℓ) (g : Dev Cert.KernelM1Ideal.nD → PrngReg), Pre_KernelM1Ideal m →
    θ_run (Cert.KernelM1Ideal.defs (F := Ideal)) (onTc (τ := Cert.KernelM1Ideal.τ) (Cert.KernelM1Ideal.main (F := Ideal))) ⟨m, fun _ => 0, g⟩ (fun r => (∀ c : Dev Cert.KernelM1Ideal.nD,
      r.2.mem ((c.tc : Thread Cert.KernelM1Ideal.nD Cert.KernelM1Ideal.τ).loc Cert.KernelM1Ideal.main_arg0) = m ((c.tc : Thread Cert.KernelM1Ideal.nD Cert.KernelM1Ideal.τ).loc Cert.KernelM1Ideal.main_arg0)
      ∧ r.2.mem ((c.tc : Thread Cert.KernelM1Ideal.nD Cert.KernelM1Ideal.τ).loc Cert.KernelM1Ideal.main_arg1) = m ((c.tc : Thread Cert.KernelM1Ideal.nD Cert.KernelM1Ideal.τ).loc Cert.KernelM1Ideal.main_arg1)
      ∧ r.2.mem ((c.tc : Thread Cert.KernelM1Ideal.nD Cert.KernelM1Ideal.τ).loc Cert.KernelM1Ideal.main_arg2) = m ((c.tc : Thread Cert.KernelM1Ideal.nD Cert.KernelM1Ideal.τ).loc Cert.KernelM1Ideal.main_arg2))
      ∧ r.2.sem = fun _ => 0)

def quiescent_ReferenceM1Ideal [hReferenceM1Ideal : Cert.ReferenceM1Ideal.Facts] : Prop :=
  ∀ (m : (ℓ : Loc Cert.ReferenceM1Ideal.nD Cert.ReferenceM1Ideal.τ Cert.ReferenceM1Ideal.sig) → Buf (Elt Ideal) ℓ) (g : Dev Cert.ReferenceM1Ideal.nD → PrngReg), Pre_ReferenceM1Ideal m →
    θ_run (Cert.ReferenceM1Ideal.defs (F := Ideal)) (onTc (τ := Cert.ReferenceM1Ideal.τ) (Cert.ReferenceM1Ideal.main (F := Ideal))) ⟨m, fun _ => 0, g⟩ (fun r => (∀ c : Dev Cert.ReferenceM1Ideal.nD,
      r.2.mem ((c.tc : Thread Cert.ReferenceM1Ideal.nD Cert.ReferenceM1Ideal.τ).loc Cert.ReferenceM1Ideal.main_arg0) = m ((c.tc : Thread Cert.ReferenceM1Ideal.nD Cert.ReferenceM1Ideal.τ).loc Cert.ReferenceM1Ideal.main_arg0)
      ∧ r.2.mem ((c.tc : Thread Cert.ReferenceM1Ideal.nD Cert.ReferenceM1Ideal.τ).loc Cert.ReferenceM1Ideal.main_arg1) = m ((c.tc : Thread Cert.ReferenceM1Ideal.nD Cert.ReferenceM1Ideal.τ).loc Cert.ReferenceM1Ideal.main_arg1)
      ∧ r.2.mem ((c.tc : Thread Cert.ReferenceM1Ideal.nD Cert.ReferenceM1Ideal.τ).loc Cert.ReferenceM1Ideal.main_arg2) = m ((c.tc : Thread Cert.ReferenceM1Ideal.nD Cert.ReferenceM1Ideal.τ).loc Cert.ReferenceM1Ideal.main_arg2))
      ∧ r.2.sem = fun _ => 0)

def quiescent_KernelMkv [hKernelMkv : Cert.KernelMkv.Facts] : Prop :=
  ∀ (m : (ℓ : Loc Cert.KernelMkv.nD Cert.KernelMkv.τ Cert.KernelMkv.sig) → Buf (Elt Bits) ℓ) (g : Dev Cert.KernelMkv.nD → PrngReg), Pre_KernelMkv m →
    θ_run (Cert.KernelMkv.defs (F := Bits)) (onTc (τ := Cert.KernelMkv.τ) (Cert.KernelMkv.main (F := Bits))) ⟨m, fun _ => 0, g⟩ (fun r => (∀ c : Dev Cert.KernelMkv.nD,
      r.2.mem ((c.tc : Thread Cert.KernelMkv.nD Cert.KernelMkv.τ).loc Cert.KernelMkv.main_arg0) = m ((c.tc : Thread Cert.KernelMkv.nD Cert.KernelMkv.τ).loc Cert.KernelMkv.main_arg0)
      ∧ r.2.mem ((c.tc : Thread Cert.KernelMkv.nD Cert.KernelMkv.τ).loc Cert.KernelMkv.main_arg1) = m ((c.tc : Thread Cert.KernelMkv.nD Cert.KernelMkv.τ).loc Cert.KernelMkv.main_arg1)
      ∧ r.2.mem ((c.tc : Thread Cert.KernelMkv.nD Cert.KernelMkv.τ).loc Cert.KernelMkv.main_arg2) = m ((c.tc : Thread Cert.KernelMkv.nD Cert.KernelMkv.τ).loc Cert.KernelMkv.main_arg2))
      ∧ r.2.sem = fun _ => 0)

def quiescent_KernelMkvIdeal [hKernelMkvIdeal : Cert.KernelMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg), Pre_KernelMkvIdeal m →
    θ_run (Cert.KernelMkvIdeal.defs (F := Ideal)) (onTc (τ := Cert.KernelMkvIdeal.τ) (Cert.KernelMkvIdeal.main (F := Ideal))) ⟨m, fun _ => 0, g⟩ (fun r => (∀ c : Dev Cert.KernelMkvIdeal.nD,
      r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
      ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1)
      ∧ r.2.mem ((c.tc : Thread Cert.KernelMkvIdeal.nD Cert.KernelMkvIdeal.τ).loc Cert.KernelMkvIdeal.main_arg2) = m ((c.tc : Thread Cert.KernelMkvIdeal.nD Cert.KernelMkvIdeal.τ).loc Cert.KernelMkvIdeal.main_arg2))
      ∧ r.2.sem = fun _ => 0)

def quiescent_ReferenceMkvIdeal [hReferenceMkvIdeal : Cert.ReferenceMkvIdeal.Facts] : Prop :=
  ∀ (m : (ℓ : Loc Cert.ReferenceMkvIdeal.nD Cert.ReferenceMkvIdeal.τ Cert.ReferenceMkvIdeal.sig) → Buf (Elt Ideal) ℓ) (g : Dev Cert.ReferenceMkvIdeal.nD → PrngReg), Pre_ReferenceMkvIdeal m →
    θ_run (Cert.ReferenceMkvIdeal.defs (F := Ideal)) (onTc (τ := Cert.ReferenceMkvIdeal.τ) (Cert.ReferenceMkvIdeal.main (F := Ideal))) ⟨m, fun _ => 0, g⟩ (fun r => (∀ c : Dev Cert.ReferenceMkvIdeal.nD,
      r.2.mem ((c.tc : Thread Cert.ReferenceMkvIdeal.nD Cert.ReferenceMkvIdeal.τ).loc Cert.ReferenceMkvIdeal.main_arg0) = m ((c.tc : Thread Cert.ReferenceMkvIdeal.nD Cert.ReferenceMkvIdeal.τ).loc Cert.ReferenceMkvIdeal.main_arg0)
      ∧ r.2.mem ((c.tc : Thread Cert.ReferenceMkvIdeal.nD Cert.ReferenceMkvIdeal.τ).loc Cert.ReferenceMkvIdeal.main_arg1) = m ((c.tc : Thread Cert.ReferenceMkvIdeal.nD Cert.ReferenceMkvIdeal.τ).loc Cert.ReferenceMkvIdeal.main_arg1)
      ∧ r.2.mem ((c.tc : Thread Cert.ReferenceMkvIdeal.nD Cert.ReferenceMkvIdeal.τ).loc Cert.ReferenceMkvIdeal.main_arg2) = m ((c.tc : Thread Cert.ReferenceMkvIdeal.nD Cert.ReferenceMkvIdeal.τ).loc Cert.ReferenceMkvIdeal.main_arg2))
      ∧ r.2.sem = fun _ => 0)

def preserves_Kernel_KernelIdeal : Prop :=
  IdealRules.named_const.Statement Cert.KernelIdeal.κ "floor" .f32 0xC2C80000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)
      ∧ m' ((c.tc : Thread Cert.ReferenceQIdeal.nD Cert.ReferenceQIdeal.τ).loc Cert.ReferenceQIdeal.main_arg3) = m ((c.tc : Thread Cert.KernelQIdeal.nD Cert.KernelQIdeal.τ).loc Cert.KernelQIdeal.main_arg3)
      ∧ m' ((c.tc : Thread Cert.ReferenceQIdeal.nD Cert.ReferenceQIdeal.τ).loc Cert.ReferenceQIdeal.main_arg4) = m ((c.tc : Thread Cert.KernelQIdeal.nD Cert.KernelQIdeal.τ).loc Cert.KernelQIdeal.main_arg4)) →
    ∃ (v0 : (c : Dev Cert.KernelQIdeal.nD) → Buf (Elt Ideal) ((c.tc : Thread Cert.KernelQIdeal.nD Cert.KernelQIdeal.τ).loc Cert.KernelQIdeal.main_v0)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
          ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3)
          ∧ r.2.mem ((c.tc : Thread Cert.KernelQIdeal.nD Cert.KernelQIdeal.τ).loc Cert.KernelQIdeal.main_arg4) = m ((c.tc : Thread Cert.KernelQIdeal.nD Cert.KernelQIdeal.τ).loc Cert.KernelQIdeal.main_arg4))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v25) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2)
          ∧ r.2.mem ((c.tc : Thread Cert.ReferenceQIdeal.nD Cert.ReferenceQIdeal.τ).loc Cert.ReferenceQIdeal.main_arg3) = m' ((c.tc : Thread Cert.ReferenceQIdeal.nD Cert.ReferenceQIdeal.τ).loc Cert.ReferenceQIdeal.main_arg3)
          ∧ r.2.mem ((c.tc : Thread Cert.ReferenceQIdeal.nD Cert.ReferenceQIdeal.τ).loc Cert.ReferenceQIdeal.main_arg4) = m' ((c.tc : Thread Cert.ReferenceQIdeal.nD Cert.ReferenceQIdeal.τ).loc Cert.ReferenceQIdeal.main_arg4))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)
      ∧ m' ((c.tc : Thread Cert.ReferenceKvIdeal.nD Cert.ReferenceKvIdeal.τ).loc Cert.ReferenceKvIdeal.main_arg4) = m ((c.tc : Thread Cert.KernelKvIdeal.nD Cert.KernelKvIdeal.τ).loc Cert.KernelKvIdeal.main_arg4)) →
    ∃ (v0 : (c : Dev Cert.KernelKvIdeal.nD) → Buf (Elt Ideal) ((c.tc : Thread Cert.KernelKvIdeal.nD Cert.KernelKvIdeal.τ).loc Cert.KernelKvIdeal.main_v0)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
          ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v23) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3)
          ∧ r.2.mem ((c.tc : Thread Cert.ReferenceKvIdeal.nD Cert.ReferenceKvIdeal.τ).loc Cert.ReferenceKvIdeal.main_arg4) = m' ((c.tc : Thread Cert.ReferenceKvIdeal.nD Cert.ReferenceKvIdeal.τ).loc Cert.ReferenceKvIdeal.main_arg4))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v7) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3))

def preserves_KernelH_KernelHIdeal : Prop :=
  True

def algebraic_KernelHIdeal_ReferenceHIdeal_pre_finite_h [hKernelHIdeal : Cert.KernelHIdeal.Facts] [hReferenceHIdeal : Cert.ReferenceHIdeal.Facts] [hPre_finite_h : Cert.Pre_finite_h.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal_finite_h m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)
      ∧ m' ((c.tc : Thread Cert.ReferenceHIdeal.nD Cert.ReferenceHIdeal.τ).loc Cert.ReferenceHIdeal.main_arg3) = m ((c.tc : Thread Cert.KernelHIdeal.nD Cert.KernelHIdeal.τ).loc Cert.KernelHIdeal.main_arg3)
      ∧ m' ((c.tc : Thread Cert.ReferenceHIdeal.nD Cert.ReferenceHIdeal.τ).loc Cert.ReferenceHIdeal.main_arg4) = m ((c.tc : Thread Cert.KernelHIdeal.nD Cert.KernelHIdeal.τ).loc Cert.KernelHIdeal.main_arg4)
      ∧ m' ((c.tc : Thread Cert.ReferenceHIdeal.nD Cert.ReferenceHIdeal.τ).loc Cert.ReferenceHIdeal.main_arg5) = m ((c.tc : Thread Cert.KernelHIdeal.nD Cert.KernelHIdeal.τ).loc Cert.KernelHIdeal.main_arg5)
      ∧ m' ((c.tc : Thread Cert.ReferenceHIdeal.nD Cert.ReferenceHIdeal.τ).loc Cert.ReferenceHIdeal.main_arg6) = m ((c.tc : Thread Cert.KernelHIdeal.nD Cert.KernelHIdeal.τ).loc Cert.KernelHIdeal.main_arg6)
      ∧ m' ((c.tc : Thread Cert.ReferenceHIdeal.nD Cert.ReferenceHIdeal.τ).loc Cert.ReferenceHIdeal.main_arg7) = m ((c.tc : Thread Cert.KernelHIdeal.nD Cert.KernelHIdeal.τ).loc Cert.KernelHIdeal.main_arg7)
      ∧ m' ((c.tc : Thread Cert.ReferenceHIdeal.nD Cert.ReferenceHIdeal.τ).loc Cert.ReferenceHIdeal.main_arg8) = m ((c.tc : Thread Cert.KernelHIdeal.nD Cert.KernelHIdeal.τ).loc Cert.KernelHIdeal.main_arg8)) →
    ∃ (v0 : (c : Dev Cert.KernelHIdeal.nD) → Buf (Elt Ideal) ((c.tc : Thread Cert.KernelHIdeal.nD Cert.KernelHIdeal.τ).loc Cert.KernelHIdeal.main_v0)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v0) = v0 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
          ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
          ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
          ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
          ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6)
          ∧ r.2.mem ((c.tc : Thread Cert.KernelHIdeal.nD Cert.KernelHIdeal.τ).loc Cert.KernelHIdeal.main_arg7) = m ((c.tc : Thread Cert.KernelHIdeal.nD Cert.KernelHIdeal.τ).loc Cert.KernelHIdeal.main_arg7)
          ∧ r.2.mem ((c.tc : Thread Cert.KernelHIdeal.nD Cert.KernelHIdeal.τ).loc Cert.KernelHIdeal.main_arg8) = m ((c.tc : Thread Cert.KernelHIdeal.nD Cert.KernelHIdeal.τ).loc Cert.KernelHIdeal.main_arg8))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v99) = v0 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2)
          ∧ r.2.mem ((c.tc : Thread Cert.ReferenceHIdeal.nD Cert.ReferenceHIdeal.τ).loc Cert.ReferenceHIdeal.main_arg3) = m' ((c.tc : Thread Cert.ReferenceHIdeal.nD Cert.ReferenceHIdeal.τ).loc Cert.ReferenceHIdeal.main_arg3)
          ∧ r.2.mem ((c.tc : Thread Cert.ReferenceHIdeal.nD Cert.ReferenceHIdeal.τ).loc Cert.ReferenceHIdeal.main_arg4) = m' ((c.tc : Thread Cert.ReferenceHIdeal.nD Cert.ReferenceHIdeal.τ).loc Cert.ReferenceHIdeal.main_arg4)
          ∧ r.2.mem ((c.tc : Thread Cert.ReferenceHIdeal.nD Cert.ReferenceHIdeal.τ).loc Cert.ReferenceHIdeal.main_arg5) = m' ((c.tc : Thread Cert.ReferenceHIdeal.nD Cert.ReferenceHIdeal.τ).loc Cert.ReferenceHIdeal.main_arg5)
          ∧ r.2.mem ((c.tc : Thread Cert.ReferenceHIdeal.nD Cert.ReferenceHIdeal.τ).loc Cert.ReferenceHIdeal.main_arg6) = m' ((c.tc : Thread Cert.ReferenceHIdeal.nD Cert.ReferenceHIdeal.τ).loc Cert.ReferenceHIdeal.main_arg6)
          ∧ r.2.mem ((c.tc : Thread Cert.ReferenceHIdeal.nD Cert.ReferenceHIdeal.τ).loc Cert.ReferenceHIdeal.main_arg7) = m' ((c.tc : Thread Cert.ReferenceHIdeal.nD Cert.ReferenceHIdeal.τ).loc Cert.ReferenceHIdeal.main_arg7)
          ∧ r.2.mem ((c.tc : Thread Cert.ReferenceHIdeal.nD Cert.ReferenceHIdeal.τ).loc Cert.ReferenceHIdeal.main_arg8) = m' ((c.tc : Thread Cert.ReferenceHIdeal.nD Cert.ReferenceHIdeal.τ).loc Cert.ReferenceHIdeal.main_arg8))

def preserves_KernelM0_KernelM0Ideal : Prop :=
  True

def algebraic_KernelM0Ideal_ReferenceM0Ideal [hKernelM0Ideal : Cert.KernelM0Ideal.Facts] [hReferenceM0Ideal : Cert.ReferenceM0Ideal.Facts] : Prop :=
  ∀ (m : (ℓ : Loc Cert.KernelM0Ideal.nD Cert.KernelM0Ideal.τ Cert.KernelM0Ideal.sig) → Buf (Elt Ideal) ℓ) (g : Dev Cert.KernelM0Ideal.nD → PrngReg)
    (m' : (ℓ : Loc Cert.ReferenceM0Ideal.nD Cert.ReferenceM0Ideal.τ Cert.ReferenceM0Ideal.sig) → Buf (Elt Ideal) ℓ) (g' : Dev Cert.ReferenceM0Ideal.nD → PrngReg), Pre_KernelM0Ideal m →
    (∀ c : Dev Cert.KernelM0Ideal.nD,
      m' ((c.tc : Thread Cert.ReferenceM0Ideal.nD Cert.ReferenceM0Ideal.τ).loc Cert.ReferenceM0Ideal.main_arg0) = m ((c.tc : Thread Cert.KernelM0Ideal.nD Cert.KernelM0Ideal.τ).loc Cert.KernelM0Ideal.main_arg0)
      ∧ m' ((c.tc : Thread Cert.ReferenceM0Ideal.nD Cert.ReferenceM0Ideal.τ).loc Cert.ReferenceM0Ideal.main_arg1) = m ((c.tc : Thread Cert.KernelM0Ideal.nD Cert.KernelM0Ideal.τ).loc Cert.KernelM0Ideal.main_arg1)
      ∧ m' ((c.tc : Thread Cert.ReferenceM0Ideal.nD Cert.ReferenceM0Ideal.τ).loc Cert.ReferenceM0Ideal.main_arg2) = m ((c.tc : Thread Cert.KernelM0Ideal.nD Cert.KernelM0Ideal.τ).loc Cert.KernelM0Ideal.main_arg2)) →
    ∃ (v0 : (c : Dev Cert.KernelM0Ideal.nD) → Buf (Elt Ideal) ((c.tc : Thread Cert.KernelM0Ideal.nD Cert.KernelM0Ideal.τ).loc Cert.KernelM0Ideal.main_v0)),
      θ_run (Cert.KernelM0Ideal.defs (F := Ideal)) (onTc (τ := Cert.KernelM0Ideal.τ) (Cert.KernelM0Ideal.main (F := Ideal))) ⟨m, fun _ => 0, g⟩ (fun r => ∀ c : Dev Cert.KernelM0Ideal.nD,
          r.2.mem ((c.tc : Thread Cert.KernelM0Ideal.nD Cert.KernelM0Ideal.τ).loc Cert.KernelM0Ideal.main_v0) = v0 c
          ∧ r.2.mem ((c.tc : Thread Cert.KernelM0Ideal.nD Cert.KernelM0Ideal.τ).loc Cert.KernelM0Ideal.main_arg0) = m ((c.tc : Thread Cert.KernelM0Ideal.nD Cert.KernelM0Ideal.τ).loc Cert.KernelM0Ideal.main_arg0)
          ∧ r.2.mem ((c.tc : Thread Cert.KernelM0Ideal.nD Cert.KernelM0Ideal.τ).loc Cert.KernelM0Ideal.main_arg1) = m ((c.tc : Thread Cert.KernelM0Ideal.nD Cert.KernelM0Ideal.τ).loc Cert.KernelM0Ideal.main_arg1)
          ∧ r.2.mem ((c.tc : Thread Cert.KernelM0Ideal.nD Cert.KernelM0Ideal.τ).loc Cert.KernelM0Ideal.main_arg2) = m ((c.tc : Thread Cert.KernelM0Ideal.nD Cert.KernelM0Ideal.τ).loc Cert.KernelM0Ideal.main_arg2))
      ∧ θ_run (Cert.ReferenceM0Ideal.defs (F := Ideal)) (onTc (τ := Cert.ReferenceM0Ideal.τ) (Cert.ReferenceM0Ideal.main (F := Ideal))) ⟨m', fun _ => 0, g'⟩ (fun r => ∀ c : Dev Cert.ReferenceM0Ideal.nD,
          r.2.mem ((c.tc : Thread Cert.ReferenceM0Ideal.nD Cert.ReferenceM0Ideal.τ).loc Cert.ReferenceM0Ideal.main_v7) = v0 c
          ∧ r.2.mem ((c.tc : Thread Cert.ReferenceM0Ideal.nD Cert.ReferenceM0Ideal.τ).loc Cert.ReferenceM0Ideal.main_arg0) = m' ((c.tc : Thread Cert.ReferenceM0Ideal.nD Cert.ReferenceM0Ideal.τ).loc Cert.ReferenceM0Ideal.main_arg0)
          ∧ r.2.mem ((c.tc : Thread Cert.ReferenceM0Ideal.nD Cert.ReferenceM0Ideal.τ).loc Cert.ReferenceM0Ideal.main_arg1) = m' ((c.tc : Thread Cert.ReferenceM0Ideal.nD Cert.ReferenceM0Ideal.τ).loc Cert.ReferenceM0Ideal.main_arg1)
          ∧ r.2.mem ((c.tc : Thread Cert.ReferenceM0Ideal.nD Cert.ReferenceM0Ideal.τ).loc Cert.ReferenceM0Ideal.main_arg2) = m' ((c.tc : Thread Cert.ReferenceM0Ideal.nD Cert.ReferenceM0Ideal.τ).loc Cert.ReferenceM0Ideal.main_arg2))

def preserves_KernelM1_KernelM1Ideal : Prop :=
  True

def algebraic_KernelM1Ideal_ReferenceM1Ideal [hKernelM1Ideal : Cert.KernelM1Ideal.Facts] [hReferenceM1Ideal : Cert.ReferenceM1Ideal.Facts] : Prop :=
  ∀ (m : (ℓ : Loc Cert.KernelM1Ideal.nD Cert.KernelM1Ideal.τ Cert.KernelM1Ideal.sig) → Buf (Elt Ideal) ℓ) (g : Dev Cert.KernelM1Ideal.nD → PrngReg)
    (m' : (ℓ : Loc Cert.ReferenceM1Ideal.nD Cert.ReferenceM1Ideal.τ Cert.ReferenceM1Ideal.sig) → Buf (Elt Ideal) ℓ) (g' : Dev Cert.ReferenceM1Ideal.nD → PrngReg), Pre_KernelM1Ideal m →
    (∀ c : Dev Cert.KernelM1Ideal.nD,
      m' ((c.tc : Thread Cert.ReferenceM1Ideal.nD Cert.ReferenceM1Ideal.τ).loc Cert.ReferenceM1Ideal.main_arg0) = m ((c.tc : Thread Cert.KernelM1Ideal.nD Cert.KernelM1Ideal.τ).loc Cert.KernelM1Ideal.main_arg0)
      ∧ m' ((c.tc : Thread Cert.ReferenceM1Ideal.nD Cert.ReferenceM1Ideal.τ).loc Cert.ReferenceM1Ideal.main_arg1) = m ((c.tc : Thread Cert.KernelM1Ideal.nD Cert.KernelM1Ideal.τ).loc Cert.KernelM1Ideal.main_arg1)
      ∧ m' ((c.tc : Thread Cert.ReferenceM1Ideal.nD Cert.ReferenceM1Ideal.τ).loc Cert.ReferenceM1Ideal.main_arg2) = m ((c.tc : Thread Cert.KernelM1Ideal.nD Cert.KernelM1Ideal.τ).loc Cert.KernelM1Ideal.main_arg2)) →
    ∃ (v0 : (c : Dev Cert.KernelM1Ideal.nD) → Buf (Elt Ideal) ((c.tc : Thread Cert.KernelM1Ideal.nD Cert.KernelM1Ideal.τ).loc Cert.KernelM1Ideal.main_v0)),
      θ_run (Cert.KernelM1Ideal.defs (F := Ideal)) (onTc (τ := Cert.KernelM1Ideal.τ) (Cert.KernelM1Ideal.main (F := Ideal))) ⟨m, fun _ => 0, g⟩ (fun r => ∀ c : Dev Cert.KernelM1Ideal.nD,
          r.2.mem ((c.tc : Thread Cert.KernelM1Ideal.nD Cert.KernelM1Ideal.τ).loc Cert.KernelM1Ideal.main_v0) = v0 c
          ∧ r.2.mem ((c.tc : Thread Cert.KernelM1Ideal.nD Cert.KernelM1Ideal.τ).loc Cert.KernelM1Ideal.main_arg0) = m ((c.tc : Thread Cert.KernelM1Ideal.nD Cert.KernelM1Ideal.τ).loc Cert.KernelM1Ideal.main_arg0)
          ∧ r.2.mem ((c.tc : Thread Cert.KernelM1Ideal.nD Cert.KernelM1Ideal.τ).loc Cert.KernelM1Ideal.main_arg1) = m ((c.tc : Thread Cert.KernelM1Ideal.nD Cert.KernelM1Ideal.τ).loc Cert.KernelM1Ideal.main_arg1)
          ∧ r.2.mem ((c.tc : Thread Cert.KernelM1Ideal.nD Cert.KernelM1Ideal.τ).loc Cert.KernelM1Ideal.main_arg2) = m ((c.tc : Thread Cert.KernelM1Ideal.nD Cert.KernelM1Ideal.τ).loc Cert.KernelM1Ideal.main_arg2))
      ∧ θ_run (Cert.ReferenceM1Ideal.defs (F := Ideal)) (onTc (τ := Cert.ReferenceM1Ideal.τ) (Cert.ReferenceM1Ideal.main (F := Ideal))) ⟨m', fun _ => 0, g'⟩ (fun r => ∀ c : Dev Cert.ReferenceM1Ideal.nD,
          r.2.mem ((c.tc : Thread Cert.ReferenceM1Ideal.nD Cert.ReferenceM1Ideal.τ).loc Cert.ReferenceM1Ideal.main_v7) = v0 c
          ∧ r.2.mem ((c.tc : Thread Cert.ReferenceM1Ideal.nD Cert.ReferenceM1Ideal.τ).loc Cert.ReferenceM1Ideal.main_arg0) = m' ((c.tc : Thread Cert.ReferenceM1Ideal.nD Cert.ReferenceM1Ideal.τ).loc Cert.ReferenceM1Ideal.main_arg0)
          ∧ r.2.mem ((c.tc : Thread Cert.ReferenceM1Ideal.nD Cert.ReferenceM1Ideal.τ).loc Cert.ReferenceM1Ideal.main_arg1) = m' ((c.tc : Thread Cert.ReferenceM1Ideal.nD Cert.ReferenceM1Ideal.τ).loc Cert.ReferenceM1Ideal.main_arg1)
          ∧ r.2.mem ((c.tc : Thread Cert.ReferenceM1Ideal.nD Cert.ReferenceM1Ideal.τ).loc Cert.ReferenceM1Ideal.main_arg2) = m' ((c.tc : Thread Cert.ReferenceM1Ideal.nD Cert.ReferenceM1Ideal.τ).loc Cert.ReferenceM1Ideal.main_arg2))

def preserves_KernelMkv_KernelMkvIdeal : Prop :=
  True

def algebraic_KernelMkvIdeal_ReferenceMkvIdeal [hKernelMkvIdeal : Cert.KernelMkvIdeal.Facts] [hReferenceMkvIdeal : Cert.ReferenceMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg)
    (m' : (ℓ : Loc Cert.ReferenceMkvIdeal.nD Cert.ReferenceMkvIdeal.τ Cert.ReferenceMkvIdeal.sig) → Buf (Elt Ideal) ℓ) (g' : Dev Cert.ReferenceMkvIdeal.nD → PrngReg), Pre_KernelMkvIdeal m →
    (∀ c : Dev Cert.KernelMkvIdeal.nD,
      m' ((c.tc : Thread Cert.ReferenceMkvIdeal.nD Cert.ReferenceMkvIdeal.τ).loc Cert.ReferenceMkvIdeal.main_arg0) = m ((c.tc : Thread Cert.KernelMkvIdeal.nD Cert.KernelMkvIdeal.τ).loc Cert.KernelMkvIdeal.main_arg0)
      ∧ m' ((c.tc : Thread Cert.ReferenceMkvIdeal.nD Cert.ReferenceMkvIdeal.τ).loc Cert.ReferenceMkvIdeal.main_arg1) = m ((c.tc : Thread Cert.KernelMkvIdeal.nD Cert.KernelMkvIdeal.τ).loc Cert.KernelMkvIdeal.main_arg1)
      ∧ m' ((c.tc : Thread Cert.ReferenceMkvIdeal.nD Cert.ReferenceMkvIdeal.τ).loc Cert.ReferenceMkvIdeal.main_arg2) = m ((c.tc : Thread Cert.KernelMkvIdeal.nD Cert.KernelMkvIdeal.τ).loc Cert.KernelMkvIdeal.main_arg2)) →
    ∃ (v0 : (c : Dev Cert.KernelMkvIdeal.nD) → Buf (Elt Ideal) ((c.tc : Thread Cert.KernelMkvIdeal.nD Cert.KernelMkvIdeal.τ).loc Cert.KernelMkvIdeal.main_v0)),
      θ_run (Cert.KernelMkvIdeal.defs (F := Ideal)) (onTc (τ := Cert.KernelMkvIdeal.τ) (Cert.KernelMkvIdeal.main (F := Ideal))) ⟨m, fun _ => 0, g⟩ (fun r => ∀ c : Dev Cert.KernelMkvIdeal.nD,
          r.2.mem ((c.tc : Thread Cert.KernelMkvIdeal.nD Cert.KernelMkvIdeal.τ).loc Cert.KernelMkvIdeal.main_v0) = v0 c
          ∧ r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
          ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1)
          ∧ r.2.mem ((c.tc : Thread Cert.KernelMkvIdeal.nD Cert.KernelMkvIdeal.τ).loc Cert.KernelMkvIdeal.main_arg2) = m ((c.tc : Thread Cert.KernelMkvIdeal.nD Cert.KernelMkvIdeal.τ).loc Cert.KernelMkvIdeal.main_arg2))
      ∧ θ_run (Cert.ReferenceMkvIdeal.defs (F := Ideal)) (onTc (τ := Cert.ReferenceMkvIdeal.τ) (Cert.ReferenceMkvIdeal.main (F := Ideal))) ⟨m', fun _ => 0, g'⟩ (fun r => ∀ c : Dev Cert.ReferenceMkvIdeal.nD,
          r.2.mem ((c.tc : Thread Cert.ReferenceMkvIdeal.nD Cert.ReferenceMkvIdeal.τ).loc Cert.ReferenceMkvIdeal.main_v5) = v0 c
          ∧ r.2.mem ((c.tc : Thread Cert.ReferenceMkvIdeal.nD Cert.ReferenceMkvIdeal.τ).loc Cert.ReferenceMkvIdeal.main_arg0) = m' ((c.tc : Thread Cert.ReferenceMkvIdeal.nD Cert.ReferenceMkvIdeal.τ).loc Cert.ReferenceMkvIdeal.main_arg0)
          ∧ r.2.mem ((c.tc : Thread Cert.ReferenceMkvIdeal.nD Cert.ReferenceMkvIdeal.τ).loc Cert.ReferenceMkvIdeal.main_arg1) = m' ((c.tc : Thread Cert.ReferenceMkvIdeal.nD Cert.ReferenceMkvIdeal.τ).loc Cert.ReferenceMkvIdeal.main_arg1)
          ∧ r.2.mem ((c.tc : Thread Cert.ReferenceMkvIdeal.nD Cert.ReferenceMkvIdeal.τ).loc Cert.ReferenceMkvIdeal.main_arg2) = m' ((c.tc : Thread Cert.ReferenceMkvIdeal.nD Cert.ReferenceMkvIdeal.τ).loc Cert.ReferenceMkvIdeal.main_arg2))

def Claim : Prop :=
  ∃ (hKernel : Cert.Kernel.Facts) (hKernelIdeal : Cert.KernelIdeal.Facts) (hReferenceIdeal : Cert.ReferenceIdeal.Facts) (hKernelQ : Cert.KernelQ.Facts) (hKernelQIdeal : Cert.KernelQIdeal.Facts) (hReferenceQIdeal : Cert.ReferenceQIdeal.Facts) (hKernelKv : Cert.KernelKv.Facts) (hKernelKvIdeal : Cert.KernelKvIdeal.Facts) (hReferenceKvIdeal : Cert.ReferenceKvIdeal.Facts) (hKernelO : Cert.KernelO.Facts) (hKernelOIdeal : Cert.KernelOIdeal.Facts) (hReferenceOIdeal : Cert.ReferenceOIdeal.Facts) (hKernelH : Cert.KernelH.Facts) (hKernelHIdeal : Cert.KernelHIdeal.Facts) (hReferenceHIdeal : Cert.ReferenceHIdeal.Facts) (hKernelM0 : Cert.KernelM0.Facts) (hKernelM0Ideal : Cert.KernelM0Ideal.Facts) (hReferenceM0Ideal : Cert.ReferenceM0Ideal.Facts) (hKernelM1 : Cert.KernelM1.Facts) (hKernelM1Ideal : Cert.KernelM1Ideal.Facts) (hReferenceM1Ideal : Cert.ReferenceM1Ideal.Facts) (hKernelMkv : Cert.KernelMkv.Facts) (hKernelMkvIdeal : Cert.KernelMkvIdeal.Facts) (hReferenceMkvIdeal : Cert.ReferenceMkvIdeal.Facts) (hPre_finite_h : Cert.Pre_finite_h.Facts),
    quiescent_Kernel (hKernel := hKernel)
    ∧ quiescent_KernelIdeal (hKernelIdeal := hKernelIdeal)
    ∧ quiescent_ReferenceIdeal (hReferenceIdeal := hReferenceIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelH (hKernelH := hKernelH)
    ∧ quiescent_KernelHIdeal (hKernelHIdeal := hKernelHIdeal)
    ∧ quiescent_KernelHIdeal_pre_finite_h (hKernelHIdeal := hKernelHIdeal) (hPre_finite_h := hPre_finite_h)
    ∧ quiescent_ReferenceHIdeal (hReferenceHIdeal := hReferenceHIdeal)
    ∧ quiescent_ReferenceHIdeal_pre_finite_h (hReferenceHIdeal := hReferenceHIdeal) (hPre_finite_h := hPre_finite_h)
    ∧ quiescent_KernelM0 (hKernelM0 := hKernelM0)
    ∧ quiescent_KernelM0Ideal (hKernelM0Ideal := hKernelM0Ideal)
    ∧ quiescent_ReferenceM0Ideal (hReferenceM0Ideal := hReferenceM0Ideal)
    ∧ quiescent_KernelM1 (hKernelM1 := hKernelM1)
    ∧ quiescent_KernelM1Ideal (hKernelM1Ideal := hKernelM1Ideal)
    ∧ quiescent_ReferenceM1Ideal (hReferenceM1Ideal := hReferenceM1Ideal)
    ∧ quiescent_KernelMkv (hKernelMkv := hKernelMkv)
    ∧ quiescent_KernelMkvIdeal (hKernelMkvIdeal := hKernelMkvIdeal)
    ∧ quiescent_ReferenceMkvIdeal (hReferenceMkvIdeal := hReferenceMkvIdeal)
    ∧ preserves_Kernel_KernelIdeal
    ∧ algebraic_KernelIdeal_ReferenceIdeal (hKernelIdeal := hKernelIdeal) (hReferenceIdeal := hReferenceIdeal)
    ∧ preserves_KernelQ_KernelQIdeal
    ∧ algebraic_KernelQIdeal_ReferenceQIdeal (hKernelQIdeal := hKernelQIdeal) (hReferenceQIdeal := hReferenceQIdeal)
    ∧ preserves_KernelKv_KernelKvIdeal
    ∧ algebraic_KernelKvIdeal_ReferenceKvIdeal (hKernelKvIdeal := hKernelKvIdeal) (hReferenceKvIdeal := hReferenceKvIdeal)
    ∧ preserves_KernelO_KernelOIdeal
    ∧ algebraic_KernelOIdeal_ReferenceOIdeal (hKernelOIdeal := hKernelOIdeal) (hReferenceOIdeal := hReferenceOIdeal)
    ∧ preserves_KernelH_KernelHIdeal
    ∧ algebraic_KernelHIdeal_ReferenceHIdeal_pre_finite_h (hKernelHIdeal := hKernelHIdeal) (hReferenceHIdeal := hReferenceHIdeal) (hPre_finite_h := hPre_finite_h)
    ∧ preserves_KernelM0_KernelM0Ideal
    ∧ algebraic_KernelM0Ideal_ReferenceM0Ideal (hKernelM0Ideal := hKernelM0Ideal) (hReferenceM0Ideal := hReferenceM0Ideal)
    ∧ preserves_KernelM1_KernelM1Ideal
    ∧ algebraic_KernelM1Ideal_ReferenceM1Ideal (hKernelM1Ideal := hKernelM1Ideal) (hReferenceM1Ideal := hReferenceM1Ideal)
    ∧ preserves_KernelMkv_KernelMkvIdeal
    ∧ algebraic_KernelMkvIdeal_ReferenceMkvIdeal (hKernelMkvIdeal := hKernelMkvIdeal) (hReferenceMkvIdeal := hReferenceMkvIdeal)
-- ==== Pre_finite_h.lean ====
abbrev S2x16384x1024 : Shape := ⟨3, ![2, 16384, 1024]⟩
abbrev S1x1024 : Shape := ⟨2, ![1, 1024]⟩
abbrev S2x1x1024 : Shape := ⟨3, ![2, 1, 1024]⟩
abbrev S1024x4096 : Shape := ⟨2, ![1024, 4096]⟩
abbrev S2x1024 : Shape := ⟨2, ![2, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x1024 : S_.BroadcastsInDim S1x1024 (![] : Fin 0 → Fin S1x1024.rank)
  bcast_S_S2x1x1024 : S_.BroadcastsInDim S2x1x1024 (![] : Fin 0 → Fin S2x1x1024.rank)
  bcast_S_S1024x4096 : S_.BroadcastsInDim S1024x4096 (![] : Fin 0 → Fin S1024x4096.rank)

variable [Facts]

def fn {F : FTy → Type} [FloatOps F] (main_arg0 : FVec F S2x16384x1024 .f32) (main_arg1 : FVec F S1x1024 .f32) (main_arg2 : FVec F S2x1x1024 .f32) (main_arg3 : FVec F S2x1x1024 .f32) (main_arg4 : FVec F S2x1x1024 .f32) (main_arg5 : FVec F S1024x4096 .bf16) (main_arg6 : FVec F S2x1024 .f32) (main_arg7 : FVec F S1x1024 .f32) (main_arg8 : FVec F S1024x1024 .bf16) : IVec S1x1024 1 × IVec S2x1x1024 1 × IVec S2x1x1024 1 × IVec S1024x4096 1 :=
  let main_v0 : FVec F S1024x4096 .f32 := (extf .f32 · bitsLt_bf16_f32) main_arg5
  let main_v1 : FVec F S1x1024 .f32 := Host.absf main_arg1
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_v4 : FVec F S2x1x1024 .f32 := Host.absf main_arg2
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_v7 : FVec F S2x1x1024 .f32 := Host.absf main_arg3
  let main_cst_1 : FVec F S_ .f32 := constant S_ .f32 0x7F800000#32
  let main_v8 : FVec F S2x1x1024 .f32 := broadcastInDim S2x1x1024 ![] bcast_S_S2x1x1024 main_cst_1
  let main_v9 : IVec S2x1x1024 1 := cmpf .olt main_v7 main_v8
  let main_v10 : FVec F S1024x4096 .f32 := Host.absf main_v0
  let main_cst_2 : FVec F S_ .f32 := constant S_ .f32 0x7F800000#32
  let main_v11 : FVec F S1024x4096 .f32 := broadcastInDim S1024x4096 ![] bcast_S_S1024x4096 main_cst_2
  let main_v12 : IVec S1024x4096 1 := cmpf .olt main_v10 main_v11
  (main_v3, main_v6, main_v9, main_v12)
-- ==== Kernel.lean ====
abbrev S2x8x16384x128 : Shape := ⟨4, ![2, 8, 16384, 128]⟩
abbrev S2x16x16384x128 : Shape := ⟨4, ![2, 16, 16384, 128]⟩
abbrev S1x2x2048x128 : Shape := ⟨4, ![1, 2, 2048, 128]⟩
abbrev S1x2x16384x128 : Shape := ⟨4, ![1, 2, 16384, 128]⟩
abbrev S2 : Shape := ⟨1, ![2]⟩
abbrev S128x128 : Shape := ⟨2, ![128, 128]⟩
abbrev S1x128 : Shape := ⟨2, ![1, 128]⟩
abbrev S1x1x1024x128 : Shape := ⟨4, ![1, 1, 1024, 128]⟩
abbrev S1024x128 : Shape := ⟨2, ![1024, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1x1x128x128 : Shape := ⟨4, ![1, 1, 128, 128]⟩
abbrev S128x1 : Shape := ⟨2, ![128, 1]⟩
abbrev S1x128x1 : Shape := ⟨3, ![1, 128, 1]⟩

abbrev nBuf : Space → Nat
  | .hbm => 3
  | .vmem => 8
  | .smem => 1
  | _ => 0

abbrev bufTy : (tb : Table) → Fin (tcTables nBuf tb) → BufTy
  | .hbm, ⟨0, _⟩ => ⟨S2x8x16384x128, .bf16⟩
  | .hbm, ⟨1, _⟩ => ⟨S2x16x16384x128, .bf16⟩
  | .hbm, ⟨2, _⟩ => ⟨S2x8x16384x128, .bf16⟩
  | .local _ .vmem, ⟨0, _⟩ => ⟨S1x2x2048x128, .bf16⟩
  | .local _ .vmem, ⟨1, _⟩ => ⟨S1x2x2048x128, .bf16⟩
  | .local _ .vmem, ⟨2, _⟩ => ⟨S1x2x16384x128, .bf16⟩
  | .local _ .vmem, ⟨3, _⟩ => ⟨S1x2x16384x128, .bf16⟩
  | .local _ .vmem, ⟨4, _⟩ => ⟨S1x2x16384x128, .bf16⟩
  | .local _ .vmem, ⟨5, _⟩ => ⟨S1x2x16384x128, .bf16⟩
  | .local _ .vmem, ⟨6, _⟩ => ⟨S1x2x2048x128, .bf16⟩
  | .local _ .vmem, ⟨7, _⟩ => ⟨S1x2x2048x128, .bf16⟩
  | .local _ .smem, ⟨0, _⟩ => ⟨S2, .f32⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_0 : BitVec 32 := 0#32
  let v10 : BitVec 1 := Scalar.cmpi .ne v9 c0_i32_0
  v10

@[reducible] def k0_t1_loop : Scf.Loop 32 :=
  let c0_i32_4 : BitVec 32 := 0#32
  let c16_i32_5 : BitVec 32 := 16#32
  let v13 : BitVec 32 := Scalar.addi c0_i32_4 c16_i32_5
  let c1_i32_6 : BitVec 32 := 1#32
  ⟨c0_i32_4, v13, c1_i32_6⟩
def k0_mult1 (k0_t1 : Fin k0_t1_loop.trips) : BitVec 32 :=
  let c0_i32_4 : BitVec 32 := 0#32
  let c1_i32_6 : BitVec 32 := 1#32
  let arg8 : BitVec 32 := Scf.iv c0_i32_4 c1_i32_6 k0_t1
  let c1024_i32 : BitVec 32 := 1024#32
  let v32 : BitVec 32 := Scalar.muli arg8 c1024_i32
  v32
def k0_off1 (k0_t1 : Fin k0_t1_loop.trips) : Fin 4 → Nat :=
  let c0_17 : Index := 0#32
  let c0_18 : Index := 0#32
  let c0_i32_4 : BitVec 32 := 0#32
  let c1_i32_6 : BitVec 32 := 1#32
  let arg8 : BitVec 32 := Scf.iv c0_i32_4 c1_i32_6 k0_t1
  let c1024_i32 : BitVec 32 := 1024#32
  let v32 : BitVec 32 := Scalar.muli arg8 c1024_i32
  let v33 : BitVec 32 := v32
  let v34 : Index := Scalar.indexCast v33
  let c0_19 : Index := 0#32
  ![0, 0, v34.toNat, 0]
@[reducible] def k0_t2_loop : Scf.Loop 32 :=
  let c0_i32_11 : BitVec 32 := 0#32
  let c16_i32_12 : BitVec 32 := 16#32
  let v23 : BitVec 32 := Scalar.addi c0_i32_11 c16_i32_12
  let c1_i32_13 : BitVec 32 := 1#32
  ⟨c0_i32_11, v23, c1_i32_13⟩
def k0_mult2 (k0_t2 : Fin k0_t2_loop.trips) : BitVec 32 :=
  let c0_i32_11 : BitVec 32 := 0#32
  let c1_i32_13 : BitVec 32 := 1#32
  let arg8 : BitVec 32 := Scf.iv c0_i32_11 c1_i32_13 k0_t2
  let c1024_i32 : BitVec 32 := 1024#32
  let v32 : BitVec 32 := Scalar.muli arg8 c1024_i32
  v32
def k0_off2 (k0_t2 : Fin k0_t2_loop.trips) : Fin 4 → Nat :=
  let c0_17 : Index := 0#32
  let c1_18 : Index := 1#32
  let c0_i32_11 : BitVec 32 := 0#32
  let c1_i32_13 : BitVec 32 := 1#32
  let arg8 : BitVec 32 := Scf.iv c0_i32_11 c1_i32_13 k0_t2
  let c1024_i32 : BitVec 32 := 1024#32
  let v32 : BitVec 32 := Scalar.muli arg8 c1024_i32
  let v33 : BitVec 32 := v32
  let v34 : Index := Scalar.indexCast v33
  let c0_19 : Index := 0#32
  ![0, 1, v34.toNat, 0]
@[reducible] def k0_t3_loop : Scf.Loop 32 :=
  let c0_i32_1 : BitVec 32 := 0#32
  let c16_i32 : BitVec 32 := 16#32
  let v11 : BitVec 32 := Scalar.addi c0_i32_1 c16_i32
  let c1_i32 : BitVec 32 := 1#32
  ⟨c0_i32_1, v11, c1_i32⟩
def k0_mult3 (k0_t3 : Fin k0_t3_loop.trips) : BitVec 32 :=
  let c0_i32_1 : BitVec 32 := 0#32
  let c1_i32 : BitVec 32 := 1#32
  let arg8 : BitVec 32 := Scf.iv c0_i32_1 c1_i32 k0_t3
  let c128_i32 : BitVec 32 := 128#32
  let v12 : BitVec 32 := Scalar.muli arg8 c128_i32
  v12
def k0_off3 (k0_t3 : Fin k0_t3_loop.trips) : Fin 4 → Nat :=
  let c0 : Index := 0#32
  let c0_4 : Index := 0#32
  let c0_i32_1 : BitVec 32 := 0#32
  let c1_i32 : BitVec 32 := 1#32
  let arg8 : BitVec 32 := Scf.iv c0_i32_1 c1_i32 k0_t3
  let c128_i32 : BitVec 32 := 128#32
  let v12 : BitVec 32 := Scalar.muli arg8 c128_i32
  let v13 : BitVec 32 := v12
  let v16 : Index := Scalar.indexCast v13
  let c0_5 : Index := 0#32
  ![0, 0, v16.toNat, 0]
def k0_off4 (k0_t3 : Fin k0_t3_loop.trips) : Fin 4 → Nat :=
  let c0_8 : Index := 0#32
  let c1 : Index := 1#32
  let c0_i32_1 : BitVec 32 := 0#32
  let c1_i32 : BitVec 32 := 1#32
  let arg8 : BitVec 32 := Scf.iv c0_i32_1 c1_i32 k0_t3
  let c128_i32 : BitVec 32 := 128#32
  let v12 : BitVec 32 := Scalar.muli arg8 c128_i32
  let v13 : BitVec 32 := v12
  let v27 : Index := Scalar.indexCast v13
  let c0_9 : Index := 0#32
  ![0, 1, v27.toNat, 0]
def k0_mult4 (i : grid0.Coords) (k0_t3 : Fin k0_t3_loop.trips) : BitVec 32 :=
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let c0_i32_15 : BitVec 32 := 0#32
  let v42 : BitVec 32 := Scalar.subi v15 c0_i32_15
  let c0_i32_16 : BitVec 32 := 0#32
  let v43 : BitVec 32 := Scalar.maxsi v42 c0_i32_16
  let c128_i32_17 : BitVec 32 := 128#32
  let v44 : BitVec 32 := Scalar.muli v43 c128_i32_17
  v44
def k0_off5 (i : grid0.Coords) (k0_t3 : Fin k0_t3_loop.trips) (c0_i32_15 : BitVec 32) : Fin 4 → Nat :=
  let c0_18 : Index := 0#32
  let c0_19 : Index := 0#32
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let v42 : BitVec 32 := Scalar.subi v15 c0_i32_15
  let c0_i32_16 : BitVec 32 := 0#32
  let v43 : BitVec 32 := Scalar.maxsi v42 c0_i32_16
  let c128_i32_17 : BitVec 32 := 128#32
  let v44 : BitVec 32 := Scalar.muli v43 c128_i32_17
  let v45 : BitVec 32 := v44
  let v46 : Index := Scalar.indexCast v45
  let c0_20 : Index := 0#32
  ![0, 0, v46.toNat, 0]
def k0_mult5 (i : grid0.Coords) (k0_t3 : Fin k0_t3_loop.trips) : BitVec 32 :=
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let c1_i32_33 : BitVec 32 := 1#32
  let v82 : BitVec 32 := Scalar.subi v15 c1_i32_33
  let c0_i32_34 : BitVec 32 := 0#32
  let v83 : BitVec 32 := Scalar.maxsi v82 c0_i32_34
  let c128_i32_35 : BitVec 32 := 128#32
  let v84 : BitVec 32 := Scalar.muli v83 c128_i32_35
  v84
def k0_mult6 (i : grid0.Coords) (k0_t3 : Fin k0_t3_loop.trips) : BitVec 32 :=
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let c2_i32_51 : BitVec 32 := 2#32
  let v122 : BitVec 32 := Scalar.subi v15 c2_i32_51
  let c0_i32_52 : BitVec 32 := 0#32
  let v123 : BitVec 32 := Scalar.maxsi v122 c0_i32_52
  let c128_i32_53 : BitVec 32 := 128#32
  let v124 : BitVec 32 := Scalar.muli v123 c128_i32_53
  v124
def k0_mult7 (i : grid0.Coords) (k0_t3 : Fin k0_t3_loop.trips) : BitVec 32 :=
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let c0_i32_81 : BitVec 32 := 0#32
  let v201 : BitVec 32 := Scalar.subi v15 c0_i32_81
  let c0_i32_82 : BitVec 32 := 0#32
  let v202 : BitVec 32 := Scalar.maxsi v201 c0_i32_82
  let c128_i32_83 : BitVec 32 := 128#32
  let v203 : BitVec 32 := Scalar.muli v202 c128_i32_83
  v203
def k0_off6 (i : grid0.Coords) (k0_t3 : Fin k0_t3_loop.trips) (c0_i32_81 : BitVec 32) : Fin 4 → Nat :=
  let c0_84 : Index := 0#32
  let c1_85 : Index := 1#32
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let v201 : BitVec 32 := Scalar.subi v15 c0_i32_81
  let c0_i32_82 : BitVec 32 := 0#32
  let v202 : BitVec 32 := Scalar.maxsi v201 c0_i32_82
  let c128_i32_83 : BitVec 32 := 128#32
  let v203 : BitVec 32 := Scalar.muli v202 c128_i32_83
  let v204 : BitVec 32 := v203
  let v205 : Index := Scalar.indexCast v204
  let c0_86 : Index := 0#32
  ![0, 1, v205.toNat, 0]
def k0_mult8 (i : grid0.Coords) (k0_t3 : Fin k0_t3_loop.trips) : BitVec 32 :=
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let c1_i32_99 : BitVec 32 := 1#32
  let v241 : BitVec 32 := Scalar.subi v15 c1_i32_99
  let c0_i32_100 : BitVec 32 := 0#32
  let v242 : BitVec 32 := Scalar.maxsi v241 c0_i32_100
  let c128_i32_101 : BitVec 32 := 128#32
  let v243 : BitVec 32 := Scalar.muli v242 c128_i32_101
  v243
def k0_mult9 (i : grid0.Coords) (k0_t3 : Fin k0_t3_loop.trips) : BitVec 32 :=
  let arg2 : BitVec 32 := BitVec.ofNat 32 (i 2).val
  let c16_i32_3 : BitVec 32 := 16#32
  let v14 : BitVec 32 := Scalar.muli arg2 c16_i32_3
  let c0_i32_1 : BitVec 32 := 0#32
  let c1_i32 : BitVec 32 := 1#32
  let arg8 : BitVec 32 := Scf.iv c0_i32_1 c1_i32 k0_t3
  let v15 : BitVec 32 := Scalar.addi v14 arg8
  let c2_i32_117 : BitVec 32 := 2#32
  let v281 : BitVec 32 := Scalar.subi v15 c2_i32_117
  let c0_i32_118 : BitVec 32 := 0#32
  let v282 : BitVec 32 := Scalar.maxsi v281 c0_i32_118
  let c128_i32_119 : BitVec 32 := 128#32
  let v283 : BitVec 32 := Scalar.muli v282 c128_i32_119
  v283
def k0_mult10 (arg9 : BitVec 32) : BitVec 32 :=
  let c128_i32_151 : BitVec 32 := 128#32
  let v369 : BitVec 32 := Scalar.muli arg9 c128_i32_151
  v369

def k0_off7 (arg9 : BitVec 32) : Fin 4 → Nat :=
  let c0_152 : Index := 0#32
  let c0_153 : Index := 0#32
  let c128_i32_151 : BitVec 32 := 128#32
  let v369 : BitVec 32 := Scalar.muli arg9 c128_i32_151
  let v370 : BitVec 32 := v369
  let v371 : Index := Scalar.indexCast v370
  let c0_154 : Index := 0#32
  ![0, 0, v371.toNat, 0]
def k0_mult11 (arg9 : BitVec 32) : BitVec 32 :=
  let c128_i32_167 : BitVec 32 := 128#32
  let v414 : BitVec 32 := Scalar.muli arg9 c128_i32_167
  v414
def k0_off8 (arg9 : BitVec 32) : Fin 4 → Nat :=
  let c0_168 : Index := 0#32
  let c1_169 : Index := 1#32
  let c128_i32_167 : BitVec 32 := 128#32
  let v414 : BitVec 32 := Scalar.muli arg9 c128_i32_167
  let v415 : BitVec 32 := v414
  let v416 : Index := Scalar.indexCast v415
  let c0_170 : Index := 0#32
  ![0, 1, v416.toNat, 0]

def k0_chk1 (arg9 : BitVec 32) : Prop :=
  (128 ∣ (k0_mult10 arg9).toNat) ∧
  (∀ a, (k0_off7 arg9) a + S1x1x128x128.size a ≤ S1x2x16384x128.size a) ∧
  (128 ∣ (k0_mult11 arg9).toNat) ∧
  (∀ a, (k0_off8 arg9) a + S1x1x128x128.size a ≤ S1x2x16384x128.size a)
theorem k0_mult10_dvd : ∀ (arg9 : BitVec 32) (k0_hw1 : k0_chk1 arg9), 128 ∣ (k0_mult10 arg9).toNat := fun arg9 k0_hw1 => k0_hw1.1
theorem k0_off7_inb : ∀ (arg9 : BitVec 32) (k0_hw1 : k0_chk1 arg9), ∀ a, (k0_off7 arg9) a + S1x1x128x128.size a ≤ S1x2x16384x128.size a := fun arg9 k0_hw1 => k0_hw1.2.1
theorem k0_mult11_dvd : ∀ (arg9 : BitVec 32) (k0_hw1 : k0_chk1 arg9), 128 ∣ (k0_mult11 arg9).toNat := fun arg9 k0_hw1 => k0_hw1.2.2.1
theorem k0_off8_inb : ∀ (arg9 : BitVec 32) (k0_hw1 : k0_chk1 arg9), ∀ a, (k0_off8 arg9) a + S1x1x128x128.size a ≤ S1x2x16384x128.size a := fun arg9 k0_hw1 => k0_hw1.2.2.2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "floor" => some ⊥
  | _ => none
-- ==== ReferenceIdeal.lean ====
abbrev S2x8x16384x128 : Shape := ⟨4, ![2, 8, 16384, 128]⟩
abbrev S2x16x16384x128 : Shape := ⟨4, ![2, 16, 16384, 128]⟩
abbrev S2x8x16384x16384 : Shape := ⟨4, ![2, 8, 16384, 16384]⟩
abbrev S16384x16384 : Shape := ⟨2, ![16384, 16384]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S2x16x16384x128, .bf16⟩
  | .hbm, ⟨2, _⟩ => ⟨S2x8x16384x128, .f32⟩
  | .hbm, ⟨3, _⟩ => ⟨S2x8x16384x128, .bf16⟩
  | .hbm, ⟨4, _⟩ => ⟨S2x8x16384x128, .f32⟩
  | .hbm, ⟨5, _⟩ => ⟨S2x8x16384x128, .bf16⟩
  | .hbm, ⟨6, _⟩ => ⟨S2x8x16384x128, .f32⟩
  | .hbm, ⟨7, _⟩ => ⟨S2x8x16384x16384, .f32⟩
  | .hbm, ⟨8, _⟩ => ⟨S16384x16384, .i32⟩
  | .hbm, ⟨9, _⟩ => ⟨S16384x16384, .i32⟩
  | .hbm, ⟨10, _⟩ => ⟨S16384x16384, .i1⟩
  | .hbm, ⟨11, _⟩ => ⟨S2x8x16384x16384, .f32⟩
  | .hbm, ⟨12, _⟩ => ⟨S2x8x16384x16384, .f32⟩
  | .hbm, ⟨13, _⟩ => ⟨S_, .f32⟩
  | .hbm, ⟨14, _⟩ => ⟨S2x8x16384x16384, .f32⟩
  | .hbm, ⟨15, _⟩ => ⟨S2x8x16384x16384, .f32⟩
  | .hbm, ⟨16, _⟩ => ⟨S2x8x16384x16384, .f32⟩
  | .hbm, ⟨17, _⟩ => ⟨S2x8x16384x16384, .f32⟩
  | .hbm, ⟨18, _⟩ => ⟨S2x8x16384x16384, .i1⟩
  | .hbm, ⟨19, _⟩ => ⟨S2x8x16384x16384, .f32⟩
  | .hbm, ⟨20, _⟩ => ⟨S2x8x16384x16384, .f32⟩
  | .hbm, ⟨21, _⟩ => ⟨S2x8x16384x16384, .f32⟩
  | .hbm, ⟨22, _⟩ => ⟨S2x8x16384x16384, .f32⟩
  | .hbm, ⟨23, _⟩ => ⟨S2x8x16384x16384, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S_, .f32⟩
  | .hbm, ⟨29, _⟩ => ⟨S_, .f32⟩
  | .hbm, ⟨30, _⟩ => ⟨S2x8x16384x16384, .i1⟩
  | .hbm, ⟨31, _⟩ => ⟨S2x8x16384x16384, .f32⟩
  | .hbm, ⟨32, _⟩ => ⟨S2x8x16384x16384, .f32⟩
  | .hbm, ⟨33, _⟩ => ⟨S16384x16384, .i1⟩
  | .hbm, ⟨34, _⟩ => ⟨S16384x16384, .f32⟩
  | .hbm, ⟨35, _⟩ => ⟨S2x8x16384x16384, .f32⟩
  | .hbm, ⟨36, _⟩ => ⟨S2x8x16384x16384, .f32⟩
  | .hbm, ⟨37, _⟩ => ⟨S2x8x16384x16384, .f32⟩
  | .hbm, ⟨38, _⟩ => ⟨S_, .f32⟩
  | .hbm, ⟨39, _⟩ => ⟨S_, .f32⟩
  | .hbm, ⟨40, _⟩ => ⟨S2x8x16384x16384, .i1⟩
  | .hbm, ⟨41, _⟩ => ⟨S2x8x16384x16384, .f32⟩
  | .hbm, ⟨42, _⟩ => ⟨S2x8x16384x16384, .f32⟩
  | .hbm, ⟨43, _⟩ => ⟨S2x8x16384x16384, .bf16⟩
  | .hbm, ⟨44, _⟩ => ⟨S2x8x16384x16384, .f32⟩
  | .hbm, ⟨45, _⟩ => ⟨S2x8x16384x128, .f32⟩
  | .hbm, ⟨46, _⟩ => ⟨S2x8x16384x128, .bf16⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v10 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩

abbrev nD : Nat := 1
abbrev τ : Topo := Topo.v7x

variable {F : FTy → Type} [FloatOps F]
-- ==== KernelQ.lean ====
abbrev S2x16384x1024 : Shape := ⟨3, ![2, 16384, 1024]⟩
abbrev S1x1024 : Shape := ⟨2, ![1, 1024]⟩
abbrev S2x1x1024 : Shape := ⟨3, ![2, 1, 1024]⟩
abbrev S1024x1024 : Shape := ⟨2, ![1024, 1024]⟩
abbrev S2x8x16384x128 : Shape := ⟨4, ![2, 8, 16384, 128]⟩
abbrev S1x512x1024 : Shape := ⟨3, ![1, 512, 1024]⟩
abbrev S1x1x1024 : Shape := ⟨3, ![1, 1, 1024]⟩
abbrev S1x8x512x128 : Shape := ⟨4, ![1, 8, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x1x512x128 : Shape := ⟨4, ![1, 1, 512, 128]⟩

abbrev nBuf : Space → Nat
  | .hbm => 6
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x1024, .bf16⟩
  | .hbm, ⟨5, _⟩ => ⟨S2x8x16384x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1x8x512x128, .bf16⟩
  | .local _ .vmem, ⟨9, _⟩ => ⟨S1x8x512x128, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceQIdeal.lean ====
abbrev S2x16384x1024 : Shape := ⟨3, ![2, 16384, 1024]⟩
abbrev S1x1024 : Shape := ⟨2, ![1, 1024]⟩
abbrev S2x1x1024 : Shape := ⟨3, ![2, 1, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x8x128 : Shape := ⟨4, ![2, 16384, 8, 128]⟩
abbrev S2x8x16384x128 : Shape := ⟨4, ![2, 8, 16384, 128]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x1024, .bf16⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S1024x1024, .f32⟩
  | .hbm, ⟨29, _⟩ => ⟨S2x16384x1024, .f32⟩
  | .hbm, ⟨30, _⟩ => ⟨S2x16384x8x128, .f32⟩
  | .hbm, ⟨31, _⟩ => ⟨S2x8x16384x128, .f32⟩
  | .hbm, ⟨32, _⟩ => ⟨S_, .f32⟩
  | .hbm, ⟨33, _⟩ => ⟨S2x8x16384x128, .f32⟩
  | .hbm, ⟨34, _⟩ => ⟨S2x8x16384x128, .f32⟩
  | .hbm, ⟨35, _⟩ => ⟨S2x8x16384x128, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KernelKv.lean ====
abbrev S2x16384x1024 : Shape := ⟨3, ![2, 16384, 1024]⟩
abbrev S1x1024 : Shape := ⟨2, ![1, 1024]⟩
abbrev S2x1x1024 : Shape := ⟨3, ![2, 1, 1024]⟩
abbrev S1024x2048 : Shape := ⟨2, ![1024, 2048]⟩
abbrev S2x16x16384x128 : Shape := ⟨4, ![2, 16, 16384, 128]⟩
abbrev S1x512x1024 : Shape := ⟨3, ![1, 512, 1024]⟩
abbrev S1x1x1024 : Shape := ⟨3, ![1, 1, 1024]⟩
abbrev S1x16x512x128 : Shape := ⟨4, ![1, 16, 512, 128]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S1x1x512x128 : Shape := ⟨4, ![1, 1, 512, 128]⟩

abbrev nBuf : Space → Nat
  | .hbm => 6
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2048, .bf16⟩
  | .hbm, ⟨5, _⟩ => ⟨S2x16x16384x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x16x512x128, .bf16⟩
  | .local _ .vmem, ⟨9, _⟩ => ⟨S1x16x512x128, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceKvIdeal.lean ====
abbrev S2x16384x1024 : Shape := ⟨3, ![2, 16384, 1024]⟩
abbrev S1x1024 : Shape := ⟨2, ![1, 1024]⟩
abbrev S2x1x1024 : Shape := ⟨3, ![2, 1, 1024]⟩
abbrev S1024x2048 : Shape := ⟨2, ![1024, 2048]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩
abbrev S2x16384x16x128 : Shape := ⟨4, ![2, 16384, 16, 128]⟩
abbrev S2x16x16384x128 : Shape := ⟨4, ![2, 16, 16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2048, .bf16⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S1024x2048, .f32⟩
  | .hbm, ⟨29, _⟩ => ⟨S2x16384x2048, .f32⟩
  | .hbm, ⟨30, _⟩ => ⟨S2x16384x16x128, .f32⟩
  | .hbm, ⟨31, _⟩ => ⟨S2x16x16384x128, .f32⟩
  | .hbm, ⟨32, _⟩ => ⟨S2x16x16384x128, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelO.lean ====
abbrev S2x8x16384x128 : Shape := ⟨4, ![2, 8, 16384, 128]⟩
abbrev S1024x1024 : Shape := ⟨2, ![1024, 1024]⟩
abbrev S2x16384x1024 : Shape := ⟨3, ![2, 16384, 1024]⟩
abbrev S2x1x1024 : Shape := ⟨3, ![2, 1, 1024]⟩
abbrev S1x8x512x128 : Shape := ⟨4, ![1, 8, 512, 128]⟩
abbrev S1x512x1024 : Shape := ⟨3, ![1, 512, 1024]⟩
abbrev S1x1x1024 : Shape := ⟨3, ![1, 1, 1024]⟩
abbrev S1x1x512x128 : Shape := ⟨4, ![1, 1, 512, 128]⟩
abbrev S512x128 : Shape := ⟨2, ![512, 128]⟩
abbrev S512x1024 : Shape := ⟨2, ![512, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2x8x16384x128, .bf16⟩
  | .hbm, ⟨1, _⟩ => ⟨S1024x1024, .bf16⟩
  | .hbm, ⟨2, _⟩ => ⟨S2x16384x1024, .f32⟩
  | .hbm, ⟨3, _⟩ => ⟨S2x1x1024, .f32⟩
  | .hbm, ⟨4, _⟩ => ⟨S2x16384x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOIdeal.lean ====
abbrev S2x8x16384x128 : Shape := ⟨4, ![2, 8, 16384, 128]⟩
abbrev S1024x1024 : Shape := ⟨2, ![1024, 1024]⟩
abbrev S2x16384x1024 : Shape := ⟨3, ![2, 16384, 1024]⟩
abbrev S2x1x1024 : Shape := ⟨3, ![2, 1, 1024]⟩
abbrev S2x16384x8x128 : Shape := ⟨4, ![2, 16384, 8, 128]⟩

abbrev nBuf : Space → Nat
  | .hbm => 12
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S1024x1024, .bf16⟩
  | .hbm, ⟨2, _⟩ => ⟨S2x16384x1024, .f32⟩
  | .hbm, ⟨3, _⟩ => ⟨S2x1x1024, .f32⟩
  | .hbm, ⟨4, _⟩ => ⟨S2x8x16384x128, .f32⟩
  | .hbm, ⟨5, _⟩ => ⟨S2x16384x8x128, .f32⟩
  | .hbm, ⟨6, _⟩ => ⟨S2x16384x1024, .f32⟩
  | .hbm, ⟨7, _⟩ => ⟨S1024x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelH.lean ====
abbrev S2x16384x1024 : Shape := ⟨3, ![2, 16384, 1024]⟩
abbrev S1x1024 : Shape := ⟨2, ![1, 1024]⟩
abbrev S2x1x1024 : Shape := ⟨3, ![2, 1, 1024]⟩
abbrev S1024x4096 : Shape := ⟨2, ![1024, 4096]⟩
abbrev S2x1024 : Shape := ⟨2, ![2, 1024]⟩
abbrev S1024x1024 : Shape := ⟨2, ![1024, 1024]⟩
abbrev S1x256x1024 : Shape := ⟨3, ![1, 256, 1024]⟩
abbrev S1x1x1024 : Shape := ⟨3, ![1, 1, 1024]⟩
abbrev S256x1024 : Shape := ⟨2, ![256, 1024]⟩
abbrev S8x128x128 : Shape := ⟨3, ![8, 128, 128]⟩
abbrev S256 : Shape := ⟨1, ![256]⟩
abbrev S256x1 : Shape := ⟨2, ![256, 1]⟩
abbrev S256x4096 : Shape := ⟨2, ![256, 4096]⟩
abbrev S1024 : Shape := ⟨1, ![1024]⟩
abbrev S32x32 : Shape := ⟨2, ![32, 32]⟩
abbrev S32x1024 : Shape := ⟨2, ![32, 1024]⟩
abbrev S32x128 : Shape := ⟨2, ![32, 128]⟩
abbrev S1x128x128 : Shape := ⟨3, ![1, 128, 128]⟩
abbrev S128x128 : Shape := ⟨2, ![128, 128]⟩
abbrev S1x128 : Shape := ⟨2, ![1, 128]⟩
abbrev S256x128 : Shape := ⟨2, ![256, 128]⟩

abbrev nBuf : Space → Nat
  | .hbm => 10
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x4096, .bf16⟩
  | .hbm, ⟨6, _⟩ => ⟨S2x1024, .f32⟩
  | .hbm, ⟨7, _⟩ => ⟨S1x1024, .f32⟩
  | .hbm, ⟨8, _⟩ => ⟨S1024x1024, .bf16⟩
  | .hbm, ⟨9, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S2x1024, .f32⟩
  | .local _ .vmem, ⟨11, _⟩ => ⟨S1x1024, .f32⟩
  | .local _ .vmem, ⟨12, _⟩ => ⟨S1024x1024, .bf16⟩
  | .local _ .vmem, ⟨13, _⟩ => ⟨S1x256x1024, .f32⟩
  | .local _ .vmem, ⟨14, _⟩ => ⟨S1x256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S8x128x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_34 : BitVec 32 := 0#32
  let c8_i32 : BitVec 32 := 8#32
  let v81 : BitVec 32 := Scalar.addi c0_i32_34 c8_i32
  let c1_i32 : BitVec 32 := 1#32
  ⟨c0_i32_34, v81, c1_i32⟩
def k0_mult1 (k0_t1 : Fin k0_t1_loop.trips) : BitVec 32 :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  v231
def k0_off1 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v233 : Index := Scalar.indexCast v232
  let c0_82 : Index := 0#32
  ![v233.toNat, 0]
def k0_off2 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v278 : Index := Scalar.indexCast v232
  let c0_94 : Index := 0#32
  ![v278.toNat, 0]
def k0_off3 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v306 : Index := Scalar.indexCast v232
  let c128_105 : Index := 128#32
  ![v306.toNat, 128]
def k0_off4 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v334 : Index := Scalar.indexCast v232
  let c256_116 : Index := 256#32
  ![v334.toNat, 256]
def k0_off5 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v362 : Index := Scalar.indexCast v232
  let c384_127 : Index := 384#32
  ![v362.toNat, 384]
def k0_off6 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v390 : Index := Scalar.indexCast v232
  let c512_138 : Index := 512#32
  ![v390.toNat, 512]
def k0_off7 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v418 : Index := Scalar.indexCast v232
  let c640_149 : Index := 640#32
  ![v418.toNat, 640]
def k0_off8 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v446 : Index := Scalar.indexCast v232
  let c768_160 : Index := 768#32
  ![v446.toNat, 768]
def k0_off9 (k0_t1 : Fin k0_t1_loop.trips) : Fin 2 → Nat :=
  let c0_i32_34 : BitVec 32 := 0#32
  let c1_i32 : BitVec 32 := 1#32
  let arg19 : BitVec 32 := Scf.iv c0_i32_34 c1_i32 k0_t1
  let c32_i32 : BitVec 32 := 32#32
  let v231 : BitVec 32 := Scalar.muli arg19 c32_i32
  let v232 : BitVec 32 := v231
  let v474 : Index := Scalar.indexCast v232
  let c896_171 : Index := 896#32
  ![v474.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceHIdeal.lean ====
abbrev S2x16384x1024 : Shape := ⟨3, ![2, 16384, 1024]⟩
abbrev S1x1024 : Shape := ⟨2, ![1, 1024]⟩
abbrev S2x1x1024 : Shape := ⟨3, ![2, 1, 1024]⟩
abbrev S1024x4096 : Shape := ⟨2, ![1024, 4096]⟩
abbrev S2x1024 : Shape := ⟨2, ![2, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S1024 : Shape := ⟨1, ![1024]⟩
abbrev S2x16384x8x128 : Shape := ⟨4, ![2, 16384, 8, 128]⟩
abbrev S2x8x16384x128 : Shape := ⟨4, ![2, 8, 16384, 128]⟩
abbrev S16384x16384 : Shape := ⟨2, ![16384, 16384]⟩
abbrev S2x8x128x16384 : Shape := ⟨4, ![2, 8, 128, 16384]⟩
abbrev S2x8x16384x16384 : Shape := ⟨4, ![2, 8, 16384, 16384]⟩
abbrev S2x8x16384 : Shape := ⟨3, ![2, 8, 16384]⟩
abbrev S2x8x16384x1 : Shape := ⟨4, ![2, 8, 16384, 1]⟩

abbrev nBuf : Space → Nat
  | .hbm => 143
  | .vmem => 0
  | .smem => 0
  | _ => 0

abbrev hbmTy0_0 (i : Nat) : BufTy := match i % 128 with
  | 0 => ⟨S2x16384x1024, .f32⟩
  | 1 => ⟨S1x1024, .f32⟩
  | 2 => ⟨S2x1x1024, .f32⟩
  | 3 => ⟨S2x1x1024, .f32⟩
  | 4 => ⟨S2x1x1024, .f32⟩
  | 5 => ⟨S1024x4096, .bf16⟩
  | 6 => ⟨S2x1024, .f32⟩
  | 7 => ⟨S1x1024, .f32⟩
  | 8 => ⟨S1024x1024, .bf16⟩
  | 9 => ⟨S2x16384x1024, .f32⟩
  | 10 => ⟨S_, .f32⟩
  | 11 => ⟨S2x16384, .f32⟩
  | 12 => ⟨S2x16384x1, .f32⟩
  | 13 => ⟨S_, .f32⟩
  | 14 => ⟨S2x16384x1, .f32⟩
  | 15 => ⟨S2x16384x1, .f32⟩
  | 16 => ⟨S_, .f32⟩
  | 17 => ⟨S2x16384x1, .f32⟩
  | 18 => ⟨S2x16384x1, .f32⟩
  | 19 => ⟨S2x16384x1, .f32⟩
  | 20 => ⟨S2x16384x1024, .f32⟩
  | 21 => ⟨S2x16384x1024, .f32⟩
  | 22 => ⟨S1x1x1024, .f32⟩
  | 23 => ⟨S2x16384x1024, .f32⟩
  | 24 => ⟨S2x16384x1024, .f32⟩
  | 25 => ⟨S_, .f32⟩
  | 26 => ⟨S2x1x1024, .f32⟩
  | 27 => ⟨S2x1x1024, .f32⟩
  | 28 => ⟨S2x16384x1024, .f32⟩
  | 29 => ⟨S2x16384x1024, .f32⟩
  | 30 => ⟨S2x16384x1024, .f32⟩
  | 31 => ⟨S2x16384x1024, .f32⟩
  | 32 => ⟨S1024x4096, .f32⟩
  | 33 => ⟨S2x16384x4096, .f32⟩
  | 34 => ⟨S2x16384x1024, .f32⟩
  | 35 => ⟨S2x16384x1024, .f32⟩
  | 36 => ⟨S2x16384x1024, .f32⟩
  | 37 => ⟨S2x16384x1024, .f32⟩
  | 38 => ⟨S_, .f32⟩
  | 39 => ⟨S1024, .f32⟩
  | 40 => ⟨S_, .f32⟩
  | 41 => ⟨S1024, .f32⟩
  | 42 => ⟨S1024, .f32⟩
  | 43 => ⟨S1x1024, .f32⟩
  | 44 => ⟨S2x1024, .f32⟩
  | 45 => ⟨S2x1024, .f32⟩
  | 46 => ⟨S2x1024, .f32⟩
  | 47 => ⟨S_, .f32⟩
  | 48 => ⟨S1024, .f32⟩
  | 49 => ⟨S1x1024, .f32⟩
  | 50 => ⟨S2x1024, .f32⟩
  | 51 => ⟨S2x1024, .f32⟩
  | 52 => ⟨S1x1024, .f32⟩
  | 53 => ⟨S1024, .f32⟩
  | 54 => ⟨S_, .f32⟩
  | 55 => ⟨S1024, .f32⟩
  | 56 => ⟨S1024, .f32⟩
  | 57 => ⟨S2x16384x1024, .f32⟩
  | 58 => ⟨S2x16384x1024, .f32⟩
  | 59 => ⟨S_, .f32⟩
  | 60 => ⟨S2x16384x1024, .f32⟩
  | 61 => ⟨S2x16384x1024, .f32⟩
  | 62 => ⟨S_, .f32⟩
  | 63 => ⟨S2x16384x1024, .f32⟩
  | 64 => ⟨S2x16384x1024, .f32⟩
  | 65 => ⟨S1x1x1024, .f32⟩
  | 66 => ⟨S2x16384x1024, .f32⟩
  | 67 => ⟨S2x16384x1024, .f32⟩
  | 68 => ⟨S1x1x1024, .f32⟩
  | 69 => ⟨S2x16384x1024, .f32⟩
  | 70 => ⟨S2x16384x1024, .f32⟩
  | 71 => ⟨S2x16384x1024, .f32⟩
  | 72 => ⟨S2x16384x1024, .f32⟩
  | 73 => ⟨S_, .f32⟩
  | 74 => ⟨S2x16384x1024, .f32⟩
  | 75 => ⟨S2x16384x1024, .f32⟩
  | 76 => ⟨S_, .f32⟩
  | 77 => ⟨S2x16384x1024, .f32⟩
  | 78 => ⟨S2x16384x1024, .f32⟩
  | 79 => ⟨S2x16384x1024, .f32⟩
  | 80 => ⟨S2x16384x8x128, .f32⟩
  | 81 => ⟨S2x8x16384x128, .f32⟩
  | 82 => ⟨S_, .f32⟩
  | 83 => ⟨S2x16384x1024, .f32⟩
  | 84 => ⟨S2x16384x1024, .f32⟩
  | 85 => ⟨S2x16384x8x128, .f32⟩
  | 86 => ⟨S2x8x16384x128, .f32⟩
  | 87 => ⟨S2x16384x8x128, .f32⟩
  | 88 => ⟨S2x8x16384x128, .f32⟩
  | 89 => ⟨S2x16384x1024, .f32⟩
  | 90 => ⟨S2x16384x8x128, .f32⟩
  | 91 => ⟨S2x8x16384x128, .f32⟩
  | 92 => ⟨S16384x16384, .i32⟩
  | 93 => ⟨S16384x16384, .i32⟩
  | 94 => ⟨S16384x16384, .i1⟩
  | 95 => ⟨S16384x16384, .f32⟩
  | 96 => ⟨S2x8x128x16384, .f32⟩
  | 97 => ⟨S2x8x16384x128, .f32⟩
  | 98 => ⟨S2x8x16384x128, .f32⟩
  | 99 => ⟨S2x8x16384x128, .f32⟩
  | 100 => ⟨S2x8x16384x128, .f32⟩
  | 101 => ⟨S2x8x16384x128, .f32⟩
  | 102 => ⟨S2x8x16384x128, .f32⟩
  | 103 => ⟨S2x8x16384x16384, .f32⟩
  | 104 => ⟨S_, .f32⟩
  | 105 => ⟨S_, .f32⟩
  | 106 => ⟨S2x8x16384x16384, .i1⟩
  | 107 => ⟨S2x8x16384x16384, .f32⟩
  | 108 => ⟨S2x8x16384x16384, .f32⟩
  | 109 => ⟨S2x8x16384x128, .f32⟩
  | 110 => ⟨S2x8x16384x128, .f32⟩
  | 111 => ⟨S_, .f32⟩
  | 112 => ⟨S2x8x16384, .f32⟩
  | 113 => ⟨S2x8x16384x1, .f32⟩
  | 114 => ⟨S_, .f32⟩
  | 115 => ⟨S2x8x16384x1, .f32⟩
  | 116 => ⟨S2x8x16384x1, .f32⟩
  | 117 => ⟨S_, .f32⟩
  | 118 => ⟨S2x8x16384x1, .f32⟩
  | 119 => ⟨S2x8x16384x1, .f32⟩
  | 120 => ⟨S2x8x16384x1, .f32⟩
  | 121 => ⟨S2x8x16384x128, .f32⟩
  | 122 => ⟨S2x8x16384x128, .f32⟩
  | 123 => ⟨S2x16384x8x128, .f32⟩
  | 124 => ⟨S2x16384x1024, .f32⟩
  | 125 => ⟨S1x1x1024, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S_, .f32⟩
  | 3 => ⟨S2x16384x1024, .f32⟩
  | 4 => ⟨S2x16384x1024, .f32⟩
  | 5 => ⟨S_, .f32⟩
  | 6 => ⟨S2x16384x1024, .f32⟩
  | 7 => ⟨S2x16384x1024, .f32⟩
  | 8 => ⟨S2x16384x1024, .f32⟩
  | 9 => ⟨S2x16384x1024, .f32⟩
  | 10 => ⟨S1024x1024, .f32⟩
  | 11 => ⟨S2x16384x1024, .f32⟩
  | 12 => ⟨S2x16384x1024, .f32⟩
  | 13 => ⟨S2x16384x1024, .f32⟩
  | 14 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_10 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_11 : Ref sig .tc := ⟨.hbm, 111, rfl⟩
abbrev main_v79 : Ref sig .tc := ⟨.hbm, 112, rfl⟩
abbrev main_v80 : Ref sig .tc := ⟨.hbm, 113, rfl⟩
abbrev main_cst_12 : Ref sig .tc := ⟨.hbm, 114, rfl⟩
abbrev main_v81 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]
-- ==== KernelM0.lean ====
abbrev S8x1024 : Shape := ⟨2, ![8, 1024]⟩
abbrev S2x1024x6144 : Shape := ⟨3, ![2, 1024, 6144]⟩
abbrev S2x1x6144 : Shape := ⟨3, ![2, 1, 6144]⟩
abbrev S8x6144 : Shape := ⟨2, ![8, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x1x6144, .f32⟩
  | .hbm, ⟨3, _⟩ => ⟨S8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceM0Ideal.lean ====
abbrev S8x1024 : Shape := ⟨2, ![8, 1024]⟩
abbrev S2x1024x6144 : Shape := ⟨3, ![2, 1024, 6144]⟩
abbrev S2x1x6144 : Shape := ⟨3, ![2, 1, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x1x6144 : Shape := ⟨3, ![1, 1, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x1x6144, .f32⟩
  | .hbm, ⟨16, _⟩ => ⟨S1x6144, .f32⟩
  | .hbm, ⟨17, _⟩ => ⟨S8x6144, .f32⟩
  | .hbm, ⟨18, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelM1.lean ====
abbrev S8x1024 : Shape := ⟨2, ![8, 1024]⟩
abbrev S2x1024x6144 : Shape := ⟨3, ![2, 1024, 6144]⟩
abbrev S2x1x6144 : Shape := ⟨3, ![2, 1, 6144]⟩
abbrev S8x6144 : Shape := ⟨2, ![8, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x1x6144, .f32⟩
  | .hbm, ⟨3, _⟩ => ⟨S8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceM1Ideal.lean ====
abbrev S8x1024 : Shape := ⟨2, ![8, 1024]⟩
abbrev S2x1024x6144 : Shape := ⟨3, ![2, 1024, 6144]⟩
abbrev S2x1x6144 : Shape := ⟨3, ![2, 1, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x1x6144 : Shape := ⟨3, ![1, 1, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x1x6144, .f32⟩
  | .hbm, ⟨16, _⟩ => ⟨S1x6144, .f32⟩
  | .hbm, ⟨17, _⟩ => ⟨S8x6144, .f32⟩
  | .hbm, ⟨18, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelMkv.lean ====
abbrev S8x1024 : Shape := ⟨2, ![8, 1024]⟩
abbrev S1x1024x2048 : Shape := ⟨3, ![1, 1024, 2048]⟩
abbrev S1x1x2048 : Shape := ⟨3, ![1, 1, 2048]⟩
abbrev S8x2048 : Shape := ⟨2, ![8, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x2048, .f32⟩
  | .hbm, ⟨2, _⟩ => ⟨S1x1x2048, .f32⟩
  | .hbm, ⟨3, _⟩ => ⟨S8x2048, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMkvIdeal.lean ====
abbrev S8x1024 : Shape := ⟨2, ![8, 1024]⟩
abbrev S1x1024x2048 : Shape := ⟨3, ![1, 1024, 2048]⟩
abbrev S1x1x2048 : Shape := ⟨3, ![1, 1, 2048]⟩
abbrev S_ : Shape := ⟨0, ![]⟩
abbrev S1024x2048 : Shape := ⟨2, ![1024, 2048]⟩
abbrev S8x2048 : Shape := ⟨2, ![8, 2048]⟩
abbrev S1x2048 : Shape := ⟨2, ![1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x2048, .f32⟩
  | .hbm, ⟨2, _⟩ => ⟨S1x1x2048, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x2048, .f32⟩
  | .hbm, ⟨13, _⟩ => ⟨S8x2048, .f32⟩
  | .hbm, ⟨14, _⟩ => ⟨S1x2048, .f32⟩
  | .hbm, ⟨15, _⟩ => ⟨S8x2048, .f32⟩
  | .hbm, ⟨16, _⟩ => ⟨S8x2048, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.KI.Model.lean ====
/-
  The attention call as a pure function of what its three input blocks hold, over any float values. A block of 128 keys
  takes a head's state, the sum of the log probabilities of the keys already seen and the weighted sum of their values, to
  the next state (`step`); a row of 128 queries starts at its own block and goes backwards, three blocks always and the
  others while the bound says that they can matter (`walk`). The last theorems say that the printed payloads are these
  functions.
-/
module

public import proofs.«01_k».proof.Proof.Gen.KernelIdeal.Skeleton
public import Idealize.ShloMosaic.Lib.ValueIdxCore

@[expose] public section

noncomputable section

namespace Cert.Proof.KI

open Cert.KernelIdeal Cert.KernelIdeal.Gen
open Idealize.ShloMosaic Idealize.ShloMosaic.ValueIdx

variable {F : FTy → Type} [FloatOps F] [Named F]

/-- What a window of keys or values holds: two heads of 16384 rows. -/
abbrev Keys (F : FTy → Type) : Type := S1x2x16384x128.Idx → Elt F .bf16
/-- What a window of queries or results holds: two heads of 2048 rows. -/
abbrev Rows (F : FTy → Type) : Type := S1x2x2048x128.Idx → Elt F .bf16
/-- What the call keeps between grid points: one bound for each of the two heads. -/
abbrev Bounds (F : FTy → Type) : Type := Fin 2 → Elt F .f32

/-- One head's state for 128 rows: the log probability already spent and the output so far. -/
abbrev Head (F : FTy → Type) : Type := FVec F S128x1 .f32 × FVec F S128x128 .f32

/-- Rows `128 j` to `128 j + 127` of head `hd` of the keys (or values). -/
def keyBlk (X : Keys F) (hd : Fin 2) (j : ℕ) : Vec F S1x1x128x128 .bf16 := fun x =>
  X (ix4 (0 : Fin 1) hd (⟨(128 * j + (x 2).val) % 16384, Nat.mod_lt _ (by decide)⟩ : Fin 16384) (⟨(x 3).val, (x 3).isLt⟩ : Fin 128))

/-- Rows `1024 j` to `1024 j + 1023` of head `hd` of the keys. -/
def keySlab (X : Keys F) (hd : Fin 2) (j : ℕ) : Vec F S1x1x1024x128 .bf16 := fun x =>
  X (ix4 (0 : Fin 1) hd (⟨(1024 * j + (x 2).val) % 16384, Nat.mod_lt _ (by decide)⟩ : Fin 16384) (⟨(x 3).val, (x 3).isLt⟩ : Fin 128))

/-- Rows `128 k` to `128 k + 127` of head `hd` of the queries. -/
def rowBlk (X : Rows F) (hd : Fin 2) (k : ℕ) : Vec F S1x1x128x128 .bf16 := fun x =>
  X (ix4 (0 : Fin 1) hd (⟨(128 * k + (x 2).val) % 2048, Nat.mod_lt _ (by decide)⟩ : Fin 2048) (⟨(x 3).val, (x 3).isLt⟩ : Fin 128))

/-- A block of one head as a matrix. -/
def tile (x : Vec F S1x1x128x128 .bf16) : FVec F S128x128 .bf16 := shapeCast S128x128 x shapeCasts_S1x1x128x128_S128x128

/-- Zero everywhere. -/
def zeros : FVec F S128x128 .f32 := broadcast S128x128 (Scalar.ofBits .f32 0x00000000#32 : F .f32)

/-- The scores of 128 queries against 128 keys. -/
def score (q k : FVec F S128x128 .bf16) : FVec F S128x128 .f32 :=
  matmul dot_S128x128_S128x128_S128x128_1_1_0_0_n_n none q k (constant S128x128 .f32 0x00000000#32)

/-- The softplus of `x`, entry by entry, as it is computed: the greater of `x` and zero plus the logarithm of one plus the
    exponential of minus the magnitude. -/
def softplus (x : FVec F S128x128 .f32) : FVec F S128x128 .f32 :=
  select (cmpf .one (subf x zeros) (subf x zeros)) (addf x zeros)
    (addf (maximumf x zeros) (log1p (exp (subf zeros (absf (subf x zeros))))))

/-- The log probability of a key's not being taken, from its score. -/
def logKeep (z : FVec F S128x128 .f32) : FVec F S128x128 .f32 := subf zeros (softplus (subf zeros (subf zeros z)))

/-- Each entry's sum over its own and the later columns, the entry's high half and low half summed apart. -/
def sumRight (l : FVec F S128x128 .f32) : FVec F S128x128 .f32 :=
  addf
    (matmul dot_S128x128_S128x128_S128x128_1_0_0_1_n_n none (truncf .bf16 l bitsLt_bf16_f32) (k0_pay2 (F := F)) (constant S128x128 .f32 0x00000000#32))
    (matmul dot_S128x128_S128x128_S128x128_1_0_0_1_n_n none
      (truncf .bf16 (subf l (extf .f32 (truncf .bf16 l bitsLt_bf16_f32) bitsLt_bf16_f32)) bitsLt_bf16_f32) (k0_pay2 (F := F)) (constant S128x128 .f32 0x00000000#32))

/-- The first column. -/
def firstCol (x : FVec F S128x128 .f32) : FVec F S128x1 .f32 := extractStridedSlice S128x1 ![0, 0] x slices_S128x128_o0_0_S128x1

/-- The weights of a block's keys, from their scores, the sums inside the block and the sum of the later blocks. -/
def weight (z cs : FVec F S128x128 .f32) (after : FVec F S128x1 .f32) : FVec F S128x128 .f32 :=
  exp (addf (addf z cs) (broadcastTo S128x128 after broadcasts_S128x1_S128x128))

/-- The weights times the values. -/
def mix (a : FVec F S128x128 .f32) (v : FVec F S128x128 .bf16) : FVec F S128x128 .f32 :=
  matmul dot_S128x128_S128x128_S128x128_1_0_0_1_n_n none (truncf .bf16 a bitsLt_bf16_f32) v (constant S128x128 .f32 0x00000000#32)

/-- One block of keys: the sums inside the block are taken of what `keep` leaves of the log probabilities, and so are the
    weights. -/
def step (keep : FVec F S128x128 .f32 → FVec F S128x128 .f32) (q k v : FVec F S128x128 .bf16) (s : Head F) : Head F :=
  (addf s.1 (firstCol (sumRight (keep (logKeep (score q k))))),
   addf s.2 (mix (keep (weight (score q k) (sumRight (keep (logKeep (score q k)))) s.1)) v))

/-- Keep the entries left of the diagonal. -/
def keepLow (x : FVec F S128x128 .f32) : FVec F S128x128 .f32 := select k0_pay1 x zeros
/-- Keep everything if the bit is set, nothing otherwise. -/
def keepIf (b : BitVec 1) (x : FVec F S128x128 .f32) : FVec F S128x128 .f32 := Scalar.select b x zeros
/-- Keep everything. -/
def keepAll (x : FVec F S128x128 .f32) : FVec F S128x128 .f32 := x

/-- The state before any key. -/
def start : Head F := (broadcast S128x1 (Scalar.ofBits .f32 0x00000000#32 : F .f32), zeros)

/-- The three nearest blocks of keys, from the queries' own block `g` backwards; the bits say whether there are a second
    and a third. -/
def near (K V : Keys F) (hd : Fin 2) (q : FVec F S128x128 .bf16) (g : ℕ) (b₁ b₂ : BitVec 1) : Head F :=
  step (keepIf b₂) q (tile (keyBlk K hd (g - 2))) (tile (keyBlk V hd (g - 2)))
    (step (keepIf b₁) q (tile (keyBlk K hd (g - 1))) (tile (keyBlk V hd (g - 1)))
      (step keepLow q (tile (keyBlk K hd g)) (tile (keyBlk V hd g)) start))

/-- Whether a further block can matter: the greatest bound on a score plus what is spent is above the floor. -/
def live (z₀ z₁ : FVec F S128x1 .f32) (s : Head F × Head F) : BitVec 1 :=
  Scalar.cmpf .ogt (k0_pay14 z₀ z₁ s.1.1 s.2.1) (Named.named κ "floor" 0xC2C80000#32)

/-- The blocks `n - 1`, …, `0`, while they can matter. -/
def walk (K V : Keys F) (q₀ q₁ : FVec F S128x128 .bf16) (z₀ z₁ : FVec F S128x1 .f32) : ℕ → Head F × Head F → Head F × Head F
  | 0, s => s
  | n + 1, s =>
    if live z₀ z₁ s = 1#1 then
      walk K V q₀ q₁ z₀ z₁ n
        (step keepAll q₀ (tile (keyBlk K 0 n)) (tile (keyBlk V 0 n)) s.1, step keepAll q₁ (tile (keyBlk K 1 n)) (tile (keyBlk V 1 n)) s.2)
    else s

/-- The bit that says `m ≤ n`. -/
def bitLe (m n : ℕ) : BitVec 1 := if m ≤ n then 1#1 else 0#1

/-- Both heads' states for the 128 rows of row block `k` of query window `a`, which are rows `128 (16 a + k)` onwards of all. -/
def rows (Q : Rows F) (K V : Keys F) (bd : Bounds F) (a k : ℕ) : Head F × Head F :=
  walk K V (tile (rowBlk Q 0 k)) (tile (rowBlk Q 1 k)) (k0_pay18 (rowBlk Q 0 k) (bd 0)) (k0_pay20 (rowBlk Q 1 k) (bd 1))
    (16 * a + k - 2)
    (near K V 0 (tile (rowBlk Q 0 k)) (16 * a + k) (bitLe 1 (16 * a + k)) (bitLe 2 (16 * a + k)),
     near K V 1 (tile (rowBlk Q 1 k)) (16 * a + k) (bitLe 1 (16 * a + k)) (bitLe 2 (16 * a + k)))

/-- What the call leaves in the window of results at query window `a`. -/
def result (Q : Rows F) (K V : Keys F) (bd : Bounds F) (a : ℕ) : Rows F := fun x =>
  if (x 1).val = 0 then
    k0_pay12 (rows Q K V bd a ((x 2).val / 128)).1.2 (ix4 (0 : Fin 1) (0 : Fin 1) (⟨(x 2).val % 128, Nat.mod_lt _ (by decide)⟩ : Fin 128) (⟨(x 3).val, (x 3).isLt⟩ : Fin 128))
  else
    k0_pay13 (rows Q K V bd a ((x 2).val / 128)).2.2 (ix4 (0 : Fin 1) (0 : Fin 1) (⟨(x 2).val % 128, Nat.mod_lt _ (by decide)⟩ : Fin 128) (⟨(x 3).val, (x 3).isLt⟩ : Fin 128))

/-- The running maxima over the first `n` slabs of keys of head 0. -/
def colMax₀ (K : Keys F) : ℕ → FVec F S1x128 .f32
  | 0 => k0_pay4
  | n + 1 => k0_pay5 (colMax₀ K n) (keySlab K 0 n)
/-- The running maxima over the first `n` slabs of keys of head 1. -/
def colMax₁ (K : Keys F) : ℕ → FVec F S1x128 .f32
  | 0 => k0_pay7
  | n + 1 => k0_pay8 (colMax₁ K n) (keySlab K 1 n)

/-- The bounds on the keys' lengths, one for each head. -/
def bounds (K : Keys F) : Bounds F := fun x =>
  if x.val = 0 then k0_pay6 (colMax₀ K 16) else k0_pay9 (colMax₁ K 16)

/-! ### The printed payloads -/

section Payloads

variable (q k₀ k₁ k₂ v₀ v₁ v₂ : Vec F S1x1x128x128 .bf16) (b₁ b₂ : BitVec 1)

/-- Head 0's three nearest blocks, as printed: what is spent after them. -/
theorem near₀_fst :
    k0_pay40 (k0_pay28 (k0_pay2 (F := F)) (k0_pay17 q) b₁ (k0_pay25 k₁)) (k0_pay32 (k0_pay2 (F := F)) (k0_pay17 q) b₂ (k0_pay29 k₂))
        (k0_pay35 (k0_pay24 k0_pay1 (k0_pay2 (F := F)) (k0_pay17 q) (k0_pay21 k₀)))
      = (step (keepIf b₂) (tile q) (tile k₂) (tile v₂) (step (keepIf b₁) (tile q) (tile k₁) (tile v₁) (step keepLow (tile q) (tile k₀) (tile v₀) start))).1 := rfl

/-- Head 0's three nearest blocks, as printed: the output after them. -/
theorem near₀_snd :
    k0_pay39 b₁ b₂ (k0_pay26 v₁) (k0_pay28 (k0_pay2 (F := F)) (k0_pay17 q) b₁ (k0_pay25 k₁)) (k0_pay30 v₂) (k0_pay31 (k0_pay17 q) (k0_pay29 k₂))
        (k0_pay32 (k0_pay2 (F := F)) (k0_pay17 q) b₂ (k0_pay29 k₂))
        (k0_pay34 k0_pay1 (k0_pay22 v₀) (k0_pay23 (k0_pay17 q) (k0_pay21 k₀)) (k0_pay24 k0_pay1 (k0_pay2 (F := F)) (k0_pay17 q) (k0_pay21 k₀)))
        (k0_pay35 (k0_pay24 k0_pay1 (k0_pay2 (F := F)) (k0_pay17 q) (k0_pay21 k₀)))
        (k0_pay36 (k0_pay27 (k0_pay17 q) (k0_pay25 k₁)) (k0_pay28 (k0_pay2 (F := F)) (k0_pay17 q) b₁ (k0_pay25 k₁)))
        (k0_pay37 (k0_pay24 k0_pay1 (k0_pay2 (F := F)) (k0_pay17 q) (k0_pay21 k₀)))
      = (step (keepIf b₂) (tile q) (tile k₂) (tile v₂) (step (keepIf b₁) (tile q) (tile k₁) (tile v₁) (step keepLow (tile q) (tile k₀) (tile v₀) start))).2 := rfl

/-- Head 1's three nearest blocks, as printed: what is spent after them. -/
theorem near₁_fst :
    k0_pay11 (k0_pay55 (k0_pay2 (F := F)) b₂ (k0_pay52 (k0_pay19 q) k₂) (Scalar.ofBits .f32 0x00000000#32) (k0_pay53 (k0_pay19 q) k₂) (k0_pay54 (k0_pay19 q) k₂))
        (k0_pay59 (k0_pay44 k0_pay1 (k0_pay2 (F := F)) (k0_pay43 (k0_pay19 q) k₀) (Scalar.ofBits .f32 0x00000000#32))
          (k0_pay49 (k0_pay2 (F := F)) b₁ (k0_pay47 (k0_pay19 q) k₁) (Scalar.ofBits .f32 0x00000000#32) (k0_pay48 (k0_pay19 q) k₁)))
      = (step (keepIf b₂) (tile q) (tile k₂) (tile v₂) (step (keepIf b₁) (tile q) (tile k₁) (tile v₁) (step keepLow (tile q) (tile k₀) (tile v₀) start))).1 := rfl

/-- Head 1's three nearest blocks, as printed: the output after them. -/
theorem near₁_snd :
    k0_pay10 b₂ (k0_pay50 v₂)
        (k0_pay58 k0_pay1 b₁ (k0_pay41 v₀) (k0_pay42 (k0_pay19 q) k₀) (k0_pay44 k0_pay1 (k0_pay2 (F := F)) (k0_pay43 (k0_pay19 q) k₀) (Scalar.ofBits .f32 0x00000000#32))
          (k0_pay45 v₁) (k0_pay46 (k0_pay19 q) k₁) (k0_pay49 (k0_pay2 (F := F)) b₁ (k0_pay47 (k0_pay19 q) k₁) (Scalar.ofBits .f32 0x00000000#32) (k0_pay48 (k0_pay19 q) k₁)))
        (k0_pay60 (k0_pay2 (F := F)) b₂ (k0_pay44 k0_pay1 (k0_pay2 (F := F)) (k0_pay43 (k0_pay19 q) k₀) (Scalar.ofBits .f32 0x00000000#32))
          (k0_pay49 (k0_pay2 (F := F)) b₁ (k0_pay47 (k0_pay19 q) k₁) (Scalar.ofBits .f32 0x00000000#32) (k0_pay48 (k0_pay19 q) k₁))
          (k0_pay51 (k0_pay19 q) k₂) (k0_pay52 (k0_pay19 q) k₂) (Scalar.ofBits .f32 0x00000000#32) (k0_pay53 (k0_pay19 q) k₂) (k0_pay54 (k0_pay19 q) k₂))
      = (step (keepIf b₂) (tile q) (tile k₂) (tile v₂) (step (keepIf b₁) (tile q) (tile k₁) (tile v₁) (step keepLow (tile q) (tile k₀) (tile v₀) start))).2 := rfl

variable (qq : FVec F S128x128 .bf16) (s : Head F)

/-- Head 0's further block, as printed: what is spent after it. -/
theorem far₀_fst : k0_pay64 s.1 (k0_pay62 qq (k0_pay2 (F := F)) k₀) = (step keepAll qq (tile k₀) (tile v₀) s).1 := rfl
/-- Head 0's further block, as printed: the output after it. -/
theorem far₀_snd : k0_pay63 qq (k0_pay2 (F := F)) s.1 s.2 k₀ v₀ = (step keepAll qq (tile k₀) (tile v₀) s).2 := rfl
/-- Head 1's further block, as printed: what is spent after it. -/
theorem far₁_fst : k0_pay16 s.1 (k0_pay66 (k0_pay2 (F := F)) qq k₀) = (step keepAll qq (tile k₀) (tile v₀) s).1 := rfl
/-- Head 1's further block, as printed: the output after it. -/
theorem far₁_snd : k0_pay15 s.2 (k0_pay67 (k0_pay2 (F := F)) qq s.1 k₀ v₀) = (step keepAll qq (tile k₀) (tile v₀) s).2 := rfl

end Payloads

end Cert.Proof.KI

end
-- ==== Proof.Sums.lean ====
/-
  One row of stick-breaking attention over the extended reals. The row has position `t`; key `s` has score `Z s` and may be
  seen if `s < t`. `W` is the key's weight: the exponential of its score plus the log probabilities of not taking the keys
  from `s` up to `t`. The lemmas say how the sums over keys split into blocks of 128, and that once the log probabilities
  from some key up sum to minus infinity every earlier key has weight zero.
-/
module

public import Idealize.ShloMosaic.PureOps.Ideal
public import Mathlib.Algebra.BigOperators.Intervals

@[expose] public section

noncomputable section

namespace Cert.Proof.Sums

open Idealize.ShloMosaic
open scoped BigOperators

/-- The log probability of not taking a key, from its score: minus the softplus of the score. -/
def lk (z : EReal) : EReal := -(max z 0 + Ideal.log1p (Ideal.exp (-(max z (-z)))))

/-- The logarithm of one plus an exponential is not minus infinity. -/
theorem log1p_exp_ne_bot (y : EReal) : Ideal.log1p (Ideal.exp y) ≠ ⊥ := by
  induction y with
  | bot => simp only [Ideal.exp_bot, Ideal.log1p, add_zero]; rw [show (1 : EReal) = ((1 : ℝ) : EReal) from rfl, Ideal.log_coe]; simp
  | top =>
    rw [Ideal.exp_top, Ideal.log1p, EReal.add_top_of_ne_bot (by rw [show (1 : EReal) = ((1 : ℝ) : EReal) from rfl]; exact EReal.coe_ne_bot 1), Ideal.log_top]
    exact top_ne_bot
  | coe r =>
    have hp := Real.exp_pos r
    rw [Ideal.exp_coe, Ideal.log1p, show (1 : EReal) + (Real.exp r : EReal) = ((1 + Real.exp r : ℝ) : EReal) by push_cast; rfl, Ideal.log_coe,
      if_neg (by linarith)]
    exact EReal.coe_ne_bot _

/-- A log probability is not plus infinity. -/
theorem lk_ne_top (z : EReal) : lk z ≠ ⊤ := by
  unfold lk
  rw [Ne, EReal.neg_eq_top_iff, EReal.add_eq_bot_iff, not_or]
  exact ⟨fun h => by have := le_max_right z 0; rw [h] at this; simp at this, log1p_exp_ne_bot _⟩

/-- Key `s`'s log probability if the row may see it, else zero. -/
def M (Z : ℕ → EReal) (t s : ℕ) : EReal := if s < t then lk (Z s) else 0
/-- The sum of the log probabilities of the keys from `n` up to `N`. -/
def T (N : ℕ) (Z : ℕ → EReal) (t n : ℕ) : EReal := ∑ s ∈ Finset.Ico n N, M Z t s
/-- Key `s`'s weight if the row may see it, else zero. -/
def W (N : ℕ) (Z : ℕ → EReal) (t s : ℕ) : EReal := if s < t then Ideal.exp (Z s + T N Z t s) else 0

variable {N : ℕ} {Z : ℕ → EReal} {t : ℕ}

/-- A masked logarithm is never the infinity above. -/
theorem M_ne_top (s : ℕ) : M Z t s ≠ ⊤ := by
  unfold M; split
  · exact lk_ne_top _
  · exact EReal.zero_ne_top

/-- A sum over a block and all later keys. -/
theorem sum_block (f : ℕ → EReal) (n : ℕ) (h : 128 * (n + 1) ≤ N) :
    ∑ s ∈ Finset.Ico (128 * n) N, f s = (∑ s ∈ Finset.Ico (128 * (n + 1)) N, f s) + ∑ c : Fin 128, f (128 * n + c.val) := by
  rw [← Finset.sum_Ico_consecutive f (show 128 * n ≤ 128 * (n + 1) by omega) h, add_comm]
  refine congrArg _ ?_
  rw [Finset.sum_Ico_eq_sum_range, show 128 * (n + 1) - 128 * n = 128 by omega, Finset.sum_range]

/-- A sum over the keys of a block from column `c` and all later keys. -/
theorem sum_tail (f : ℕ → EReal) (n c : ℕ) (hc : c < 128) (h : 128 * (n + 1) ≤ N) :
    ∑ s ∈ Finset.Ico (128 * n + c) N, f s
      = (∑ j : Fin 128, if c ≤ j.val then f (128 * n + j.val) else 0) + ∑ s ∈ Finset.Ico (128 * (n + 1)) N, f s := by
  rw [← Finset.sum_Ico_consecutive f (show 128 * n + c ≤ 128 * (n + 1) by omega) h]
  refine congrArg (· + _) ?_
  have e : Finset.Ico (128 * n + c) (128 * (n + 1)) = (Finset.Ico c 128).map (addLeftEmbedding (128 * n)) := by
    rw [Finset.map_add_left_Ico]; congr 1
  rw [e, Finset.sum_map, ← Finset.sum_range (fun j => if c ≤ j then f (128 * n + j) else 0), ← Finset.sum_filter]
  refine Finset.sum_congr ?_ fun _ _ => rfl
  ext j; simp only [Finset.mem_Ico, Finset.mem_filter, Finset.mem_range]; omega

/-- A sum over the keys from `s` up as a sum over all keys with a factor of one or zero. -/
theorem sum_from (f : ℕ → EReal) (s : ℕ) :
    ∑ j : Fin N, f j.val * (if s ≤ j.val then 1 else 0) = ∑ j ∈ Finset.Ico s N, f j := by
  rw [← Finset.sum_range (fun j => f j * (if s ≤ j then 1 else 0))]
  simp only [mul_ite, mul_one, mul_zero]
  rw [← Finset.sum_filter]
  refine Finset.sum_congr ?_ fun _ _ => rfl
  ext j; simp only [Finset.mem_Ico, Finset.mem_filter, Finset.mem_range]; omega

/-- The sum of a block's log probabilities carries the sum of the later blocks to that from the block on. -/
theorem T_block (n : ℕ) (h : 128 * (n + 1) ≤ N) : T N Z t (128 * n) = T N Z t (128 * (n + 1)) + ∑ c : Fin 128, M Z t (128 * n + c.val) :=
  sum_block _ n h

/-- A key's sum of log probabilities is its block's from its column on plus that of the later blocks. -/
theorem T_tail (n c : ℕ) (hc : c < 128) (h : 128 * (n + 1) ≤ N) :
    T N Z t (128 * n + c) = (∑ j : Fin 128, if c ≤ j.val then M Z t (128 * n + j.val) else 0) + T N Z t (128 * (n + 1)) :=
  sum_tail _ n c hc h

/-- From the row's position on there is nothing to sum. -/
theorem T_of_le (n : ℕ) (h : t ≤ n) : T N Z t n = 0 :=
  Finset.sum_eq_zero fun s hs => if_neg (by rw [Finset.mem_Ico] at hs; omega)

/-- From the row's position on every weight is zero. -/
theorem sum_W_of_le (f : ℕ → EReal) (n : ℕ) (h : t ≤ n) : ∑ s ∈ Finset.Ico n N, W N Z t s * f s = 0 :=
  Finset.sum_eq_zero fun s hs => by
    unfold W; rw [if_neg (by rw [Finset.mem_Ico] at hs; omega), zero_mul]

/-- Once the log probabilities from `n` up sum to minus infinity, so do those from any earlier key. -/
theorem T_bot (n s : ℕ) (hs : s ≤ n) (hn : n ≤ N) (h : T N Z t n = ⊥) : T N Z t s = ⊥ := by
  unfold T at h ⊢
  rw [← Finset.sum_Ico_consecutive _ hs hn, h, EReal.add_bot]

/-- Then the earlier keys have weight zero, and the sum over all keys is the sum over the later ones. -/
theorem sum_W_of_bot (f : ℕ → EReal) (n : ℕ) (hn : n ≤ N) (h : T N Z t n = ⊥) :
    ∑ s ∈ Finset.Ico n N, W N Z t s * f s = ∑ s ∈ Finset.Ico 0 N, W N Z t s * f s := by
  rw [← Finset.sum_Ico_consecutive _ (Nat.zero_le n) hn]
  refine ((congrArg (· + _) (Finset.sum_eq_zero fun s hs => ?_)).trans (zero_add _)).symm
  rw [Finset.mem_Ico] at hs
  unfold W; rw [T_bot n s hs.2.le hn h, EReal.add_bot, Ideal.exp_bot, ite_self, zero_mul]

/-- A number and what is left of it after subtracting itself sum to the number, unless it is plus infinity. -/
theorem add_sub_self_eq (x : EReal) (h : x ≠ ⊤) : x + (x - x) = x := by
  induction x with
  | bot => simp
  | top => exact absurd rfl h
  | coe r => rw [← EReal.coe_sub, sub_self, EReal.coe_zero, add_zero]

/-- Summing over the later columns, high half and low half apart, is summing the numbers. -/
theorem sum_halves {n : ℕ} (l : Fin n → EReal) (hl : ∀ j, l j ≠ ⊤) (c : ℕ) :
    (∑ j : Fin n, l j * (if c ≤ j.val then 1 else 0)) + (∑ j : Fin n, (l j - l j) * (if c ≤ j.val then 1 else 0))
      = ∑ j : Fin n, if c ≤ j.val then l j else 0 := by
  rw [← Finset.sum_add_distrib]
  refine Finset.sum_congr rfl fun j _ => ?_
  split
  · rw [mul_one, mul_one, add_sub_self_eq _ (hl j)]
  · rw [mul_zero, mul_zero, add_zero]

end Cert.Proof.Sums

end
-- ==== Proof.KI.Read.lean ====
/-
  The model's arithmetic read at an entry, over the extended reals: the scores are inner products, the log probabilities
  minus softplus, the sums inside a block plain sums over the later columns, a masked block's numbers zero.
-/
module

public import proofs.«01_k».proof.Proof.KI.Model
public import proofs.«01_k».proof.Proof.Sums
public import Idealize.ShloMosaic.PureOps.Ideal
public import Idealize.ShloMosaic.PureOps.IdealRules
public import Idealize.ShloMosaic.Lib.ValueIdx
public import Idealize.ShloMosaic.Lib.ValueLayout
public import Idealize.ShloMosaic.Lib.MatmulPlain
public import Idealize.ShloMosaic.Lib.WordCmp
public import Idealize.ShloMosaic.Lib.IdealHost

@[expose] public section

noncomputable section

namespace Cert.Proof.KI

open Cert.KernelIdeal Cert.KernelIdeal.Gen Cert.Proof.Sums
open Idealize.ShloMosaic Idealize.ShloMosaic.ValueIdx
open scoped BigOperators

/-- An extended real subtracted from zero is its negative. -/
theorem zero_sub_ereal (x : EReal) : 0 - x = -x := by rw [sub_eq_add_neg, zero_add]

/-- A block as a matrix reads the block. -/
theorem tile_apply (x : Vec Ideal S1x1x128x128 .bf16) (r c : Fin 128) :
    tile x (ix2 r c) = x (ix4 (0 : Fin 1) (0 : Fin 1) r c) :=
  congrArg x (reshapeEquiv_ix2_11ab _ r c)

/-- The tile of zeros holds zero everywhere. -/
theorem zeros_apply (i : S128x128.Idx) : zeros (F := Ideal) i = 0 := Ideal.ofBits_zero_f32

/-- A score is the inner product of a query and a key. -/
theorem score_apply (q k : FVec Ideal S128x128 .bf16) (r c : Fin 128) :
    score q k (ix2 r c) = ∑ d : Fin 128, q (ix2 r d) * k (ix2 c d) := by
  have e : dot_S128x128_S128x128_S128x128_1_1_0_0_n_n = DotDims.transposedRhs 128 128 128 := rfl
  unfold score
  rw [e]
  refine (Ideal.matmul_transposedRhs_apply none q k _ r c).trans ?_
  rw [constant_apply, Ideal.ofBits_zero_f32, zero_add]

/-- A product with a 128 by 128 matrix, entry by entry. -/
theorem mul_apply {φ : FTy} (a : FVec Ideal S128x128 .bf16) (b : FVec Ideal S128x128 φ) (r c : Fin 128) :
    matmul dot_S128x128_S128x128_S128x128_1_0_0_1_n_n none a b (constant S128x128 .f32 0x00000000#32) (ix2 r c)
      = ∑ k : Fin 128, a (ix2 r k) * b (ix2 k c) := by
  have e : dot_S128x128_S128x128_S128x128_1_0_0_1_n_n = DotDims.plain 128 128 128 := rfl
  rw [e]
  refine (Ideal.matmul_plain_apply none a b _ r c).trans ?_
  rw [constant_apply, Ideal.ofBits_zero_f32, zero_add]

/-- The computed log probability is minus the softplus of the score. -/
theorem logKeep_apply (z : FVec Ideal S128x128 .f32) (i : S128x128.Idx) : logKeep z i = lk (z i) := by
  have hx : ∀ x : FVec Ideal S128x128 .f32, softplus x i = max (x i) 0 + Ideal.log1p (Ideal.exp (-(max (x i) (-(x i))))) := fun x => by
    unfold softplus
    rw [select_apply, cmpf_apply, addf_apply, addf_apply, subf_apply, maximumf_apply, zeros_apply, sub_zero, Ideal.cmpf_def,
      show Ideal.cmp .one (x i) (x i) = 0#1 from by simp [Ideal.cmp], select_zero]
    show _ + Ideal.log1p (Ideal.exp (zeros (F := Ideal) i - max (x i - zeros (F := Ideal) i) (-(x i - zeros (F := Ideal) i)))) = _
    rw [zeros_apply, sub_zero, zero_sub_ereal]
  unfold logKeep
  rw [subf_apply, hx, subf_apply, subf_apply, zeros_apply, zero_sub_ereal, zero_sub_ereal, zero_sub_ereal, neg_neg]
  rfl

/-- The matrix of ones on and below the diagonal. -/
theorem tri_apply (k c : Fin 128) : k0_pay2 (F := Ideal) (ix2 k c) = if c.val ≤ k.val then 1 else 0 := by
  show ((((IntOp.cmpi .sge (BitVec.ofNat 32 (0 * 128 + k.val)) (BitVec.ofNat 32 (0 * 128 + c.val))).setWidth 32).toInt : ℝ) : EReal) = _
  have hk := k.isLt; have hc := c.isLt
  rw [Nat.zero_mul, Nat.zero_add, Nat.zero_add, WordCmp.cmpi_sge_ofNat (by omega) (by omega)]
  split_ifs with h <;> simp [h]

/-- The strictly lower triangle's bits. -/
theorem low_apply (r c : Fin 128) : k0_pay1 (ix2 r c) = if c.val < r.val then 1#1 else 0#1 := by
  show IntOp.cmpi .slt (BitVec.ofNat 32 (0 * 128 + c.val)) (BitVec.ofNat 32 (0 * 128 + r.val)) = _
  have hr := r.isLt; have hc := c.isLt
  rw [Nat.zero_mul, Nat.zero_add, Nat.zero_add, WordCmp.cmpi_slt_ofNat (by omega) (by omega)]
  split_ifs with h <;> simp [h]

/-- Keeping the lower triangle keeps the entries before the diagonal and clears the others. -/
theorem keepLow_apply (x : FVec Ideal S128x128 .f32) (r c : Fin 128) : keepLow x (ix2 r c) = if c.val < r.val then x (ix2 r c) else 0 := by
  show Scalar.select (k0_pay1 (ix2 r c)) (x (ix2 r c)) (zeros (ix2 r c)) = _
  rw [low_apply, zeros_apply]
  split_ifs <;> rfl

/-- Under a true condition a tile is kept. -/
theorem keepIf_one (x : FVec Ideal S128x128 .f32) : keepIf 1#1 x = x := rfl
/-- Under a false condition a tile is cleared. -/
theorem keepIf_zero_apply (x : FVec Ideal S128x128 .f32) (i : S128x128.Idx) : keepIf 0#1 x i = 0 := zeros_apply i

/-- The sum over an entry's own and the later columns. -/
theorem sumRight_apply (l : FVec Ideal S128x128 .f32) (hl : ∀ i, l i ≠ ⊤) (r c : Fin 128) :
    sumRight l (ix2 r c) = ∑ j : Fin 128, if c.val ≤ j.val then l (ix2 r j) else 0 := by
  rw [← sum_halves (fun j : Fin 128 => l (ix2 r j)) (fun j => hl _) c.val]
  unfold sumRight
  rw [addf_apply, mul_apply, mul_apply]
  simp only [tri_apply]
  rfl

/-- The first column holds the entries of column zero. -/
theorem firstCol_apply (x : FVec Ideal S128x128 .f32) (r : Fin 128) : firstCol x (ix2 r (0 : Fin 1)) = x (ix2 r (0 : Fin 128)) := by
  unfold firstCol
  exact slice2_axis1_apply 0 x _ r (0 : Fin 1) (0 : Fin 128) rfl

/-- A weight: the exponential of the score, the sum within the block and the sum of the later blocks. -/
theorem weight_apply (z cs : FVec Ideal S128x128 .f32) (after : FVec Ideal S128x1 .f32) (r c : Fin 128) :
    weight z cs after (ix2 r c) = Ideal.exp ((z (ix2 r c) + cs (ix2 r c)) + after (ix2 r (0 : Fin 1))) := by
  show Ideal.exp ((z (ix2 r c) + cs (ix2 r c)) + broadcastTo S128x128 after broadcasts_S128x1_S128x128 (ix2 r c)) = _
  rw [broadcastTo_apply after broadcasts_S128x1_S128x128 (ix2 r c) (ix2 r (0 : Fin 1)) fun ax => by
    match ax with
    | ⟨0, _⟩ => rfl
    | ⟨1, _⟩ => rfl]

/-- An entry of the weights times the values is the sum, over the keys of the block, of weight times value. -/
theorem mix_apply (a : FVec Ideal S128x128 .f32) (v : FVec Ideal S128x128 .bf16) (r d : Fin 128) :
    mix a v (ix2 r d) = ∑ c : Fin 128, a (ix2 r c) * v (ix2 c d) := by
  unfold mix
  exact mul_apply _ v r d

end Cert.Proof.KI

end
-- ==== Proof.KI.Blocks.lean ====
/-
  The walk over the blocks of keys keeps an invariant: after the blocks from `n` up a head's state holds, for each of its
  rows, the sum of the log probabilities of the keys from `128 n` up and the weighted sum of their values. A block that is
  masked out changes nothing, and when the bound ends the walk early the keys left all have weight zero.
-/
module

public import proofs.«01_k».proof.Proof.KI.Read

@[expose] public section

noncomputable section

namespace Cert.Proof.KI

open Cert.KernelIdeal Cert.KernelIdeal.Gen Cert.Proof.Sums
open Idealize.ShloMosaic Idealize.ShloMosaic.ValueIdx
open scoped BigOperators

/-- The score of key `s` for row `r` of a block of queries. -/
def sc (q : FVec Ideal S128x128 .bf16) (K : Keys Ideal) (hd : Fin 2) (r : Fin 128) (s : ℕ) : EReal :=
  ∑ d : Fin 128, q (ix2 r d) * K (ix4 (0 : Fin 1) hd (⟨s % 16384, Nat.mod_lt _ (by decide)⟩ : Fin 16384) d)

/-- Entry `d` of value `s`. -/
def vl (V : Keys Ideal) (hd : Fin 2) (d : Fin 128) (s : ℕ) : EReal :=
  V (ix4 (0 : Fin 1) hd (⟨s % 16384, Nat.mod_lt _ (by decide)⟩ : Fin 16384) d)

/-- After the blocks from `n` up: row `r` of row block `g` has spent the log probabilities of the keys from `128 n` up, and
    its output is the weighted sum of their values. -/
def Done (q : FVec Ideal S128x128 .bf16) (K V : Keys Ideal) (hd : Fin 2) (g n : ℕ) (s : Head Ideal) : Prop :=
  ∀ r : Fin 128, s.1 (ix2 r (0 : Fin 1)) = T 16384 (sc q K hd r) (128 * g + r.val) (128 * n)
    ∧ ∀ d : Fin 128, s.2 (ix2 r d) = ∑ j ∈ Finset.Ico (128 * n) 16384, W 16384 (sc q K hd r) (128 * g + r.val) j * vl V hd d j

variable {q : FVec Ideal S128x128 .bf16} {K V : Keys Ideal} {hd : Fin 2} {g n : ℕ} {s : Head Ideal}

/-- A score within a key block is the score of the key at that place of the row. -/
theorem score_blk (r c : Fin 128) : score q (tile (keyBlk K hd n)) (ix2 r c) = sc q K hd r (128 * n + c.val) := by
  rw [score_apply]
  exact Finset.sum_congr rfl fun d _ => congrArg (q (ix2 r d) * ·) (tile_apply (keyBlk K hd n) c d)

/-- A value within a value block is the value at that place of the row. -/
theorem value_blk (c d : Fin 128) : tile (keyBlk V hd n) (ix2 c d) = vl V hd d (128 * n + c.val) := tile_apply _ c d

/-- Before any key the sums are empty. -/
theorem done_start (hg : g < 128) : Done q K V hd g (g + 1) start := fun r => by
  have hr := r.isLt
  refine ⟨?_, fun d => ?_⟩
  · rw [T_of_le _ (by omega)]
    exact Ideal.ofBits_zero_f32
  · rw [sum_W_of_le _ _ (by omega)]
    exact zeros_apply (ix2 r d)

/-- One block, masked as the row's position says, takes the invariant one block down. -/
theorem done_step {keep : FVec Ideal S128x128 .f32 → FVec Ideal S128x128 .f32}
    (hk : ∀ x (r c : Fin 128), keep x (ix2 r c) = if 128 * n + c.val < 128 * g + r.val then x (ix2 r c) else 0) (hn : n < 128)
    (h : Done q K V hd g (n + 1) s) : Done q K V hd g n (step keep q (tile (keyBlk K hd n)) (tile (keyBlk V hd n)) s) := by
  intro r
  have hN : 128 * (n + 1) ≤ 16384 := by omega
  have hl : ∀ r c : Fin 128, keep (logKeep (score q (tile (keyBlk K hd n)))) (ix2 r c) = M (sc q K hd r) (128 * g + r.val) (128 * n + c.val) := fun r c => by
    rw [hk, logKeep_apply, score_blk]; rfl
  have hcs : ∀ r c : Fin 128, sumRight (keep (logKeep (score q (tile (keyBlk K hd n))))) (ix2 r c)
      = ∑ j : Fin 128, if c.val ≤ j.val then M (sc q K hd r) (128 * g + r.val) (128 * n + j.val) else 0 := fun r c => by
    rw [sumRight_apply _ (fun i => by
      obtain ⟨r, c, rfl⟩ : ∃ r c : Fin 128, i = ix2 r c := ⟨i 0, i 1, eq_ix2 i⟩
      rw [hl]; exact M_ne_top _)]
    simp only [hl]
  refine ⟨?_, fun d => ?_⟩
  · show s.1 (ix2 r (0 : Fin 1)) + firstCol (sumRight (keep (logKeep (score q (tile (keyBlk K hd n)))))) (ix2 r (0 : Fin 1)) = _
    rw [firstCol_apply, hcs, (h r).1, T_block n hN]
    refine congrArg _ (Finset.sum_congr rfl fun j _ => if_pos (Nat.zero_le _))
  · show s.2 (ix2 r d) + mix _ _ (ix2 r d) = _
    rw [mix_apply, (h r).2 d, sum_block _ n hN]
    refine congrArg _ (Finset.sum_congr rfl fun c _ => ?_)
    rw [hk, weight_apply, score_blk, hcs, value_blk, (h r).1, add_assoc, ← T_tail n c.val c.isLt hN]
    rfl

/-- A block masked out changes nothing. -/
theorem done_masked {m : ℕ} (k v : FVec Ideal S128x128 .bf16) (h : Done q K V hd g m s) : Done q K V hd g m (step (keepIf 0#1) q k v s) := by
  intro r
  have hcs : ∀ c : Fin 128, sumRight (keepIf 0#1 (logKeep (score q k))) (ix2 r c) = 0 := fun c => by
    rw [sumRight_apply _ (fun i => by rw [keepIf_zero_apply]; exact EReal.zero_ne_top)]
    simp only [keepIf_zero_apply, ite_self, Finset.sum_const_zero]
  refine ⟨?_, fun d => ?_⟩
  · show s.1 (ix2 r (0 : Fin 1)) + firstCol _ (ix2 r (0 : Fin 1)) = _
    rw [firstCol_apply, hcs, add_zero]; exact (h r).1
  · show s.2 (ix2 r d) + mix _ _ (ix2 r d) = _
    rw [mix_apply]
    simp only [keepIf_zero_apply, zero_mul, Finset.sum_const_zero, add_zero]
    exact (h r).2 d

/-- One of the nearest blocks behind the queries' own: there, or masked out because there is none. -/
theorem done_behind {a b : ℕ} (ha : 0 < a) (hg : g < 128) (hb : b = g - (a - 1)) (h : Done q K V hd g b s) :
    Done q K V hd g (g - a) (step (keepIf (bitLe a g)) q (tile (keyBlk K hd (g - a))) (tile (keyBlk V hd (g - a))) s) := by
  subst hb
  by_cases hag : a ≤ g
  · rw [show bitLe a g = 1#1 from if_pos hag]
    refine done_step (fun x r c => ?_) (by omega) (by rwa [show g - a + 1 = g - (a - 1) by omega])
    have hc := c.isLt
    rw [keepIf_one, if_pos (by omega)]
  · rw [show bitLe a g = 0#1 from if_neg hag, show g - a = g - (a - 1) by omega]
    exact done_masked _ _ h

/-- After the three nearest blocks. -/
theorem done_near (hg : g < 128) : Done q K V hd g (g - 2) (near K V hd q g (bitLe 1 g) (bitLe 2 g)) := by
  unfold near
  refine done_behind (by decide) hg rfl (done_behind (by decide) hg rfl ?_)
  refine done_step (fun x r c => ?_) hg (done_start hg)
  rw [keepLow_apply]
  exact if_congr (by omega) rfl rfl

/-- An entry is at most the greatest entry. -/
theorem le_topBound (x : FVec Ideal S128x1 .f32) (r : Fin 128) :
    x (ix2 r (0 : Fin 1)) ≤ extractAt ![0, 0, 0] (shapeCast S1x1x1
      (multiReduction .maximumf [1, 2] S1 (shapeCast S1x128x1 x shapeCasts_S128x1_S1x128x1) 0xFF800000#32 reduces_S1x128x1_S1 (.inl rfl) rfl)
      shapeCasts_S1_S1x1x1) inpos_S1x1x1_p0_0_0 := by
  have hs : ∀ j : S1.Idx, x (ix2 r (0 : Fin 1))
      ≤ multiReduction .maximumf [1, 2] S1 (shapeCast S1x128x1 x shapeCasts_S128x1_S1x128x1) 0xFF800000#32 reduces_S1x128x1_S1 (.inl rfl) rfl j := fun j => by
    refine le_of_le_of_eq ?_ (multiReduction_maximumf_eq_fold (shapeCast S1x128x1 x shapeCasts_S128x1_S1x128x1) _ _ _ _ j).symm
    refine (Finset.le_fold_max _).mpr (.inr ⟨ix3 (0 : Fin 1) r (0 : Fin 1), ?_, ?_⟩)
    · refine Finset.mem_filter.mpr ⟨Finset.mem_univ _, ?_⟩
      funext b
      match b with
      | ⟨0, _⟩ => exact Subsingleton.elim (α := Fin 1) _ _
    · exact le_of_eq (shapeCast_ab_1ab_apply x _ (0 : Fin 1) r (0 : Fin 1)).symm
  exact hs _

/-- The walk ends early only when every row has spent everything. -/
theorem spent_of_not_live {z₀ z₁ : FVec Ideal S128x1 .f32} (h₀ : ∀ r : Fin 128, z₀ (ix2 r (0 : Fin 1)) ≠ ⊥)
    (h₁ : ∀ r : Fin 128, z₁ (ix2 r (0 : Fin 1)) ≠ ⊥) (s : Head Ideal × Head Ideal) (h : ¬live z₀ z₁ s = 1#1) (r : Fin 128) :
    s.1.1 (ix2 r (0 : Fin 1)) = ⊥ ∧ s.2.1 (ix2 r (0 : Fin 1)) = ⊥ := by
  have hb : k0_pay14 z₀ z₁ s.1.1 s.2.1 = (⊥ : EReal) := by
    by_contra hne
    refine h ?_
    unfold live
    rw [IdealRules.named_const.ideal_named_scalar κ "floor" (φ := .f32) 0xC2C80000#32 (⊥ : EReal) rfl]
    show BitVec.ofBool (decide (_ < _)) = 1#1
    rw [decide_eq_true (bot_lt_iff_ne_bot.mpr hne)]
    rfl
  have e : k0_pay14 z₀ z₁ s.1.1 s.2.1 = max _ _ := rfl
  rw [hb] at e
  have l₀ := le_topBound (addf z₀ s.1.1) r
  have l₁ := le_topBound (addf z₁ s.2.1) r
  have a₀ := le_bot_iff.mp (l₀.trans ((le_max_left _ _).trans e.symm.le))
  have a₁ := le_bot_iff.mp (l₁.trans ((le_max_right _ _).trans e.symm.le))
  rw [addf_apply, EReal.add_eq_bot_iff] at a₀ a₁
  exact ⟨a₀.resolve_left (h₀ r), a₁.resolve_left (h₁ r)⟩

/-- What the two heads' outputs are at the end: for each row the weighted sum of all values. -/
def Final (q : FVec Ideal S128x128 .bf16) (K V : Keys Ideal) (hd : Fin 2) (g : ℕ) (s : Head Ideal) : Prop :=
  ∀ r d : Fin 128, s.2 (ix2 r d) = ∑ j ∈ Finset.Ico 0 16384, W 16384 (sc q K hd r) (128 * g + r.val) j * vl V hd d j

/-- When everything is spent the output is final. -/
theorem final_of_spent (h : Done q K V hd g n s) (hn : n ≤ 128) (hb : ∀ r : Fin 128, s.1 (ix2 r (0 : Fin 1)) = ⊥) : Final q K V hd g s :=
  fun r d => by
    rw [(h r).2 d]
    exact sum_W_of_bot _ _ (by omega) (by rw [← (h r).1]; exact hb r)

/-- The walk from block `n` down ends with both outputs final. -/
theorem final_walk {q₀ q₁ : FVec Ideal S128x128 .bf16} {z₀ z₁ : FVec Ideal S128x1 .f32} (h₀ : ∀ r : Fin 128, z₀ (ix2 r (0 : Fin 1)) ≠ ⊥)
    (h₁ : ∀ r : Fin 128, z₁ (ix2 r (0 : Fin 1)) ≠ ⊥) (hg : g < 128) :
    ∀ (n : ℕ) (s : Head Ideal × Head Ideal), n ≤ g → Done q₀ K V 0 g n s.1 → Done q₁ K V 1 g n s.2 →
      Final q₀ K V 0 g (walk K V q₀ q₁ z₀ z₁ n s).1 ∧ Final q₁ K V 1 g (walk K V q₀ q₁ z₀ z₁ n s).2 := by
  intro n
  induction n with
  | zero => exact fun s _ d₀ d₁ => ⟨fun r d => (d₀ r).2 d, fun r d => (d₁ r).2 d⟩
  | succ n ih =>
    intro s hn d₀ d₁
    unfold walk
    split
    · have hk : ∀ (x : FVec Ideal S128x128 .f32) (r c : Fin 128), keepAll x (ix2 r c) = if 128 * n + c.val < 128 * g + r.val then x (ix2 r c) else 0 :=
        fun x r c => by have hc := c.isLt; rw [if_pos (by omega)]; rfl
      exact ih _ (by omega) (done_step hk (by omega) d₀) (done_step hk (by omega) d₁)
    · next hl =>
      have hs := spent_of_not_live h₀ h₁ s hl
      exact ⟨final_of_spent d₀ (by omega) fun r => (hs r).1, final_of_spent d₁ (by omega) fun r => (hs r).2⟩

end Cert.Proof.KI

end
-- ==== Proof.KI.Bound.lean ====
/-
  The bounds on the scores are not minus infinity: they are products of square roots of sums and maxima that start at zero.
-/
module

public import proofs.«01_k».proof.Proof.KI.Read

@[expose] public section

noncomputable section

namespace Cert.Proof.KI

open Cert.KernelIdeal Cert.KernelIdeal.Gen
open Idealize.ShloMosaic Idealize.ShloMosaic.ValueIdx
open scoped BigOperators

/-- The square root of a number that is not negative is not negative. -/
theorem sqrt_nonneg_ereal (x : EReal) (h : 0 ≤ x) : 0 ≤ Ideal.sqrt x := by
  induction x with
  | bot => exact absurd h (by simp)
  | top => simp
  | coe r =>
    have hr : 0 ≤ r := EReal.coe_nonneg.mp h
    rw [Ideal.sqrt_coe, if_neg (not_lt.mpr hr)]
    exact EReal.coe_nonneg.mpr (Real.sqrt_nonneg r)

/-- A square is not negative. -/
theorem sq_nonneg_ereal (x : EReal) : 0 ≤ x * x := by
  rcases le_total 0 x with h | h
  · exact EReal.mul_nonneg_iff.mpr (.inl ⟨h, h⟩)
  · exact EReal.mul_nonneg_iff.mpr (.inr ⟨h, h⟩)

/-- The factor that allows for rounding is not negative. -/
theorem slack_nonneg : 0 ≤ Ideal.ofBits .f32 0x3F8147AE#32 := by
  simp only [Ideal.ofBits, Ideal.ieee]
  simp
  exact EReal.mul_nonneg_iff.mpr (.inl ⟨EReal.coe_nonneg.mpr (by norm_num), EReal.coe_nonneg.mpr (by positivity)⟩)

/-- The greatest absolute entries of the first head are at least zero. -/
theorem colMax₀_nonneg (K : Keys Ideal) (n : ℕ) (i : S1x128.Idx) : 0 ≤ colMax₀ K n i := by
  induction n with
  | zero => exact le_of_eq Ideal.ofBits_zero_f32.symm
  | succ n ih => exact le_trans ih (le_max_left _ _)

/-- The greatest absolute entries of the second head are at least zero. -/
theorem colMax₁_nonneg (K : Keys Ideal) (n : ℕ) (i : S1x128.Idx) : 0 ≤ colMax₁ K n i := by
  induction n with
  | zero => exact le_of_eq Ideal.ofBits_zero_f32.symm
  | succ n ih => exact le_trans ih (le_max_left _ _)

/-- The greatest of a row of numbers that are not negative is not negative. -/
theorem top_nonneg (x : FVec Ideal S1x128 .f32) (hx : ∀ i, 0 ≤ x i) :
    0 ≤ extractAt ![0, 0, 0] (shapeCast S1x1x1
      (multiReduction .maximumf [1, 2] S1 (shapeCast S1x1x128 x shapeCasts_S1x128_S1x1x128) 0xFF800000#32 reduces_S1x1x128_S1 (.inl rfl) rfl)
      shapeCasts_S1_S1x1x1) inpos_S1x1x1_p0_0_0 := by
  have hs : ∀ j : S1.Idx, 0
      ≤ multiReduction .maximumf [1, 2] S1 (shapeCast S1x1x128 x shapeCasts_S1x128_S1x1x128) 0xFF800000#32 reduces_S1x1x128_S1 (.inl rfl) rfl j := fun j => by
    refine le_of_le_of_eq ?_ (multiReduction_maximumf_eq_fold (shapeCast S1x1x128 x shapeCasts_S1x128_S1x1x128) _ _ _ _ j).symm
    refine (Finset.le_fold_max _).mpr (.inr ⟨ix3 (0 : Fin 1) (0 : Fin 1) (0 : Fin 128), ?_, hx _⟩)
    refine Finset.mem_filter.mpr ⟨Finset.mem_univ _, ?_⟩
    funext b
    match b with
    | ⟨0, _⟩ => exact Subsingleton.elim (α := Fin 1) _ _
  exact hs _

/-- The bound of the first head is at least zero where its greatest entries are. -/
theorem bound₀_nonneg (x : FVec Ideal S1x128 .f32) (hx : ∀ i, 0 ≤ x i) : (0 : EReal) ≤ k0_pay6 (F := Ideal) x :=
  EReal.mul_nonneg_iff.mpr (.inl ⟨sqrt_nonneg_ereal _ (top_nonneg x hx), slack_nonneg⟩)

/-- The bound of the second head is at least zero where its greatest entries are. -/
theorem bound₁_nonneg (x : FVec Ideal S1x128 .f32) (hx : ∀ i, 0 ≤ x i) : (0 : EReal) ≤ k0_pay9 (F := Ideal) x :=
  EReal.mul_nonneg_iff.mpr (.inl ⟨sqrt_nonneg_ereal _ (top_nonneg x hx), slack_nonneg⟩)

/-- The bound of either head is at least zero. -/
theorem bounds_nonneg (K : Keys Ideal) (hd : Fin 2) : (0 : EReal) ≤ bounds K hd := by
  by_cases h : hd.val = 0
  · exact le_of_le_of_eq (bound₀_nonneg _ (colMax₀_nonneg K 16)) (if_pos h).symm
  · exact le_of_le_of_eq (bound₁_nonneg _ (colMax₁_nonneg K 16)) (if_neg h).symm

/-- A row's sum of squares is not negative. -/
theorem squares_nonneg (x : FVec Ideal S128x128 .f32) (j : S128.Idx) :
    0 ≤ multiReduction .add [1] S128 (mulf x x) 0x00000000#32 reduces_S128x128_S128 (.inl rfl) rfl j := by
  refine le_of_le_of_eq ?_ (Ideal.multiReduction_add_single (mulf x x) _ reduces_S128x128_S128 _ _ j).symm
  exact Finset.sum_nonneg fun k _ => sq_nonneg_ereal _

/-- Head 0's bounds on its rows' scores. -/
theorem zbound₀_ne_bot (q : Vec Ideal S1x1x128x128 .bf16) (b : EReal) (hb : 0 ≤ b) (i : S128x1.Idx) : k0_pay18 (F := Ideal) q b i ≠ (⊥ : EReal) := by
  have h : (0 : EReal) ≤ k0_pay18 (F := Ideal) q b i := EReal.mul_nonneg_iff.mpr (.inl ⟨sqrt_nonneg_ereal _ (squares_nonneg _ _), hb⟩)
  exact ne_bot_of_le_ne_bot EReal.zero_ne_bot h

/-- Head 1's bounds on its rows' scores. -/
theorem zbound₁_ne_bot (q : Vec Ideal S1x1x128x128 .bf16) (b : EReal) (hb : 0 ≤ b) (i : S128x1.Idx) : k0_pay20 (F := Ideal) q b i ≠ (⊥ : EReal) := by
  have h : (0 : EReal) ≤ k0_pay20 (F := Ideal) q b i := EReal.mul_nonneg_iff.mpr (.inl ⟨sqrt_nonneg_ereal _ (squares_nonneg _ _), hb⟩)
  exact ne_bot_of_le_ne_bot EReal.zero_ne_bot h

end Cert.Proof.KI

end
-- ==== Proof.KI.Words.lean ====
/-
  The attention call's words and reads. The offsets that the call computes are its blocks' first rows, the tests on the
  block numbers come out as the comparisons they stand for, and each load reads the block it is meant to.
-/
module

public import proofs.«01_k».proof.Proof.KI.Model

@[expose] public section

noncomputable section

namespace Cert.Proof.KI

open Cert.KernelIdeal Cert.KernelIdeal.Gen
open Idealize.ShloMosaic Idealize.ShloMosaic.ValueIdx

/-! ### Words -/

/-- The number of the queries' own block, as the call computes it. -/
def word (i : grid0.Coords) (k : Fin k0_t3_loop.trips) : BitVec 32 :=
  Scalar.addi (Scalar.muli (BitVec.ofNat 32 (i 2).val) 16#32) (Scf.iv 0#32 1#32 k)

set_option maxRecDepth 16384 in
/-- The rows of the keys and values of head 0 that the three nearest blocks start at. -/
theorem off5_eq : ∀ (i : grid0.Coords) (k : Fin k0_t3_loop.trips) (r : Fin 3),
    k0_off5 i k (BitVec.ofNat 32 r.val) = ![0, 0, 128 * (16 * (i 2).val + k.val - r.val), 0] := by decide +kernel

set_option maxRecDepth 16384 in
/-- The rows of the keys and values of head 1 that the three nearest blocks start at. -/
theorem off6_eq : ∀ (i : grid0.Coords) (k : Fin k0_t3_loop.trips) (r : Fin 3),
    k0_off6 i k (BitVec.ofNat 32 r.val) = ![0, 1, 128 * (16 * (i 2).val + k.val - r.val), 0] := by decide +kernel

set_option maxRecDepth 16384 in
/-- Whether there is a second block. -/
theorem test1_eq : ∀ (i : grid0.Coords) (k : Fin k0_t3_loop.trips),
    Scalar.cmpi .sge (Scalar.subi (word i k) 1#32) 0#32 = bitLe 1 (16 * (i 2).val + k.val) := by decide +kernel

set_option maxRecDepth 16384 in
/-- Whether there is a third block. -/
theorem test2_eq : ∀ (i : grid0.Coords) (k : Fin k0_t3_loop.trips),
    Scalar.cmpi .sge (Scalar.subi (word i k) 2#32) 0#32 = bitLe 2 (16 * (i 2).val + k.val) := by decide +kernel

/-- The counter `w` stands for `n` blocks left: it is the last one's number, or negative. -/
def Left (n : ℕ) (w : BitVec 32) : Prop :=
  if n = 0 then Scalar.cmpi .sge w 0#32 = 0#1 else w = BitVec.ofNat 32 (n - 1)

instance (n : ℕ) (w : BitVec 32) : Decidable (Left n w) := by unfold Left; infer_instance

set_option maxRecDepth 16384 in
/-- The counter as the walk starts: all blocks but the three nearest are left. -/
theorem left_word : ∀ (i : grid0.Coords) (k : Fin k0_t3_loop.trips),
    Left (16 * (i 2).val + k.val - 2) (Scalar.subi (Scalar.subi (word i k) 2#32) 1#32) := by decide +kernel

set_option maxRecDepth 16384 in
/-- Counting down. -/
theorem left_pred : ∀ n : Fin 128, Left n.val (Scalar.subi (BitVec.ofNat 32 n.val) 1#32) := by decide +kernel

set_option maxRecDepth 16384 in
/-- The counter of a further block is not negative. -/
theorem sge_word : ∀ n : Fin 128, Scalar.cmpi .sge (BitVec.ofNat 32 n.val) 0#32 = 1#1 := by decide +kernel

set_option maxRecDepth 16384 in
/-- A further block's rows are inside the arrays. -/
theorem chk_word : ∀ n : Fin 128, k0_chk1 (BitVec.ofNat 32 n.val) := by decide +kernel

set_option maxRecDepth 16384 in
/-- The row of head 0 that a further block starts at. -/
theorem off7_eq : ∀ n : Fin 128, k0_off7 (BitVec.ofNat 32 n.val) = ![0, 0, 128 * n.val, 0] := by decide +kernel

set_option maxRecDepth 16384 in
/-- The row of head 1 that a further block starts at. -/
theorem off8_eq : ∀ n : Fin 128, k0_off8 (BitVec.ofNat 32 n.val) = ![0, 1, 128 * n.val, 0] := by decide +kernel

/-- The number of trips over the row blocks of a query window. -/
theorem trips3 : k0_t3_loop.trips = 16 := by decide +kernel
/-- The number of trips over the slabs of keys. -/
theorem trips1 : k0_t1_loop.trips = 16 := by decide +kernel
/-- The number of trips over the slabs of keys. -/
theorem trips2 : k0_t2_loop.trips = 16 := by decide +kernel

/-! ### Reads -/

variable {F : FTy → Type} [FloatOps F]

/-- A load of 128 rows of keys or values reads the block that starts there. -/
theorem read_keys {sp : Space} (v : View sig .tc sp S1x2x16384x128 .bf16) (f : v.ty.Contents (Elt F)) {off : Fin 4 → ℕ}
    (h : ∀ a, off a + S1x1x128x128.size a ≤ S1x2x16384x128.size a) (hd : Fin 2) (j : ℕ) (hj : j < 128) (ho : off = ![0, hd.val, 128 * j, 0]) :
    v.readAt (Elt F) (Rect.unit (s := S1x2x16384x128) off S1x1x128x128.size h).toLoadRect f = keyBlk (v.read (Elt F) f) hd j := by
  subst ho
  funext x
  rw [View.readAt_apply]
  refine congrArg (v.read (Elt F) f) (funext fun a => Fin.ext ?_)
  have h2 : (x 2).val < 128 := (x 2).isLt
  have h0 : (x 0).val < 1 := (x 0).isLt
  have h1 : (x 1).val < 1 := (x 1).isLt
  fin_cases a
  · show 0 + 1 * (x 0).val = 0; omega
  · show hd.val + 1 * (x 1).val = hd.val; omega
  · show 128 * j + 1 * (x 2).val = (128 * j + (x 2).val) % 16384; omega
  · show 0 + 1 * (x 3).val = (x 3).val; omega

/-- A load of 1024 rows of keys reads the slab that starts there. -/
theorem read_slab {sp : Space} (v : View sig .tc sp S1x2x16384x128 .bf16) (f : v.ty.Contents (Elt F)) {off : Fin 4 → ℕ}
    (h : ∀ a, off a + S1x1x1024x128.size a ≤ S1x2x16384x128.size a) (hd : Fin 2) (j : ℕ) (hj : j < 16) (ho : off = ![0, hd.val, 1024 * j, 0]) :
    v.readAt (Elt F) (Rect.unit (s := S1x2x16384x128) off S1x1x1024x128.size h).toLoadRect f = keySlab (v.read (Elt F) f) hd j := by
  subst ho
  funext x
  rw [View.readAt_apply]
  refine congrArg (v.read (Elt F) f) (funext fun a => Fin.ext ?_)
  have h2 : (x 2).val < 1024 := (x 2).isLt
  have h0 : (x 0).val < 1 := (x 0).isLt
  have h1 : (x 1).val < 1 := (x 1).isLt
  fin_cases a
  · show 0 + 1 * (x 0).val = 0; omega
  · show hd.val + 1 * (x 1).val = hd.val; omega
  · show 1024 * j + 1 * (x 2).val = (1024 * j + (x 2).val) % 16384; omega
  · show 0 + 1 * (x 3).val = (x 3).val; omega

/-- A load of 128 rows of queries reads the block that starts there. -/
theorem read_rows {sp : Space} (v : View sig .tc sp S1x2x2048x128 .bf16) (f : v.ty.Contents (Elt F)) {off : Fin 4 → ℕ}
    (h : ∀ a, off a + S1x1x128x128.size a ≤ S1x2x2048x128.size a) (hd : Fin 2) (k : ℕ) (hk : k < 16) (ho : off = ![0, hd.val, 128 * k, 0]) :
    v.readAt (Elt F) (Rect.unit (s := S1x2x2048x128) off S1x1x128x128.size h).toLoadRect f = rowBlk (v.read (Elt F) f) hd k := by
  subst ho
  funext x
  rw [View.readAt_apply]
  refine congrArg (v.read (Elt F) f) (funext fun a => Fin.ext ?_)
  have h2 : (x 2).val < 128 := (x 2).isLt
  have h0 : (x 0).val < 1 := (x 0).isLt
  have h1 : (x 1).val < 1 := (x 1).isLt
  fin_cases a
  · show 0 + 1 * (x 0).val = 0; omega
  · show hd.val + 1 * (x 1).val = hd.val; omega
  · show 128 * k + 1 * (x 2).val = (128 * k + (x 2).val) % 2048; omega
  · show 0 + 1 * (x 3).val = (x 3).val; omega

end Cert.Proof.KI

end
-- ==== Proof.KI.While.lean ====
/-
  The attention call's loop over the further blocks of keys. It is a label that calls itself; with `n` blocks left it
  takes the two heads' states to what `walk` makes of them, reading the keys and the values and writing nothing.
-/
module

public import proofs.«01_k».proof.Proof.KI.Words
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The label is entered at the number of blocks left. -/
abbrev 𝒱₀ : Variants := Variants.nat

section Label

variable (c : Dev nD) (arg4 : Memref sig .tc .vmem S1x2x16384x128 .bf16) (harg4 : arg4.IsWhole) (arg5 : Memref sig .tc .vmem S1x2x16384x128 .bf16) (harg5 : arg5.IsWhole)
  (fK : Buf (Elt F) (arg4.view.loc (c : Thread nD τ))) (fV : Buf (Elt F) (arg5.view.loc (c : Thread nD τ)))
  (q₀ q₁ : FVec F S128x128 .bf16) (z₀ z₁ : FVec F S128x1 .f32)

/-- The keys and the values, held. -/
def held : sProp 𝕄 :=
  iprop((arg4.view.loc (c : Thread nD τ) ↦[arg4.view.set]{fullShare} fK) ∗ (arg5.view.loc (c : Thread nD τ) ↦[arg5.view.set]{fullShare} fV))

/-- The two heads' states after the walk over the `n` blocks left. -/
def walked (n : ℕ) (s : Head F × Head F) : Head F × Head F :=
  walk (arg4.view.read (Elt F) fK) (arg5.view.read (Elt F) fV) q₀ q₁ z₀ z₁ n s

/-- The label's specification with `n` blocks left: holding the keys and the values, it returns some counter and the
    states after the walk, and the keys and the values as they were. -/
def spec (n : ℕ) (s : Head F × Head F) :
    sWPT 𝕄 (BitVec 32 × FVec F S128x1 .f32 × FVec F S128x1 .f32 × FVec F S128x128 .f32 × FVec F S128x128 .f32) := do
  sWPT.consume (held c arg4 arg5 fK fV)
  let w ← sWPT.arbitrary
  sWPT.produce (held c arg4 arg5 fK fV)
  pure (w, (walked c arg4 arg5 fK fV q₀ q₁ z₀ z₁ n s).1.1, (walked c arg4 arg5 fK fV q₀ q₁ z₀ z₁ n s).2.1,
    (walked c arg4 arg5 fK fV q₀ q₁ z₀ z₁ n s).1.2, (walked c arg4 arg5 fK fV q₀ q₁ z₀ z₁ n s).2.2)

/-- The specification, spelled out. -/
theorem spec_apply (n : ℕ) (s : Head F × Head F)
    (K : BitVec 32 × FVec F S128x1 .f32 × FVec F S128x1 .f32 × FVec F S128x128 .f32 × FVec F S128x128 .f32 → sProp 𝕄) :
    spec c arg4 arg5 fK fV q₀ q₁ z₀ z₁ n s K
      = iprop(held c arg4 arg5 fK fV ∗ ∀ w : BitVec 32, (held c arg4 arg5 fK fV -∗
          K (w, (walked c arg4 arg5 fK fV q₀ q₁ z₀ z₁ n s).1.1, (walked c arg4 arg5 fK fV q₀ q₁ z₀ z₁ n s).2.1,
            (walked c arg4 arg5 fK fV q₀ q₁ z₀ z₁ n s).1.2, (walked c arg4 arg5 fK fV q₀ q₁ z₀ z₁ n s).2.2))) := rfl

/-- The test is the conjunction of the counter's and the bound's. -/
theorem andi_one (x : BitVec 1) : Scalar.andi 1#1 x = x := by revert x; decide
/-- A counter past the last block fails the test. -/
theorem andi_zero (x : BitVec 1) : Scalar.andi 0#1 x = 0#1 := by revert x; decide

/-- The label's body meets the specification, by induction on the blocks left: with none left the counter is negative and
    the states come back; with one more, either the bound fails and the states come back, or the block is read, both
    heads take their step and the label is called with one block fewer. -/
theorem spec_le (E : Set ℕ) (i : grid0.Coords) (k : Fin k0_t3_loop.trips) :
    ∀ n, n ≤ 128 → ∀ (w : BitVec 32), Left n w → ∀ (s : Head F × Head F) K, spec c arg4 arg5 fK fV q₀ q₁ z₀ z₁ n s K
      ⊢ wp frame (wpE (defs₀ (F := F)) 𝒱₀ (c : Thread nD τ) (some n)) E
          (defs₀ (F := F) .tc 1 ⟨i, k, z₀, z₁, arg4, harg4, arg5, harg5, q₀, k0_pay2 (F := F), q₁, w, s.1.1, s.2.1, s.1.2, s.2.2⟩) K := by
  intro n
  induction n with
  | zero =>
    intro _ w hw s K
    rw [spec_apply]
    show _ ⊢ wp frame (wpE (defs₀ (F := F)) 𝒱₀ (c : Thread nD τ) (some 0)) E
      (cc0_while1 i k z₀ z₁ arg4 harg4 arg5 harg5 q₀ (k0_pay2 (F := F)) q₁ w s.1.1 s.2.1 s.1.2 s.2.2) K
    simp only [cc0_while1_eq_skeleton]; unfold cc0_while1_skel
    have hw' : Scalar.cmpi .sge w 0#32 = 0#1 := hw
    have hne : ¬((0#1 : BitVec 1) = 1#1) := by decide
    rw [show walked c arg4 arg5 fK fV q₀ q₁ z₀ z₁ 0 s = s from rfl]
    simp only [hw', andi_zero, hne, ↓reduceIte, Prog.pure_eq_ret]
    iintro ⟨H, Hk⟩
    rw [wp_ret]; imodintro
    iapply Hk $$ %w H
  | succ n ih =>
    intro hn w hw s K
    have hn' : n < 128 := by omega
    have hw' : w = BitVec.ofNat 32 n := hw
    subst hw'
    rw [spec_apply]
    show _ ⊢ wp frame (wpE (defs₀ (F := F)) 𝒱₀ (c : Thread nD τ) (some (n + 1))) E
      (cc0_while1 i k z₀ z₁ arg4 harg4 arg5 harg5 q₀ (k0_pay2 (F := F)) q₁ (BitVec.ofNat 32 n) s.1.1 s.2.1 s.1.2 s.2.2) K
    simp only [cc0_while1_eq_skeleton]; unfold cc0_while1_skel
    have hge : Scalar.cmpi .sge (BitVec.ofNat 32 n) 0#32 = 1#1 := sge_word ⟨n, hn'⟩
    simp only [hge, andi_one]
    by_cases hl : live z₀ z₁ s = 1#1
    · have hl' : Scalar.cmpf .ogt (k0_pay14 z₀ z₁ s.1.1 s.2.1) (Named.named κ "floor" 0xC2C80000#32) = 1#1 := hl
      have hchk : k0_chk1 (BitVec.ofNat 32 n) := chk_word ⟨n, hn'⟩
      have hwalk : walked c arg4 arg5 fK fV q₀ q₁ z₀ z₁ (n + 1) s
          = walked c arg4 arg5 fK fV q₀ q₁ z₀ z₁ n
            (step keepAll q₀ (tile (keyBlk (arg4.view.read (Elt F) fK) 0 n)) (tile (keyBlk (arg5.view.read (Elt F) fV) 0 n)) s.1,
             step keepAll q₁ (tile (keyBlk (arg4.view.read (Elt F) fK) 1 n)) (tile (keyBlk (arg5.view.read (Elt F) fV) 1 n)) s.2) := by
        unfold walked; rw [walk, if_pos hl]
      rw [hwalk]
      simp only [hl', ↓reduceIte, k0_part9_eq_skeleton, k0_part10_eq_skeleton]
      unfold k0_part9_skel k0_part10_skel
      simp only [Prog.lift, Prog.bind_op, Prog.bind_ret, Prog.pure_eq_ret]
      unfold held
      iintro ⟨⟨HK, HV⟩, Hk⟩
      iapply (wp_assume 𝒱₀ (c : Thread nD τ) (some (n + 1)) E hchk)
      iapply (wp_load 𝒱₀ (c : Thread nD τ) (some (n + 1)) E (m := arg4) (View.setOn_subset_set _ _)) $$ HK; iintro HK
      iapply (wp_load 𝒱₀ (c : Thread nD τ) (some (n + 1)) E (m := arg5) (View.setOn_subset_set _ _)) $$ HV; iintro HV
      iapply (wp_load 𝒱₀ (c : Thread nD τ) (some (n + 1)) E (m := arg4) (View.setOn_subset_set _ _)) $$ HK; iintro HK
      iapply (wp_load 𝒱₀ (c : Thread nD τ) (some (n + 1)) E (m := arg5) (View.setOn_subset_set _ _)) $$ HV; iintro HV
      rw [read_keys arg4.view fK _ 0 n hn' (off7_eq ⟨n, hn'⟩), read_keys arg5.view fV _ 0 n hn' (off7_eq ⟨n, hn'⟩),
        read_keys arg4.view fK _ 1 n hn' (off8_eq ⟨n, hn'⟩), read_keys arg5.view fV _ 1 n hn' (off8_eq ⟨n, hn'⟩),
        far₀_fst (keyBlk (arg4.view.read (Elt F) fK) 0 n) (keyBlk (arg5.view.read (Elt F) fV) 0 n) q₀ s.1, far₀_snd,
        far₁_fst (keyBlk (arg4.view.read (Elt F) fK) 1 n) (keyBlk (arg5.view.read (Elt F) fV) 1 n) q₁ s.2, far₁_snd]
      have h := ih (by omega) _ (left_pred ⟨n, hn'⟩)
        (step keepAll q₀ (tile (keyBlk (arg4.view.read (Elt F) fK) 0 n)) (tile (keyBlk (arg5.view.read (Elt F) fV) 0 n)) s.1,
         step keepAll q₁ (tile (keyBlk (arg4.view.read (Elt F) fK) 1 n)) (tile (keyBlk (arg5.view.read (Elt F) fV) 1 n)) s.2)
      iapply (wp_call_spec 𝒱₀ (c : Thread nD τ) (some (n + 1)) E (spec c arg4 arg5 fK fV q₀ q₁ z₀ z₁ n _) n
        (fun u hu => by cases hu; exact Nat.lt_succ_self n) h)
      rw [spec_apply]; unfold held
      isplitl [HK HV]
      · isplitl [HK]; · iexact HK
        iexact HV
      iintro %w ⟨HK, HV⟩
      rw [wp_ret]; imodintro
      iapply Hk $$ %w
      isplitl [HK]; · iexact HK
      iexact HV
    · have hl' : ¬Scalar.cmpf .ogt (k0_pay14 z₀ z₁ s.1.1 s.2.1) (Named.named κ "floor" 0xC2C80000#32) = 1#1 := hl
      have hwalk : walked c arg4 arg5 fK fV q₀ q₁ z₀ z₁ (n + 1) s = s := by unfold walked; rw [walk, if_neg hl]
      rw [hwalk]
      simp only [hl', ↓reduceIte, Prog.pure_eq_ret]
      iintro ⟨H, Hk⟩
      rw [wp_ret]; imodintro
      iapply Hk $$ %_ H

end Label

end Cert.Proof.KI

end
-- ==== Proof.KI.Stores.lean ====
/-
  The attention call's stores read back: the two blocks of results of one row block, and the two bounds.
-/
module

public import proofs.«01_k».proof.Proof.KI.Words
public import Idealize.ShloMosaic.Lib.CellWrites

@[expose] public section

noncomputable section

namespace Cert.Proof.KI

open Cert.KernelIdeal Cert.KernelIdeal.Gen
open Idealize.ShloMosaic Idealize.ShloMosaic.ValueIdx

variable {F : FTy → Type} [FloatOps F] [Named F]

/-- Results after the two stores of row block `k`: that block's rows hold what was stored, head by head, and the other rows
    hold what they held. -/
theorem read_stores {sp : Space} (v : View sig .tc sp S1x2x2048x128 .bf16) (f : v.ty.Contents (Elt F)) {off off' : Fin 4 → ℕ}
    (h : ∀ a, off a + S1x1x128x128.size a ≤ S1x2x2048x128.size a) (h' : ∀ a, off' a + S1x1x128x128.size a ≤ S1x2x2048x128.size a)
    (k : ℕ) (ho : off = ![0, 0, 128 * k, 0]) (ho' : off' = ![0, 1, 128 * k, 0])
    (w w' : Vec F S1x1x128x128 .bf16) (x : S1x2x2048x128.Idx) :
    v.read (Elt F) ((v.slice (Rect.unit (s := S1x2x2048x128) off' S1x1x128x128.size h')).write (Elt F)
        ((v.slice (Rect.unit (s := S1x2x2048x128) off S1x1x128x128.size h)).write (Elt F) f w Finset.univ) w' Finset.univ) x
      = if (x 2).val / 128 = k then
          (if (x 1).val = 0 then w (ix4 (0 : Fin 1) (0 : Fin 1) (⟨(x 2).val % 128, Nat.mod_lt _ (by decide)⟩ : Fin 128) (⟨(x 3).val, (x 3).isLt⟩ : Fin 128))
            else w' (ix4 (0 : Fin 1) (0 : Fin 1) (⟨(x 2).val % 128, Nat.mod_lt _ (by decide)⟩ : Fin 128) (⟨(x 3).val, (x 3).isLt⟩ : Fin 128)))
        else v.read (Elt F) f x := by
  have h0 : (x 0).val < 1 := (x 0).isLt
  have h1 : (x 1).val < 2 := (x 1).isLt
  have hout : (x 2).val / 128 ≠ k → ((x 2).val < 128 * k ∨ 128 * k + 128 ≤ (x 2).val) := fun hk => by omega
  show v.read (Elt F) (v.writes (Elt F) f [⟨Rect.unit (s := S1x2x2048x128) off' S1x1x128x128.size h', w'⟩,
    ⟨Rect.unit (s := S1x2x2048x128) off S1x1x128x128.size h, w⟩]) x = _
  by_cases hk : (x 2).val / 128 = k
  · rw [if_pos hk]
    have hpos : ∀ o : ℕ, (x 1).val = o → ∀ a, (x a).val = (![0, o, 128 * k, 0] : Fin 4 → ℕ) a
        + ((ix4 (0 : Fin 1) (0 : Fin 1) (⟨(x 2).val % 128, Nat.mod_lt _ (by decide)⟩ : Fin 128) (⟨(x 3).val, (x 3).isLt⟩ : Fin 128) : S1x1x128x128.Idx) a).val := by
      intro o hx a
      fin_cases a
      · show (x 0).val = 0 + 0; omega
      · show (x 1).val = o + 0; omega
      · show (x 2).val = 128 * k + (x 2).val % 128; omega
      · show (x 3).val = 0 + (x 3).val; omega
    by_cases hx : (x 1).val = 0
    · rw [if_pos hx]
      refine (View.read_writes_cons_unit_of_not_mem v f h' w' _ x ho' (1 : Fin 4) (.inl ?_)).trans ?_
      · show (x 1).val < 1; omega
      · exact View.read_writes_cons_unit_of_mem v f h w [] x _ ho (hpos 0 hx)
    · rw [if_neg hx]
      exact View.read_writes_cons_unit_of_mem v f h' w' _ x _ ho' (hpos 1 (by omega))
  · rw [if_neg hk]
    refine (View.read_writes_cons_unit_of_not_mem v f h' w' _ x ho' (2 : Fin 4) ?_).trans ?_
    · exact hout hk
    refine (View.read_writes_cons_unit_of_not_mem v f h w _ x ho (2 : Fin 4) ?_).trans rfl
    exact hout hk

/-- The two bounds read back after they are stored. -/
theorem read_cells {sp : Space} (v : View sig .tc sp S2 .f32) (f : v.ty.Contents (Elt F))
    (h : ∀ a, (![0] : Fin 1 → ℕ) a + S1.size a ≤ S2.size a) (h' : ∀ a, (![1] : Fin 1 → ℕ) a + S1.size a ≤ S2.size a)
    (p p' : Elt F .f32) (x : S2.Idx) :
    v.read (Elt F) ((v.slice (Rect.unit (s := S2) ![1] S1.size h')).write (Elt F)
        ((v.slice (Rect.unit (s := S2) ![0] S1.size h)).write (Elt F) f (fun _ => p) Finset.univ) (fun _ => p') Finset.univ) x
      = if (x 0).val = 0 then p else p' := by
  refine (View.read_writes_cons_cell v f h' p' [⟨Rect.unit (s := S2) ![0] S1.size h, fun _ => p⟩] x).trans ?_
  have h0 : (x 0).val < 2 := (x 0).isLt
  by_cases hx : (x 0).val = 1
  · rw [if_neg (show ¬ (x 0).val = 0 by omega)]
    exact if_pos hx
  · have hx0 : (x 0).val = 0 := by omega
    rw [if_pos hx0]
    refine (if_neg hx).trans ?_
    exact (View.read_writes_cons_cell v f h p [] x).trans (if_pos hx0)

/-- A bound loaded is the bound kept. -/
theorem read_cell {sp : Space} (v : View sig .tc sp S2 .f32) (f : v.ty.Contents (Elt F)) (bd : Bounds F)
    (hf : ∀ x : S2.Idx, v.read (Elt F) f x = bd (x 0)) (j : Fin 2) {off : Fin 1 → ℕ} (h : ∀ a, off a + S1.size a ≤ S2.size a)
    (ho : off = ![j.val]) (y : S1.Idx) :
    v.readAt (Elt F) (Rect.unit (s := S2) off S1.size h).toLoadRect f y = bd j := by
  subst ho
  rw [View.readAt_apply]
  refine (hf _).trans (congrArg bd (Fin.ext ?_))
  have hy : (y 0).val < 1 := (y 0).isLt
  show j.val + 1 * (y 0).val = j.val
  omega

end Cert.Proof.KI
-- ==== Proof.KI.Trip.lean ====
/-
  One trip of the attention call's loop over the row blocks: holding the queries, the keys, the values and the bounds, it
  stores the results of its 128 rows and leaves the rest of the results as they were. The loop over the 16 row blocks
  stores them all.
-/
module

public import proofs.«01_k».proof.Proof.KI.While
public import proofs.«01_k».proof.Proof.KI.Stores
public import Idealize.ShloMosaic.Lib.ReshapeSlab

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Head 0's queries as a matrix, as printed. -/
theorem pay17_eq (q : Vec F S1x1x128x128 .bf16) : k0_pay17 q = tile q := rfl
/-- Head 1's queries as a matrix, as printed. -/
theorem pay19_eq (q : Vec F S1x1x128x128 .bf16) : k0_pay19 q = tile q := rfl

section Body

variable (c : Dev nD) (i : grid0.Coords)
  (arg3 : Memref sig .tc .vmem S1x2x2048x128 .bf16) (harg3 : arg3.IsWhole) (arg4 : Memref sig .tc .vmem S1x2x16384x128 .bf16) (harg4 : arg4.IsWhole)
  (arg5 : Memref sig .tc .vmem S1x2x16384x128 .bf16) (harg5 : arg5.IsWhole) (arg6 : Memref sig .tc .vmem S1x2x2048x128 .bf16) (harg6 : arg6.IsWhole)
  (arg7 : Memref sig .tc .smem S2 .f32) (harg7 : arg7.IsWhole)
  (fQ : Buf (Elt F) (arg3.view.loc (c : Thread nD τ))) (fK : Buf (Elt F) (arg4.view.loc (c : Thread nD τ)))
  (fV : Buf (Elt F) (arg5.view.loc (c : Thread nD τ))) (fB : Buf (Elt F) (arg7.view.loc (c : Thread nD τ)))
  (bd : Bounds F) (hB : ∀ x : S2.Idx, arg7.view.read (Elt F) fB x = bd (x 0))

/-- The results of the grid point, from what its windows hold. -/
def whole : Rows F :=
  result (arg3.view.read (Elt F) fQ) (arg4.view.read (Elt F) fK) (arg5.view.read (Elt F) fV) bd (i 2).val

/-- What a trip of the loop holds before row block `k`: the inputs and the bounds, and the results with the rows of the
    earlier row blocks done. -/
def done (k : ℕ) : sProp 𝕄 :=
  iprop((arg3.view.loc (c : Thread nD τ) ↦[arg3.view.set]{fullShare} fQ) ∗ (arg4.view.loc (c : Thread nD τ) ↦[arg4.view.set]{fullShare} fK)
    ∗ (arg5.view.loc (c : Thread nD τ) ↦[arg5.view.set]{fullShare} fV) ∗ (arg7.view.loc (c : Thread nD τ) ↦[arg7.view.set]{fullShare} fB)
    ∗ ∃ f : Buf (Elt F) (arg6.view.loc (c : Thread nD τ)),
        ⌜∀ x : S1x2x2048x128.Idx, (x 2).val < 128 * k → arg6.view.read (Elt F) f x = whole c i arg3 arg4 arg5 fQ fK fV bd x⌝
        ∗ (arg6.view.loc (c : Thread nD τ) ↦[arg6.view.set]{fullShare} f))

set_option maxHeartbeats 2000000 in
include hB in
/-- One trip takes the results of the first `k` row blocks to those of the first `k + 1`. -/
theorem trip (E : Set ℕ) (k : Fin k0_t3_loop.trips) (acc : Unit) :
    done c i arg3 arg4 arg5 arg6 arg7 fQ fK fV fB bd k.val
      ⊢ wp frame (wpE (defs₀ (F := F)) 𝒱₀ (c : Thread nD τ) none) E
          (k0_t3_body i arg3 harg3 arg4 harg4 arg5 harg5 arg6 harg6 arg7 harg7 (BitVec.ofNat 32 (i 2).val) k acc)
          fun _ => done c i arg3 arg4 arg5 arg6 arg7 fQ fK fV fB bd (k.val + 1) := by
  have hk : k.val < 16 := trips3 ▸ k.isLt
  have hi : (i 2).val < 8 := (i 2).isLt
  have hg : 16 * (i 2).val + k.val < 128 := by omega
  unfold k0_t3_body
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [smemLoad, smemLoadElt, Prog.lift, Prog.bind_op, Prog.bind_ret, Prog.pure_eq_ret]
  unfold done
  iintro ⟨HQ, HK, HV, HB, %f, %hf, HO⟩
  iapply (wp_load 𝒱₀ (c : Thread nD τ) none E (m := arg3) (View.setOn_subset_set _ _)) $$ HQ; iintro HQ
  iapply (wp_load 𝒱₀ (c : Thread nD τ) none E (m := arg7) (View.setOn_subset_set _ _)) $$ HB; iintro HB
  iapply (wp_load 𝒱₀ (c : Thread nD τ) none E (m := arg3) (View.setOn_subset_set _ _)) $$ HQ; iintro HQ
  iapply (wp_load 𝒱₀ (c : Thread nD τ) none E (m := arg7) (View.setOn_subset_set _ _)) $$ HB; iintro HB
  iapply (wp_load 𝒱₀ (c : Thread nD τ) none E (m := arg4) (View.setOn_subset_set _ _)) $$ HK; iintro HK
  iapply (wp_load 𝒱₀ (c : Thread nD τ) none E (m := arg5) (View.setOn_subset_set _ _)) $$ HV; iintro HV
  iapply (wp_load 𝒱₀ (c : Thread nD τ) none E (m := arg4) (View.setOn_subset_set _ _)) $$ HK; iintro HK
  iapply (wp_load 𝒱₀ (c : Thread nD τ) none E (m := arg5) (View.setOn_subset_set _ _)) $$ HV; iintro HV
  iapply (wp_load 𝒱₀ (c : Thread nD τ) none E (m := arg4) (View.setOn_subset_set _ _)) $$ HK; iintro HK
  iapply (wp_load 𝒱₀ (c : Thread nD τ) none E (m := arg5) (View.setOn_subset_set _ _)) $$ HV; iintro HV
  iapply (wp_load 𝒱₀ (c : Thread nD τ) none E (m := arg4) (View.setOn_subset_set _ _)) $$ HK; iintro HK
  iapply (wp_load 𝒱₀ (c : Thread nD τ) none E (m := arg5) (View.setOn_subset_set _ _)) $$ HV; iintro HV
  iapply (wp_load 𝒱₀ (c : Thread nD τ) none E (m := arg4) (View.setOn_subset_set _ _)) $$ HK; iintro HK
  iapply (wp_load 𝒱₀ (c : Thread nD τ) none E (m := arg5) (View.setOn_subset_set _ _)) $$ HV; iintro HV
  iapply (wp_load 𝒱₀ (c : Thread nD τ) none E (m := arg4) (View.setOn_subset_set _ _)) $$ HK; iintro HK
  iapply (wp_load 𝒱₀ (c : Thread nD τ) none E (m := arg5) (View.setOn_subset_set _ _)) $$ HV; iintro HV
  rw [read_cell arg7.view fB bd hB 0 (off := ![0]) inb_S2_S1_0 rfl, read_cell arg7.view fB bd hB 1 (off := ![1]) inb_S2_S1_1 rfl,
    read_rows (off := k0_off3 k) arg3.view fQ _ 0 k.val hk (k0_off3_eq k), read_rows (off := k0_off4 k) arg3.view fQ _ 1 k.val hk (k0_off4_eq k),
    read_keys (off := k0_off5 i k 0#32) arg4.view fK _ 0 (16 * (i 2).val + k.val) (by omega) (off5_eq i k 0),
    read_keys (off := k0_off5 i k 0#32) arg5.view fV _ 0 (16 * (i 2).val + k.val) (by omega) (off5_eq i k 0),
    read_keys (off := k0_off5 i k 1#32) arg4.view fK _ 0 (16 * (i 2).val + k.val - 1) (by omega) (off5_eq i k 1),
    read_keys (off := k0_off5 i k 1#32) arg5.view fV _ 0 (16 * (i 2).val + k.val - 1) (by omega) (off5_eq i k 1),
    read_keys (off := k0_off5 i k 2#32) arg4.view fK _ 0 (16 * (i 2).val + k.val - 2) (by omega) (off5_eq i k 2),
    read_keys (off := k0_off5 i k 2#32) arg5.view fV _ 0 (16 * (i 2).val + k.val - 2) (by omega) (off5_eq i k 2),
    read_keys (off := k0_off6 i k 0#32) arg4.view fK _ 1 (16 * (i 2).val + k.val) (by omega) (off6_eq i k 0),
    read_keys (off := k0_off6 i k 0#32) arg5.view fV _ 1 (16 * (i 2).val + k.val) (by omega) (off6_eq i k 0),
    read_keys (off := k0_off6 i k 1#32) arg4.view fK _ 1 (16 * (i 2).val + k.val - 1) (by omega) (off6_eq i k 1),
    read_keys (off := k0_off6 i k 1#32) arg5.view fV _ 1 (16 * (i 2).val + k.val - 1) (by omega) (off6_eq i k 1),
    read_keys (off := k0_off6 i k 2#32) arg4.view fK _ 1 (16 * (i 2).val + k.val - 2) (by omega) (off6_eq i k 2),
    read_keys (off := k0_off6 i k 2#32) arg5.view fV _ 1 (16 * (i 2).val + k.val - 2) (by omega) (off6_eq i k 2)]
  rw [near₀_fst (rowBlk (arg3.view.read (Elt F) fQ) 0 k.val) (keyBlk (arg4.view.read (Elt F) fK) 0 (16 * (i 2).val + k.val)) (keyBlk (arg4.view.read (Elt F) fK) 0 (16 * (i 2).val + k.val - 1)) (keyBlk (arg4.view.read (Elt F) fK) 0 (16 * (i 2).val + k.val - 2)) (keyBlk (arg5.view.read (Elt F) fV) 0 (16 * (i 2).val + k.val)) (keyBlk (arg5.view.read (Elt F) fV) 0 (16 * (i 2).val + k.val - 1)) (keyBlk (arg5.view.read (Elt F) fV) 0 (16 * (i 2).val + k.val - 2)),
    near₀_snd (rowBlk (arg3.view.read (Elt F) fQ) 0 k.val) (keyBlk (arg4.view.read (Elt F) fK) 0 (16 * (i 2).val + k.val)) (keyBlk (arg4.view.read (Elt F) fK) 0 (16 * (i 2).val + k.val - 1)) (keyBlk (arg4.view.read (Elt F) fK) 0 (16 * (i 2).val + k.val - 2)) (keyBlk (arg5.view.read (Elt F) fV) 0 (16 * (i 2).val + k.val)) (keyBlk (arg5.view.read (Elt F) fV) 0 (16 * (i 2).val + k.val - 1)) (keyBlk (arg5.view.read (Elt F) fV) 0 (16 * (i 2).val + k.val - 2)),
    near₁_fst (rowBlk (arg3.view.read (Elt F) fQ) 1 k.val) (keyBlk (arg4.view.read (Elt F) fK) 1 (16 * (i 2).val + k.val)) (keyBlk (arg4.view.read (Elt F) fK) 1 (16 * (i 2).val + k.val - 1)) (keyBlk (arg4.view.read (Elt F) fK) 1 (16 * (i 2).val + k.val - 2)) (keyBlk (arg5.view.read (Elt F) fV) 1 (16 * (i 2).val + k.val)) (keyBlk (arg5.view.read (Elt F) fV) 1 (16 * (i 2).val + k.val - 1)) (keyBlk (arg5.view.read (Elt F) fV) 1 (16 * (i 2).val + k.val - 2)),
    near₁_snd (rowBlk (arg3.view.read (Elt F) fQ) 1 k.val) (keyBlk (arg4.view.read (Elt F) fK) 1 (16 * (i 2).val + k.val)) (keyBlk (arg4.view.read (Elt F) fK) 1 (16 * (i 2).val + k.val - 1)) (keyBlk (arg4.view.read (Elt F) fK) 1 (16 * (i 2).val + k.val - 2)) (keyBlk (arg5.view.read (Elt F) fV) 1 (16 * (i 2).val + k.val)) (keyBlk (arg5.view.read (Elt F) fV) 1 (16 * (i 2).val + k.val - 1)) (keyBlk (arg5.view.read (Elt F) fV) 1 (16 * (i 2).val + k.val - 2)),
    pay17_eq, pay19_eq]
  rw [show Scalar.cmpi .sge (Scalar.subi (Scalar.addi (Scalar.muli (BitVec.ofNat 32 (i 2).val) 16#32) (Scf.iv 0#32 1#32 k.val)) 1#32) 0#32
      = bitLe 1 (16 * (i 2).val + k.val) from test1_eq i k,
    show Scalar.cmpi .sge (Scalar.subi (Scalar.addi (Scalar.muli (BitVec.ofNat 32 (i 2).val) 16#32) (Scf.iv 0#32 1#32 k.val)) 2#32) 0#32
      = bitLe 2 (16 * (i 2).val + k.val) from test2_eq i k]
  have h := spec_le c arg4 harg4 arg5 harg5 fK fV (tile (rowBlk (arg3.view.read (Elt F) fQ) 0 k.val)) (tile (rowBlk (arg3.view.read (Elt F) fQ) 1 k.val))
    (k0_pay18 (rowBlk (arg3.view.read (Elt F) fQ) 0 k.val) (bd 0)) (k0_pay20 (rowBlk (arg3.view.read (Elt F) fQ) 1 k.val) (bd 1)) E i k
    (16 * (i 2).val + k.val - 2) (by omega) _ (left_word i k)
    (near (arg4.view.read (Elt F) fK) (arg5.view.read (Elt F) fV) 0 (tile (rowBlk (arg3.view.read (Elt F) fQ) 0 k.val)) (16 * (i 2).val + k.val)
        (bitLe 1 (16 * (i 2).val + k.val)) (bitLe 2 (16 * (i 2).val + k.val)),
      near (arg4.view.read (Elt F) fK) (arg5.view.read (Elt F) fV) 1 (tile (rowBlk (arg3.view.read (Elt F) fQ) 1 k.val)) (16 * (i 2).val + k.val)
        (bitLe 1 (16 * (i 2).val + k.val)) (bitLe 2 (16 * (i 2).val + k.val)))
  iapply (wp_call_spec 𝒱₀ (c : Thread nD τ) none E (spec c arg4 arg5 fK fV _ _ _ _ (16 * (i 2).val + k.val - 2) _) (16 * (i 2).val + k.val - 2)
    (fun u hu => nomatch hu) h)
  rw [spec_apply]; unfold held
  isplitl [HK HV]
  · isplitl [HK]; · iexact HK
    iexact HV
  iintro %w ⟨HK, HV⟩
  iapply (wp_load 𝒱₀ (c : Thread nD τ) none E (m := arg6) (View.setOn_subset_set _ _)) $$ HO; iintro HO
  iapply (wp_store 𝒱₀ (c : Thread nD τ) none E (m := arg6)
    (r := Rect.unit (s := S1x2x2048x128) (k0_off3 k) S1x1x128x128.size (k0_off3_inb k)) (Mk := Finset.univ) (S := arg6.view.set)
    ((Memref.setOn_access_subset_setOn arg6 _ Finset.univ).trans (View.setOn_subset_set _ _))) $$ HO; iintro HO
  iapply (wp_load 𝒱₀ (c : Thread nD τ) none E (m := arg6) (View.setOn_subset_set _ _)) $$ HO; iintro HO
  iapply (wp_store 𝒱₀ (c : Thread nD τ) none E (m := arg6)
    (r := Rect.unit (s := S1x2x2048x128) (k0_off4 k) S1x1x128x128.size (k0_off4_inb k)) (Mk := Finset.univ) (S := arg6.view.set)
    ((Memref.setOn_access_subset_setOn arg6 _ Finset.univ).trans (View.setOn_subset_set _ _))) $$ HO; iintro HO
  rw [wp_ret]; imodintro
  isplitl [HQ]; · iexact HQ
  isplitl [HK]; · iexact HK
  isplitl [HV]; · iexact HV
  isplitl [HB]; · iexact HB
  iexists _; isplitr; swap; · iexact HO
  ipureintro
  intro x hx
  refine (read_stores arg6.view f _ _ k.val (k0_off3_eq k) (k0_off4_eq k) _ _ x).trans ?_
  by_cases hxk : (x 2).val / 128 = k.val
  · rw [if_pos hxk]
    show _ = result _ _ _ _ _ x
    unfold result
    rw [hxk]
    rfl
  · rw [if_neg hxk]
    exact hf x (by omega)

end Body

end Cert.Proof.KI
-- ==== Proof.KI.Body.lean ====
/-
  The attention call's body at one grid point. At a point that starts a pair of heads it first finds the two bounds on the
  keys' lengths, with a loop over 16 slabs of keys for each head, and keeps them; then the loop over the row blocks stores
  the results of all 2048 rows.
-/
module

public import proofs.«01_k».proof.Proof.KI.Trip

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Body

variable (c : Dev nD) (i : grid0.Coords)
  (arg3 : Memref sig .tc .vmem S1x2x2048x128 .bf16) (harg3 : arg3.IsWhole) (arg4 : Memref sig .tc .vmem S1x2x16384x128 .bf16) (harg4 : arg4.IsWhole)
  (arg5 : Memref sig .tc .vmem S1x2x16384x128 .bf16) (harg5 : arg5.IsWhole) (arg6 : Memref sig .tc .vmem S1x2x2048x128 .bf16) (harg6 : arg6.IsWhole)
  (arg7 : Memref sig .tc .smem S2 .f32) (harg7 : arg7.IsWhole)
  (fQ : Buf (Elt F) (arg3.view.loc (c : Thread nD τ))) (fK : Buf (Elt F) (arg4.view.loc (c : Thread nD τ)))
  (fV : Buf (Elt F) (arg5.view.loc (c : Thread nD τ)))

/-- What the loop over head 0's slabs holds before slab `n`. -/
def max₀ (n : ℕ) (acc : FVec F S1x128 .f32) : sProp 𝕄 :=
  iprop(⌜acc = colMax₀ (arg4.view.read (Elt F) fK) n⌝ ∗ (arg4.view.loc (c : Thread nD τ) ↦[arg4.view.set]{fullShare} fK))

/-- What the loop over head 1's slabs holds before slab `n`. -/
def max₁ (n : ℕ) (acc : FVec F S1x128 .f32) : sProp 𝕄 :=
  iprop(⌜acc = colMax₁ (arg4.view.read (Elt F) fK) n⌝ ∗ (arg4.view.loc (c : Thread nD τ) ↦[arg4.view.set]{fullShare} fK))

/-- One slab of head 0. -/
theorem slab₀ (E : Set ℕ) (h1 : k0_cond1 i = 1#1) (n : Fin k0_t1_loop.trips) (acc : FVec F S1x128 .f32) :
    max₀ c arg4 fK n.val acc ⊢ wp frame (wpE (defs₀ (F := F)) 𝒱₀ (c : Thread nD τ) none) E
      (k0_t1_body i arg3 harg3 arg4 harg4 arg5 harg5 arg6 harg6 arg7 harg7 h1 n acc) (max₀ c arg4 fK (n.val + 1)) := by
  have hn : n.val < 16 := trips1 ▸ n.isLt
  unfold k0_t1_body
  simp only [Prog.lift, Prog.bind_op, Prog.bind_ret, Prog.pure_eq_ret]
  unfold max₀
  iintro ⟨%ha, HK⟩
  iapply (wp_load 𝒱₀ (c : Thread nD τ) none E (m := arg4) (View.setOn_subset_set _ _)) $$ HK; iintro HK
  rw [wp_ret]; imodintro
  isplitr; swap; · iexact HK
  ipureintro
  rw [read_slab (off := k0_off1 n) arg4.view fK _ 0 n.val hn (k0_off1_eq n), ha]
  rfl

/-- One slab of head 1. -/
theorem slab₁ (E : Set ℕ) (h1 : k0_cond1 i = 1#1) (n : Fin k0_t2_loop.trips) (acc : FVec F S1x128 .f32) :
    max₁ c arg4 fK n.val acc ⊢ wp frame (wpE (defs₀ (F := F)) 𝒱₀ (c : Thread nD τ) none) E
      (k0_t2_body i arg3 harg3 arg4 harg4 arg5 harg5 arg6 harg6 arg7 harg7 h1 n acc) (max₁ c arg4 fK (n.val + 1)) := by
  have hn : n.val < 16 := trips2 ▸ n.isLt
  unfold k0_t2_body
  simp only [Prog.lift, Prog.bind_op, Prog.bind_ret, Prog.pure_eq_ret]
  unfold max₁
  iintro ⟨%ha, HK⟩
  iapply (wp_load 𝒱₀ (c : Thread nD τ) none E (m := arg4) (View.setOn_subset_set _ _)) $$ HK; iintro HK
  rw [wp_ret]; imodintro
  isplitr; swap; · iexact HK
  ipureintro
  rw [read_slab (off := k0_off2 n) arg4.view fK _ 1 n.val hn (k0_off2_eq n), ha]
  rfl

/-- The loop over the row blocks, from any results to the whole of them. -/
theorem rows_loop (E : Set ℕ) (fB : Buf (Elt F) (arg7.view.loc (c : Thread nD τ))) (bd : Bounds F)
    (hB : ∀ x : S2.Idx, arg7.view.read (Elt F) fB x = bd (x 0)) (f : Buf (Elt F) (arg6.view.loc (c : Thread nD τ))) (Kp : PUnit → sProp 𝕄) :
    iprop((arg3.view.loc (c : Thread nD τ) ↦[arg3.view.set]{fullShare} fQ) ∗ (arg4.view.loc (c : Thread nD τ) ↦[arg4.view.set]{fullShare} fK)
      ∗ (arg5.view.loc (c : Thread nD τ) ↦[arg5.view.set]{fullShare} fV) ∗ (arg7.view.loc (c : Thread nD τ) ↦[arg7.view.set]{fullShare} fB)
      ∗ (arg6.view.loc (c : Thread nD τ) ↦[arg6.view.set]{fullShare} f)
      ∗ (done c i arg3 arg4 arg5 arg6 arg7 fQ fK fV fB bd 16 -∗ Kp ⟨⟩))
      ⊢ wp frame (wpE (defs₀ (F := F)) 𝒱₀ (c : Thread nD τ) none) E
        (Scf.Loop.for k0_t3_loop k0_t3_ok ⟨⟩ (k0_t3_body i arg3 harg3 arg4 harg4 arg5 harg5 arg6 harg6 arg7 harg7 (BitVec.ofNat 32 (i 2).val))
          >>= fun _ => pure ⟨⟩) Kp := by
  have h16 : Scf.trips k0_t3_loop.lb k0_t3_loop.ub k0_t3_loop.st = 16 := trips3
  have h0 : iprop((arg3.view.loc (c : Thread nD τ) ↦[arg3.view.set]{fullShare} fQ) ∗ (arg4.view.loc (c : Thread nD τ) ↦[arg4.view.set]{fullShare} fK)
      ∗ (arg5.view.loc (c : Thread nD τ) ↦[arg5.view.set]{fullShare} fV) ∗ (arg7.view.loc (c : Thread nD τ) ↦[arg7.view.set]{fullShare} fB)
      ∗ (arg6.view.loc (c : Thread nD τ) ↦[arg6.view.set]{fullShare} f)) ⊢ (done c i arg3 arg4 arg5 arg6 arg7 fQ fK fV fB bd 0 : sProp 𝕄) := by
    unfold done
    iintro ⟨HQ, HK, HV, HB, HO⟩
    isplitl [HQ]; · iexact HQ
    isplitl [HK]; · iexact HK
    isplitl [HV]; · iexact HV
    isplitl [HB]; · iexact HB
    iexists f; isplitr; swap; · iexact HO
    ipureintro
    intro x hx
    omega
  iintro ⟨HQ, HK, HV, HB, HO, Hk⟩
  iapply (Scf.wp_for_bind frame (wpE (defs₀ (F := F)) 𝒱₀ (c : Thread nD τ) none) E k0_t3_loop.lb k0_t3_loop.ub k0_t3_loop.st k0_t3_ok ⟨⟩
    (k0_t3_body i arg3 harg3 arg4 harg4 arg5 harg5 arg6 harg6 arg7 harg7 (BitVec.ofNat 32 (i 2).val))
    (fun k _ => done c i arg3 arg4 arg5 arg6 arg7 fQ fK fV fB bd k)
    (fun k acc => trip c i arg3 harg3 arg4 harg4 arg5 harg5 arg6 harg6 arg7 harg7 fQ fK fV fB bd hB E k acc)) $$ [HQ HK HV HB HO]
  · iapply h0
    isplitl [HQ]; · iexact HQ
    isplitl [HK]; · iexact HK
    isplitl [HV]; · iexact HV
    isplitl [HB]; · iexact HB
    iexact HO
  iintro %acc H
  simp only [Prog.pure_eq_ret]
  rw [wp_ret, h16]; imodintro
  iapply Hk; iexact H

/-- The bounds after the grid point: those of its keys if it starts a pair of heads, those kept otherwise. -/
def boundsAt (bd : Bounds F) : Bounds F := if k0_cond1 i = 1#1 then bounds (arg4.view.read (Elt F) fK) else bd

/-- What the body leaves: the inputs as they were, the bounds kept and the results whole. -/
def left (bd : Bounds F) : sProp 𝕄 :=
  iprop((arg3.view.loc (c : Thread nD τ) ↦[arg3.view.set]{fullShare} fQ) ∗ (arg4.view.loc (c : Thread nD τ) ↦[arg4.view.set]{fullShare} fK)
    ∗ (arg5.view.loc (c : Thread nD τ) ↦[arg5.view.set]{fullShare} fV)
    ∗ (∃ g : Buf (Elt F) (arg7.view.loc (c : Thread nD τ)), ⌜∀ x : S2.Idx, arg7.view.read (Elt F) g x = bd (x 0)⌝
        ∗ (arg7.view.loc (c : Thread nD τ) ↦[arg7.view.set]{fullShare} g))
    ∗ ∃ f : Buf (Elt F) (arg6.view.loc (c : Thread nD τ)),
        ⌜arg6.view.read (Elt F) f = whole c i arg3 arg4 arg5 fQ fK fV bd⌝ ∗ (arg6.view.loc (c : Thread nD τ) ↦[arg6.view.set]{fullShare} f))

/-- After the last row block the results are whole. -/
theorem left_of_done (bd : Bounds F) (fB : Buf (Elt F) (arg7.view.loc (c : Thread nD τ))) (hB : ∀ x : S2.Idx, arg7.view.read (Elt F) fB x = bd (x 0)) :
    done c i arg3 arg4 arg5 arg6 arg7 fQ fK fV fB bd 16 ⊢ (left c i arg3 arg4 arg5 arg6 arg7 fQ fK fV bd : sProp 𝕄) := by
  unfold done left
  iintro ⟨HQ, HK, HV, HB, %f, %hf, HO⟩
  isplitl [HQ]; · iexact HQ
  isplitl [HK]; · iexact HK
  isplitl [HV]; · iexact HV
  isplitl [HB]
  · iexists fB; isplitr; swap; · iexact HB
    ipureintro; exact hB
  iexists f; isplitr; swap; · iexact HO
  ipureintro
  funext x
  refine hf x ?_
  have h2 : (x 2).val < 2048 := (x 2).isLt
  omega

/-- The body at a grid point, from any results and, unless the point starts a pair of heads, the bounds `bd` kept. -/
theorem body (E : Set ℕ) (fB : Buf (Elt F) (arg7.view.loc (c : Thread nD τ))) (bd : Bounds F)
    (hB : ¬ k0_cond1 i = 1#1 → ∀ x : S2.Idx, arg7.view.read (Elt F) fB x = bd (x 0)) (f : Buf (Elt F) (arg6.view.loc (c : Thread nD τ))) (Kp : PUnit → sProp 𝕄) :
    iprop((arg3.view.loc (c : Thread nD τ) ↦[arg3.view.set]{fullShare} fQ) ∗ (arg4.view.loc (c : Thread nD τ) ↦[arg4.view.set]{fullShare} fK)
      ∗ (arg5.view.loc (c : Thread nD τ) ↦[arg5.view.set]{fullShare} fV) ∗ (arg7.view.loc (c : Thread nD τ) ↦[arg7.view.set]{fullShare} fB)
      ∗ (arg6.view.loc (c : Thread nD τ) ↦[arg6.view.set]{fullShare} f)
      ∗ (left c i arg3 arg4 arg5 arg6 arg7 fQ fK fV (boundsAt c i arg4 fK bd) -∗ Kp ⟨⟩))
      ⊢ wp frame (wpE (defs₀ (F := F)) 𝒱₀ (c : Thread nD τ) none) E
        (cc0_stick_breaking_attention i arg3 harg3 arg4 harg4 arg5 harg5 arg6 harg6 arg7 harg7) Kp := by
  simp only [cc0_stick_breaking_attention_eq_skeleton]; unfold cc0_stick_breaking_attention_skel
  by_cases h1 : k0_cond1 i = 1#1
  · rw [dif_pos h1]
    have hb : boundsAt c i arg4 fK bd = bounds (arg4.view.read (Elt F) fK) := if_pos h1
    rw [hb]
    simp only [bind_assoc]
    have h16 : Scf.trips k0_t1_loop.lb k0_t1_loop.ub k0_t1_loop.st = 16 := trips1
    have h16' : Scf.trips k0_t2_loop.lb k0_t2_loop.ub k0_t2_loop.st = 16 := trips2
    iintro ⟨HQ, HK, HV, HB, HO, Hk⟩
    iapply (Scf.wp_for_bind frame (wpE (defs₀ (F := F)) 𝒱₀ (c : Thread nD τ) none) E k0_t1_loop.lb k0_t1_loop.ub k0_t1_loop.st (k0_t1_ok i h1) (k0_pay4 (F := F))
      (k0_t1_body i arg3 harg3 arg4 harg4 arg5 harg5 arg6 harg6 arg7 harg7 h1) (max₀ c arg4 fK)
      (fun k acc => slab₀ c i arg3 harg3 arg4 harg4 arg5 harg5 arg6 harg6 arg7 harg7 fK E h1 k acc)) $$ [HK]
    · unfold max₀
      isplitr; swap; · iexact HK
      ipureintro; rfl
    iintro %a₀ H
    rw [h16]; unfold max₀
    icases H with ⟨%ha₀, HK⟩
    simp only [smemLoad, smemLoadElt, Prog.lift, Prog.bind_op, Prog.bind_ret, Prog.pure_eq_ret]
    iapply (wp_load 𝒱₀ (c : Thread nD τ) none E (m := arg7) (View.setOn_subset_set _ _)) $$ HB; iintro HB
    iapply (wp_store 𝒱₀ (c : Thread nD τ) none E (m := arg7)
      (r := Rect.unit (s := S2) ![0] S1.size inb_S2_S1_0) (Mk := Finset.univ) (S := arg7.view.set)
      ((Memref.setOn_access_subset_setOn arg7 _ Finset.univ).trans (View.setOn_subset_set _ _))) $$ HB; iintro HB
    iapply (Scf.wp_for_bind frame (wpE (defs₀ (F := F)) 𝒱₀ (c : Thread nD τ) none) E k0_t2_loop.lb k0_t2_loop.ub k0_t2_loop.st (k0_t2_ok i h1) (k0_pay7 (F := F))
      (k0_t2_body i arg3 harg3 arg4 harg4 arg5 harg5 arg6 harg6 arg7 harg7 h1) (max₁ c arg4 fK)
      (fun k acc => slab₁ c i arg3 harg3 arg4 harg4 arg5 harg5 arg6 harg6 arg7 harg7 fK E h1 k acc)) $$ [HK]
    · unfold max₁
      isplitr; swap; · iexact HK
      ipureintro; rfl
    iintro %a₁ H
    rw [h16']; unfold max₁
    icases H with ⟨%ha₁, HK⟩
    simp only [smemLoad, smemLoadElt, Prog.lift, Prog.bind_op, Prog.bind_ret, Prog.pure_eq_ret]
    iapply (wp_load 𝒱₀ (c : Thread nD τ) none E (m := arg7) (View.setOn_subset_set _ _)) $$ HB; iintro HB
    iapply (wp_store 𝒱₀ (c : Thread nD τ) none E (m := arg7)
      (r := Rect.unit (s := S2) ![1] S1.size inb_S2_S1_1) (Mk := Finset.univ) (S := arg7.view.set)
      ((Memref.setOn_access_subset_setOn arg7 _ Finset.univ).trans (View.setOn_subset_set _ _))) $$ HB; iintro HB
    have hB' : ∀ x : S2.Idx, arg7.view.read (Elt F) ((arg7.access (Rect.unit (s := S2) ![1] S1.size inb_S2_S1_1)).write (Elt F)
        ((arg7.access (Rect.unit (s := S2) ![0] S1.size inb_S2_S1_0)).write (Elt F) fB (fun _ => k0_pay6 a₀) Finset.univ) (fun _ => k0_pay9 a₁) Finset.univ) x
        = bounds (arg4.view.read (Elt F) fK) (x 0) := by
      intro x
      refine (read_cells arg7.view fB _ _ (k0_pay6 a₀) (k0_pay9 a₁) x).trans ?_
      rw [ha₀, ha₁]; rfl
    iapply (rows_loop c i arg3 harg3 arg4 harg4 arg5 harg5 arg6 harg6 arg7 harg7 fQ fK fV E _ (bounds (arg4.view.read (Elt F) fK)) hB' f Kp)
    isplitl [HQ]; · iexact HQ
    isplitl [HK]; · iexact HK
    isplitl [HV]; · iexact HV
    isplitl [HB]; · iexact HB
    isplitl [HO]; · iexact HO
    iintro H
    iapply Hk
    iapply (left_of_done c i arg3 arg4 arg5 arg6 arg7 fQ fK fV _ _ hB'); iexact H
  · rw [dif_neg h1]
    have hb : boundsAt c i arg4 fK bd = bd := if_neg h1
    rw [hb]
    simp only [pure_bind]
    iintro ⟨HQ, HK, HV, HB, HO, Hk⟩
    iapply (rows_loop c i arg3 harg3 arg4 harg4 arg5 harg5 arg6 harg6 arg7 harg7 fQ fK fV E fB bd (hB h1) f Kp)
    isplitl [HQ]; · iexact HQ
    isplitl [HK]; · iexact HK
    isplitl [HV]; · iexact HV
    isplitl [HB]; · iexact HB
    isplitl [HO]; · iexact HO
    iintro H
    iapply Hk
    iapply (left_of_done c i arg3 arg4 arg5 arg6 arg7 fQ fK fV bd fB (hB h1)); iexact H

end Body

end Cert.Proof.KI
-- ==== Proof.KI.Run.lean ====
/-
  The whole attention call. At a grid point the windows hold blocks of the two arrays; the point leaves `result` of them in
  the window of results (`body_obligation`). Between points the call keeps the two bounds of the last point's keys. The run
  then ends with both input arrays as they were, every counter at zero, and in the result array what the points left
  there.
-/
module

public import proofs.«01_k».proof.Proof.KI.Body
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.ValueKit.Geometry

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ)

/-! ### The blocks the windows hold -/

/-- The queries of core `c` at grid point `t`. -/
def qAt (c : Dev nD) (t : Fin (cfg0 (F := F)).N) : Rows F :=
  (((cfg0 (F := F)).win 0).blk t).view.read (Elt F) (m (((cfg0 (F := F)).win 0).arr.view.loc (c : Thread nD τ)))
/-- The keys of core `c` at grid point `t`. -/
def kAt (c : Dev nD) (t : Fin (cfg0 (F := F)).N) : Keys F :=
  (((cfg0 (F := F)).win 1).blk t).view.read (Elt F) (m (((cfg0 (F := F)).win 1).arr.view.loc (c : Thread nD τ)))
/-- The values of core `c` at grid point `t`. -/
def vAt (c : Dev nD) (t : Fin (cfg0 (F := F)).N) : Keys F :=
  (((cfg0 (F := F)).win 2).blk t).view.read (Elt F) (m (((cfg0 (F := F)).win 2).arr.view.loc (c : Thread nD τ)))

/-- What grid point `t` leaves in the window of results. -/
def outAt (c : Dev nD) (t : Fin (cfg0 (F := F)).N) : Rows F :=
  result (qAt m c t) (kAt m c t) (vAt m c t) (bounds (kAt m c t)) (grid0.coords t 2).val

/-- What the core keeps between points: before point `n`, the bounds of the keys of the point before, if there is one;
    and the generator's register. -/
def kept (c : Dev nD) (n : ℕ) : sProp 𝕄 :=
  iprop((∃ f : Buf (Elt F) ((c : Thread nD τ).loc cc0_scratch0),
      ⌜∀ t : Fin (cfg0 (F := F)).N, t.val + 1 = n → ∀ x : S2.Idx, (Memref.whole cc0_scratch0).view.read (Elt F) f x = bounds (kAt m c t) (x 0)⌝
      ∗ ((c : Thread nD τ).loc cc0_scratch0) ↦{fullShare} f) ∗ ∃ r, prngReg c r)

/-- The call's data: the arrays at their first contents, each window's block after a point, and what is kept between points. -/
def dats (_ : Fin 1) (c : Dev nD) : Dat τ (Elt F) Unit ℕ (UR sig nD τ) ℕ (cfg0 (F := F)) c where
  A w := m (((cfg0 (F := F)).win w).arr.view.loc (c : Thread nD τ))
  after
    | 0 => fun t => qAt m c t
    | 1 => fun t => kAt m c t
    | 2 => fun t => vAt m c t
    | 3 => fun t => outAt m c t
    | ⟨_ + 4, h⟩ => absurd h (Nat.not_lt.2 (Nat.le_add_left _ _))
  Φ t := kept m c t.val
  q w := Pipeline.shareOf spec0 w
  owed _ := 0

/-- After a point the buffer of queries holds the queries of the point. -/
theorem after_0 (c : Dev nD) (t : Fin (cfg0 (F := F)).N) : (dats m 0 c).after 0 t = qAt m c t := by dsimp only [dats]; rfl
/-- After a point the buffer of keys holds the keys of the point. -/
theorem after_1 (c : Dev nD) (t : Fin (cfg0 (F := F)).N) : (dats m 0 c).after 1 t = kAt m c t := by dsimp only [dats]; rfl
/-- After a point the buffer of values holds the values of the point. -/
theorem after_2 (c : Dev nD) (t : Fin (cfg0 (F := F)).N) : (dats m 0 c).after 2 t = vAt m c t := by dsimp only [dats]; rfl
/-- After a point the buffer of results holds the results of the point. -/
theorem after_3 (c : Dev nD) (t : Fin (cfg0 (F := F)).N) : (dats m 0 c).after 3 t = outAt m c t := by dsimp only [dats]; rfl

/-- Before a point the core keeps what the points before left. -/
theorem Φ_before (c : Dev nD) (t : Fin (cfg0 (F := F)).N) : (dats (F := F) m 0 c).Φ t.castSucc = kept m c t.val := by
  dsimp only [dats]; exact congrArg (kept m c) (Fin.val_castSucc t)
/-- After a point the core keeps what the point leaves. -/
theorem Φ_after (c : Dev nD) (t : Fin (cfg0 (F := F)).N) : (dats (F := F) m 0 c).Φ t.succ = kept m c (t.val + 1) := by
  dsimp only [dats]; exact congrArg (kept m c) (Fin.val_succ t)

/-- Before a point the window of queries holds the point's queries. -/
theorem before_0 (c : Dev nD) (t : Fin (cfg0 (F := F)).N) (d) : (dats m 0 c).before 0 t d = qAt m c t :=
  ((dats m 0 c).before_in_eq_fetched 0 rfl (fun _ => rfl) (fun _ _ _ => rfl) (fun t => by rw [after_0]; rfl) t d).trans rfl
/-- Before a point the window of keys holds the point's keys. -/
theorem before_1 (c : Dev nD) (t : Fin (cfg0 (F := F)).N) (d) : (dats m 0 c).before 1 t d = kAt m c t :=
  ((dats m 0 c).before_in_eq_fetched 1 rfl (fun _ => rfl) (fun _ _ _ => rfl) (fun t => by rw [after_1]; rfl) t d).trans rfl
/-- Before a point the window of values holds the point's values. -/
theorem before_2 (c : Dev nD) (t : Fin (cfg0 (F := F)).N) (d) : (dats m 0 c).before 2 t d = vAt m c t :=
  ((dats m 0 c).before_in_eq_fetched 2 rfl (fun _ => rfl) (fun _ _ _ => rfl) (fun t => by rw [after_2]; rfl) t d).trans rfl

/-- A point whose bounds are not found anew has the keys of the point before. -/
theorem kAt_pred (c : Dev nD) (t t' : Fin (cfg0 (F := F)).N) (h : t'.val + 1 = t.val) (h8 : t.val % 8 ≠ 0) : kAt m c t' = kAt m c t := by
  have hf : ((cfg0 (F := F)).win 1).fetch t = false := Bool.eq_false_iff.mpr fun h => h8 ((fetch0_1 t).mp h)
  obtain ⟨-, hix⟩ := ((cfg0 (F := F)).win 1).index_eq_of_fetch rfl t hf
  have ht' : t' = ⟨t.val - 1, Nat.lt_of_le_of_lt (Nat.sub_le _ _) t.isLt⟩ := Fin.ext (by simp; omega)
  rw [← ht'] at hix
  exact (dats m 0 c).fetched_congr 1 hix.symm rfl (kAt m c t)

/-- The bounds are found anew at the points that are multiples of eight. -/
theorem cond1_iff : ∀ t : Fin grid0.N, k0_cond1 (grid0.coords t) = 1#1 ↔ t.val % 8 = 0 := by decide +kernel

/-! ### One point -/

/-- What a grid point finds in its four windows it leaves there, the results replaced by the point's. -/
theorem body_obligation (c : Dev nD) : BodyObligation (dats (F := F) m 0 c) (defs₀ (F := F)) 𝒱₀ () Set.univ := fun t => by
  rw [bigSep_W0, bigSep_W0]
  sl_whnfR [defs₀, Defs.onTc]
  rw [after_0, after_1, after_2, after_3]
  unfold owns
  rw [Φ_before, Φ_after]
  unfold kept
  iintro ⟨⟨⟨%fB, %hB, HB⟩, Hr⟩, Ho, ⟨%_, %fQ, %hQ, HQ⟩, ⟨%_, %fK, %hK, HK⟩, ⟨%_, %fV, %hV, HV⟩, ⟨%_, %f, %_, HO⟩⟩
  replace hQ := hQ.trans (before_0 m c t _)
  replace hK := hK.trans (before_1 m c t _)
  replace hV := hV.trans (before_2 m c t _)
  have hbd : boundsAt c (grid0.coords t) (win0_1.stage ((cfg0 (F := F)).slots t 1)) fK (bounds (kAt m c t)) = bounds (kAt m c t) := by
    unfold boundsAt; split
    · exact congrArg bounds hK
    · rfl
  iapply (body c (grid0.coords t) (win0_0.stage ((cfg0 (F := F)).slots t 0)) (hstage0_0 (((cfg0 (F := F)).slots t 0).cast nbuf0_0))
    (win0_1.stage ((cfg0 (F := F)).slots t 1)) (hstage0_1 (((cfg0 (F := F)).slots t 1).cast nbuf0_1))
    (win0_2.stage ((cfg0 (F := F)).slots t 2)) (hstage0_2 (((cfg0 (F := F)).slots t 2).cast nbuf0_2))
    (win0_3.stage ((cfg0 (F := F)).slots t 3)) (hstage0_3 (((cfg0 (F := F)).slots t 3).cast nbuf0_3))
    (Memref.whole cc0_scratch0) (Memref.isWhole_whole _) fQ fK fV Set.univ fB (bounds (kAt m c t))
    (fun h1 x => by
      have h8 : t.val % 8 ≠ 0 := fun h => h1 ((cond1_iff t).mpr h)
      have hlt : t.val - 1 < (cfg0 (F := F)).N := Nat.lt_of_le_of_lt (Nat.sub_le _ _) t.isLt
      have hp : (⟨t.val - 1, hlt⟩ : Fin (cfg0 (F := F)).N).val + 1 = t.val := by
        show t.val - 1 + 1 = t.val
        omega
      rw [← kAt_pred m c t ⟨t.val - 1, hlt⟩ hp h8]
      exact hB ⟨t.val - 1, hlt⟩ hp x) f)
  isplitl [HQ]; · iexact HQ
  isplitl [HK]; · iexact HK
  isplitl [HV]; · iexact HV
  isplitl [HB]
  · rw [(Memref.isWhole_whole cc0_scratch0).set_eq_univ]; iexact HB
  isplitl [HO]; · iexact HO
  rw [hbd]; unfold left
  iintro ⟨HQ, HK, HV, ⟨%g, %hg, HB⟩, ⟨%f', %hf', HO⟩⟩
  isplitl [HB Hr]
  · isplitr [Hr]; swap; · iexact Hr
    iexists g
    isplitr
    · ipureintro
      intro t' ht' x
      rw [show t' = t from Fin.ext (Nat.succ.inj ht')]
      exact hg x
    · rw [(Memref.isWhole_whole cc0_scratch0).set_eq_univ]; iexact HB
  isplitl [Ho]; · iexact Ho
  isplitl [HQ]
  · iexists fQ
    isplitr; · ipureintro; exact hQ
    iexact HQ
  isplitl [HK]
  · iexists fK
    isplitr; · ipureintro; exact hK
    iexact HK
  isplitl [HV]
  · iexists fV
    isplitr; · ipureintro; exact hV
    iexact HV
  iexists f'
  isplitr
  · ipureintro
    rw [hf']; unfold whole outAt
    rw [hQ, hK, hV]
  iexact HO

/-! ### The run -/

/-- What the run leaves: both inputs as they were, the results as the points left them. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_track_shared (cfgs (F := F)) (dats m) 0 launch₀0 (defs₀ (F := F)) 𝒱₀ m ρ main
    (hbody := fun c => (body_obligation m c).loose)
    (hq := fun _ _ _ => rfl) (howed := fun _ _ => rfl)
    (V := fun c b => m ((c.tc : Thread nD τ).loc b))
    (hmain := Pipeline.hmain_region (cfgs (F := F)) 0 (defs₀ (F := F)) 𝒱₀ m main fun _ => rfl)
    (hA := fun _ _ => rfl)
    (hin := fun c => by
      rw [show (dats m 0 c).Φ 0 = kept m c 0 from rfl]
      unfold Pipeline.ΦA kept
      rw [scopedRest0_eq]
      iintro ⟨⟨%f, H⟩, Hr⟩
      isplitr [Hr]; swap; · iexact Hr
      iexists f
      isplitr
      · ipureintro; intro t ht; omega
      iexact H)
    (hout := fun c => by
      rw [show (dats m 0 c).Φ (Fin.last (cfg0 (F := F)).N) = kept m c (cfg0 (F := F)).N from rfl]
      unfold Pipeline.ΦA kept
      rw [scopedRest0_eq]
      iintro ⟨⟨%f, %_, H⟩, Hr⟩
      isplitr [Hr]; swap; · iexact Hr
      iexists f
      iexact H)
    (Q' := fun r => (∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)
    (hQ' := fun r h => ⟨fun c => ⟨(h.1 c).1 3, ((h.1 c).1 0).trans ((dats m 0 c).arrAt_in 0 rfl _), ((h.1 c).1 1).trans ((dats m 0 c).arrAt_in 1 rfl _)⟩, h.2⟩)

end Cert.Proof.KI

end
-- ==== Proof.Spec.lean ====
/-
  What the attention is: query `t` of head `h` weighs the earlier keys by stick breaking (Sums.lean) and sums their values.
  The queries are one array, the keys and the values the two halves of the heads of another.
-/
module

public import proofs.«01_k».proof.Proof.Sums
public import Idealize.ShloMosaic.Lib.ValueIdxCore

@[expose] public section

noncomputable section

namespace Cert.Proof.Spec

open Idealize.ShloMosaic Idealize.ShloMosaic.ValueIdx Cert.Proof.Sums
open scoped BigOperators

/-- The queries' (and the results') shape: batches, heads, rows, entries. -/
abbrev Rs : Shape := ⟨4, ![2, 8, 16384, 128]⟩
/-- The shape of keys and values together: the first eight heads are keys, the last eight values. -/
abbrev Ks : Shape := ⟨4, ![2, 16, 16384, 128]⟩

/-- The row that a number names. -/
def row (s : ℕ) : Fin 16384 := ⟨s % 16384, Nat.mod_lt _ (by decide)⟩

/-- A row is the row its own number names. -/
theorem row_val (s : Fin 16384) : row s.val = s := Fin.ext (Nat.mod_eq_of_lt s.isLt)

/-- The score of key `s` for query `t`. -/
def scores (q : Rs.Idx → EReal) (kv : Ks.Idx → EReal) (b : Fin 2) (h : Fin 8) (t : Fin 16384) (s : ℕ) : EReal :=
  ∑ d : Fin 128, q (ix4 b h t d) * kv (ix4 b (⟨h.val, by omega⟩ : Fin 16) (row s) d)

/-- Entry `d` of value `s`. -/
def values (kv : Ks.Idx → EReal) (b : Fin 2) (h : Fin 8) (d : Fin 128) (s : ℕ) : EReal :=
  kv (ix4 b (⟨8 + h.val, by omega⟩ : Fin 16) (row s) d)

/-- Entry `d` of the output of query `t`. -/
def attend (q : Rs.Idx → EReal) (kv : Ks.Idx → EReal) (b : Fin 2) (h : Fin 8) (t : Fin 16384) (d : Fin 128) : EReal :=
  ∑ s ∈ Finset.Ico 0 16384, W 16384 (scores q kv b h t) t.val s * values kv b h d s

end Cert.Proof.Spec

end
-- ==== Proof.KI.Value.lean ====
/-
  The attention call's result array over the extended reals: every entry is the stick-breaking attention of its query. A
  window's result at a row is the attention of the queries, keys and values that the windows hold, and the windows hold
  blocks of the arrays.
-/
module

public import proofs.«01_k».proof.Proof.KI.Blocks
public import proofs.«01_k».proof.Proof.KI.Bound
public import proofs.«01_k».proof.Proof.KI.Run
public import proofs.«01_k».proof.Proof.Spec

@[expose] public section

noncomputable section

namespace Cert.Proof.KI

open Cert.KernelIdeal Cert.KernelIdeal.Gen Cert.Proof.Sums
open Idealize.ShloMosaic Idealize.ShloMosaic.ValueIdx
open Idealize.ShloMosaic.TcCoe
open scoped BigOperators

/-- The place of a block's entry in the block as a matrix. -/
theorem untile_idx (h : S1x1x128x128.numel = S128x128.numel) (r d : Fin 128) :
    Shape.reshapeEquiv h (ix4 (0 : Fin 1) (0 : Fin 1) r d) = ix2 r d :=
  Shape.reshapeEquiv_eq_of_rowMajor h (by
    rw [Shape.rowMajor_val_four, Shape.rowMajor_val_two]
    show r.val * 128 + d.val = ((0 * 1 + 0) * 128 + r.val) * 128 + d.val
    omega)

/-- A row of a window of results is its query's attention over the windows' keys and values. -/
theorem result_apply (Q : Rows Ideal) (K V : Keys Ideal) (a : ℕ) (ha : a < 8) (hd : Fin 2) (y : Fin 2048) (d : Fin 128) :
    result Q K V (bounds K) a (ix4 (0 : Fin 1) hd y d)
      = ∑ s ∈ Finset.Ico 0 16384, W 16384 (fun s => ∑ e : Fin 128, Q (ix4 (0 : Fin 1) hd y e)
          * K (ix4 (0 : Fin 1) hd (⟨s % 16384, Nat.mod_lt _ (by decide)⟩ : Fin 16384) e)) (2048 * a + y.val) s * vl V hd d s := by
  have hy := y.isLt
  have hg : 16 * a + y.val / 128 < 128 := by omega
  have hf := final_walk (K := K) (V := V) (fun r => zbound₀_ne_bot (rowBlk Q 0 (y.val / 128)) (bounds K 0) (bounds_nonneg K 0) (ix2 r (0 : Fin 1)))
    (fun r => zbound₁_ne_bot (rowBlk Q 1 (y.val / 128)) (bounds K 1) (bounds_nonneg K 1) (ix2 r (0 : Fin 1))) hg
    (16 * a + y.val / 128 - 2) (near K V 0 (tile (rowBlk Q 0 (y.val / 128))) _ _ _, near K V 1 (tile (rowBlk Q 1 (y.val / 128))) _ _ _) (by omega)
    (done_near hg) (done_near hg)
  have hq : ∀ (hd : Fin 2) (e : Fin 128), tile (rowBlk Q hd (y.val / 128)) (ix2 (⟨y.val % 128, Nat.mod_lt _ (by decide)⟩ : Fin 128) e)
      = Q (ix4 (0 : Fin 1) hd y e) := fun hd e => by
    rw [tile_apply]
    unfold rowBlk
    refine congrArg Q (congrArg (fun z => ix4 (0 : Fin 1) hd z e) (Fin.ext ?_))
    show (128 * (y.val / 128) + y.val % 128) % 2048 = y.val
    omega
  have ht : 128 * (16 * a + y.val / 128) + y.val % 128 = 2048 * a + y.val := by omega
  have hz : ∀ hd : Fin 2, sc (tile (rowBlk Q hd (y.val / 128))) K hd (⟨y.val % 128, Nat.mod_lt _ (by decide)⟩ : Fin 128)
      = fun s => ∑ e : Fin 128, Q (ix4 (0 : Fin 1) hd y e) * K (ix4 (0 : Fin 1) hd (⟨s % 16384, Nat.mod_lt _ (by decide)⟩ : Fin 16384) e) := fun hd => by
    funext s
    exact Finset.sum_congr rfl fun e _ => by rw [hq]
  match hd with
  | ⟨0, _⟩ =>
    refine Eq.trans ?_ ((hf.1 (⟨y.val % 128, Nat.mod_lt _ (by decide)⟩ : Fin 128) d).trans ?_)
    · exact congrArg (rows Q K V (bounds K) a (y.val / 128)).1.2 (untile_idx _ _ _)
    · dsimp only
      rw [hz, ht]
      rfl
  | ⟨1, _⟩ =>
    refine Eq.trans ?_ ((hf.2 (⟨y.val % 128, Nat.mod_lt _ (by decide)⟩ : Fin 128) d).trans ?_)
    · exact congrArg (rows Q K V (bounds K) a (y.val / 128)).2.2 (untile_idx _ _ _)
    · dsimp only
      rw [hz, ht]
      rfl

/-! ### Blocks of the arrays -/

/-- The block of queries of a step. -/
theorem index_0 : ∀ t : Fin (cfg0 (F := Ideal)).N, win0_0.index t = ![(grid0.coords t 0).val, (grid0.coords t 1).val, (grid0.coords t 2).val, 0] :=
  (by decide +kernel : ∀ t : Fin grid0.N, _)
/-- The block of keys of a step: two heads, all rows. -/
theorem index_1 : ∀ t : Fin (cfg0 (F := Ideal)).N, win0_1.index t = ![(grid0.coords t 0).val, (grid0.coords t 1).val, 0, 0] :=
  (by decide +kernel : ∀ t : Fin grid0.N, _)
/-- The block of values of a step: two heads, four pairs of heads after the keys. -/
theorem index_2 : ∀ t : Fin (cfg0 (F := Ideal)).N, win0_2.index t = ![(grid0.coords t 0).val, (grid0.coords t 1).val + 4, 0, 0] :=
  (by decide +kernel : ∀ t : Fin grid0.N, _)
/-- The block of results of a step. -/
theorem index_3 : ∀ t : Fin (cfg0 (F := Ideal)).N, win0_3.index t = ![(grid0.coords t 0).val, (grid0.coords t 1).val, (grid0.coords t 2).val, 0] :=
  (by decide +kernel : ∀ t : Fin grid0.N, _)

variable (m : (ℓ : Loc nD τ sig) → Buf (Elt Ideal) ℓ) (c : Dev nD)

/-- The attention of the two argument arrays. -/
def G (q : S2x8x16384x128.Idx → EReal) (kv : S2x16x16384x128.Idx → EReal) (x : S2x8x16384x128.Idx) : EReal :=
  Spec.attend q kv (x 0) (x 1) (x 2) (x 3)

/-- A grid point's batch, pair of heads, and row window. -/
theorem coords_lt (t : Fin (cfg0 (F := Ideal)).N) : (grid0.coords t 0).val < 2 ∧ (grid0.coords t 1).val < 4 ∧ (grid0.coords t 2).val < 8 :=
  ⟨(grid0.coords t 0).isLt, (grid0.coords t 1).isLt, (grid0.coords t 2).isLt⟩

/-- An entry of the queries of a step is an entry of the query array. -/
theorem qAt_apply (t : Fin (cfg0 (F := Ideal)).N) (hd : Fin 2) (y : Fin 2048) (e : Fin 128) (b : Fin 2) (h : Fin 8) (r : Fin 16384)
    (hb : b.val = (grid0.coords t 0).val) (hh : h.val = 2 * (grid0.coords t 1).val + hd.val) (hr : r.val = 2048 * (grid0.coords t 2).val + y.val) :
    qAt m c t (ix4 (0 : Fin 1) hd y e) = m ((c.tc : Thread nD τ).loc main_arg0) (ix4 b h r e) := by
  unfold qAt
  blk_ext [index_0 t]
  · exact hb.symm
  · show (grid0.coords t 1).val * 2 + hd.val = h.val
    omega
  · show (grid0.coords t 2).val * 2048 + y.val = r.val
    omega

/-- An entry of the keys of a step is an entry of the key and value array. -/
theorem kAt_apply (t : Fin (cfg0 (F := Ideal)).N) (hd : Fin 2) (y : Fin 16384) (e : Fin 128) (b : Fin 2) (h : Fin 16)
    (hb : b.val = (grid0.coords t 0).val) (hh : h.val = 2 * (grid0.coords t 1).val + hd.val) :
    kAt m c t (ix4 (0 : Fin 1) hd y e) = m ((c.tc : Thread nD τ).loc main_arg1) (ix4 b h y e) := by
  unfold kAt
  blk_ext [index_1 t]
  · exact hb.symm
  · show (grid0.coords t 1).val * 2 + hd.val = h.val
    omega

/-- An entry of the values of a step is an entry of the key and value array. -/
theorem vAt_apply (t : Fin (cfg0 (F := Ideal)).N) (hd : Fin 2) (y : Fin 16384) (e : Fin 128) (b : Fin 2) (h : Fin 16)
    (hb : b.val = (grid0.coords t 0).val) (hh : h.val = 8 + (2 * (grid0.coords t 1).val + hd.val)) :
    vAt m c t (ix4 (0 : Fin 1) hd y e) = m ((c.tc : Thread nD τ).loc main_arg1) (ix4 b h y e) := by
  unfold vAt
  blk_ext [index_2 t]
  · exact hb.symm
  · show ((grid0.coords t 1).val + 4) * 2 + hd.val = h.val
    omega

/-- What a grid point leaves at a row of its window is the attention at that row of the array. -/
theorem outAt_apply (t : Fin (cfg0 (F := Ideal)).N) (hd : Fin 2) (y : Fin 2048) (d : Fin 128) (b : Fin 2) (h : Fin 8) (r : Fin 16384)
    (hb : b.val = (grid0.coords t 0).val) (hh : h.val = 2 * (grid0.coords t 1).val + hd.val) (hr : r.val = 2048 * (grid0.coords t 2).val + y.val) :
    outAt m c t (ix4 (0 : Fin 1) hd y d)
      = Spec.attend (m ((c.tc : Thread nD τ).loc main_arg0)) (m ((c.tc : Thread nD τ).loc main_arg1)) b h r d := by
  unfold outAt
  rw [result_apply _ _ _ _ (coords_lt t).2.2]
  unfold Spec.attend
  have hz : (fun s : ℕ => ∑ e : Fin 128, qAt m c t (ix4 (0 : Fin 1) hd y e)
        * kAt m c t (ix4 (0 : Fin 1) hd (⟨s % 16384, Nat.mod_lt _ (by decide)⟩ : Fin 16384) e))
      = Spec.scores (m ((c.tc : Thread nD τ).loc main_arg0)) (m ((c.tc : Thread nD τ).loc main_arg1)) b h r := by
    funext s
    refine Finset.sum_congr rfl fun e _ => ?_
    rw [qAt_apply m c t hd y e b h r hb hh hr, kAt_apply m c t hd _ e b (⟨h.val, by omega⟩ : Fin 16) hb hh]
    rfl
  have hv : ∀ s : ℕ, vl (vAt m c t) hd d s = Spec.values (m ((c.tc : Thread nD τ).loc main_arg1)) b h d s := fun s =>
    vAt_apply m c t hd _ d b (⟨8 + h.val, by omega⟩ : Fin 16) hb (by show 8 + h.val = _; omega)
  rw [hz, ← hr]
  exact Finset.sum_congr rfl fun s _ => by rw [hv]

/-- The result array after the run is the attention of the argument arrays. -/
theorem final_o : (dats m 0 c).arrAt 3 (cfg0 (F := Ideal)).N
    = G (m ((c.tc : Thread nD τ).loc main_arg0)) (m ((c.tc : Thread nD τ).loc main_arg1)) := by
  refine (dats m 0 c).arrAt_eq_of_covers 3 _ (by decide +kernel) fun t hf y => ?_
  blk_simp
  rw [after_3]
  have hy : y = ix4 (0 : Fin 1) (y 1 : Fin 2) (y 2 : Fin 2048) (y 3 : Fin 128) :=
    (eq_ix4 (n0 := 1) (n1 := 2) (n2 := 2048) (n3 := 128) y).trans (congrArg (fun z => ix4 z _ _ _) (Subsingleton.elim (α := Fin 1) _ _))
  have e0 : (((win0_3.blk t).view.emb y 0 : Fin 2)).val = (grid0.coords t 0).val := by
    blk_simp [index_3 t]
  have e1 : (((win0_3.blk t).view.emb y 1 : Fin 8)).val = 2 * (grid0.coords t 1).val + (y 1 : Fin 2).val := by
    blk_simp [index_3 t]
    exact congrArg (· + _) (Nat.mul_comm _ _)
  have e2 : (((win0_3.blk t).view.emb y 2 : Fin 16384)).val = 2048 * (grid0.coords t 2).val + (y 2 : Fin 2048).val := by
    blk_simp [index_3 t]
    exact congrArg (· + _) (Nat.mul_comm _ _)
  have e3 : ((win0_3.blk t).view.emb y 3 : Fin 128) = (y 3 : Fin 128) := Fin.ext (by
    blk_simp [index_3 t])
  refine (congrArg (outAt m c t) hy).trans ((outAt_apply m c t _ _ _ _ _ _ e0 e1 e2).trans ?_)
  unfold G
  exact congrArg _ e3.symm

end Cert.Proof.KI

end
-- ==== Proof.Ref.lean ====
/-
  The reference's result over the extended reals, entry by entry: the stick-breaking attention of its query. The reference
  scores every pair of a query and a key, sums the masked log probabilities by a product with a triangle of ones, and masks
  the weights.
-/
module

public import proofs.«01_k».proof.Proof.Gen.ReferenceIdeal.Run
public import proofs.«01_k».proof.Proof.Spec
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.WordCmp
public import Idealize.ShloMosaic.Lib.IdealHost

@[expose] public section

noncomputable section

namespace Cert.Proof.Ref

open Cert.ReferenceIdeal Cert.ReferenceIdeal.Gen Cert.Proof.Sums
open Idealize.ShloMosaic Idealize.ShloMosaic.ValueIdx
open scoped BigOperators

variable (q : FVec Ideal S2x8x16384x128 .bf16) (kv : FVec Ideal S2x16x16384x128 .bf16)

/-- The scores of all queries against all keys. -/
def z : FVec Ideal S2x8x16384x16384 .f32 :=
  Host.dotGeneral dot_S2x8x16384x128_S2x8x16384x128_S2x8x16384x16384_3_3_2_2_01_01 none (extf .f32 q bitsLt_bf16_f32)
    (extf .f32 (extractStridedSlice S2x8x16384x128 ![0, 0, 0, 0] kv slices_S2x16x16384x128_S2x8x16384x128_0_0_0_0) bitsLt_bf16_f32)

/-- Zero everywhere. -/
def zeros : FVec Ideal S2x8x16384x16384 .f32 := broadcastInDim S2x8x16384x16384 ![] bcast_S_S2x8x16384x16384 (constant S_ .f32 0x00000000#32)

/-- Which keys a query may see. -/
def mask : IVec S2x8x16384x16384 1 :=
  broadcastInDim S2x8x16384x16384 ![2, 3] bcast_S16384x16384_S2x8x16384x16384_2_3 (cmpi .slt (iotaInDim S16384x16384 32 1) (iotaInDim S16384x16384 32 0))

/-- The softplus of `x`. -/
def softplus (x : FVec Ideal S2x8x16384x16384 .f32) : FVec Ideal S2x8x16384x16384 .f32 :=
  select (cmpf .une (subf x zeros) (subf x zeros)) (addf x zeros)
    (addf (maximumf x zeros) (Host.log1p (Host.exp (Host.negf (Host.absf (subf x zeros))))))

/-- The masked log probabilities. -/
def logs (x : FVec Ideal S2x8x16384x16384 .f32) : FVec Ideal S2x8x16384x16384 .f32 :=
  select mask (Host.negf (softplus (Host.negf (Host.negf x)))) zeros

/-- The triangle of ones. -/
def tri : FVec Ideal S16384x16384 .f32 := uitofp .f32 (cmpi .sge (iotaInDim S16384x16384 32 0) (iotaInDim S16384x16384 32 1))

/-- Each key's sum over itself and the later keys. -/
def sums (l : FVec Ideal S2x8x16384x16384 .f32) : FVec Ideal S2x8x16384x16384 .f32 :=
  Host.dotGeneral dot_S2x8x16384x16384_S16384x16384_S2x8x16384x16384_3_0_012_1_n_n none l tri

/-- The masked weights. -/
def weights (x : FVec Ideal S2x8x16384x16384 .f32) : FVec Ideal S2x8x16384x16384 .f32 :=
  select mask (Host.exp (addf x (sums (logs x)))) zeros

/-- The result. -/
def out : FVec Ideal S2x8x16384x128 .bf16 :=
  truncf .bf16 (Host.dotGeneral dot_S2x8x16384x16384_S2x8x16384x128_S2x8x16384x128_3_2_2_3_01_01 none
    (extf .f32 (truncf .bf16 (weights (z q kv)) bitsLt_bf16_f32) bitsLt_bf16_f32)
    (extf .f32 (extractStridedSlice S2x8x16384x128 ![0, 8, 0, 0] kv slices_S2x16x16384x128_S2x8x16384x128_0_8_0_0) bitsLt_bf16_f32)) bitsLt_bf16_f32

variable (b : Fin 2) (h : Fin 8) (t s : Fin 16384) (d : Fin 128)

/-- The score of a pair, in the reference, is the score of Spec.lean. -/
theorem z_apply : z q kv (ix4 b h t s) = Spec.scores q kv b h t s.val := by
  unfold z
  simp only [Host.dotGeneral]
  rw [Ideal.dotGeneral_apply, ← Equiv.sum_comp (contrEquiv1 dot_S2x8x16384x128_S2x8x16384x128_S2x8x16384x16384_3_3_2_2_01_01 128 rfl rfl).symm]
  refine Finset.sum_congr rfl fun k _ => ?_
  have hk := contrEquiv1_symm_val dot_S2x8x16384x128_S2x8x16384x128_S2x8x16384x16384_3_3_2_2_01_01 128 rfl rfl k
  have el : dot_S2x8x16384x128_S2x8x16384x128_S2x8x16384x16384_3_3_2_2_01_01.lhsIdx (ix4 b h t s)
      ((contrEquiv1 dot_S2x8x16384x128_S2x8x16384x128_S2x8x16384x16384_3_3_2_2_01_01 128 rfl rfl).symm k) = ix4 b h t k := by
    funext a; apply Fin.ext
    match a with
    | ⟨0, _⟩ => rfl
    | ⟨1, _⟩ => rfl
    | ⟨2, _⟩ => rfl
    | ⟨3, _⟩ => exact hk
  have er : dot_S2x8x16384x128_S2x8x16384x128_S2x8x16384x16384_3_3_2_2_01_01.rhsIdx (ix4 b h t s)
      ((contrEquiv1 dot_S2x8x16384x128_S2x8x16384x128_S2x8x16384x16384_3_3_2_2_01_01 128 rfl rfl).symm k) = ix4 b h s k := by
    funext a; apply Fin.ext
    match a with
    | ⟨0, _⟩ => rfl
    | ⟨1, _⟩ => rfl
    | ⟨2, _⟩ => rfl
    | ⟨3, _⟩ => exact hk
  rw [el, er, extf_apply, extf_apply,
    slice4_axis1_apply 0 kv _ b h s k (⟨h.val, by omega⟩ : Fin 16) (Nat.zero_add _).symm, Spec.row_val]

/-- The array of zeros holds zero everywhere. -/
theorem zeros_apply (i : S2x8x16384x16384.Idx) : zeros i = 0 := Ideal.ofBits_zero_f32

/-- The mask is one at the keys before the query, zero at the others. -/
theorem mask_apply : mask (ix4 b h t s) = if s.val < t.val then 1#1 else 0#1 := by
  show IntOp.cmpi .slt (BitVec.ofNat 32 s.val) (BitVec.ofNat 32 t.val) = _
  have ht := t.isLt; have hs := s.isLt
  rw [WordCmp.cmpi_slt_ofNat (by omega) (by omega)]
  split_ifs with h <;> simp [h]

/-- The triangle is one where the column is at most the row, zero elsewhere. -/
theorem tri_apply (j : Fin 16384) : tri (ix2 j s) = if s.val ≤ j.val then 1 else 0 := by
  show (((IntOp.cmpi .sge (BitVec.ofNat 32 j.val) (BitVec.ofNat 32 s.val)).toNat : ℝ) : EReal) = _
  have hj := j.isLt; have hs := s.isLt
  rw [WordCmp.cmpi_sge_ofNat (by omega) (by omega)]
  split_ifs with h <;> simp [h]

variable (x : FVec Ideal S2x8x16384x16384 .f32)

/-- An entry of the softplus: the greater of zero and the entry, plus a logarithm of the absolute value. -/
theorem softplus_apply (i : S2x8x16384x16384.Idx) : softplus x i = max (x i) 0 + Ideal.log1p (Ideal.exp (-(max (x i) (-(x i))))) := by
  unfold softplus
  rw [select_apply, cmpf_apply, addf_apply, addf_apply, subf_apply, maximumf_apply, zeros_apply, sub_zero, Ideal.cmpf_def,
    show Ideal.cmp .une (x i) (x i) = 0#1 from by simp [Ideal.cmp], select_zero]
  show _ + Ideal.log1p (Ideal.exp (-(max (x i - zeros i) (-(x i - zeros i))))) = _
  rw [zeros_apply, sub_zero]

/-- A masked logarithm: of keeping the stick at a key before the query, zero at the others. -/
theorem logs_apply : logs x (ix4 b h t s) = if s.val < t.val then lk (x (ix4 b h t s)) else 0 := by
  unfold logs
  rw [select_apply, mask_apply, zeros_apply]
  split_ifs
  · rw [select_one]
    show -(softplus _ _) = _
    rw [softplus_apply]
    show -(max (- -x (ix4 b h t s)) 0 + Ideal.log1p (Ideal.exp (-(max (- -x (ix4 b h t s)) (-(- -x (ix4 b h t s))))))) = _
    rw [neg_neg]
    rfl
  · exact select_zero _ _

/-- An entry of the product with the triangle: the sum of the entries at this key and after it. -/
theorem sums_apply : sums x (ix4 b h t s) = ∑ j : Fin 16384, x (ix4 b h t j) * (if s.val ≤ j.val then 1 else 0) := by
  unfold sums
  simp only [Host.dotGeneral]
  rw [Ideal.dotGeneral_apply, ← Equiv.sum_comp (contrEquiv1 dot_S2x8x16384x16384_S16384x16384_S2x8x16384x16384_3_0_012_1_n_n 16384 rfl rfl).symm]
  refine Finset.sum_congr rfl fun k _ => ?_
  have hk := contrEquiv1_symm_val dot_S2x8x16384x16384_S16384x16384_S2x8x16384x16384_3_0_012_1_n_n 16384 rfl rfl k
  have el : dot_S2x8x16384x16384_S16384x16384_S2x8x16384x16384_3_0_012_1_n_n.lhsIdx (ix4 b h t s)
      ((contrEquiv1 dot_S2x8x16384x16384_S16384x16384_S2x8x16384x16384_3_0_012_1_n_n 16384 rfl rfl).symm k) = ix4 b h t k := by
    funext a; apply Fin.ext
    match a with
    | ⟨0, _⟩ => rfl
    | ⟨1, _⟩ => rfl
    | ⟨2, _⟩ => rfl
    | ⟨3, _⟩ => exact hk
  have er : dot_S2x8x16384x16384_S16384x16384_S2x8x16384x16384_3_0_012_1_n_n.rhsIdx (ix4 b h t s)
      ((contrEquiv1 dot_S2x8x16384x16384_S16384x16384_S2x8x16384x16384_3_0_012_1_n_n 16384 rfl rfl).symm k) = ix2 k s := by
    funext a; apply Fin.ext
    match a with
    | ⟨0, _⟩ => exact hk
    | ⟨1, _⟩ => rfl
  rw [el, er, tri_apply]

/-- The masked weights are those of the row's attention. -/
theorem weights_apply : weights (z q kv) (ix4 b h t s) = W 16384 (Spec.scores q kv b h t) t.val s.val := by
  unfold weights
  rw [select_apply, mask_apply, zeros_apply]
  unfold W
  split_ifs
  · rw [select_one]
    show Ideal.exp (z q kv (ix4 b h t s) + sums (logs (z q kv)) (ix4 b h t s)) = _
    rw [sums_apply, z_apply]
    refine congrArg (fun y => Ideal.exp (_ + y)) ((Finset.sum_congr rfl fun j _ => ?_).trans (sum_from (M (Spec.scores q kv b h t) t.val) s.val))
    rw [logs_apply, z_apply]
    rfl
  · exact select_zero _ _

/-- The reference's result at an entry is the attention there. -/
theorem out_apply : out q kv (ix4 b h t d) = Spec.attend q kv b h t d := by
  unfold out Spec.attend
  rw [truncf_apply]
  simp only [Host.dotGeneral]
  rw [Ideal.dotGeneral_apply, ← Equiv.sum_comp (contrEquiv1 dot_S2x8x16384x16384_S2x8x16384x128_S2x8x16384x128_3_2_2_3_01_01 16384 rfl rfl).symm,
    ← Finset.range_eq_Ico, Finset.sum_range]
  refine Finset.sum_congr rfl fun k _ => ?_
  have hk := contrEquiv1_symm_val dot_S2x8x16384x16384_S2x8x16384x128_S2x8x16384x128_3_2_2_3_01_01 16384 rfl rfl k
  have el : dot_S2x8x16384x16384_S2x8x16384x128_S2x8x16384x128_3_2_2_3_01_01.lhsIdx (ix4 b h t d)
      ((contrEquiv1 dot_S2x8x16384x16384_S2x8x16384x128_S2x8x16384x128_3_2_2_3_01_01 16384 rfl rfl).symm k) = ix4 b h t k := by
    funext a; apply Fin.ext
    match a with
    | ⟨0, _⟩ => rfl
    | ⟨1, _⟩ => rfl
    | ⟨2, _⟩ => rfl
    | ⟨3, _⟩ => exact hk
  have er : dot_S2x8x16384x16384_S2x8x16384x128_S2x8x16384x128_3_2_2_3_01_01.rhsIdx (ix4 b h t d)
      ((contrEquiv1 dot_S2x8x16384x16384_S2x8x16384x128_S2x8x16384x128_3_2_2_3_01_01 16384 rfl rfl).symm k) = ix4 b h k d := by
    funext a; apply Fin.ext
    match a with
    | ⟨0, _⟩ => rfl
    | ⟨1, _⟩ => rfl
    | ⟨2, _⟩ => exact hk
    | ⟨3, _⟩ => rfl
  rw [el, er, extf_apply, truncf_apply, weights_apply, extf_apply,
    slice4_axis1_apply 8 kv _ b h k d (⟨8 + h.val, by omega⟩ : Fin 16) rfl]
  unfold Spec.values
  rw [Spec.row_val]

end Cert.Proof.Ref

end
-- ==== Proof.Norm.lean ====
/-
  One row of the normalised, modulated stream over the extended reals: what the projections multiply by their weights.
-/
module

public import Idealize.ShloMosaic.PureOps.Ideal

@[expose] public section

noncomputable section

namespace Cert.Proof.Norm

open Idealize.ShloMosaic
open scoped BigOperators

/-- One over the root of a row's mean square plus a millionth. -/
def scale (h : Fin 1024 → EReal) : EReal :=
  Ideal.rsqrt (Ideal.div (∑ k : Fin 1024, h k * h k) (Ideal.ofBits .f32 0x44800000#32) + Ideal.ofBits .f32 0x358637BD#32)

/-- A column of the normalised row, times its weight `g`, modulated by the shift `sh` and the scale `sc`. -/
def row (h g sh sc : Fin 1024 → EReal) (k : Fin 1024) : EReal :=
  h k * scale h * g k * (Ideal.ofBits .f32 0x3F800000#32 + sc k) + sh k

end Cert.Proof.Norm

end
-- ==== Proof.Q.Value.lean ====
/-
  The query projection over the extended reals: the call's result array, and its reference's, are the normalised,
  modulated stream times the weights, times the scale of the scores, head by head.
-/
module

public import proofs.«01_k».proof.Proof.Norm
public import proofs.«01_k».proof.Proof.Gen.KernelQ.Frame
public import proofs.«01_k».proof.Proof.Gen.KernelQIdeal.Value
public import proofs.«01_k».proof.Proof.Gen.ReferenceQIdeal.Run
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.ValueKit.Geometry

@[expose] public section

noncomputable section

namespace Cert.Proof.Q

open Cert.KernelQIdeal Cert.KernelQIdeal.Gen Cert.KernelQIdeal.Value
open Idealize.ShloMosaic Idealize.ShloMosaic.ValueIdx
open Idealize.ShloMosaic.TcCoe
open scoped BigOperators

/-- The column of the projection that holds entry `d` of head `j`. -/
def join (j : Fin 8) (d : Fin 128) : Fin 1024 := ⟨j.val * 128 + d.val, by omega⟩

/-- The factor the projection is multiplied by. -/
def factor : EReal := Ideal.ofBits .f32 0x3DB504F3#32

/-- An entry of the result. -/
def entry (h : S2x16384x1024.Idx → EReal) (g : S1x1024.Idx → EReal) (sh sc : S2x1x1024.Idx → EReal) (w : S1024x1024.Idx → EReal)
    (b : Fin 2) (j : Fin 8) (t : Fin 16384) (d : Fin 128) : EReal :=
  (∑ k : Fin 1024, Norm.row (fun k => h (ix3 b t k)) (fun k => g (ix2 (0 : Fin 1) k)) (fun k => sh (ix3 b (0 : Fin 1) k))
    (fun k => sc (ix3 b (0 : Fin 1) k)) k * w (ix2 k (join j d))) * factor

/-- The result array. -/
def G (h : S2x16384x1024.Idx → EReal) (g : S1x1024.Idx → EReal) (sh sc : S2x1x1024.Idx → EReal) (w : S1024x1024.Idx → EReal)
    (x : S2x8x16384x128.Idx) : EReal := entry h g sh sc w (x 0) (x 1) (x 2) (x 3)

/-! ### A block of the call -/

variable (v0 : Vec Ideal S1x512x1024 .f32) (v2 : Vec Ideal S1x1024 .f32) (v3 v5 : Vec Ideal S1x1x1024 .f32) (w : Vec Ideal S1024x1024 .bf16)

/-- A block as a matrix. -/
def mat : FVec Ideal S512x1024 .f32 := shapeCast S512x1024 v0 shapeCasts_S1x512x1024_S512x1024

/-- The block's rows' scales. -/
def scales : FVec Ideal S512x1 .f32 :=
  rsqrt (addf (divf (shapeCast S512x1 (multiReduction .add [1] S512 (mulf (mat v0) (mat v0)) 0x00000000#32 reduces_S512x1024_S512 (.inl rfl) rfl)
    shapeCasts_S512_S512x1) (broadcast S512x1 (Scalar.ofBits .f32 0x44800000#32))) (broadcast S512x1 (Scalar.ofBits .f32 0x358637BD#32)))

/-- The block normalised and modulated. -/
def normed : FVec Ideal S512x1024 .f32 :=
  addf (mulf (mulf (mulf (mat v0) (broadcastTo S512x1024 (scales v0) broadcasts_S512x1_S512x1024))
      (broadcastTo S512x1024 v2 broadcasts_S1x1024_S512x1024))
    (broadcastTo S512x1024 (addf (broadcast S1x1024 (Scalar.ofBits .f32 0x3F800000#32)) (shapeCast S1x1024 v5 shapeCasts_S1x1x1024_S1x1024))
      broadcasts_S1x1024_S512x1024))
    (broadcastTo S512x1024 (shapeCast S1x1024 v3 shapeCasts_S1x1x1024_S1x1024) broadcasts_S1x1024_S512x1024)

/-- A row's scale. -/
theorem scales_apply (r : Fin 512) : scales v0 (ix2 r (0 : Fin 1)) = Norm.scale fun k => v0 (ix3 (0 : Fin 1) r k) := by
  have e : shapeCast S512x1 (multiReduction .add [1] S512 (mulf (mat v0) (mat v0)) 0x00000000#32 reduces_S512x1024_S512 (.inl rfl) rfl)
      shapeCasts_S512_S512x1 (ix2 r (0 : Fin 1)) = ∑ k : Fin 1024, v0 (ix3 (0 : Fin 1) r k) * v0 (ix3 (0 : Fin 1) r k) := by
    refine (shapeCast_a_a1_apply _ _ r 0).trans ((Ideal.multiReduction_add_single _ _ _ _ _ _).trans ?_)
    refine Finset.sum_congr rfl fun k _ => ?_
    have hk : reduces_S512x1024_S512.lift (ix1 r) k = ix2 r (k : Fin 1024) :=
      funext fun a => Fin.ext (match a with | ⟨0, _⟩ => rfl | ⟨1, _⟩ => rfl)
    have hm : mat v0 (reduces_S512x1024_S512.lift (ix1 r) k) = v0 (ix3 (0 : Fin 1) r (k : Fin 1024)) :=
      (congrArg (mat v0) hk).trans (shapeCast_1ab_ab_apply v0 _ r k)
    exact congrArg₂ (fun u v : EReal => u * v) hm hm
  exact congrArg (fun z : EReal => Ideal.rsqrt (Ideal.div z (Ideal.ofBits .f32 0x44800000#32) + Ideal.ofBits .f32 0x358637BD#32)) e

/-- An entry of the block normalised and modulated. -/
theorem normed_apply (r : Fin 512) (k : Fin 1024) :
    normed v0 v2 v3 v5 (ix2 r k) = Norm.row (fun k => v0 (ix3 (0 : Fin 1) r k)) (fun k => v2 (ix2 (0 : Fin 1) k))
      (fun k => v3 (ix3 (0 : Fin 1) (0 : Fin 1) k)) (fun k => v5 (ix3 (0 : Fin 1) (0 : Fin 1) k)) k := by
  have e0 : mat v0 (ix2 r k) = v0 (ix3 (0 : Fin 1) r k) := shapeCast_1ab_ab_apply v0 _ r k
  have e1 : broadcastTo S512x1024 (scales v0) broadcasts_S512x1_S512x1024 (ix2 r k) = Norm.scale fun k => v0 (ix3 (0 : Fin 1) r k) :=
    (broadcastTo_apply _ _ _ (ix2 r (0 : Fin 1)) fun a => match a with | ⟨0, _⟩ => rfl | ⟨1, _⟩ => rfl).trans (scales_apply v0 r)
  have e2 : broadcastTo S512x1024 v2 broadcasts_S1x1024_S512x1024 (ix2 r k) = v2 (ix2 (0 : Fin 1) k) := broadcastTo_1b_ab_apply v2 _ r k
  have e3 : broadcastTo S512x1024 (addf (broadcast S1x1024 (Scalar.ofBits .f32 0x3F800000#32)) (shapeCast S1x1024 v5 shapeCasts_S1x1x1024_S1x1024))
      broadcasts_S1x1024_S512x1024 (ix2 r k) = Ideal.ofBits .f32 0x3F800000#32 + v5 (ix3 (0 : Fin 1) (0 : Fin 1) k) :=
    (broadcastTo_1b_ab_apply _ _ r k).trans (congrArg (fun z : EReal => Ideal.ofBits .f32 0x3F800000#32 + z) (shapeCast_1ab_ab_apply v5 _ (0 : Fin 1) k))
  have e4 : broadcastTo S512x1024 (shapeCast S1x1024 v3 shapeCasts_S1x1x1024_S1x1024) broadcasts_S1x1024_S512x1024 (ix2 r k)
      = v3 (ix3 (0 : Fin 1) (0 : Fin 1) k) := (broadcastTo_1b_ab_apply _ _ r k).trans (shapeCast_1ab_ab_apply v3 _ (0 : Fin 1) k)
  exact congrArg₂ (fun u v : EReal => u + v) (congrArg₂ (fun u v : EReal => u * v)
    (congrArg₂ (fun u v : EReal => u * v) (congrArg₂ (fun u v : EReal => u * v) e0 e1) e2) e3) e4

/-- An entry of the projected block. -/
theorem product_apply (r : Fin 512) (n : Fin 1024) :
    k0_pay2 v0 v2 v3 v5 w (ix2 r n) = (∑ k : Fin 1024, Norm.row (fun k => v0 (ix3 (0 : Fin 1) r k)) (fun k => v2 (ix2 (0 : Fin 1) k))
      (fun k => v3 (ix3 (0 : Fin 1) (0 : Fin 1) k)) (fun k => v5 (ix3 (0 : Fin 1) (0 : Fin 1) k)) k * w (ix2 k n)) * factor := by
  refine congrArg (fun z : EReal => z * factor) ((Ideal.matmul_plain_apply none (truncf .bf16 (normed v0 v2 v3 v5) bitsLt_bf16_f32) w
    (constant S512x1024 .f32 0x00000000#32) r n).trans ?_)
  rw [constant_apply, Ideal.ofBits_zero_f32, zero_add]
  exact Finset.sum_congr rfl fun k _ => congrArg (fun z : EReal => z * w (ix2 k n)) (normed_apply v0 v2 v3 v5 r k)

/-- What a grid point leaves at a head, row and column of its block. -/
theorem out_apply (j : Fin 8) (r : Fin 512) (d : Fin 128) :
    out0_5 v0 v2 v3 v5 w (ix4 (0 : Fin 1) j r d)
      = (∑ k : Fin 1024, Norm.row (fun k => v0 (ix3 (0 : Fin 1) r k)) (fun k => v2 (ix2 (0 : Fin 1) k))
      (fun k => v3 (ix3 (0 : Fin 1) (0 : Fin 1) k)) (fun k => v5 (ix3 (0 : Fin 1) (0 : Fin 1) k)) k * w (ix2 k (join j d))) * factor := by
  have z : ∀ i : ℕ, 0 + 1 * i = i := fun i => by omega
  have e0 : View.ld v0 r0_0 = v0 := funext fun y => congrArg v0 (funext fun a => Fin.ext (match a with | ⟨0, _⟩ => z _ | ⟨1, _⟩ => z _ | ⟨2, _⟩ => z _))
  have e1 : View.ld v2 r0_1 = v2 := funext fun y => congrArg v2 (funext fun a => Fin.ext (match a with | ⟨0, _⟩ => z _ | ⟨1, _⟩ => z _))
  have e2 : View.ld v3 r0_2 = v3 := funext fun y => congrArg v3 (funext fun a => Fin.ext (match a with | ⟨0, _⟩ => z _ | ⟨1, _⟩ => z _ | ⟨2, _⟩ => z _))
  have e3 : View.ld v5 r0_2 = v5 := funext fun y => congrArg v5 (funext fun a => Fin.ext (match a with | ⟨0, _⟩ => z _ | ⟨1, _⟩ => z _ | ⟨2, _⟩ => z _))
  have e4 : View.ld w r0_3 = w := funext fun y => congrArg w (funext fun a => Fin.ext (match a with | ⟨0, _⟩ => z _ | ⟨1, _⟩ => z _))
  have e5 : ix5_0 (ix4 (0 : Fin 1) j r d) = ix2 r (join j d) := funext fun a => Fin.ext (match a with | ⟨0, _⟩ => rfl | ⟨1, _⟩ => rfl)
  unfold_out out0_5
  rw [e0, e1, e2, e3, e4]
  refine (canon5_eq v0 v2 v3 v5 w _).trans ?_
  exact (congrArg (k0_pay2 v0 v2 v3 v5 w) e5).trans (product_apply v0 v2 v3 v5 w r (join j d))

/-! ### Blocks of the arrays -/

/-- The block of the stream of a step. -/
theorem index_0 : ∀ t : Fin cfg0.N, win0_0.index t = ![(grid0.coords t 0).val, (grid0.coords t 1).val, 0] :=
  (by decide +kernel : ∀ t : Fin grid0.N, _)
/-- All the norm's weights. -/
theorem index_1 : ∀ t : Fin cfg0.N, win0_1.index t = ![0, 0] :=
  (by decide +kernel : ∀ t : Fin grid0.N, _)
/-- The shifts of a step's batch. -/
theorem index_2 : ∀ t : Fin cfg0.N, win0_2.index t = ![(grid0.coords t 0).val, 0, 0] :=
  (by decide +kernel : ∀ t : Fin grid0.N, _)
/-- The scales of a step's batch. -/
theorem index_3 : ∀ t : Fin cfg0.N, win0_3.index t = ![(grid0.coords t 0).val, 0, 0] :=
  (by decide +kernel : ∀ t : Fin grid0.N, _)
/-- All the projection's weights. -/
theorem index_4 : ∀ t : Fin cfg0.N, win0_4.index t = ![0, 0] :=
  (by decide +kernel : ∀ t : Fin grid0.N, _)
/-- The block of results of a step. -/
theorem index_5 : ∀ t : Fin cfg0.N, win0_5.index t = ![(grid0.coords t 0).val, 0, (grid0.coords t 1).val, 0] :=
  (by decide +kernel : ∀ t : Fin grid0.N, _)

variable (m : (ℓ : Loc nD τ sig) → Buf (Elt Ideal) ℓ) (c : Dev nD)

/-- An entry of a step's stream is an entry of the stream. -/
theorem h_apply (t : Fin cfg0.N) (r : Fin 512) (n : Fin 1024) (b : Fin 2) (s : Fin 16384)
    (hb : b.val = (grid0.coords t 0).val) (hs : s.val = (grid0.coords t 1).val * 512 + r.val) :
    iblk m c 0 t (ix3 (0 : Fin 1) r n) = m ((c.tc : Thread nD τ).loc main_arg0) (ix3 b s n) := by
  unfold iblk
  blk_ext [index_0 t]
  · exact hb.symm
  · exact hs.symm

/-- An entry of a step's norm weights. -/
theorem g_apply (t : Fin cfg0.N) (n : Fin 1024) :
    iblk m c 1 t (ix2 (0 : Fin 1) n) = m ((c.tc : Thread nD τ).loc main_arg1) (ix2 (0 : Fin 1) n) := by
  unfold iblk
  blk_ext [index_1 t]

/-- An entry of a step's shifts. -/
theorem sh_apply (t : Fin cfg0.N) (n : Fin 1024) (b : Fin 2) (hb : b.val = (grid0.coords t 0).val) :
    iblk m c 2 t (ix3 (0 : Fin 1) (0 : Fin 1) n) = m ((c.tc : Thread nD τ).loc main_arg2) (ix3 b (0 : Fin 1) n) := by
  unfold iblk
  blk_ext [index_2 t]
  · exact hb.symm

/-- An entry of a step's scales. -/
theorem sc_apply (t : Fin cfg0.N) (n : Fin 1024) (b : Fin 2) (hb : b.val = (grid0.coords t 0).val) :
    iblk m c 3 t (ix3 (0 : Fin 1) (0 : Fin 1) n) = m ((c.tc : Thread nD τ).loc main_arg3) (ix3 b (0 : Fin 1) n) := by
  unfold iblk
  blk_ext [index_3 t]
  · exact hb.symm

/-- An entry of a step's projection weights. -/
theorem w_apply (t : Fin cfg0.N) (k n : Fin 1024) :
    iblk m c 4 t (ix2 k n) = m ((c.tc : Thread nD τ).loc main_arg4) (ix2 k n) := by
  unfold iblk
  blk_ext [index_4 t]

/-- What a step leaves at a head, row and column of its block is the entry of the result there. -/
theorem block_apply (t : Fin cfg0.N) (j : Fin 8) (r : Fin 512) (d : Fin 128) (b : Fin 2) (s : Fin 16384)
    (hb : b.val = (grid0.coords t 0).val) (hs : s.val = (grid0.coords t 1).val * 512 + r.val) :
    out0_5 (iblk m c 0 t) (iblk m c 1 t) (iblk m c 2 t) (iblk m c 3 t) (iblk m c 4 t) (ix4 (0 : Fin 1) j r d)
      = entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) b j s d := by
  refine (out_apply _ _ _ _ _ _ _ _).trans ?_
  unfold entry
  have e0 := funext fun k => h_apply m c t r k b s hb hs
  have e1 := funext fun k => g_apply m c t k
  have e2 := funext fun k => sh_apply m c t k b hb
  have e3 := funext fun k => sc_apply m c t k b hb
  refine congrArg (fun z : EReal => z * factor) (Finset.sum_congr rfl fun k _ => congrArg₂ (fun u v : EReal => u * v) ?_ (w_apply m c t k _))
  exact (congrArg (fun z : Fin 1024 → EReal => Norm.row z _ _ _ k) e0).trans ((congrArg (fun z : Fin 1024 → EReal => Norm.row _ z _ _ k) e1).trans
    ((congrArg (fun z : Fin 1024 → EReal => Norm.row _ _ z _ k) e2).trans (congrArg (fun z : Fin 1024 → EReal => Norm.row _ _ _ z k) e3)))

/-- The result array after the run. -/
theorem final : (dats m 0 c).arrAt 5 cfg0.N
    = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 5 _ (by decide +kernel) fun t hf y => ?_
  blk_simp
  rw [after0_5]
  have hy : y = ix4 (0 : Fin 1) (y 1 : Fin 8) (y 2 : Fin 512) (y 3 : Fin 128) :=
    (eq_ix4 (n0 := 1) (n1 := 8) (n2 := 512) (n3 := 128) y).trans (congrArg (fun z => ix4 z _ _ _) (Subsingleton.elim (α := Fin 1) _ _))
  have e0 : (((win0_5.blk t).view.emb y 0 : Fin 2)).val = (grid0.coords t 0).val := by
    blk_simp [index_5 t]
  have e1 : ((win0_5.blk t).view.emb y 1 : Fin 8) = (y 1 : Fin 8) := Fin.ext (by
    blk_simp [index_5 t])
  have e2 : (((win0_5.blk t).view.emb y 2 : Fin 16384)).val = (grid0.coords t 1).val * 512 + (y 2 : Fin 512).val := by
    blk_simp [index_5 t]
  have e3 : ((win0_5.blk t).view.emb y 3 : Fin 128) = (y 3 : Fin 128) := Fin.ext (by
    blk_simp [index_5 t])
  refine (congrArg (out0_5 _ _ _ _ _) hy).trans ((block_apply m c t _ _ _ _ _ e0 e2).trans ?_)
  unfold G
  exact congrArg₂ (fun u v => entry _ _ _ _ _ _ u _ v) e1.symm e3.symm

end Cert.Proof.Q

/-! ### The reference -/

namespace Cert.Proof.Q

open Cert.ReferenceQIdeal Cert.ReferenceQIdeal.Gen
open Idealize.ShloMosaic Idealize.ShloMosaic.ValueIdx
open scoped BigOperators

variable (h : FVec Ideal S2x16384x1024 .f32) (g : FVec Ideal S1x1024 .f32) (sh sc : FVec Ideal S2x1x1024 .f32) (w : FVec Ideal S1024x1024 .bf16)

/-- The reference's scales of all rows. -/
def rscales : FVec Ideal S2x16384x1 .f32 :=
  Host.rsqrt (addf (Host.divf (broadcastInDim S2x16384x1 ![0, 1] bcast_S2x16384_S2x16384x1_0_1
      (Host.reduceAdd (mulf h h) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32)))

/-- The reference's stream, normalised and modulated. -/
def rnormed : FVec Ideal S2x16384x1024 .f32 :=
  addf (mulf (mulf (mulf h (broadcastInDim S2x16384x1024 ![0, 1, 2] bcast_S2x16384x1_S2x16384x1024_0_1_2 (rscales h)))
      (broadcastInDim S2x16384x1024 ![0, 1, 2] bcast_S1x1x1024_S2x16384x1024_0_1_2 (broadcastInDim S1x1x1024 ![1, 2] bcast_S1x1024_S1x1x1024_1_2 g)))
    (broadcastInDim S2x16384x1024 ![0, 1, 2] bcast_S2x1x1024_S2x16384x1024_0_1_2
      (addf (broadcastInDim S2x1x1024 ![] bcast_S_S2x1x1024 (constant S_ .f32 0x3F800000#32)) sc)))
    (broadcastInDim S2x16384x1024 ![0, 1, 2] bcast_S2x1x1024_S2x16384x1024_0_1_2 sh)

/-- The reference's projection. -/
def rproduct : FVec Ideal S2x16384x1024 .f32 :=
  Host.dotGeneral dot_S2x16384x1024_S1024x1024_S2x16384x1024_2_0_01_1_n_n none (rnormed h g sh sc) (extf .f32 w bitsLt_bf16_f32)

/-- The reference's result. -/
def out : FVec Ideal S2x8x16384x128 .bf16 :=
  truncf .bf16 (mulf (transpose S2x8x16384x128 [0, 2, 1, 3] (shapeCast _ (rproduct h g sh sc w) shapeCasts_S2x16384x1024_S2x16384x8x128)
    transposes_S2x16384x8x128_S2x8x16384x128_0_2_1_3) (broadcastInDim S2x8x16384x128 ![] bcast_S_S2x8x16384x128 (constant S_ .f32 0x3DB504F3#32)))
    bitsLt_bf16_f32

/-- Summing the last axis away. -/
theorem reduces : S2x16384x1024.Reduces [2] S2x16384 := by decide

/-- A row's scale in the reference. -/
theorem rscales_apply (b : Fin 2) (t : Fin 16384) : rscales h (ix3 b t (0 : Fin 1)) = Norm.scale fun k => h (ix3 b t k) := by
  have e : broadcastInDim S2x16384x1 ![0, 1] bcast_S2x16384_S2x16384x1_0_1
      (Host.reduceAdd (mulf h h) (constant S_ .f32 0x00000000#32) reducesTo_S2x16384x1024_S2x16384_d2 h_S_) (ix3 b t (0 : Fin 1))
      = ∑ k : Fin 1024, h (ix3 b t k) * h (ix3 b t k) := by
    refine (broadcastInDim_apply _ _ _ _ (ix2 b t) (fun i => match i with | ⟨0, _⟩ => rfl | ⟨1, _⟩ => rfl)).trans ?_
    rw [hostReduceAdd_apply, Ideal.hostReduceAdd_single _ reduces, constant_apply, Ideal.ofBits_zero_f32, zero_add]
    refine Finset.sum_congr rfl fun k _ => ?_
    have hk : reduces.lift (ix2 b t) k = ix3 b t (k : Fin 1024) :=
      funext fun a => Fin.ext (match a with | ⟨0, _⟩ => rfl | ⟨1, _⟩ => rfl | ⟨2, _⟩ => rfl)
    exact congrArg (fun i => h i * h i) hk
  exact congrArg (fun z : EReal => Ideal.rsqrt (Ideal.div z (Ideal.ofBits .f32 0x44800000#32) + Ideal.ofBits .f32 0x358637BD#32)) e

/-- An entry of the reference's normalised, modulated stream. -/
theorem rnormed_apply (b : Fin 2) (t : Fin 16384) (k : Fin 1024) :
    rnormed h g sh sc (ix3 b t k) = Norm.row (fun k => h (ix3 b t k)) (fun k => g (ix2 (0 : Fin 1) k)) (fun k => sh (ix3 b (0 : Fin 1) k))
      (fun k => sc (ix3 b (0 : Fin 1) k)) k := by
  have e1 : broadcastInDim S2x16384x1024 ![0, 1, 2] bcast_S2x16384x1_S2x16384x1024_0_1_2 (rscales h) (ix3 b t k)
      = Norm.scale fun k => h (ix3 b t k) :=
    (broadcastInDim_apply _ _ _ _ (ix3 b t (0 : Fin 1)) (fun i => match i with | ⟨0, _⟩ => rfl | ⟨1, _⟩ => rfl | ⟨2, _⟩ => rfl)).trans (rscales_apply h b t)
  have e2 : broadcastInDim S2x16384x1024 ![0, 1, 2] bcast_S1x1x1024_S2x16384x1024_0_1_2 (broadcastInDim S1x1x1024 ![1, 2] bcast_S1x1024_S1x1x1024_1_2 g)
      (ix3 b t k) = g (ix2 (0 : Fin 1) k) :=
    (broadcastInDim_apply _ _ _ _ (ix3 (0 : Fin 1) (0 : Fin 1) k) (fun i => match i with | ⟨0, _⟩ => rfl | ⟨1, _⟩ => rfl | ⟨2, _⟩ => rfl)).trans
      (broadcastInDim_apply _ _ _ _ (ix2 (0 : Fin 1) k) (fun i => match i with | ⟨0, _⟩ => rfl | ⟨1, _⟩ => rfl))
  have e3 : ∀ x : FVec Ideal S2x1x1024 .f32, broadcastInDim S2x16384x1024 ![0, 1, 2] bcast_S2x1x1024_S2x16384x1024_0_1_2 x (ix3 b t k)
      = x (ix3 b (0 : Fin 1) k) := fun x =>
    broadcastInDim_apply _ _ _ _ _ (fun i => match i with | ⟨0, _⟩ => rfl | ⟨1, _⟩ => rfl | ⟨2, _⟩ => rfl)
  exact congrArg₂ (fun u v : EReal => u + v) (congrArg₂ (fun u v : EReal => u * v)
    (congrArg₂ (fun u v : EReal => u * v) (congrArg (fun v : EReal => h (ix3 b t k) * v) e1) e2) (e3 _)) (e3 sh)

/-- An entry of the reference's projection. -/
theorem rproduct_apply (b : Fin 2) (t : Fin 16384) (n : Fin 1024) :
    rproduct h g sh sc w (ix3 b t n) = ∑ k : Fin 1024, Norm.row (fun k => h (ix3 b t k)) (fun k => g (ix2 (0 : Fin 1) k))
      (fun k => sh (ix3 b (0 : Fin 1) k)) (fun k => sc (ix3 b (0 : Fin 1) k)) k * w (ix2 k n) := by
  unfold rproduct
  simp only [Host.dotGeneral]
  rw [Ideal.dotGeneral_apply, ← Equiv.sum_comp (contrEquiv1 dot_S2x16384x1024_S1024x1024_S2x16384x1024_2_0_01_1_n_n 1024 rfl rfl).symm]
  refine Finset.sum_congr rfl fun k _ => ?_
  have hk := contrEquiv1_symm_val dot_S2x16384x1024_S1024x1024_S2x16384x1024_2_0_01_1_n_n 1024 rfl rfl k
  have el : dot_S2x16384x1024_S1024x1024_S2x16384x1024_2_0_01_1_n_n.lhsIdx (ix3 b t n)
      ((contrEquiv1 dot_S2x16384x1024_S1024x1024_S2x16384x1024_2_0_01_1_n_n 1024 rfl rfl).symm k) = ix3 b t k :=
    funext fun i => Fin.ext (match i with | ⟨0, _⟩ => rfl | ⟨1, _⟩ => rfl | ⟨2, _⟩ => hk)
  have er : dot_S2x16384x1024_S1024x1024_S2x16384x1024_2_0_01_1_n_n.rhsIdx (ix3 b t n)
      ((contrEquiv1 dot_S2x16384x1024_S1024x1024_S2x16384x1024_2_0_01_1_n_n 1024 rfl rfl).symm k) = ix2 k n :=
    funext fun i => Fin.ext (match i with | ⟨0, _⟩ => hk | ⟨1, _⟩ => rfl)
  exact congrArg₂ (fun u v : EReal => u * v) ((congrArg (rnormed h g sh sc) el).trans (rnormed_apply h g sh sc b t k)) (congrArg w er)

/-- The reference's result is the call's. -/
theorem out_eq : out h g sh sc w = G h g sh sc w := by
  funext x
  obtain ⟨b, j, t, d, rfl⟩ : ∃ (b : Fin 2) (j : Fin 8) (t : Fin 16384) (d : Fin 128), x = ix4 b j t d := ⟨x 0, x 1, x 2, x 3, eq_ix4 x⟩
  refine congrArg (fun z : EReal => z * factor) ((transpose_apply _ _ _ _ (ix4 b t j d) ?_).trans
    ((shapeCast_apply _ _ _ (ix3 b t (join j d)) ?_).trans (rproduct_apply h g sh sc w b t (join j d))))
  · intro i
    match i with
    | ⟨0, _⟩ => rfl
    | ⟨1, _⟩ => rfl
    | ⟨2, _⟩ => rfl
    | ⟨3, _⟩ => rfl
  · rw [Shape.rowMajor_val_four, Shape.rowMajor_val_three]
    show (b.val * 16384 + t.val) * 1024 + (j.val * 128 + d.val) = ((b.val * 16384 + t.val) * 8 + j.val) * 128 + d.val
    omega

end Cert.Proof.Q

end
-- ==== Proof.Kv.Value.lean ====
/-
  The projection to keys and values over the extended reals: the call's result array, and its reference's, are the normalised,
  modulated stream times the weights, head by head.
-/
module

public import proofs.«01_k».proof.Proof.Norm
public import proofs.«01_k».proof.Proof.Gen.KernelKv.Frame
public import proofs.«01_k».proof.Proof.Gen.KernelKvIdeal.Value
public import proofs.«01_k».proof.Proof.Gen.ReferenceKvIdeal.Run
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.ValueKit.Geometry

@[expose] public section

noncomputable section

namespace Cert.Proof.Kv

open Cert.KernelKvIdeal Cert.KernelKvIdeal.Gen Cert.KernelKvIdeal.Value
open Idealize.ShloMosaic Idealize.ShloMosaic.ValueIdx
open Idealize.ShloMosaic.TcCoe
open scoped BigOperators

/-- The column of the projection that holds entry `d` of head `j`. -/
def join (j : Fin 16) (d : Fin 128) : Fin 2048 := ⟨j.val * 128 + d.val, by omega⟩

/-- An entry of the result. -/
def entry (h : S2x16384x1024.Idx → EReal) (g : S1x1024.Idx → EReal) (sh sc : S2x1x1024.Idx → EReal) (w : S1024x2048.Idx → EReal)
    (b : Fin 2) (j : Fin 16) (t : Fin 16384) (d : Fin 128) : EReal :=
  ∑ k : Fin 1024, Norm.row (fun k => h (ix3 b t k)) (fun k => g (ix2 (0 : Fin 1) k)) (fun k => sh (ix3 b (0 : Fin 1) k))
    (fun k => sc (ix3 b (0 : Fin 1) k)) k * w (ix2 k (join j d))

/-- The result array. -/
def G (h : S2x16384x1024.Idx → EReal) (g : S1x1024.Idx → EReal) (sh sc : S2x1x1024.Idx → EReal) (w : S1024x2048.Idx → EReal)
    (x : S2x16x16384x128.Idx) : EReal := entry h g sh sc w (x 0) (x 1) (x 2) (x 3)

/-! ### A block of the call -/

variable (v0 : Vec Ideal S1x512x1024 .f32) (v2 : Vec Ideal S1x1024 .f32) (v3 v5 : Vec Ideal S1x1x1024 .f32) (w : Vec Ideal S1024x2048 .bf16)

/-- A block as a matrix. -/
def mat : FVec Ideal S512x1024 .f32 := shapeCast S512x1024 v0 shapeCasts_S1x512x1024_S512x1024

/-- The block's rows' scales. -/
def scales : FVec Ideal S512x1 .f32 :=
  rsqrt (addf (divf (shapeCast S512x1 (multiReduction .add [1] S512 (mulf (mat v0) (mat v0)) 0x00000000#32 reduces_S512x1024_S512 (.inl rfl) rfl)
    shapeCasts_S512_S512x1) (broadcast S512x1 (Scalar.ofBits .f32 0x44800000#32))) (broadcast S512x1 (Scalar.ofBits .f32 0x358637BD#32)))

/-- The block normalised and modulated. -/
def normed : FVec Ideal S512x1024 .f32 :=
  addf (mulf (mulf (mulf (mat v0) (broadcastTo S512x1024 (scales v0) broadcasts_S512x1_S512x1024))
      (broadcastTo S512x1024 v2 broadcasts_S1x1024_S512x1024))
    (broadcastTo S512x1024 (addf (broadcast S1x1024 (Scalar.ofBits .f32 0x3F800000#32)) (shapeCast S1x1024 v5 shapeCasts_S1x1x1024_S1x1024))
      broadcasts_S1x1024_S512x1024))
    (broadcastTo S512x1024 (shapeCast S1x1024 v3 shapeCasts_S1x1x1024_S1x1024) broadcasts_S1x1024_S512x1024)

/-- A row's scale. -/
theorem scales_apply (r : Fin 512) : scales v0 (ix2 r (0 : Fin 1)) = Norm.scale fun k => v0 (ix3 (0 : Fin 1) r k) := by
  have e : shapeCast S512x1 (multiReduction .add [1] S512 (mulf (mat v0) (mat v0)) 0x00000000#32 reduces_S512x1024_S512 (.inl rfl) rfl)
      shapeCasts_S512_S512x1 (ix2 r (0 : Fin 1)) = ∑ k : Fin 1024, v0 (ix3 (0 : Fin 1) r k) * v0 (ix3 (0 : Fin 1) r k) := by
    refine (shapeCast_a_a1_apply _ _ r 0).trans ((Ideal.multiReduction_add_single _ _ _ _ _ _).trans ?_)
    refine Finset.sum_congr rfl fun k _ => ?_
    have hk : reduces_S512x1024_S512.lift (ix1 r) k = ix2 r (k : Fin 1024) :=
      funext fun a => Fin.ext (match a with | ⟨0, _⟩ => rfl | ⟨1, _⟩ => rfl)
    have hm : mat v0 (reduces_S512x1024_S512.lift (ix1 r) k) = v0 (ix3 (0 : Fin 1) r (k : Fin 1024)) :=
      (congrArg (mat v0) hk).trans (shapeCast_1ab_ab_apply v0 _ r k)
    exact congrArg₂ (fun u v : EReal => u * v) hm hm
  exact congrArg (fun z : EReal => Ideal.rsqrt (Ideal.div z (Ideal.ofBits .f32 0x44800000#32) + Ideal.ofBits .f32 0x358637BD#32)) e

/-- An entry of the block normalised and modulated. -/
theorem normed_apply (r : Fin 512) (k : Fin 1024) :
    normed v0 v2 v3 v5 (ix2 r k) = Norm.row (fun k => v0 (ix3 (0 : Fin 1) r k)) (fun k => v2 (ix2 (0 : Fin 1) k))
      (fun k => v3 (ix3 (0 : Fin 1) (0 : Fin 1) k)) (fun k => v5 (ix3 (0 : Fin 1) (0 : Fin 1) k)) k := by
  have e0 : mat v0 (ix2 r k) = v0 (ix3 (0 : Fin 1) r k) := shapeCast_1ab_ab_apply v0 _ r k
  have e1 : broadcastTo S512x1024 (scales v0) broadcasts_S512x1_S512x1024 (ix2 r k) = Norm.scale fun k => v0 (ix3 (0 : Fin 1) r k) :=
    (broadcastTo_apply _ _ _ (ix2 r (0 : Fin 1)) fun a => match a with | ⟨0, _⟩ => rfl | ⟨1, _⟩ => rfl).trans (scales_apply v0 r)
  have e2 : broadcastTo S512x1024 v2 broadcasts_S1x1024_S512x1024 (ix2 r k) = v2 (ix2 (0 : Fin 1) k) := broadcastTo_1b_ab_apply v2 _ r k
  have e3 : broadcastTo S512x1024 (addf (broadcast S1x1024 (Scalar.ofBits .f32 0x3F800000#32)) (shapeCast S1x1024 v5 shapeCasts_S1x1x1024_S1x1024))
      broadcasts_S1x1024_S512x1024 (ix2 r k) = Ideal.ofBits .f32 0x3F800000#32 + v5 (ix3 (0 : Fin 1) (0 : Fin 1) k) :=
    (broadcastTo_1b_ab_apply _ _ r k).trans (congrArg (fun z : EReal => Ideal.ofBits .f32 0x3F800000#32 + z) (shapeCast_1ab_ab_apply v5 _ (0 : Fin 1) k))
  have e4 : broadcastTo S512x1024 (shapeCast S1x1024 v3 shapeCasts_S1x1x1024_S1x1024) broadcasts_S1x1024_S512x1024 (ix2 r k)
      = v3 (ix3 (0 : Fin 1) (0 : Fin 1) k) := (broadcastTo_1b_ab_apply _ _ r k).trans (shapeCast_1ab_ab_apply v3 _ (0 : Fin 1) k)
  exact congrArg₂ (fun u v : EReal => u + v) (congrArg₂ (fun u v : EReal => u * v)
    (congrArg₂ (fun u v : EReal => u * v) (congrArg₂ (fun u v : EReal => u * v) e0 e1) e2) e3) e4

/-- An entry of the projected block. -/
theorem product_apply (r : Fin 512) (n : Fin 2048) :
    k0_pay4 v0 v2 v3 v5 w (ix2 r n) = ∑ k : Fin 1024, Norm.row (fun k => v0 (ix3 (0 : Fin 1) r k)) (fun k => v2 (ix2 (0 : Fin 1) k))
      (fun k => v3 (ix3 (0 : Fin 1) (0 : Fin 1) k)) (fun k => v5 (ix3 (0 : Fin 1) (0 : Fin 1) k)) k * w (ix2 k n) := by
  refine (Ideal.matmul_plain_apply none (truncf .bf16 (normed v0 v2 v3 v5) bitsLt_bf16_f32) w
    (constant S512x2048 .f32 0x00000000#32) r n).trans ?_
  rw [constant_apply, Ideal.ofBits_zero_f32, zero_add]
  exact Finset.sum_congr rfl fun k _ => congrArg (fun z : EReal => z * w (ix2 k n)) (normed_apply v0 v2 v3 v5 r k)

/-- What a grid point leaves at a head, row and column of its block. -/
theorem out_apply (j : Fin 16) (r : Fin 512) (d : Fin 128) :
    out0_5 v0 v2 v3 v5 w (ix4 (0 : Fin 1) j r d)
      = ∑ k : Fin 1024, Norm.row (fun k => v0 (ix3 (0 : Fin 1) r k)) (fun k => v2 (ix2 (0 : Fin 1) k))
      (fun k => v3 (ix3 (0 : Fin 1) (0 : Fin 1) k)) (fun k => v5 (ix3 (0 : Fin 1) (0 : Fin 1) k)) k * w (ix2 k (join j d)) := by
  have z : ∀ i : ℕ, 0 + 1 * i = i := fun i => by omega
  have e0 : View.ld v0 r0_0 = v0 := funext fun y => congrArg v0 (funext fun a => Fin.ext (match a with | ⟨0, _⟩ => z _ | ⟨1, _⟩ => z _ | ⟨2, _⟩ => z _))
  have e1 : View.ld v2 r0_1 = v2 := funext fun y => congrArg v2 (funext fun a => Fin.ext (match a with | ⟨0, _⟩ => z _ | ⟨1, _⟩ => z _))
  have e2 : View.ld v3 r0_2 = v3 := funext fun y => congrArg v3 (funext fun a => Fin.ext (match a with | ⟨0, _⟩ => z _ | ⟨1, _⟩ => z _ | ⟨2, _⟩ => z _))
  have e3 : View.ld v5 r0_2 = v5 := funext fun y => congrArg v5 (funext fun a => Fin.ext (match a with | ⟨0, _⟩ => z _ | ⟨1, _⟩ => z _ | ⟨2, _⟩ => z _))
  have e4 : View.ld w r0_3 = w := funext fun y => congrArg w (funext fun a => Fin.ext (match a with | ⟨0, _⟩ => z _ | ⟨1, _⟩ => z _))
  have e5 : ix5_0 (ix4 (0 : Fin 1) j r d) = ix2 r (join j d) := funext fun a => Fin.ext (match a with | ⟨0, _⟩ => rfl | ⟨1, _⟩ => rfl)
  unfold_out out0_5
  rw [e0, e1, e2, e3, e4]
  refine (canon5_eq v0 v2 v3 v5 w _).trans ?_
  exact (congrArg (k0_pay4 v0 v2 v3 v5 w) e5).trans (product_apply v0 v2 v3 v5 w r (join j d))

/-! ### Blocks of the arrays -/

/-- The block of the stream of a step. -/
theorem index_0 : ∀ t : Fin cfg0.N, win0_0.index t = ![(grid0.coords t 0).val, (grid0.coords t 1).val, 0] :=
  (by decide +kernel : ∀ t : Fin grid0.N, _)
/-- All the norm's weights. -/
theorem index_1 : ∀ t : Fin cfg0.N, win0_1.index t = ![0, 0] :=
  (by decide +kernel : ∀ t : Fin grid0.N, _)
/-- The shifts of a step's batch. -/
theorem index_2 : ∀ t : Fin cfg0.N, win0_2.index t = ![(grid0.coords t 0).val, 0, 0] :=
  (by decide +kernel : ∀ t : Fin grid0.N, _)
/-- The scales of a step's batch. -/
theorem index_3 : ∀ t : Fin cfg0.N, win0_3.index t = ![(grid0.coords t 0).val, 0, 0] :=
  (by decide +kernel : ∀ t : Fin grid0.N, _)
/-- All the projection's weights. -/
theorem index_4 : ∀ t : Fin cfg0.N, win0_4.index t = ![0, 0] :=
  (by decide +kernel : ∀ t : Fin grid0.N, _)
/-- The block of results of a step. -/
theorem index_5 : ∀ t : Fin cfg0.N, win0_5.index t = ![(grid0.coords t 0).val, 0, (grid0.coords t 1).val, 0] :=
  (by decide +kernel : ∀ t : Fin grid0.N, _)

variable (m : (ℓ : Loc nD τ sig) → Buf (Elt Ideal) ℓ) (c : Dev nD)

/-- An entry of a step's stream is an entry of the stream. -/
theorem h_apply (t : Fin cfg0.N) (r : Fin 512) (n : Fin 1024) (b : Fin 2) (s : Fin 16384)
    (hb : b.val = (grid0.coords t 0).val) (hs : s.val = (grid0.coords t 1).val * 512 + r.val) :
    iblk m c 0 t (ix3 (0 : Fin 1) r n) = m ((c.tc : Thread nD τ).loc main_arg0) (ix3 b s n) := by
  unfold iblk
  blk_ext [index_0 t]
  · exact hb.symm
  · exact hs.symm

/-- An entry of a step's norm weights. -/
theorem g_apply (t : Fin cfg0.N) (n : Fin 1024) :
    iblk m c 1 t (ix2 (0 : Fin 1) n) = m ((c.tc : Thread nD τ).loc main_arg1) (ix2 (0 : Fin 1) n) := by
  unfold iblk
  blk_ext [index_1 t]

/-- An entry of a step's shifts. -/
theorem sh_apply (t : Fin cfg0.N) (n : Fin 1024) (b : Fin 2) (hb : b.val = (grid0.coords t 0).val) :
    iblk m c 2 t (ix3 (0 : Fin 1) (0 : Fin 1) n) = m ((c.tc : Thread nD τ).loc main_arg2) (ix3 b (0 : Fin 1) n) := by
  unfold iblk
  blk_ext [index_2 t]
  · exact hb.symm

/-- An entry of a step's scales. -/
theorem sc_apply (t : Fin cfg0.N) (n : Fin 1024) (b : Fin 2) (hb : b.val = (grid0.coords t 0).val) :
    iblk m c 3 t (ix3 (0 : Fin 1) (0 : Fin 1) n) = m ((c.tc : Thread nD τ).loc main_arg3) (ix3 b (0 : Fin 1) n) := by
  unfold iblk
  blk_ext [index_3 t]
  · exact hb.symm

/-- An entry of a step's projection weights. -/
theorem w_apply (t : Fin cfg0.N) (k : Fin 1024) (n : Fin 2048) :
    iblk m c 4 t (ix2 k n) = m ((c.tc : Thread nD τ).loc main_arg4) (ix2 k n) := by
  unfold iblk
  blk_ext [index_4 t]

/-- What a step leaves at a head, row and column of its block is the entry of the result there. -/
theorem block_apply (t : Fin cfg0.N) (j : Fin 16) (r : Fin 512) (d : Fin 128) (b : Fin 2) (s : Fin 16384)
    (hb : b.val = (grid0.coords t 0).val) (hs : s.val = (grid0.coords t 1).val * 512 + r.val) :
    out0_5 (iblk m c 0 t) (iblk m c 1 t) (iblk m c 2 t) (iblk m c 3 t) (iblk m c 4 t) (ix4 (0 : Fin 1) j r d)
      = entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) b j s d := by
  refine (out_apply _ _ _ _ _ _ _ _).trans ?_
  unfold entry
  have e0 := funext fun k => h_apply m c t r k b s hb hs
  have e1 := funext fun k => g_apply m c t k
  have e2 := funext fun k => sh_apply m c t k b hb
  have e3 := funext fun k => sc_apply m c t k b hb
  refine Finset.sum_congr rfl fun k _ => congrArg₂ (fun u v : EReal => u * v) ?_ (w_apply m c t k _)
  exact (congrArg (fun z : Fin 1024 → EReal => Norm.row z _ _ _ k) e0).trans ((congrArg (fun z : Fin 1024 → EReal => Norm.row _ z _ _ k) e1).trans
    ((congrArg (fun z : Fin 1024 → EReal => Norm.row _ _ z _ k) e2).trans (congrArg (fun z : Fin 1024 → EReal => Norm.row _ _ _ z k) e3)))

/-- The result array after the run. -/
theorem final : (dats m 0 c).arrAt 5 cfg0.N
    = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 5 _ (by decide +kernel) fun t hf y => ?_
  blk_simp
  rw [after0_5]
  have hy : y = ix4 (0 : Fin 1) (y 1 : Fin 16) (y 2 : Fin 512) (y 3 : Fin 128) :=
    (eq_ix4 (n0 := 1) (n1 := 16) (n2 := 512) (n3 := 128) y).trans (congrArg (fun z => ix4 z _ _ _) (Subsingleton.elim (α := Fin 1) _ _))
  have e0 : (((win0_5.blk t).view.emb y 0 : Fin 2)).val = (grid0.coords t 0).val := by
    blk_simp [index_5 t]
  have e1 : ((win0_5.blk t).view.emb y 1 : Fin 16) = (y 1 : Fin 16) := Fin.ext (by
    blk_simp [index_5 t])
  have e2 : (((win0_5.blk t).view.emb y 2 : Fin 16384)).val = (grid0.coords t 1).val * 512 + (y 2 : Fin 512).val := by
    blk_simp [index_5 t]
  have e3 : ((win0_5.blk t).view.emb y 3 : Fin 128) = (y 3 : Fin 128) := Fin.ext (by
    blk_simp [index_5 t])
  refine (congrArg (out0_5 _ _ _ _ _) hy).trans ((block_apply m c t _ _ _ _ _ e0 e2).trans ?_)
  unfold G
  exact congrArg₂ (fun u v => entry _ _ _ _ _ _ u _ v) e1.symm e3.symm

end Cert.Proof.Kv

/-! ### The reference -/

namespace Cert.Proof.Kv

open Cert.ReferenceKvIdeal Cert.ReferenceKvIdeal.Gen
open Idealize.ShloMosaic Idealize.ShloMosaic.ValueIdx
open scoped BigOperators

variable (h : FVec Ideal S2x16384x1024 .f32) (g : FVec Ideal S1x1024 .f32) (sh sc : FVec Ideal S2x1x1024 .f32) (w : FVec Ideal S1024x2048 .bf16)

/-- The reference's scales of all rows. -/
def rscales : FVec Ideal S2x16384x1 .f32 :=
  Host.rsqrt (addf (Host.divf (broadcastInDim S2x16384x1 ![0, 1] bcast_S2x16384_S2x16384x1_0_1
      (Host.reduceAdd (mulf h h) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32)))

/-- The reference's stream, normalised and modulated. -/
def rnormed : FVec Ideal S2x16384x1024 .f32 :=
  addf (mulf (mulf (mulf h (broadcastInDim S2x16384x1024 ![0, 1, 2] bcast_S2x16384x1_S2x16384x1024_0_1_2 (rscales h)))
      (broadcastInDim S2x16384x1024 ![0, 1, 2] bcast_S1x1x1024_S2x16384x1024_0_1_2 (broadcastInDim S1x1x1024 ![1, 2] bcast_S1x1024_S1x1x1024_1_2 g)))
    (broadcastInDim S2x16384x1024 ![0, 1, 2] bcast_S2x1x1024_S2x16384x1024_0_1_2
      (addf (broadcastInDim S2x1x1024 ![] bcast_S_S2x1x1024 (constant S_ .f32 0x3F800000#32)) sc)))
    (broadcastInDim S2x16384x1024 ![0, 1, 2] bcast_S2x1x1024_S2x16384x1024_0_1_2 sh)

/-- The reference's projection. -/
def rproduct : FVec Ideal S2x16384x2048 .f32 :=
  Host.dotGeneral dot_S2x16384x1024_S1024x2048_S2x16384x2048_2_0_01_1_n_n none (rnormed h g sh sc) (extf .f32 w bitsLt_bf16_f32)

/-- The reference's result. -/
def out : FVec Ideal S2x16x16384x128 .bf16 :=
  truncf .bf16 (transpose S2x16x16384x128 [0, 2, 1, 3] (shapeCast _ (rproduct h g sh sc w) shapeCasts_S2x16384x2048_S2x16384x16x128)
    transposes_S2x16384x16x128_S2x16x16384x128_0_2_1_3)
    bitsLt_bf16_f32

/-- Summing the last axis away. -/
theorem reduces : S2x16384x1024.Reduces [2] S2x16384 := by decide

/-- A row's scale in the reference. -/
theorem rscales_apply (b : Fin 2) (t : Fin 16384) : rscales h (ix3 b t (0 : Fin 1)) = Norm.scale fun k => h (ix3 b t k) := by
  have e : broadcastInDim S2x16384x1 ![0, 1] bcast_S2x16384_S2x16384x1_0_1
      (Host.reduceAdd (mulf h h) (constant S_ .f32 0x00000000#32) reducesTo_S2x16384x1024_S2x16384_d2 h_S_) (ix3 b t (0 : Fin 1))
      = ∑ k : Fin 1024, h (ix3 b t k) * h (ix3 b t k) := by
    refine (broadcastInDim_apply _ _ _ _ (ix2 b t) (fun i => match i with | ⟨0, _⟩ => rfl | ⟨1, _⟩ => rfl)).trans ?_
    rw [hostReduceAdd_apply, Ideal.hostReduceAdd_single _ reduces, constant_apply, Ideal.ofBits_zero_f32, zero_add]
    refine Finset.sum_congr rfl fun k _ => ?_
    have hk : reduces.lift (ix2 b t) k = ix3 b t (k : Fin 1024) :=
      funext fun a => Fin.ext (match a with | ⟨0, _⟩ => rfl | ⟨1, _⟩ => rfl | ⟨2, _⟩ => rfl)
    exact congrArg (fun i => h i * h i) hk
  exact congrArg (fun z : EReal => Ideal.rsqrt (Ideal.div z (Ideal.ofBits .f32 0x44800000#32) + Ideal.ofBits .f32 0x358637BD#32)) e

/-- An entry of the reference's normalised, modulated stream. -/
theorem rnormed_apply (b : Fin 2) (t : Fin 16384) (k : Fin 1024) :
    rnormed h g sh sc (ix3 b t k) = Norm.row (fun k => h (ix3 b t k)) (fun k => g (ix2 (0 : Fin 1) k)) (fun k => sh (ix3 b (0 : Fin 1) k))
      (fun k => sc (ix3 b (0 : Fin 1) k)) k := by
  have e1 : broadcastInDim S2x16384x1024 ![0, 1, 2] bcast_S2x16384x1_S2x16384x1024_0_1_2 (rscales h) (ix3 b t k)
      = Norm.scale fun k => h (ix3 b t k) :=
    (broadcastInDim_apply _ _ _ _ (ix3 b t (0 : Fin 1)) (fun i => match i with | ⟨0, _⟩ => rfl | ⟨1, _⟩ => rfl | ⟨2, _⟩ => rfl)).trans (rscales_apply h b t)
  have e2 : broadcastInDim S2x16384x1024 ![0, 1, 2] bcast_S1x1x1024_S2x16384x1024_0_1_2 (broadcastInDim S1x1x1024 ![1, 2] bcast_S1x1024_S1x1x1024_1_2 g)
      (ix3 b t k) = g (ix2 (0 : Fin 1) k) :=
    (broadcastInDim_apply _ _ _ _ (ix3 (0 : Fin 1) (0 : Fin 1) k) (fun i => match i with | ⟨0, _⟩ => rfl | ⟨1, _⟩ => rfl | ⟨2, _⟩ => rfl)).trans
      (broadcastInDim_apply _ _ _ _ (ix2 (0 : Fin 1) k) (fun i => match i with | ⟨0, _⟩ => rfl | ⟨1, _⟩ => rfl))
  have e3 : ∀ x : FVec Ideal S2x1x1024 .f32, broadcastInDim S2x16384x1024 ![0, 1, 2] bcast_S2x1x1024_S2x16384x1024_0_1_2 x (ix3 b t k)
      = x (ix3 b (0 : Fin 1) k) := fun x =>
    broadcastInDim_apply _ _ _ _ _ (fun i => match i with | ⟨0, _⟩ => rfl | ⟨1, _⟩ => rfl | ⟨2, _⟩ => rfl)
  exact congrArg₂ (fun u v : EReal => u + v) (congrArg₂ (fun u v : EReal => u * v)
    (congrArg₂ (fun u v : EReal => u * v) (congrArg (fun v : EReal => h (ix3 b t k) * v) e1) e2) (e3 _)) (e3 sh)

/-- An entry of the reference's projection. -/
theorem rproduct_apply (b : Fin 2) (t : Fin 16384) (n : Fin 2048) :
    rproduct h g sh sc w (ix3 b t n) = ∑ k : Fin 1024, Norm.row (fun k => h (ix3 b t k)) (fun k => g (ix2 (0 : Fin 1) k))
      (fun k => sh (ix3 b (0 : Fin 1) k)) (fun k => sc (ix3 b (0 : Fin 1) k)) k * w (ix2 k n) := by
  unfold rproduct
  simp only [Host.dotGeneral]
  rw [Ideal.dotGeneral_apply, ← Equiv.sum_comp (contrEquiv1 dot_S2x16384x1024_S1024x2048_S2x16384x2048_2_0_01_1_n_n 1024 rfl rfl).symm]
  refine Finset.sum_congr rfl fun k _ => ?_
  have hk := contrEquiv1_symm_val dot_S2x16384x1024_S1024x2048_S2x16384x2048_2_0_01_1_n_n 1024 rfl rfl k
  have el : dot_S2x16384x1024_S1024x2048_S2x16384x2048_2_0_01_1_n_n.lhsIdx (ix3 b t n)
      ((contrEquiv1 dot_S2x16384x1024_S1024x2048_S2x16384x2048_2_0_01_1_n_n 1024 rfl rfl).symm k) = ix3 b t k :=
    funext fun i => Fin.ext (match i with | ⟨0, _⟩ => rfl | ⟨1, _⟩ => rfl | ⟨2, _⟩ => hk)
  have er : dot_S2x16384x1024_S1024x2048_S2x16384x2048_2_0_01_1_n_n.rhsIdx (ix3 b t n)
      ((contrEquiv1 dot_S2x16384x1024_S1024x2048_S2x16384x2048_2_0_01_1_n_n 1024 rfl rfl).symm k) = ix2 k n :=
    funext fun i => Fin.ext (match i with | ⟨0, _⟩ => hk | ⟨1, _⟩ => rfl)
  exact congrArg₂ (fun u v : EReal => u * v) ((congrArg (rnormed h g sh sc) el).trans (rnormed_apply h g sh sc b t k)) (congrArg w er)

/-- The reference's result is the call's. -/
theorem out_eq : out h g sh sc w = G h g sh sc w := by
  funext x
  obtain ⟨b, j, t, d, rfl⟩ : ∃ (b : Fin 2) (j : Fin 16) (t : Fin 16384) (d : Fin 128), x = ix4 b j t d := ⟨x 0, x 1, x 2, x 3, eq_ix4 x⟩
  refine (transpose_apply _ _ _ _ (ix4 b t j d) ?_).trans
    ((shapeCast_apply _ _ _ (ix3 b t (join j d)) ?_).trans (rproduct_apply h g sh sc w b t (join j d)))
  · intro i
    match i with
    | ⟨0, _⟩ => rfl
    | ⟨1, _⟩ => rfl
    | ⟨2, _⟩ => rfl
    | ⟨3, _⟩ => rfl
  · rw [Shape.rowMajor_val_four, Shape.rowMajor_val_three]
    show (b.val * 16384 + t.val) * 2048 + (j.val * 128 + d.val) = ((b.val * 16384 + t.val) * 16 + j.val) * 128 + d.val
    omega

end Cert.Proof.Kv

end
-- ==== Proof.O.Value.lean ====
/-
  The output projection over the extended reals: the call's result array, and its reference's, are the residual stream plus
  the gate times the product of the heads, side by side, with the weights.
-/
module

public import proofs.«01_k».proof.Proof.Gen.KernelO.Frame
public import proofs.«01_k».proof.Proof.Gen.KernelOIdeal.Value
public import proofs.«01_k».proof.Proof.Gen.ReferenceOIdeal.Run
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.ValueKit.Geometry

@[expose] public section

noncomputable section

namespace Cert.Proof.O

open Cert.KernelOIdeal Cert.KernelOIdeal.Gen Cert.KernelOIdeal.Value
open Idealize.ShloMosaic Idealize.ShloMosaic.ValueIdx
open Idealize.ShloMosaic.TcCoe
open scoped BigOperators

/-- The head that holds column `k` of the heads side by side. -/
def head (k : Fin 1024) : Fin 8 := ⟨k.val / 128, by omega⟩
/-- The column of that head. -/
def col (k : Fin 1024) : Fin 128 := ⟨k.val % 128, by omega⟩

/-- An entry of the result: the residual stream plus the gate times the projected heads. -/
def entry (a : S2x8x16384x128.Idx → EReal) (w : S1024x1024.Idx → EReal) (h : S2x16384x1024.Idx → EReal) (g : S2x1x1024.Idx → EReal)
    (b : Fin 2) (t : Fin 16384) (n : Fin 1024) : EReal :=
  h (ix3 b t n) + g (ix3 b (0 : Fin 1) n) * ∑ k : Fin 1024, a (ix4 b (head k) t (col k)) * w (ix2 k n)

/-- The result array. -/
def G (a : S2x8x16384x128.Idx → EReal) (w : S1024x1024.Idx → EReal) (h : S2x16384x1024.Idx → EReal) (g : S2x1x1024.Idx → EReal)
    (x : S2x16384x1024.Idx) : EReal := entry a w h g (x 0) (x 1) (x 2)

/-! ### A block of the call -/

/-- The product of a block's heads, side by side, with the weights. -/
theorem product_apply (P : Fin 8 → Vec Ideal S1x1x512x128 .bf16) (w : Vec Ideal S1024x1024 .bf16) (r : Fin 512) (n : Fin 1024) :
    k0_pay2 (P 0) (P 1) (P 2) (P 3) (P 4) (P 5) (P 6) (P 7) w (ix2 r n)
      = ∑ k : Fin 1024, P (head k) (ix4 (0 : Fin 1) (0 : Fin 1) r (col k)) * w (ix2 k n) := by
  unfold k0_pay2
  refine (Ideal.matmul_plain_apply none _ _ _ r n).trans ?_
  rw [constant_apply, Ideal.ofBits_zero_f32, zero_add]
  refine Finset.sum_congr rfl fun k _ => congrArg (· * _) ?_
  refine (concatenate_ofFn_apply (1 : Fin S512x1024.rank) (fun j : Fin 8 => shapeCast S512x128 (P j) shapeCasts_S1x1x512x128_S512x128)
    concatenates_S512x128_S512x128_S512x128_S512x128_S512x128_S512x128_S512x128_S512x128_S512x1024_d1 rfl 128 rfl (ix2 r k) (head k) rfl
    (ix2 r (col k)) rfl fun b hb => ?_).trans ?_
  · match b with
    | ⟨0, _⟩ => rfl
    | ⟨1, _⟩ => exact absurd rfl hb
  · refine shapeCast_apply _ _ _ _ ?_
    rw [Shape.rowMajor_val_four, Shape.rowMajor_val_two]
    show ((0 * 1 + 0) * 512 + r.val) * 128 + (col k).val = r.val * 128 + (col k).val
    omega

/-- The heads of a block, one by one. -/
def heads (X : Vec Ideal S1x8x512x128 .bf16) : Fin 8 → Vec Ideal S1x1x512x128 .bf16 :=
  ![View.ld X r0_0, View.ld X r0_1, View.ld X r0_2, View.ld X r0_3, View.ld X r0_4, View.ld X r0_5, View.ld X r0_6, View.ld X r0_7]

/-- An entry of a head of a block. -/
theorem heads_apply (X : Vec Ideal S1x8x512x128 .bf16) (j : Fin 8) (r : Fin 512) (d : Fin 128) :
    heads X j (ix4 (0 : Fin 1) (0 : Fin 1) r d) = X (ix4 (0 : Fin 1) j r d) := by
  have hr : 0 + 1 * r.val = r.val := by omega
  have hd : 0 + 1 * d.val = d.val := by omega
  fin_cases j <;> exact congrArg X (funext fun a => Fin.ext (match a with | ⟨0, _⟩ => rfl | ⟨1, _⟩ => rfl | ⟨2, _⟩ => hr | ⟨3, _⟩ => hd))

/-- What a grid point leaves at a row and column of its block. -/
theorem out_apply (X : Vec Ideal S1x8x512x128 .bf16) (w : Vec Ideal S1024x1024 .bf16) (h : Vec Ideal S1x512x1024 .f32) (g : Vec Ideal S1x1x1024 .f32)
    (r : Fin 512) (n : Fin 1024) :
    out0_4 X w h g (ix3 (0 : Fin 1) r n)
      = h (ix3 (0 : Fin 1) r n) + g (ix3 (0 : Fin 1) (0 : Fin 1) n) * ∑ k : Fin 1024, X (ix4 (0 : Fin 1) (head k) r (col k)) * w (ix2 k n) := by
  have hr : 0 + 1 * r.val = r.val := by omega
  have hn : 0 + 1 * n.val = n.val := by omega
  unfold out0_4
  rw [canon4_eq]
  have e0 : View.ld h r0_9 (ix4_0 (ix3 (0 : Fin 1) r n)) = h (ix3 (0 : Fin 1) r n) :=
    congrArg h (funext fun a => Fin.ext (match a with | ⟨0, _⟩ => rfl | ⟨1, _⟩ => hr | ⟨2, _⟩ => hn))
  have e1 : View.ld g r0_10 (ix4_1 (ix3 (0 : Fin 1) r n)) = g (ix3 (0 : Fin 1) (0 : Fin 1) n) :=
    congrArg g (funext fun a => Fin.ext (match a with | ⟨0, _⟩ => rfl | ⟨1, _⟩ => rfl | ⟨2, _⟩ => hn))
  have e2 : ix4_2 (ix3 (0 : Fin 1) r n) = ix2 r n := funext fun a => Fin.ext (match a with | ⟨0, _⟩ => rfl | ⟨1, _⟩ => rfl)
  have e3 : ∀ k : Fin 1024, View.ld w r0_8 (ix2 k n) = w (ix2 k n) := fun k =>
    congrArg w (funext fun a => Fin.ext (match a with | ⟨0, _⟩ => (by show 0 + 1 * k.val = k.val; omega) | ⟨1, _⟩ => hn))
  have e4 := product_apply (heads X) (View.ld w r0_8) r n
  refine (congrArg₂ (· + ·) e0 (congrArg₂ (· * ·) e1 ((congrArg _ e2).trans e4))).trans ?_
  exact congrArg (fun z => _ + _ * z) (Finset.sum_congr rfl fun k _ => congrArg₂ (· * ·) (heads_apply X _ r _) (e3 k))

/-! ### Blocks of the arrays -/

/-- The block of heads of a step. -/
theorem index_0 : ∀ t : Fin cfg0.N, win0_0.index t = ![(grid0.coords t 0).val, 0, (grid0.coords t 1).val, 0] :=
  (by decide +kernel : ∀ t : Fin grid0.N, _)
/-- All the weights. -/
theorem index_1 : ∀ t : Fin cfg0.N, win0_1.index t = ![0, 0] :=
  (by decide +kernel : ∀ t : Fin grid0.N, _)
/-- The block of the residual stream of a step. -/
theorem index_2 : ∀ t : Fin cfg0.N, win0_2.index t = ![(grid0.coords t 0).val, (grid0.coords t 1).val, 0] :=
  (by decide +kernel : ∀ t : Fin grid0.N, _)
/-- The gates of a step's batch. -/
theorem index_3 : ∀ t : Fin cfg0.N, win0_3.index t = ![(grid0.coords t 0).val, 0, 0] :=
  (by decide +kernel : ∀ t : Fin grid0.N, _)
/-- The block of results of a step. -/
theorem index_4 : ∀ t : Fin cfg0.N, win0_4.index t = ![(grid0.coords t 0).val, (grid0.coords t 1).val, 0] :=
  (by decide +kernel : ∀ t : Fin grid0.N, _)

variable (m : (ℓ : Loc nD τ sig) → Buf (Elt Ideal) ℓ) (c : Dev nD)

/-- An entry of a step's heads is an entry of the array of heads. -/
theorem a_apply (t : Fin cfg0.N) (j : Fin 8) (r : Fin 512) (d : Fin 128) (b : Fin 2) (s : Fin 16384)
    (hb : b.val = (grid0.coords t 0).val) (hs : s.val = (grid0.coords t 1).val * 512 + r.val) :
    iblk m c 0 t (ix4 (0 : Fin 1) j r d) = m ((c.tc : Thread nD τ).loc main_arg0) (ix4 b j s d) := by
  unfold iblk
  blk_ext [index_0 t]
  · exact hb.symm
  · exact hs.symm

/-- An entry of a step's weights. -/
theorem w_apply (t : Fin cfg0.N) (k n : Fin 1024) :
    iblk m c 1 t (ix2 k n) = m ((c.tc : Thread nD τ).loc main_arg1) (ix2 k n) := by
  unfold iblk
  blk_ext [index_1 t]

/-- An entry of a step's residual stream. -/
theorem h_apply (t : Fin cfg0.N) (r : Fin 512) (n : Fin 1024) (b : Fin 2) (s : Fin 16384)
    (hb : b.val = (grid0.coords t 0).val) (hs : s.val = (grid0.coords t 1).val * 512 + r.val) :
    iblk m c 2 t (ix3 (0 : Fin 1) r n) = m ((c.tc : Thread nD τ).loc main_arg2) (ix3 b s n) := by
  unfold iblk
  blk_ext [index_2 t]
  · exact hb.symm
  · exact hs.symm

/-- An entry of a step's gates. -/
theorem g_apply (t : Fin cfg0.N) (n : Fin 1024) (b : Fin 2) (hb : b.val = (grid0.coords t 0).val) :
    iblk m c 3 t (ix3 (0 : Fin 1) (0 : Fin 1) n) = m ((c.tc : Thread nD τ).loc main_arg3) (ix3 b (0 : Fin 1) n) := by
  unfold iblk
  blk_ext [index_3 t]
  · exact hb.symm

/-- What a step leaves at a row and column of its block is the entry of the result there. -/
theorem block_apply (t : Fin cfg0.N) (r : Fin 512) (n : Fin 1024) (b : Fin 2) (s : Fin 16384)
    (hb : b.val = (grid0.coords t 0).val) (hs : s.val = (grid0.coords t 1).val * 512 + r.val) :
    out0_4 (iblk m c 0 t) (iblk m c 1 t) (iblk m c 2 t) (iblk m c 3 t) (ix3 (0 : Fin 1) r n)
      = entry (m ((c.tc : Thread nD τ).loc main_arg0)) (m ((c.tc : Thread nD τ).loc main_arg1)) (m ((c.tc : Thread nD τ).loc main_arg2))
        (m ((c.tc : Thread nD τ).loc main_arg3)) b s n := by
  refine (out_apply _ _ _ _ _ _).trans ?_
  unfold entry
  refine congrArg₂ (fun u v : EReal => u + v) (h_apply m c t _ _ _ _ hb hs) (congrArg₂ (fun u v : EReal => u * v) (g_apply m c t _ _ hb) ?_)
  exact Finset.sum_congr rfl fun k _ => congrArg₂ (fun u v : EReal => u * v) (a_apply m c t _ _ _ _ _ hb hs) (w_apply m c t k _)

/-- The result array after the run. -/
theorem final : (dats m 0 c).arrAt 4 cfg0.N
    = G (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  blk_simp
  rw [after0_4]
  have hy : y = ix3 (0 : Fin 1) (y 1 : Fin 512) (y 2 : Fin 1024) :=
    (eq_ix3 (n0 := 1) (n1 := 512) (n2 := 1024) y).trans (congrArg (fun z => ix3 z _ _) (Subsingleton.elim (α := Fin 1) _ _))
  have e0 : (((win0_4.blk t).view.emb y 0 : Fin 2)).val = (grid0.coords t 0).val := by
    blk_simp [index_4 t]
  have e1 : (((win0_4.blk t).view.emb y 1 : Fin 16384)).val = (grid0.coords t 1).val * 512 + (y 1 : Fin 512).val := by
    blk_simp [index_4 t]
  have e2 : ((win0_4.blk t).view.emb y 2 : Fin 1024) = (y 2 : Fin 1024) := Fin.ext (by
    blk_simp [index_4 t])
  refine (congrArg (out0_4 _ _ _ _) hy).trans ((block_apply m c t _ _ _ _ e0 e1).trans ?_)
  unfold G
  exact congrArg _ e2.symm

end Cert.Proof.O

/-! ### The reference -/

namespace Cert.Proof.O

open Cert.ReferenceOIdeal Cert.ReferenceOIdeal.Gen
open Idealize.ShloMosaic Idealize.ShloMosaic.ValueIdx
open scoped BigOperators

variable (a : FVec Ideal S2x8x16384x128 .bf16) (w : FVec Ideal S1024x1024 .bf16) (h : FVec Ideal S2x16384x1024 .f32) (g : FVec Ideal S2x1x1024 .f32)

/-- The heads side by side. -/
def joined : FVec Ideal S2x16384x1024 .f32 :=
  shapeCast _ (transpose S2x16384x8x128 [0, 2, 1, 3] (extf .f32 a bitsLt_bf16_f32) transposes_S2x8x16384x128_S2x16384x8x128_0_2_1_3)
    shapeCasts_S2x16384x8x128_S2x16384x1024

/-- The reference's result. -/
def out : FVec Ideal S2x16384x1024 .f32 :=
  addf h (mulf (broadcastInDim S2x16384x1024 ![0, 1, 2] bcast_S2x1x1024_S2x16384x1024_0_1_2 g)
    (Host.dotGeneral dot_S2x16384x1024_S1024x1024_S2x16384x1024_2_0_01_1_n_n none (joined a) (extf .f32 w bitsLt_bf16_f32)))

/-- An entry of the heads side by side. -/
theorem joined_apply (b : Fin 2) (t : Fin 16384) (k : Fin 1024) : joined a (ix3 b t k) = a (ix4 b (head k) t (col k)) := by
  unfold joined
  refine (shapeCast_apply _ _ _ (ix4 b t (head k) (col k)) ?_).trans ((transpose_apply _ _ _ _ (ix4 b (head k) t (col k)) ?_).trans rfl)
  · rw [Shape.rowMajor_val_four, Shape.rowMajor_val_three]
    show ((b.val * 16384 + t.val) * 8 + k.val / 128) * 128 + k.val % 128 = (b.val * 16384 + t.val) * 1024 + k.val
    omega
  · intro i
    match i with
    | ⟨0, _⟩ => rfl
    | ⟨1, _⟩ => rfl
    | ⟨2, _⟩ => rfl
    | ⟨3, _⟩ => rfl

/-- An entry of the heads times the weights. -/
theorem dot_apply (x : FVec Ideal S2x16384x1024 .f32) (y : FVec Ideal S1024x1024 .f32) (b : Fin 2) (t : Fin 16384) (n : Fin 1024) :
    Host.dotGeneral dot_S2x16384x1024_S1024x1024_S2x16384x1024_2_0_01_1_n_n none x y (ix3 b t n) = ∑ k : Fin 1024, x (ix3 b t k) * y (ix2 k n) := by
  simp only [Host.dotGeneral]
  rw [Ideal.dotGeneral_apply, ← Equiv.sum_comp (contrEquiv1 dot_S2x16384x1024_S1024x1024_S2x16384x1024_2_0_01_1_n_n 1024 rfl rfl).symm]
  refine Finset.sum_congr rfl fun k _ => ?_
  have hk := contrEquiv1_symm_val dot_S2x16384x1024_S1024x1024_S2x16384x1024_2_0_01_1_n_n 1024 rfl rfl k
  exact congrArg₂ (· * ·)
    (congrArg x (funext fun i => Fin.ext (match i with | ⟨0, _⟩ => rfl | ⟨1, _⟩ => rfl | ⟨2, _⟩ => hk)))
    (congrArg y (funext fun i => Fin.ext (match i with | ⟨0, _⟩ => hk | ⟨1, _⟩ => rfl)))

/-- The reference's result is the call's. -/
theorem out_eq : out a w h g = G a w h g := by
  funext x
  obtain ⟨b, t, n, rfl⟩ : ∃ (b : Fin 2) (t : Fin 16384) (n : Fin 1024), x = ix3 b t n := ⟨x 0, x 1, x 2, eq_ix3 x⟩
  show h (ix3 b t n) + broadcastInDim S2x16384x1024 ![0, 1, 2] bcast_S2x1x1024_S2x16384x1024_0_1_2 g (ix3 b t n) * _ = _
  rw [dot_apply, broadcastInDim_apply _ _ g _ (ix3 b (0 : Fin 1) n) (fun i => match i with | ⟨0, _⟩ => rfl | ⟨1, _⟩ => rfl | ⟨2, _⟩ => rfl)]
  exact congrArg (fun z => _ + _ * z) (Finset.sum_congr rfl fun k _ => congrArg (· * _) (joined_apply a b t k))

end Cert.Proof.O

end
-- ==== Proof.HI.Model.lean ====
/-
  The recurrent layer's call as a pure function of what its input blocks hold, over any float values. A chunk of 32 rows
  takes the eight heads' states to the next ones (`states`) and gives the chunk's output, head by head (`outs`). A tile of
  256 rows is eight chunks. The theorems say that the printed payloads of each head are these functions.
-/
module

public import proofs.«01_k».proof.Proof.Gen.KernelHIdeal.Skeleton
public import Idealize.ShloMosaic.Lib.ValueIdxCore

@[expose] public section

noncomputable section

namespace Cert.Proof.HI

open Cert.KernelHIdeal Cert.KernelHIdeal.Gen
open Idealize.ShloMosaic Idealize.ShloMosaic.ValueIdx

variable {F : FTy → Type} [FloatOps F]

/-- A tile of 256 rows. -/
abbrev Tile (F : FTy → Type) : Type := Vec F S256x1024 .f32
/-- A chunk of 32 rows. -/
abbrev Chunk (F : FTy → Type) : Type := Vec F S32x1024 .f32
/-- The eight heads' states. -/
abbrev State (F : FTy → Type) : Type := Vec F S8x128x128 .f32

/-- Rows `32 k` to `32 k + 31` of a tile. -/
def chunkOf (a : Tile F) (k : ℕ) : Chunk F := fun x =>
  a (ix2 (⟨(32 * k + (x 0).val) % 256, Nat.mod_lt _ (by decide)⟩ : Fin 256) (⟨(x 1).val, (x 1).isLt⟩ : Fin 1024))

/-- One head's state. -/
def slab (s : State F) (hd : Fin 8) : Vec F S1x128x128 .f32 := fun x =>
  s (ix3 hd (⟨(x 1).val, (x 1).isLt⟩ : Fin 128) (⟨(x 2).val, (x 2).isLt⟩ : Fin 128))

/-- Columns `128 hd` to `128 hd + 127` of a tile. -/
def colsOf (a : Tile F) (hd : Fin 8) : Vec F S256x128 .f32 := fun x =>
  a (ix2 (⟨(x 0).val, (x 0).isLt⟩ : Fin 256) (⟨(128 * hd.val + (x 1).val) % 1024, Nat.mod_lt _ (by decide)⟩ : Fin 1024))

/-- A head's columns lie in a chunk. -/
theorem slices32 : ∀ hd : Fin 8, S32x1024.Slices ![0, 128 * hd.val] S32x128 := by decide
/-- A head's columns lie in a row. -/
theorem slices1 : ∀ hd : Fin 8, S1x1024.Slices ![0, 128 * hd.val] S1x128 := by decide

/-- The output of one head for a chunk: the masked scores against the chunk's own values, and the queries against the state
    kept. -/
def headOut (hd : Fin 8) (v qm km qc : FVec F S32x1024 .bf16) (st : Vec F S1x128x128 .f32) : FVec F S32x128 .f32 :=
  shapeCast S32x128 (addf
    (matmul dot_S32x32_S32x128_S32x128_1_0_0_1_n_n none
      (truncf .bf16 (select k0_pay53
        (matmul dot_S32x128_S32x128_S32x32_1_1_0_0_n_n none (extractStridedSlice S32x128 ![0, 128 * hd.val] qm (slices32 hd))
          (extractStridedSlice S32x128 ![0, 128 * hd.val] km (slices32 hd)) (constant S32x32 .f32 0x00000000#32))
        (broadcast S32x32 (Scalar.ofBits .f32 0x00000000#32 : F .f32))) bitsLt_bf16_f32)
      (extractStridedSlice S32x128 ![0, 128 * hd.val] v (slices32 hd)) (constant S32x128 .f32 0x00000000#32))
    (matmul dot_S32x128_S128x128_S32x128_1_1_0_0_n_n none (extractStridedSlice S32x128 ![0, 128 * hd.val] qc (slices32 hd))
      (truncf .bf16 (shapeCast S128x128 st shapeCasts_S1x128x128_S128x128) bitsLt_bf16_f32) (constant S32x128 .f32 0x00000000#32)))
    shapeCasts_S32x128_S32x128

/-- The next state of one head: the state kept, decayed, and the chunk's values against its keys. -/
def headState (hd : Fin 8) (v kl : FVec F S32x1024 .bf16) (dec : FVec F S1x1024 .f32) (st : Vec F S1x128x128 .f32) :
    FVec F S1x128x128 .f32 :=
  shapeCast S1x128x128 (addf
    (mulf (shapeCast S128x128 st shapeCasts_S1x128x128_S128x128)
      (broadcastTo S128x128 (extractStridedSlice S1x128 ![0, 128 * hd.val] dec (slices1 hd)) broadcasts_S1x128_S128x128))
    (matmul dot_S32x128_S32x128_S128x128_0_0_1_1_n_n none (extractStridedSlice S32x128 ![0, 128 * hd.val] v (slices32 hd))
      (extractStridedSlice S32x128 ![0, 128 * hd.val] kl (slices32 hd)) (constant S128x128 .f32 0x00000000#32)))
    shapeCasts_S128x128_S1x128x128

/-- The output of head `hd` for a chunk with queries `q`, keys `k`, log decays `l` and values `v`, from the states `s`. -/
def outs (q k l v : Chunk F) (s : State F) (hd : Fin 8) : FVec F S32x128 .f32 :=
  headOut hd (k0_pay2 v) (k0_pay6 k0_pay54 l q) (k0_pay7 k0_pay54 l k) (k0_pay8 k0_pay54 l q) (slab s hd)

/-- The next states after a chunk. -/
def states (k l v : Chunk F) (s : State F) : State F := fun x =>
  headState ⟨(x 0).val, (x 0).isLt⟩ (k0_pay2 v) (k0_pay9 k0_pay54 l k) (k0_pay10 k0_pay54 l) (slab s ⟨(x 0).val, (x 0).isLt⟩)
    (ix3 (0 : Fin 1) (⟨(x 1).val, (x 1).isLt⟩ : Fin 128) (⟨(x 2).val, (x 2).isLt⟩ : Fin 128))

/-- The states after the first `n` chunks of a tile. -/
def statesAt (k l v : Tile F) (s : State F) : ℕ → State F
  | 0 => s
  | n + 1 => states (chunkOf k n) (chunkOf l n) (chunkOf v n) (statesAt k l v s n)

/-- The output of a tile. -/
def outTile (q k l v : Tile F) (s : State F) : Tile F := fun x =>
  outs (chunkOf q ((x 0).val / 32)) (chunkOf k ((x 0).val / 32)) (chunkOf l ((x 0).val / 32)) (chunkOf v ((x 0).val / 32))
    (statesAt k l v s ((x 0).val / 32)) (⟨(x 1).val / 128, Nat.div_lt_of_lt_mul (x 1).isLt⟩ : Fin 8)
    (ix2 (⟨(x 0).val % 32, Nat.mod_lt _ (by decide)⟩ : Fin 32) (⟨(x 1).val % 128, Nat.mod_lt _ (by decide)⟩ : Fin 128))

/-- A head's slab of the next states. -/
theorem slab_states (k l v : Chunk F) (s : State F) (hd : Fin 8) :
    slab (states k l v s) hd = headState hd (k0_pay2 v) (k0_pay9 k0_pay54 l k) (k0_pay10 k0_pay54 l) (slab s hd) := by
  funext x
  refine congrArg (headState hd (k0_pay2 v) (k0_pay9 k0_pay54 l k) (k0_pay10 k0_pay54 l) (slab s hd)) ?_
  refine funext fun a => Fin.ext ?_
  have h0 : (x 0).val < 1 := (x 0).isLt
  fin_cases a
  · show 0 = (x 0).val; omega
  · rfl
  · rfl

section Heads

variable (q k l v : Chunk F) (st : Vec F S1x128x128 .f32)

/-- Head 0's output. -/
theorem out0 : k0_pay14 (k0_pay12 k0_pay53 k0_pay54 l q k v) (k0_pay13 k0_pay54 l q st)
    = headOut 0 (k0_pay2 v) (k0_pay6 k0_pay54 l q) (k0_pay7 k0_pay54 l k) (k0_pay8 k0_pay54 l q) st := rfl
end Heads

section Rest

variable (v qm km qc kl : FVec F S32x1024 .bf16) (dec : FVec F S1x1024 .f32) (st : Vec F S1x128x128 .f32)

/-- Head 1's output. -/
theorem out1 : k0_pay17 k0_pay53 v qm km qc st = headOut 1 v qm km qc st := rfl
/-- Head 2's output. -/
theorem out2 : k0_pay21 k0_pay53 v qm km qc st = headOut 2 v qm km qc st := rfl
/-- Head 3's output. -/
theorem out3 : k0_pay26 qc (k0_pay23 k0_pay53 qm km) (k0_pay24 st) (k0_pay25 v) = headOut 3 v qm km qc st := rfl
/-- Head 4's output. -/
theorem out4 : k0_pay29 k0_pay53 v qm km qc st = headOut 4 v qm km qc st := rfl
/-- Head 5's output. -/
theorem out5 : k0_pay35 k0_pay53 v qm km qc st = headOut 5 v qm km qc st := rfl
/-- Head 6's output. -/
theorem out6 : k0_pay39 v qc (k0_pay37 k0_pay53 qm km) st = headOut 6 v qm km qc st := rfl
/-- Head 7's output. -/
theorem out7 : k0_pay42 k0_pay53 v qm km qc st = headOut 7 v qm km qc st := rfl
/-- Head 0's next state. -/
theorem state0 : k0_pay15 v kl dec (k0_pay11 st) = headState 0 v kl dec st := rfl
/-- Head 1's next state. -/
theorem state1 : k0_pay19 (k0_pay18 v kl dec st) = headState 1 v kl dec st := rfl
/-- Head 2's next state. -/
theorem state2 : k0_pay22 v kl dec st = headState 2 v kl dec st := rfl
/-- Head 3's next state. -/
theorem state3 : k0_pay27 v kl dec (k0_pay24 st) = headState 3 v kl dec st := rfl
/-- Head 4's next state. -/
theorem state4 : k0_pay33 (k0_pay30 dec st) (k0_pay31 v) (k0_pay32 kl) = headState 4 v kl dec st := rfl
/-- Head 5's next state. -/
theorem state5 : k0_pay36 v kl dec st = headState 5 v kl dec st := rfl
/-- Head 6's next state. -/
theorem state6 : k0_pay40 v kl dec st = headState 6 v kl dec st := rfl
/-- Head 7's next state. -/
theorem state7 : k0_pay55 v kl dec (k0_pay41 st) = headState 7 v kl dec st := rfl

end Rest

/-- What the call stores for a tile, from the tile's rows of `h`, the weights of the heads' norm, the output gate, the
    heads' outputs `o`, the output matrix and the layer's gate. -/
def finish (h : Vec F S1x256x1024 .f32) (og : Vec F S1x1024 .f32) (gg o : Tile F) (w : Vec F S1024x1024 .bf16) (gate : Vec F S1x1x1024 .f32) :
    Vec F S1x256x1024 .f32 :=
  k0_pay1 (k0_pay44 h) og gg (k0_pay56 og gg (colsOf o 0)) (k0_pay59 (k0_pay57 og (colsOf o 1)) (k0_pay58 gg))
    (k0_pay60 og gg (colsOf o 2)) (k0_pay61 og gg (colsOf o 3)) (k0_pay63 og gg (colsOf o 4) (k0_pay62 (colsOf o 4)))
    (k0_pay64 og gg (colsOf o 5)) (k0_pay65 og gg (colsOf o 6)) (colsOf o 7) (k0_pay66 (colsOf o 7)) (Scalar.ofBits .f32 0x43000000#32) w gate

section Point

variable (h : Vec F S1x256x1024 .f32) (g : Vec F S1x1024 .f32) (sh sc : Vec F S1x1x1024 .f32) (w : Vec F S1024x4096 .bf16)
  (lb : Vec F S2x1024 .f32)

/-- The queries of a tile. -/
def qOf : Tile F := k0_pay48 (k0_pay45 h g sh sc w)
/-- The keys of a tile. -/
def kOf : Tile F := k0_pay49 (k0_pay45 h g sh sc w) lb (k0_pay46 lb)
/-- The log decays of a tile. -/
def lOf : Tile F := k0_pay50 (k0_pay45 h g sh sc w) lb (k0_pay46 lb)
/-- The values of a tile. -/
def vOf : Tile F := k0_pay51 (k0_pay45 h g sh sc w)
/-- The output gate of a tile. -/
def gOf : Tile F := k0_pay52 (k0_pay45 h g sh sc w)

/-- The states after a tile. -/
def pointState (s : State F) : State F := statesAt (kOf h g sh sc w lb) (lOf h g sh sc w lb) (vOf h g sh sc w) s 8

/-- What the call stores for a tile from the states `s`. -/
def pointOut (og : Vec F S1x1024 .f32) (wo : Vec F S1024x1024 .bf16) (gate : Vec F S1x1x1024 .f32) (s : State F) : Vec F S1x256x1024 .f32 :=
  finish h og (gOf h g sh sc w)
    (outTile (qOf h g sh sc w) (kOf h g sh sc w lb) (lOf h g sh sc w lb) (vOf h g sh sc w) s) wo gate

end Point

end Cert.Proof.HI
-- ==== Proof.HL.Chunks.lean ====
/-
  The recurrence over real numbers, and why it may be run by chunks of 32 rows. Row `s` has a query, a key, a value and a log
  decay in each of 1024 columns; a head is 128 of the columns. `state` is the sum of the earlier rows' products of a value and
  a key, each decayed by the rows since; `out` is a row's query against the earlier keys, decayed, times their values.
-/
module

public import Mathlib.Analysis.SpecialFunctions.Exp
public import Mathlib.Algebra.BigOperators.Intervals
public import Mathlib.Algebra.BigOperators.Fin

@[expose] public section

noncomputable section

namespace Cert.Proof.Chunks

open scoped BigOperators

/-- Rows by 1024 columns of real numbers. -/
abbrev Rows : Type := ℕ → Fin 1024 → ℝ

variable (q k l w : Rows)

/-- The sum of the log decays of the rows before row `t`. -/
def cum (t : ℕ) (n : Fin 1024) : ℝ := ∑ s ∈ Finset.range t, l s n

/-- The state before row `t`: entry `a` of the values against entry `n` of the keys. -/
def state (t : ℕ) (a n : Fin 1024) : ℝ := ∑ s ∈ Finset.range t, w s a * (k s n * Real.exp (cum l t n - cum l (s + 1) n))

/-- A column whose keys are zero has state zero. -/
theorem state_dead (t : ℕ) (a n : Fin 1024) (h : ∀ s, k s n = 0) : state k l w t a n = 0 :=
  Finset.sum_eq_zero fun s _ => by rw [h, zero_mul, mul_zero]

/-- The score of key `s` for query `t`, over the columns `f`. -/
def score (f : Fin 128 → Fin 1024) (t s : ℕ) : ℝ :=
  ∑ c : Fin 128, (q t (f c) * Real.exp (cum l (t + 1) (f c))) * (k s (f c) * Real.exp (-(cum l (s + 1) (f c))))

/-- Entry `a` of the output of row `t`, for the head of the columns `f`. -/
def out (f : Fin 128 → Fin 1024) (t : ℕ) (a : Fin 1024) : ℝ := ∑ s ∈ Finset.range (t + 1), score q k l f t s * w s a

/-- The sum of the log decays of a chunk's rows up to row `j`. -/
def inner (N : ℕ) (j : ℕ) (n : Fin 1024) : ℝ := ∑ i : Fin 32, (if i.val ≤ j then 1 else 0) * l (N + i.val) n

/-- That sum is the difference of the sums from the start. -/
theorem inner_eq (N j : ℕ) (hj : j < 32) (n : Fin 1024) : inner l N j n = cum l (N + (j + 1)) n - cum l N n := by
  have h : inner l N j n = ∑ i ∈ Finset.range (j + 1), l (N + i) n := by
    unfold inner
    rw [← Finset.sum_range (fun i => (if i ≤ j then (1 : ℝ) else 0) * l (N + i) n)]
    simp only [ite_mul, one_mul, zero_mul]
    rw [← Finset.sum_filter]
    refine Finset.sum_congr ?_ fun _ _ => rfl
    ext i; simp only [Finset.mem_filter, Finset.mem_range]; omega
  rw [h]
  unfold cum
  rw [Finset.sum_range_add (fun s => l s n) N (j + 1)]; ring

/-- The state at the start is zero. -/
theorem state_zero (a n : Fin 1024) : state k l w 0 a n = 0 := Finset.sum_range_zero _

/-- A chunk takes the state before it to the state after it. -/
theorem state_chunk (N : ℕ) (a n : Fin 1024) :
    state k l w N a n * Real.exp (inner l N 31 n)
        + ∑ i : Fin 32, w (N + i.val) a * (k (N + i.val) n * Real.exp (inner l N 31 n - inner l N i.val n))
      = state k l w (N + 32) a n := by
  unfold state
  rw [Finset.sum_range_add, Finset.sum_mul, ← Finset.sum_range (fun i => w (N + i) a * (k (N + i) n * Real.exp (inner l N 31 n - inner l N i n)))]
  refine congrArg₂ (· + ·) (Finset.sum_congr rfl fun s _ => ?_) (Finset.sum_congr rfl fun i hi => ?_)
  · rw [inner_eq l N 31 (by decide), mul_assoc, mul_assoc, ← Real.exp_add]
    congr 3; ring
  · rw [inner_eq l N 31 (by decide), inner_eq l N i (Finset.mem_range.1 hi)]
    congr 3; rw [show N + (31 + 1) = N + 32 from rfl, show N + (i + 1) = N + i + 1 from rfl]; ring

/-- A chunk's masked scores against its own values, and its queries against the state before it, give its outputs. -/
theorem out_chunk (f : Fin 128 → Fin 1024) (N j : ℕ) (hj : j < 32) (mid : Fin 1024 → ℝ) (a : Fin 1024) :
    (∑ i : Fin 32, (if i.val ≤ j then ∑ c : Fin 128, (q (N + j) (f c) * Real.exp (inner l N j (f c) - mid (f c)))
          * (k (N + i.val) (f c) * Real.exp (mid (f c) - inner l N i.val (f c))) else 0) * w (N + i.val) a)
        + ∑ c : Fin 128, (q (N + j) (f c) * Real.exp (inner l N j (f c))) * state k l w N a (f c)
      = out q k l w f (N + j) a := by
  unfold out
  rw [show N + j + 1 = N + (j + 1) from rfl, Finset.sum_range_add, add_comm]
  refine congrArg₂ (· + ·) ?_ ?_
  · unfold state score
    simp only [Finset.mul_sum, Finset.sum_mul]
    rw [Finset.sum_comm]
    refine Finset.sum_congr rfl fun s _ => Finset.sum_congr rfl fun c _ => ?_
    have e : Real.exp (inner l N j (f c)) * Real.exp (cum l N (f c) - cum l (s + 1) (f c))
        = Real.exp (cum l (N + j + 1) (f c)) * Real.exp (-(cum l (s + 1) (f c))) := by
      rw [← Real.exp_add, ← Real.exp_add, inner_eq l N j hj]
      congr 1; rw [show N + (j + 1) = N + j + 1 from rfl]; ring
    linear_combination (q (N + j) (f c) * w s a * k s (f c)) * e
  · rw [← Finset.sum_range (fun i => (if i ≤ j then ∑ c : Fin 128, (q (N + j) (f c) * Real.exp (inner l N j (f c) - mid (f c)))
          * (k (N + i) (f c) * Real.exp (mid (f c) - inner l N i (f c))) else 0) * w (N + i) a)]
    simp only [ite_mul, zero_mul]
    rw [← Finset.sum_filter]
    have hr : (Finset.range 32).filter (fun i => i ≤ j) = Finset.range (j + 1) := by
      ext i; simp only [Finset.mem_filter, Finset.mem_range]; omega
    rw [hr]
    refine Finset.sum_congr rfl fun i hi => ?_
    · refine congrArg (· * _) (Finset.sum_congr rfl fun c _ => ?_)
      have hi' : i < 32 := by have := Finset.mem_range.1 hi; omega
      have e : Real.exp (inner l N j (f c) - mid (f c)) * Real.exp (mid (f c) - inner l N i (f c))
          = Real.exp (cum l (N + j + 1) (f c)) * Real.exp (-(cum l (N + i + 1) (f c))) := by
        rw [← Real.exp_add, ← Real.exp_add, inner_eq l N j hj, inner_eq l N i hi']
        congr 1; rw [show N + (j + 1) = N + j + 1 from rfl, show N + (i + 1) = N + i + 1 from rfl]; ring
      linear_combination (q (N + j) (f c) * k (N + i) (f c)) * e

end Cert.Proof.Chunks

end
-- ==== Proof.HL.Spec.lean ====
/-
  What the recurrent layer is, over the extended reals. A row of the stream is normalised, modulated and projected; the
  projection gives the queries, the forget gate, the values and the output gate of 1024 columns. The recurrence over the rows is
  Chunks.lean's. Each head's outputs are normalised, weighted and gated, multiplied by the output weights, and the layer's
  gate times that is added to the stream.
-/
module

public import proofs.«01_k».proof.Proof.Norm
public import proofs.«01_k».proof.Proof.Spec
public import proofs.«01_k».proof.Proof.HL.Chunks
public import Idealize.ShloMosaic.Lib.ValueIdxCore

@[expose] public section

noncomputable section

namespace Cert.Proof.HL

open Idealize.ShloMosaic Idealize.ShloMosaic.ValueIdx
open scoped BigOperators

/-- A number times its logistic. -/
def silu (x : EReal) : EReal := x * Ideal.logistic x

/-- The larger of two logits. -/
def top (x : Fin 2 → EReal) : EReal := Finset.univ.fold max (FloatOps.ofBits (F := Ideal) .f32 0xFF800000#32 : EReal) x

/-- The first share of the softmax of two logits. -/
def lower (x : Fin 2 → EReal) : EReal := Ideal.div (Ideal.exp (x 0 - top x)) (∑ i : Fin 2, Ideal.exp (x i - top x))

/-- The forget gate: at least `lo`. -/
def keep (lo f : EReal) : EReal := lo + (1 - lo) * Ideal.logistic f

/-- A row of the stream, normalised and modulated, times a column of weights. -/
def project (h g sh sc w : Fin 1024 → EReal) : EReal := ∑ k : Fin 1024, Norm.row h g sh sc k * w k

/-- One over the root of a head's mean square plus a millionth. -/
def headScale (o : Fin 128 → EReal) : EReal :=
  Ideal.rsqrt (Ideal.div (∑ c : Fin 128, o c * o c) (Ideal.ofBits .f32 0x43000000#32) + Ideal.ofBits .f32 0x358637BD#32)

/-- The head of a column. -/
def headOf (n : Fin 1024) : Fin 8 := ⟨n.val / 128, by omega⟩
/-- A column's place in its head. -/
def placeOf (n : Fin 1024) : Fin 128 := ⟨n.val % 128, by omega⟩
/-- The columns of a head. -/
def cols (hd : Fin 8) (c : Fin 128) : Fin 1024 := ⟨128 * hd.val + c.val, by omega⟩

/-- A column is its place in its head. -/
theorem cols_place (n : Fin 1024) : cols (headOf n) (placeOf n) = n :=
  Fin.ext (by show 128 * (n.val / 128) + n.val % 128 = n.val; omega)
/-- The head of a head's column. -/
theorem headOf_cols (hd : Fin 8) (c : Fin 128) : headOf (cols hd c) = hd :=
  Fin.ext (by show (128 * hd.val + c.val) / 128 = hd.val; omega)
/-- The place of a head's column. -/
theorem placeOf_cols (hd : Fin 8) (c : Fin 128) : placeOf (cols hd c) = c :=
  Fin.ext (by show (128 * hd.val + c.val) % 128 = c.val; omega)

/-- An output, normalised over its head, weighted and gated. -/
def mixed (o og gg : Fin 1024 → EReal) (n : Fin 1024) : EReal := o n * headScale (fun c => o (cols (headOf n) c)) * og n * gg n

/-- What the layer returns at a column: the stream plus the gated projection of the outputs. -/
def finished (h gate : EReal) (o og gg w : Fin 1024 → EReal) : EReal := h + gate * ∑ n : Fin 1024, mixed o og gg n * w n

/-- Column `n` of part `p` of the projection. -/
def part (p : Fin 4) (n : Fin 1024) : Fin 4096 := ⟨1024 * p.val + n.val, by omega⟩

/-- Two batches of 16384 rows of 1024 columns. -/
abbrev Hs : Shape := ⟨3, ![2, 16384, 1024]⟩
/-- A row of 1024 columns. -/
abbrev Gs : Shape := ⟨2, ![1, 1024]⟩
/-- A row of 1024 columns in each batch. -/
abbrev Bs : Shape := ⟨3, ![2, 1, 1024]⟩
/-- The input weights. -/
abbrev Ws : Shape := ⟨2, ![1024, 4096]⟩
/-- The logits. -/
abbrev Ls : Shape := ⟨2, ![2, 1024]⟩
/-- The output weights. -/
abbrev Os : Shape := ⟨2, ![1024, 1024]⟩

variable (h : Hs.Idx → EReal) (g : Gs.Idx → EReal) (sh sc gate : Bs.Idx → EReal) (w : Ws.Idx → EReal) (lb : Ls.Idx → EReal)
  (og : Gs.Idx → EReal) (wo : Os.Idx → EReal)

/-- Column `n` of part `p` of the projection of row `t`. -/
def proj (b : Fin 2) (t : Fin 16384) (p : Fin 4) (n : Fin 1024) : EReal :=
  project (fun k => h (ix3 b t k)) (fun k => g (ix2 (0 : Fin 1) k)) (fun k => sh (ix3 b (0 : Fin 1) k)) (fun k => sc (ix3 b (0 : Fin 1) k))
    (fun k => w (ix2 k (part p n)))

/-- A query. -/
def qAt (b : Fin 2) (t : Fin 16384) (n : Fin 1024) : EReal := silu (proj h g sh sc w b t 0 n)
/-- A forget gate. -/
def fAt (b : Fin 2) (t : Fin 16384) (n : Fin 1024) : EReal := keep (lower fun i => lb (ix2 i n)) (proj h g sh sc w b t 1 n)
/-- A key. -/
def kAt (b : Fin 2) (t : Fin 16384) (n : Fin 1024) : EReal := 1 - fAt h g sh sc w lb b t n
/-- A log decay. -/
def lAt (b : Fin 2) (t : Fin 16384) (n : Fin 1024) : EReal := Ideal.log (fAt h g sh sc w lb b t n)
/-- A value. -/
def vAt (b : Fin 2) (t : Fin 16384) (n : Fin 1024) : EReal := proj h g sh sc w b t 2 n
/-- An output gate. -/
def gAt (b : Fin 2) (t : Fin 16384) (n : Fin 1024) : EReal := silu (proj h g sh sc w b t 3 n)

/-- An array of rows as real numbers, its rows numbered. -/
def reals (x : Fin 16384 → Fin 1024 → EReal) : Chunks.Rows := fun s n => (x (Spec.row s) n).toReal

/-- The recurrence's output. -/
def oAt (b : Fin 2) (t : Fin 16384) (n : Fin 1024) : EReal :=
  ((Chunks.out (reals (qAt h g sh sc w b)) (reals (kAt h g sh sc w lb b)) (reals (lAt h g sh sc w lb b)) (reals (vAt h g sh sc w b))
    (cols (headOf n)) t.val n : ℝ) : EReal)

/-- An entry of the layer's result. -/
def entry (b : Fin 2) (t : Fin 16384) (n : Fin 1024) : EReal :=
  finished (h (ix3 b t n)) (gate (ix3 b (0 : Fin 1) n)) (oAt h g sh sc w lb b t) (fun k => og (ix2 (0 : Fin 1) k)) (gAt h g sh sc w b t)
    (fun k => wo (ix2 k n))

/-- The layer's result. -/
def G (x : Hs.Idx) : EReal := entry h g sh sc gate w lb og wo (x 0) (x 1) (x 2)

end Cert.Proof.HL

end
-- ==== Proof.HL.Real.lean ====
/-
  When the norm's weights, the modulation and the input weights are real numbers, so are the queries and the values of the layer,
  whatever the stream: an infinite entry makes the scale of its row zero. So are the keys and the log decays of a column,
  unless the softmax of its logits is a zero divided by zero; then the column's log decays are minus infinity.
-/
module

public import proofs.«01_k».proof.Proof.HL.Spec
public import Idealize.ShloMosaic.Lib.IdealHost

@[expose] public section

noncomputable section

namespace Cert.Proof.HL

open Idealize.ShloMosaic Idealize.ShloMosaic.ValueIdx
open scoped BigOperators

/-- Being a real number. -/
def Is (x : EReal) : Prop := ∃ r : ℝ, x = (r : EReal)

/-- A number that is real is its real part. -/
theorem Is.coe {x : EReal} (h : Is x) : ((x.toReal : ℝ) : EReal) = x := by
  obtain ⟨r, rfl⟩ := h; rw [EReal.toReal_coe]

/-- A sum of real numbers, as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One is real. -/
theorem Is.one : Is 1 := ⟨1, EReal.coe_one.symm⟩
/-- A sum of two real numbers is real. -/
theorem Is.add {x y : EReal} (hx : Is x) (hy : Is y) : Is (x + y) := by
  obtain ⟨a, rfl⟩ := hx; obtain ⟨b, rfl⟩ := hy; exact ⟨a + b, (EReal.coe_add a b).symm⟩
/-- A product of two real numbers is real. -/
theorem Is.mul {x y : EReal} (hx : Is x) (hy : Is y) : Is (x * y) := by
  obtain ⟨a, rfl⟩ := hx; obtain ⟨b, rfl⟩ := hy; exact ⟨a * b, (EReal.coe_mul a b).symm⟩
/-- A difference of two real numbers is real. -/
theorem Is.sub {x y : EReal} (hx : Is x) (hy : Is y) : Is (x - y) := by
  obtain ⟨a, rfl⟩ := hx; obtain ⟨b, rfl⟩ := hy; exact ⟨a - b, (EReal.coe_sub a b).symm⟩
/-- A sum of real numbers is real. -/
theorem Is.sum {ι : Type} (s : Finset ι) {f : ι → EReal} (h : ∀ i, Is (f i)) : Is (∑ i ∈ s, f i) := by
  choose r hr using h
  exact ⟨∑ i ∈ s, r i, by rw [coe_sum]; exact Finset.sum_congr rfl fun i _ => hr i⟩

/-- The literal of the mean is 1024. -/
theorem ofBits_1024 : Ideal.ofBits .f32 0x44800000#32 = ((1024 : ℝ) : EReal) := by
  simp [Ideal.ofBits, Ideal.ieee, -EReal.coe_mul]; norm_num

/-- The literal added to the mean is a positive real number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The scale of a row of real numbers is real. -/
theorem Is.scale {h : Fin 1024 → EReal} (hh : ∀ k, Is (h k)) : Is (Norm.scale h) := by
  choose r hr using hh
  obtain ⟨e, he, hE⟩ := ofBits_eps
  have hs : ∑ k : Fin 1024, h k * h k = ((∑ k : Fin 1024, r k * r k : ℝ) : EReal) := by
    rw [coe_sum]; exact Finset.sum_congr rfl fun k _ => by rw [hr k, EReal.coe_mul]
  have hp : 0 ≤ ∑ k : Fin 1024, r k * r k := Finset.sum_nonneg fun k _ => mul_self_nonneg _
  have ha : 0 < (∑ k : Fin 1024, r k * r k) * (1 / 1024) + e := by positivity
  unfold Norm.scale
  rw [hs, ofBits_1024, Ideal.div_coe (by norm_num), hE, ← EReal.coe_mul, ← EReal.coe_add, Ideal.rsqrt_coe, if_neg (by linarith), if_neg ha.ne']
  exact ⟨_, rfl⟩

/-- A square is not negative. -/
theorem square_nonneg (x : EReal) : 0 ≤ x * x := by
  induction x with
  | bot => simp
  | top => simp
  | coe r => rw [← EReal.coe_mul]; exact EReal.coe_nonneg.2 (mul_self_nonneg r)

/-- The square of a number that is not real is infinite. -/
theorem square_infinite {x : EReal} (h : ¬ Is x) : x * x = ⊤ := by
  induction x with
  | bot => simp
  | top => simp
  | coe r => exact absurd ⟨r, rfl⟩ h

/-- The scale of a row with an infinite entry is zero. -/
theorem scale_infinite {h : Fin 1024 → EReal} {i : Fin 1024} (hi : ¬ Is (h i)) : Norm.scale h = 0 := by
  have hs : ∑ k : Fin 1024, h k * h k = ⊤ :=
    top_le_iff.1 ((square_infinite hi).symm.le.trans (Finset.single_le_sum (fun k _ => square_nonneg (h k)) (Finset.mem_univ i)))
  obtain ⟨e, -, hE⟩ := ofBits_eps
  unfold Norm.scale
  rw [hs, ofBits_1024, Ideal.div_coe (by norm_num), hE, EReal.top_mul_coe_of_pos (by norm_num), EReal.top_add_coe, Ideal.rsqrt_top]

/-- An entry of any row times the row's scale is real. -/
theorem Is.scaled (h : Fin 1024 → EReal) (k : Fin 1024) : Is (h k * Norm.scale h) := by
  by_cases hh : ∀ i, Is (h i)
  · exact Is.mul (hh k) (Is.scale hh)
  · obtain ⟨i, hi⟩ := not_forall.1 hh
    rw [scale_infinite hi, mul_zero]
    exact ⟨0, EReal.coe_zero.symm⟩

/-- A projection with real weights is real. -/
theorem Is.project {h g sh sc w : Fin 1024 → EReal} (hg : ∀ k, Is (g k)) (hsh : ∀ k, Is (sh k)) (hsc : ∀ k, Is (sc k))
    (hw : ∀ k, Is (w k)) : Is (project h g sh sc w) :=
  Is.sum _ fun k => Is.mul (Is.add (Is.mul (Is.mul (Is.scaled h k) (hg k))
    (Is.add (by rw [Ideal.ofBits_one_f32]; exact Is.one) (hsc k))) (hsh k)) (hw k)

/-- A number times its logistic is real. -/
theorem Is.silu {x : EReal} (hx : Is x) : Is (silu x) := by
  obtain ⟨r, rfl⟩ := hx
  exact Is.mul ⟨r, rfl⟩ ⟨_, Ideal.logistic_coe r⟩

/-- The larger of two logits is the maximum. -/
theorem top_eq (x : Fin 2 → EReal) : top x = max (x 0) (x 1) := by
  have hb : (FloatOps.ofBits (F := Ideal) .f32 0xFF800000#32 : EReal) = ⊥ := by
    show Ideal.ofBits .f32 0xFF800000#32 = ⊥
    simp [Ideal.ofBits, Ideal.ieee]
  unfold top
  rw [hb, show (Finset.univ : Finset (Fin 2)) = {0, 1} from rfl, Finset.fold_insert (by decide), Finset.fold_singleton]
  simp

/-- The first share of the softmax of two logits lies between zero and one, unless both exponentials are zero. -/
theorem lower_cases (x : Fin 2 → EReal) : lower x = ⊥ ∨ ∃ r : ℝ, lower x = (r : EReal) ∧ 0 ≤ r ∧ r ≤ 1 := by
  have main : ∀ m : EReal, m = max (x 0) (x 1) →
      Ideal.div (Ideal.exp (x 0 - m)) (Ideal.exp (x 0 - m) + Ideal.exp (x 1 - m)) = ⊥
        ∨ ∃ r : ℝ, Ideal.div (Ideal.exp (x 0 - m)) (Ideal.exp (x 0 - m) + Ideal.exp (x 1 - m)) = (r : EReal) ∧ 0 ≤ r ∧ r ≤ 1 := by
    intro m
    induction m with
    | bot =>
      intro _
      left
      have e : ∀ y : EReal, y ≤ ⊥ → Ideal.exp (y - ⊥) = 0 := fun y hy => by rw [le_bot_iff.1 hy]; simp
      rw [e _ ((le_max_left _ _).trans (by rename_i hm; exact hm.symm.le)), e _ ((le_max_right _ _).trans (by rename_i hm; exact hm.symm.le))]
      simp [Ideal.div]
    | top =>
      intro _
      left
      have e : ∀ y : EReal, Ideal.exp (y - ⊤) = 0 := fun y => by rw [EReal.sub_top]; rfl
      rw [e, e]
      simp [Ideal.div]
    | coe m =>
      intro hm
      right
      have e : ∀ y : EReal, y ≤ (m : EReal) → ∃ r : ℝ, Ideal.exp (y - m) = (r : EReal) ∧ 0 ≤ r := by
        intro y hy
        induction y with
        | bot => exact ⟨0, by simp, le_rfl⟩
        | top => exact absurd hy (by simp)
        | coe r => exact ⟨Real.exp (r - m), by rw [← EReal.coe_sub, Ideal.exp_coe], (Real.exp_pos _).le⟩
      obtain ⟨p, hp, hp0⟩ := e _ ((le_max_left _ _).trans hm.symm.le)
      obtain ⟨q, hq, hq0⟩ := e _ ((le_max_right _ _).trans hm.symm.le)
      have h1 : p = 1 ∨ q = 1 := by
        have z : Ideal.exp ((m : EReal) - m) = ((1 : ℝ) : EReal) := by rw [← EReal.coe_sub, sub_self, Ideal.exp_coe, Real.exp_zero]
        rcases max_choice (x 0) (x 1) with h | h
        · rw [← h, ← hm, z] at hp; exact .inl (EReal.coe_injective hp.symm)
        · rw [← h, ← hm, z] at hq; exact .inr (EReal.coe_injective hq.symm)
      have hs : 0 < p + q := by rcases h1 with h | h <;> rw [h] <;> linarith
      refine ⟨p * (1 / (p + q)), ?_, by positivity, ?_⟩
      · rw [hp, hq, ← EReal.coe_add, Ideal.div_coe hs.ne', EReal.coe_mul]
      · rw [mul_one_div, div_le_one hs]; linarith
  unfold lower
  rw [Fin.sum_univ_two]
  exact main _ (top_eq x)

/-- The forget gate is positive, when its lower bound is real. -/
theorem keep_pos {x : Fin 2 → EReal} {f : EReal} (hx : lower x ≠ ⊥) (hf : Is f) : ∃ r : ℝ, keep (lower x) f = (r : EReal) ∧ 0 < r := by
  obtain ⟨l, hl, hl0, hl1⟩ := (lower_cases x).resolve_left hx
  obtain ⟨r, rfl⟩ := hf
  have he := Real.exp_pos (-r)
  have h1 : (1 + Real.exp (-r))⁻¹ < 1 := inv_lt_one_of_one_lt₀ (by linarith)
  have h0 : 0 < (1 + Real.exp (-r))⁻¹ := by positivity
  refine ⟨l + (1 - l) * (1 + Real.exp (-r))⁻¹, ?_, ?_⟩
  · unfold keep
    rw [hl, Ideal.logistic_coe, ← EReal.coe_one, ← EReal.coe_sub, ← EReal.coe_mul, ← EReal.coe_add]
  · nlinarith [mul_nonneg hl0 (sub_nonneg.2 h1.le)]

section Arrays

variable {h : Hs.Idx → EReal} {g : Gs.Idx → EReal} {sh sc : Bs.Idx → EReal} {w : Ws.Idx → EReal} {lb : Ls.Idx → EReal}

/-- The norm's weights, the modulation and the input weights are real numbers. -/
structure Finite (g : Gs.Idx → EReal) (sh sc : Bs.Idx → EReal) (w : Ws.Idx → EReal) : Prop where
  /-- The norm's weights. -/
  g : ∀ i, Is (g i)
  /-- The shifts. -/
  sh : ∀ i, Is (sh i)
  /-- The scales. -/
  sc : ∀ i, Is (sc i)
  /-- The input weights. -/
  w : ∀ i, Is (w i)

/-- A column whose softmax of the logits is a zero divided by zero. -/
def Dead (lb : Ls.Idx → EReal) (n : Fin 1024) : Prop := lower (fun i => lb (ix2 i n)) = ⊥

variable (H : Finite g sh sc w) (b : Fin 2) (t : Fin 16384) (n : Fin 1024)

/-- A forget gate of a dead column is minus infinity. -/
theorem fAt_dead (hn : Dead lb n) : fAt h g sh sc w lb b t n = ⊥ := by
  unfold fAt keep
  rw [show lower (fun i => lb (ix2 i n)) = ⊥ from hn, EReal.bot_add]
/-- A log decay of a dead column is minus infinity. -/
theorem lAt_dead (hn : Dead lb n) : lAt h g sh sc w lb b t n = ⊥ := by
  unfold lAt
  rw [fAt_dead b t n hn, Ideal.log_bot]
/-- The real part of a key of a dead column is zero. -/
theorem kAt_dead (s : ℕ) (hn : Dead lb n) : reals (kAt h g sh sc w lb b) s n = 0 := by
  show EReal.toReal (1 - fAt h g sh sc w lb b (Spec.row s) n) = 0
  rw [fAt_dead b _ n hn, sub_eq_add_neg, EReal.neg_bot, EReal.add_top_of_ne_bot (by decide), EReal.toReal_top]

include H

/-- A projection is real. -/
theorem Finite.proj (p : Fin 4) : Is (proj h g sh sc w b t p n) :=
  Is.project (fun _ => H.g _) (fun _ => H.sh _) (fun _ => H.sc _) fun _ => H.w _
/-- A query is real. -/
theorem Finite.q : Is (qAt h g sh sc w b t n) := Is.silu (H.proj b t n 0)
/-- A value is real. -/
theorem Finite.v : Is (vAt h g sh sc w b t n) := H.proj b t n 2
/-- A key of a column that is not dead is real. -/
theorem Finite.k (hn : ¬ Dead lb n) : Is (kAt h g sh sc w lb b t n) := by
  obtain ⟨r, hr, -⟩ := keep_pos hn (H.proj (h := h) b t n 1)
  exact Is.sub Is.one ⟨r, hr⟩
/-- A log decay of a column that is not dead is real. -/
theorem Finite.l (hn : ¬ Dead lb n) : Is (lAt h g sh sc w lb b t n) := by
  obtain ⟨r, hr, h0⟩ := keep_pos hn (H.proj (h := h) b t n 1)
  refine ⟨Real.log r, ?_⟩
  unfold lAt fAt
  rw [hr, Ideal.log_coe, if_neg (by linarith)]

end Arrays

end Cert.Proof.HL

end
-- ==== Proof.HI.Chunk.lean ====
/-
  A chunk of the recurrent layer read at an entry, over the extended reals. When a chunk's queries and values are
  real numbers, its keys and log decays too or the column dead, and the states before it are those of Chunks.lean, its outputs
  and the states after it are too.
-/
module

public import proofs.«01_k».proof.Proof.HI.Model
public import proofs.«01_k».proof.Proof.HL.Real
public import Idealize.ShloMosaic.PureOps.Ideal
public import Idealize.ShloMosaic.PureOps.IdealRules
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.WordCmp
public import Idealize.ShloMosaic.Lib.IdealHost
public import Idealize.ShloMosaic.Lib.Pipeline.Value

@[expose] public section

noncomputable section

namespace Cert.Proof.HI

open Cert.KernelHIdeal Cert.KernelHIdeal.Gen Cert.Proof.HL
open Idealize.ShloMosaic Idealize.ShloMosaic.ValueIdx
open scoped BigOperators

/-- The causal mask's bits. -/
theorem mask_apply (j i : Fin 32) : k0_pay53 (ix2 j i) = if i.val ≤ j.val then 1#1 else 0#1 := by
  show IntOp.cmpi .sge (BitVec.ofNat 32 (0 * 32 + j.val)) (BitVec.ofNat 32 (0 * 32 + i.val)) = _
  have hj := j.isLt; have hi := i.isLt
  rw [Nat.zero_mul, Nat.zero_add, Nat.zero_add, WordCmp.cmpi_sge_ofNat (by omega) (by omega)]
  split_ifs with h <;> simp [h]

/-- The lower triangle of ones. -/
theorem tri_apply (j i : Fin 32) : k0_pay54 (F := Ideal) (ix2 j i) = ((if i.val ≤ j.val then 1 else 0 : ℝ) : EReal) := by
  show ((((k0_pay53 (ix2 j i)).setWidth 32).toInt : ℝ) : EReal) = _
  rw [mask_apply]
  split_ifs with h <;> simp

section Entries

variable (N : ℕ) {q k l v : Chunk Ideal} {Q K L W : Chunks.Rows}

/-- A chunk holds the real rows from row `N` on. -/
def Holds (N : ℕ) (x : Chunk Ideal) (X : Chunks.Rows) : Prop := ∀ (j : Fin 32) (n : Fin 1024), x (ix2 j n) = ((X (N + j.val) n : ℝ) : EReal)

/-- A column of a chunk holds the real rows from row `N` on. -/
def HoldsAt (N : ℕ) (x : Chunk Ideal) (X : Chunks.Rows) (n : Fin 1024) : Prop := ∀ j : Fin 32, x (ix2 j n) = ((X (N + j.val) n : ℝ) : EReal)

/-- A column of a chunk holds minus infinity. -/
def BotAt (x : Chunk Ideal) (n : Fin 1024) : Prop := ∀ j : Fin 32, x (ix2 j n) = ⊥

/-- A chunk's keys and log decays: real numbers, or, in a column where every key counts as zero, log decays of minus infinity. -/
def Keyed (N : ℕ) (k l : Chunk Ideal) (K L : Chunks.Rows) : Prop :=
  ∀ n : Fin 1024, (HoldsAt N k K n ∧ HoldsAt N l L n) ∨ (BotAt l n ∧ ∀ s, K s n = 0)

variable {N} {n : Fin 1024}

/-- An entry of a chunk's sums of log decays. -/
theorem cum_sum (j : Fin 32) : k0_pay3 k0_pay54 l (ix2 j n) = ∑ i : Fin 32, ((if i.val ≤ j.val then 1 else 0 : ℝ) : EReal) * l (ix2 i n) := by
  have e : dot_S32x32_S32x1024_S32x1024_1_0_0_1_n_n = DotDims.plain 32 32 1024 := rfl
  unfold k0_pay3
  rw [e]
  refine (Ideal.matmul_plain_apply (some .fp32) k0_pay54 l _ j n).trans ?_
  rw [constant_apply, Ideal.ofBits_zero_f32, zero_add]
  exact Finset.sum_congr rfl fun i _ => by rw [tri_apply]

/-- The sums of the log decays within the chunk. -/
theorem cum_apply (hl : HoldsAt N l L n) (j : Fin 32) : k0_pay3 k0_pay54 l (ix2 j n) = ((Chunks.inner L N j.val n : ℝ) : EReal) := by
  rw [cum_sum]
  unfold Chunks.inner
  rw [coe_sum]
  exact Finset.sum_congr rfl fun i _ => by rw [hl, EReal.coe_mul]

/-- The sums of log decays of minus infinity are minus infinity. -/
theorem cum_bot (hl : BotAt l n) (j : Fin 32) : k0_pay3 k0_pay54 l (ix2 j n) = ⊥ := by
  rw [cum_sum, ← Finset.add_sum_erase _ _ (Finset.mem_univ j), hl, if_pos le_rfl, EReal.coe_one, one_mul, EReal.bot_add]

/-- The middle row's sums. -/
theorem mid_row : k0_pay4 k0_pay54 l (ix2 (0 : Fin 1) n) = k0_pay3 k0_pay54 l (ix2 (15 : Fin 32) n) :=
  slice2_axis0_apply 15 (k0_pay3 k0_pay54 l) slices_S32x1024_o15_0_S1x1024 (0 : Fin 1) n (15 : Fin 32) rfl

/-- The last row's sums. -/
theorem last_row : k0_pay5 k0_pay54 l (ix2 (0 : Fin 1) n) = k0_pay3 k0_pay54 l (ix2 (31 : Fin 32) n) :=
  slice2_axis0_apply 31 (k0_pay3 k0_pay54 l) slices_S32x1024_o31_0_S1x1024 (0 : Fin 1) n (31 : Fin 32) rfl

/-- An entry of the queries for the scores. -/
theorem qm_entry (j : Fin 32) : k0_pay6 k0_pay54 l q (ix2 j n)
    = q (ix2 j n) * Ideal.exp (k0_pay3 k0_pay54 l (ix2 j n) - k0_pay3 k0_pay54 l (ix2 (15 : Fin 32) n)) :=
  congrArg (fun b : EReal => q (ix2 j n) * Ideal.exp (k0_pay3 k0_pay54 l (ix2 j n) - b)) ((broadcastTo_1b_ab_apply _ _ j n).trans mid_row)

/-- An entry of the keys for the scores. -/
theorem km_entry (j : Fin 32) : k0_pay7 k0_pay54 l k (ix2 j n)
    = k (ix2 j n) * Ideal.exp (k0_pay3 k0_pay54 l (ix2 (15 : Fin 32) n) - k0_pay3 k0_pay54 l (ix2 j n)) :=
  congrArg (fun b : EReal => k (ix2 j n) * Ideal.exp (b - k0_pay3 k0_pay54 l (ix2 j n))) ((broadcastTo_1b_ab_apply _ _ j n).trans mid_row)

/-- An entry of the queries for the state. -/
theorem qc_entry (j : Fin 32) : k0_pay8 k0_pay54 l q (ix2 j n) = q (ix2 j n) * Ideal.exp (k0_pay3 k0_pay54 l (ix2 j n)) := rfl

/-- An entry of the keys for the next state. -/
theorem kl_entry (j : Fin 32) : k0_pay9 k0_pay54 l k (ix2 j n)
    = k (ix2 j n) * Ideal.exp (k0_pay3 k0_pay54 l (ix2 (31 : Fin 32) n) - k0_pay3 k0_pay54 l (ix2 j n)) :=
  congrArg (fun b : EReal => k (ix2 j n) * Ideal.exp (b - k0_pay3 k0_pay54 l (ix2 j n))) ((broadcastTo_1b_ab_apply _ _ j n).trans last_row)

/-- An entry of the state's decay. -/
theorem dec_entry : k0_pay10 k0_pay54 l (ix2 (0 : Fin 1) n) = Ideal.exp (k0_pay3 k0_pay54 l (ix2 (31 : Fin 32) n)) := congrArg Ideal.exp last_row

/-- A real number times the exponential of a difference of real numbers. -/
theorem mul_exp_sub (a b c : ℝ) : (a : EReal) * Ideal.exp ((b : EReal) - (c : EReal)) = ((a * Real.exp (b - c) : ℝ) : EReal) := by
  rw [← EReal.coe_sub, Ideal.exp_coe, EReal.coe_mul]

/-- Anything times the exponential of minus infinity less itself is zero. -/
theorem mul_exp_bot (x : EReal) : x * Ideal.exp (⊥ - ⊥) = 0 := by
  rw [sub_eq_add_neg, EReal.bot_add, Ideal.exp_bot, mul_zero]

/-- A column's share of a score. -/
theorem pair_apply (hq : HoldsAt N q Q n) (h : (HoldsAt N k K n ∧ HoldsAt N l L n) ∨ (BotAt l n ∧ ∀ s, K s n = 0)) (j i : Fin 32) :
    k0_pay6 k0_pay54 l q (ix2 j n) * k0_pay7 k0_pay54 l k (ix2 i n)
      = (((Q (N + j.val) n * Real.exp (Chunks.inner L N j.val n - Chunks.inner L N 15 n))
        * (K (N + i.val) n * Real.exp (Chunks.inner L N 15 n - Chunks.inner L N i.val n)) : ℝ) : EReal) := by
  rw [qm_entry, km_entry]
  rcases h with ⟨hk, hl⟩ | ⟨hl, hK⟩
  · rw [cum_apply hl, cum_apply hl, cum_apply hl, hq, hk, mul_exp_sub, mul_exp_sub]
    exact (EReal.coe_mul _ _).symm
  · rw [cum_bot hl, cum_bot hl, cum_bot hl, mul_exp_bot, mul_exp_bot, mul_zero, hK, zero_mul, mul_zero, EReal.coe_zero]

/-- A column's share of what the state gives an output. -/
theorem carried_apply (hq : HoldsAt N q Q n) (h : (HoldsAt N k K n ∧ HoldsAt N l L n) ∨ (BotAt l n ∧ ∀ s, K s n = 0)) (a : Fin 1024) (j : Fin 32) :
    k0_pay8 k0_pay54 l q (ix2 j n) * ((Chunks.state K L W N a n : ℝ) : EReal)
      = (((Q (N + j.val) n * Real.exp (Chunks.inner L N j.val n)) * Chunks.state K L W N a n : ℝ) : EReal) := by
  rw [qc_entry]
  rcases h with ⟨hk, hl⟩ | ⟨hl, hK⟩
  · rw [cum_apply hl, hq, Ideal.exp_coe, ← EReal.coe_mul]
    exact (EReal.coe_mul _ _).symm
  · rw [cum_bot hl, Ideal.exp_bot, mul_zero, zero_mul, Chunks.state_dead K L W N a n hK, mul_zero, EReal.coe_zero]

/-- A key for the next state. -/
theorem kl_apply (h : (HoldsAt N k K n ∧ HoldsAt N l L n) ∨ (BotAt l n ∧ ∀ s, K s n = 0)) (j : Fin 32) : k0_pay9 k0_pay54 l k (ix2 j n)
    = ((K (N + j.val) n * Real.exp (Chunks.inner L N 31 n - Chunks.inner L N j.val n) : ℝ) : EReal) := by
  rw [kl_entry]
  rcases h with ⟨hk, hl⟩ | ⟨hl, hK⟩
  · rw [cum_apply hl, cum_apply hl, hk]
    exact mul_exp_sub _ _ _
  · rw [cum_bot hl, cum_bot hl, mul_exp_bot, hK, zero_mul, EReal.coe_zero]

/-- A column of the states, decayed. -/
theorem decayed_apply (h : (HoldsAt N k K n ∧ HoldsAt N l L n) ∨ (BotAt l n ∧ ∀ s, K s n = 0)) (a : Fin 1024) :
    ((Chunks.state K L W N a n : ℝ) : EReal) * k0_pay10 k0_pay54 l (ix2 (0 : Fin 1) n)
      = ((Chunks.state K L W N a n * Real.exp (Chunks.inner L N 31 n) : ℝ) : EReal) := by
  rw [dec_entry]
  rcases h with ⟨hk, hl⟩ | ⟨hl, hK⟩
  · rw [cum_apply hl, Ideal.exp_coe]
    exact (EReal.coe_mul _ _).symm
  · rw [Chunks.state_dead K L W N a n hK, EReal.coe_zero, zero_mul, zero_mul, EReal.coe_zero]

end Entries

section Heads

variable (hd : Fin 8) (v qm km qc kl : FVec Ideal S32x1024 .bf16) (dec : FVec Ideal S1x1024 .f32) (st : Vec Ideal S1x128x128 .f32)

/-- A head's columns of a chunk. -/
theorem head_apply {φ : FTy} (x : FVec Ideal S32x1024 φ) (j : Fin 32) (c : Fin 128) :
    extractStridedSlice S32x128 ![0, 128 * hd.val] x (slices32 hd) (ix2 j c) = x (ix2 j (cols hd c)) :=
  slice2_axis1_apply (128 * hd.val) x _ j c (cols hd c) rfl

/-- An entry of a head's output. -/
theorem headOut_apply (j : Fin 32) (a : Fin 128) : headOut hd v qm km qc st (ix2 j a)
    = (∑ i : Fin 32, (if i.val ≤ j.val then ∑ c : Fin 128, qm (ix2 j (cols hd c)) * km (ix2 i (cols hd c)) else 0) * v (ix2 i (cols hd a)))
      + ∑ c : Fin 128, qc (ix2 j (cols hd c)) * st (ix3 (0 : Fin 1) a c) := by
  have e1 : dot_S32x32_S32x128_S32x128_1_0_0_1_n_n = DotDims.plain 32 32 128 := rfl
  have e2 : dot_S32x128_S32x128_S32x32_1_1_0_0_n_n = DotDims.transposedRhs 32 128 32 := rfl
  have e3 : dot_S32x128_S128x128_S32x128_1_1_0_0_n_n = DotDims.transposedRhs 32 128 128 := rfl
  unfold headOut
  rw [shapeCast_self, e1, e2, e3]
  refine congrArg₂ (fun x y : EReal => x + y) ((Ideal.matmul_plain_apply none _ _ _ j a).trans ?_) ((Ideal.matmul_transposedRhs_apply none _ _ _ j a).trans ?_)
  · rw [constant_apply, Ideal.ofBits_zero_f32, zero_add]
    refine Finset.sum_congr rfl fun i _ => congrArg₂ (fun x y : EReal => x * y) ?_ (head_apply hd v i a)
    show Scalar.select (k0_pay53 (ix2 j i)) _ (Ideal.ofBits .f32 0x00000000#32) = _
    rw [mask_apply, Ideal.ofBits_zero_f32]
    split_ifs with h
    · refine (Ideal.matmul_transposedRhs_apply none _ _ _ j i).trans ?_
      rw [constant_apply, Ideal.ofBits_zero_f32, zero_add]
      exact Finset.sum_congr rfl fun c _ => congrArg₂ (fun x y : EReal => x * y) (head_apply hd qm j c) (head_apply hd km i c)
    · rfl
  · rw [constant_apply, Ideal.ofBits_zero_f32, zero_add]
    exact Finset.sum_congr rfl fun c _ => congrArg₂ (fun x y : EReal => x * y) (head_apply hd qc j c) (shapeCast_1ab_ab_apply st _ a c)

/-- A product of two chunks over their rows. -/
theorem rows_apply (x y : FVec Ideal S32x128 .bf16) (a c : Fin 128) :
    matmul dot_S32x128_S32x128_S128x128_0_0_1_1_n_n none x y (constant S128x128 .f32 0x00000000#32) (ix2 a c)
      = ∑ i : Fin 32, x (ix2 i a) * y (ix2 i c) := by
  show constant (F := Ideal) S128x128 .f32 0x00000000#32 (ix2 a c) + ∑ i : dot_S32x128_S32x128_S128x128_0_0_1_1_n_n.contr.Idx, _ = _
  rw [constant_apply, Ideal.ofBits_zero_f32, zero_add,
    ← Equiv.sum_comp (contrEquiv1 dot_S32x128_S32x128_S128x128_0_0_1_1_n_n 32 rfl rfl).symm]
  refine Finset.sum_congr rfl fun i _ => ?_
  have hi := contrEquiv1_symm_val dot_S32x128_S32x128_S128x128_0_0_1_1_n_n 32 rfl rfl i
  have el : dot_S32x128_S32x128_S128x128_0_0_1_1_n_n.lhsIdx (ix2 a c)
      ((contrEquiv1 dot_S32x128_S32x128_S128x128_0_0_1_1_n_n 32 rfl rfl).symm i) = ix2 i a :=
    funext fun b => Fin.ext (match b with | ⟨0, _⟩ => hi | ⟨1, _⟩ => rfl)
  have er : dot_S32x128_S32x128_S128x128_0_0_1_1_n_n.rhsIdx (ix2 a c)
      ((contrEquiv1 dot_S32x128_S32x128_S128x128_0_0_1_1_n_n 32 rfl rfl).symm i) = ix2 i c :=
    funext fun b => Fin.ext (match b with | ⟨0, _⟩ => hi | ⟨1, _⟩ => rfl)
  exact congrArg₂ (fun x y : EReal => x * y) (congrArg x el) (congrArg y er)

/-- An entry of a head's next state. -/
theorem headState_apply (a c : Fin 128) : headState hd v kl dec st (ix3 (0 : Fin 1) a c)
    = st (ix3 (0 : Fin 1) a c) * dec (ix2 (0 : Fin 1) (cols hd c)) + ∑ i : Fin 32, v (ix2 i (cols hd a)) * kl (ix2 i (cols hd c)) := by
  unfold headState
  refine (shapeCast_ab_1ab_apply _ _ (0 : Fin 1) a c).trans ?_
  refine congrArg₂ (fun x y : EReal => x + y) (congrArg₂ (fun x y : EReal => x * y) (shapeCast_1ab_ab_apply st _ a c)
    ((broadcastTo_1b_ab_apply _ _ a c).trans (slice2_axis1_apply (128 * hd.val) dec _ (0 : Fin 1) c (cols hd c) rfl))) ((rows_apply _ _ a c).trans ?_)
  exact Finset.sum_congr rfl fun i _ => congrArg₂ (fun x y : EReal => x * y) (head_apply hd v i a) (head_apply hd kl i c)

end Heads

section Steps

variable {N : ℕ} {q k l v : Chunk Ideal} {Q K L W : Chunks.Rows} {s : State Ideal}

/-- The states are those of the recurrence before row `N`. -/
def Carries (K L W : Chunks.Rows) (N : ℕ) (s : State Ideal) : Prop :=
  ∀ (hd : Fin 8) (a c : Fin 128), s (ix3 hd a c) = ((Chunks.state K L W N (cols hd a) (cols hd c) : ℝ) : EReal)

/-- A chunk carries the states on by 32 rows. -/
theorem states_carry (hk : Keyed N k l K L) (hv : Holds N v W) (hs : Carries K L W N s) :
    Carries K L W (N + 32) (states k l v s) := by
  intro hd a c
  refine (headState_apply hd (k0_pay2 v) (k0_pay9 k0_pay54 l k) (k0_pay10 k0_pay54 l) (slab s hd) a c).trans ?_
  rw [← Chunks.state_chunk, EReal.coe_add, coe_sum, ← decayed_apply (hk (cols hd c))]
  refine congrArg₂ (fun x y : EReal => x + y) (congrArg (fun x : EReal => x * _) (hs hd a c)) (Finset.sum_congr rfl fun i _ => ?_)
  rw [kl_apply (hk (cols hd c)), EReal.coe_mul]
  exact congrArg (fun x : EReal => x * _) (hv i (cols hd a))

/-- A chunk's outputs are the recurrence's. -/
theorem outs_eq (hq : Holds N q Q) (hk : Keyed N k l K L) (hv : Holds N v W) (hs : Carries K L W N s) (hd : Fin 8) (j : Fin 32)
    (a : Fin 128) : outs q k l v s hd (ix2 j a) = ((Chunks.out Q K L W (cols hd) (N + j.val) (cols hd a) : ℝ) : EReal) := by
  refine (headOut_apply hd (k0_pay2 v) (k0_pay6 k0_pay54 l q) (k0_pay7 k0_pay54 l k) (k0_pay8 k0_pay54 l q) (slab s hd) j a).trans ?_
  rw [← Chunks.out_chunk Q K L W (cols hd) N j.val j.isLt (fun n => Chunks.inner L N 15 n), EReal.coe_add, coe_sum, coe_sum]
  refine congrArg₂ (fun x y : EReal => x + y) (Finset.sum_congr rfl fun i _ => ?_) (Finset.sum_congr rfl fun c _ => ?_)
  · rw [EReal.coe_mul]
    refine congrArg₂ (fun x y : EReal => x * y) ?_ (hv i (cols hd a))
    split_ifs with h
    · rw [coe_sum]
      exact Finset.sum_congr rfl fun c _ => pair_apply (fun j => hq j (cols hd c)) (hk (cols hd c)) j i
    · rfl
  · exact (congrArg (fun x : EReal => _ * x) (hs hd a c)).trans (carried_apply (fun j => hq j (cols hd c)) (hk (cols hd c)) (cols hd a) j)

end Steps

section Tiles

variable {M : ℕ} {q k l v : Tile Ideal} {Q K L W : Chunks.Rows} {s : State Ideal}

/-- A tile holds the real rows from row `M` on. -/
def HoldsTile (M : ℕ) (x : Tile Ideal) (X : Chunks.Rows) : Prop := ∀ (r : Fin 256) (n : Fin 1024), x (ix2 r n) = ((X (M + r.val) n : ℝ) : EReal)

/-- A tile's chunks hold its rows. -/
theorem HoldsTile.chunk {x : Tile Ideal} {X : Chunks.Rows} (h : HoldsTile M x X) (i : ℕ) (hi : i < 8) : Holds (M + 32 * i) (chunkOf x i) X := by
  intro j n
  refine (h ⟨(32 * i + j.val) % 256, Nat.mod_lt _ (by decide)⟩ n).trans ?_
  have := j.isLt
  show ((X (M + (32 * i + j.val) % 256) n : ℝ) : EReal) = _
  rw [Nat.mod_eq_of_lt (by omega), Nat.add_assoc]

/-- A tile's keys and log decays: real numbers, or, in a column where every key counts as zero, log decays of minus infinity. -/
def KeyedTile (M : ℕ) (k l : Tile Ideal) (K L : Chunks.Rows) : Prop :=
  ∀ n : Fin 1024, (∀ r : Fin 256, k (ix2 r n) = ((K (M + r.val) n : ℝ) : EReal) ∧ l (ix2 r n) = ((L (M + r.val) n : ℝ) : EReal))
    ∨ ((∀ r : Fin 256, l (ix2 r n) = ⊥) ∧ ∀ s, K s n = 0)

/-- So do a tile's chunks. -/
theorem KeyedTile.chunk (h : KeyedTile M k l K L) (i : ℕ) (hi : i < 8) : Keyed (M + 32 * i) (chunkOf k i) (chunkOf l i) K L := by
  have e : ∀ j : Fin 32, M + (32 * i + j.val) % 256 = M + 32 * i + j.val := fun j => by have := j.isLt; rw [Nat.mod_eq_of_lt (by omega), Nat.add_assoc]
  intro n
  rcases h n with h | h
  · refine .inl ⟨fun j => ((h ⟨(32 * i + j.val) % 256, Nat.mod_lt _ (by decide)⟩).1).trans ?_,
      fun j => ((h ⟨(32 * i + j.val) % 256, Nat.mod_lt _ (by decide)⟩).2).trans ?_⟩
    · exact congrArg (fun m => ((K m n : ℝ) : EReal)) (e j)
    · exact congrArg (fun m => ((L m n : ℝ) : EReal)) (e j)
  · exact .inr ⟨fun j => h.1 ⟨(32 * i + j.val) % 256, Nat.mod_lt _ (by decide)⟩, h.2⟩

/-- The first chunks of a tile carry the states on. -/
theorem statesAt_carry (hk : KeyedTile M k l K L) (hv : HoldsTile M v W) (hs : Carries K L W M s) :
    ∀ i : ℕ, i ≤ 8 → Carries K L W (M + 32 * i) (statesAt k l v s i)
  | 0, _ => hs
  | i + 1, h => states_carry (hk.chunk i (by omega)) (hv.chunk i (by omega)) (statesAt_carry hk hv hs i (by omega))

/-- A tile's outputs are the recurrence's. -/
theorem outTile_chunk (hq : HoldsTile M q Q) (hk : KeyedTile M k l K L) (hv : HoldsTile M v W) (hs : Carries K L W M s)
    (r : Fin 256) (n : Fin 1024) : outTile q k l v s (ix2 r n) = ((Chunks.out Q K L W (cols (headOf n)) (M + r.val) n : ℝ) : EReal) := by
  have hr := r.isLt
  have hi : r.val / 32 < 8 := by omega
  refine (outs_eq (hq.chunk (r.val / 32) hi) (hk.chunk (r.val / 32) hi) (hv.chunk (r.val / 32) hi)
    (statesAt_carry hk hv hs (r.val / 32) hi.le) (headOf n) ⟨r.val % 32, Nat.mod_lt _ (by decide)⟩ (placeOf n)).trans ?_
  rw [cols_place]
  show ((Chunks.out Q K L W (cols (headOf n)) (M + 32 * (r.val / 32) + r.val % 32) n : ℝ) : EReal) = _
  rw [show M + 32 * (r.val / 32) + r.val % 32 = M + r.val by omega]

end Tiles

end Cert.Proof.HI

end
-- ==== Proof.HI.Point.lean ====
/-
  A tile of the recurrent layer's call read at an entry, over the extended reals: the queries, keys, log decays, values and
  output gates a tile is turned into, and what is stored from the heads' outputs.
-/
module

public import proofs.«01_k».proof.Proof.HI.Chunk

@[expose] public section

noncomputable section

namespace Cert.Proof.HI

open Cert.KernelHIdeal Cert.KernelHIdeal.Gen Cert.Proof.HL
open Idealize.ShloMosaic Idealize.ShloMosaic.ValueIdx
open scoped BigOperators

section Rows

variable (h : Vec Ideal S1x256x1024 .f32) (g : Vec Ideal S1x1024 .f32) (sh sc : Vec Ideal S1x1x1024 .f32) (w : Vec Ideal S1024x4096 .bf16)
  (lb : Vec Ideal S2x1024 .f32)

/-- The rows' scales. -/
def scales : FVec Ideal S256x1 .f32 :=
  rsqrt (addf (divf (shapeCast S256x1 (multiReduction .add [1] S256 (mulf (k0_pay44 h) (k0_pay44 h)) 0x00000000#32 reduces_S256x1024_S256 (.inl rfl) rfl)
    shapeCasts_S256_S256x1) (broadcast S256x1 (Scalar.ofBits .f32 0x44800000#32))) (broadcast S256x1 (Scalar.ofBits .f32 0x358637BD#32)))

/-- The rows normalised and modulated. -/
def normed : FVec Ideal S256x1024 .f32 :=
  addf (mulf (mulf (mulf (k0_pay44 h) (broadcastTo S256x1024 (scales h) broadcasts_S256x1_S256x1024))
      (broadcastTo S256x1024 g broadcasts_S1x1024_S256x1024))
    (broadcastTo S256x1024 (addf (broadcast S1x1024 (Scalar.ofBits .f32 0x3F800000#32)) (shapeCast S1x1024 sc shapeCasts_S1x1x1024_S1x1024))
      broadcasts_S1x1024_S256x1024))
    (broadcastTo S256x1024 (shapeCast S1x1024 sh shapeCasts_S1x1x1024_S1x1024) broadcasts_S1x1024_S256x1024)

/-- The tile as a matrix. -/
theorem mat_apply (r : Fin 256) (k : Fin 1024) : k0_pay44 h (ix2 r k) = h (ix3 (0 : Fin 1) r k) := shapeCast_1ab_ab_apply h _ r k

/-- A row's scale. -/
theorem scales_apply (r : Fin 256) : scales h (ix2 r (0 : Fin 1)) = Norm.scale fun k => h (ix3 (0 : Fin 1) r k) := by
  have e : shapeCast S256x1 (multiReduction .add [1] S256 (mulf (k0_pay44 h) (k0_pay44 h)) 0x00000000#32 reduces_S256x1024_S256 (.inl rfl) rfl)
      shapeCasts_S256_S256x1 (ix2 r (0 : Fin 1)) = ∑ k : Fin 1024, h (ix3 (0 : Fin 1) r k) * h (ix3 (0 : Fin 1) r k) := by
    refine (shapeCast_a_a1_apply _ _ r 0).trans ((Ideal.multiReduction_add_single _ _ _ _ _ _).trans ?_)
    refine Finset.sum_congr rfl fun k _ => ?_
    have hk : reduces_S256x1024_S256.lift (ix1 r) k = ix2 r (k : Fin 1024) :=
      funext fun a => Fin.ext (match a with | ⟨0, _⟩ => rfl | ⟨1, _⟩ => rfl)
    have hm : k0_pay44 h (reduces_S256x1024_S256.lift (ix1 r) k) = h (ix3 (0 : Fin 1) r (k : Fin 1024)) :=
      (congrArg (k0_pay44 h) hk).trans (mat_apply h r k)
    exact congrArg₂ (fun u v : EReal => u * v) hm hm
  exact congrArg (fun z : EReal => Ideal.rsqrt (Ideal.div z (Ideal.ofBits .f32 0x44800000#32) + Ideal.ofBits .f32 0x358637BD#32)) e

/-- A row's normalised, modulated entry. -/
theorem normed_apply (r : Fin 256) (k : Fin 1024) :
    normed h g sh sc (ix2 r k) = Norm.row (fun k => h (ix3 (0 : Fin 1) r k)) (fun k => g (ix2 (0 : Fin 1) k))
      (fun k => sh (ix3 (0 : Fin 1) (0 : Fin 1) k)) (fun k => sc (ix3 (0 : Fin 1) (0 : Fin 1) k)) k := by
  have e1 : broadcastTo S256x1024 (scales h) broadcasts_S256x1_S256x1024 (ix2 r k) = Norm.scale fun k => h (ix3 (0 : Fin 1) r k) :=
    (broadcastTo_apply _ _ _ (ix2 r (0 : Fin 1)) fun a => match a with | ⟨0, _⟩ => rfl | ⟨1, _⟩ => rfl).trans (scales_apply h r)
  have e2 : broadcastTo S256x1024 g broadcasts_S1x1024_S256x1024 (ix2 r k) = g (ix2 (0 : Fin 1) k) := broadcastTo_1b_ab_apply g _ r k
  have e3 : broadcastTo S256x1024 (addf (broadcast S1x1024 (Scalar.ofBits .f32 0x3F800000#32)) (shapeCast S1x1024 sc shapeCasts_S1x1x1024_S1x1024))
      broadcasts_S1x1024_S256x1024 (ix2 r k) = Ideal.ofBits .f32 0x3F800000#32 + sc (ix3 (0 : Fin 1) (0 : Fin 1) k) :=
    (broadcastTo_1b_ab_apply _ _ r k).trans (congrArg (fun z : EReal => Ideal.ofBits .f32 0x3F800000#32 + z) (shapeCast_1ab_ab_apply sc _ (0 : Fin 1) k))
  have e4 : broadcastTo S256x1024 (shapeCast S1x1024 sh shapeCasts_S1x1x1024_S1x1024) broadcasts_S1x1024_S256x1024 (ix2 r k)
      = sh (ix3 (0 : Fin 1) (0 : Fin 1) k) := (broadcastTo_1b_ab_apply _ _ r k).trans (shapeCast_1ab_ab_apply sh _ (0 : Fin 1) k)
  exact congrArg₂ (fun u v : EReal => u + v) (congrArg₂ (fun u v : EReal => u * v)
    (congrArg₂ (fun u v : EReal => u * v) (congrArg₂ (fun u v : EReal => u * v) (mat_apply h r k) e1) e2) e3) e4

/-- The projection of a tile's row, from the tile's blocks. -/
def tproj (r : Fin 256) (p : Fin 4) (n : Fin 1024) : EReal :=
  project (fun k => h (ix3 (0 : Fin 1) r k)) (fun k => g (ix2 (0 : Fin 1) k)) (fun k => sh (ix3 (0 : Fin 1) (0 : Fin 1) k))
    (fun k => sc (ix3 (0 : Fin 1) (0 : Fin 1) k)) (fun k => w (ix2 k (part p n)))

/-- An entry of the projected tile. -/
theorem product_apply (r : Fin 256) (p : Fin 4) (n : Fin 1024) : k0_pay45 h g sh sc w (ix2 r (part p n)) = tproj h g sh sc w r p n := by
  refine (Ideal.matmul_plain_apply none (truncf .bf16 (normed h g sh sc) bitsLt_bf16_f32) w (constant S256x4096 .f32 0x00000000#32) r (part p n)).trans ?_
  rw [constant_apply, Ideal.ofBits_zero_f32, zero_add]
  exact Finset.sum_congr rfl fun k _ => congrArg (fun z : EReal => z * w (ix2 k (part p n))) (normed_apply h g sh sc r k)

/-- A slice of the projection and its silu. -/
theorem silu_slice (x : FVec Ideal S256x4096 .f32) (p : Fin 4) (o : ℕ) (ho : o = 1024 * p.val) (hs : S256x4096.Slices ![0, o] S256x1024)
    (r : Fin 256) (n : Fin 1024) :
    shapeCast S256x1024 (mulf (extractStridedSlice S256x1024 ![0, o] x hs) (logistic (extractStridedSlice S256x1024 ![0, o] x hs)))
      shapeCasts_S256x1024_S256x1024 (ix2 r n) = silu (x (ix2 r (part p n))) := by
  rw [shapeCast_self]
  exact congrArg silu (slice2_axis1_apply o x hs r n (part p n) (by rw [ho]; rfl))

/-- A tile's query. -/
theorem qOf_apply (r : Fin 256) (n : Fin 1024) : qOf h g sh sc w (ix2 r n) = silu (tproj h g sh sc w r 0 n) :=
  (silu_slice _ 0 0 rfl _ r n).trans (congrArg silu (product_apply h g sh sc w r 0 n))
/-- A tile's output gate. -/
theorem gOf_apply (r : Fin 256) (n : Fin 1024) : gOf h g sh sc w (ix2 r n) = silu (tproj h g sh sc w r 3 n) :=
  (silu_slice _ 3 3072 rfl _ r n).trans (congrArg silu (product_apply h g sh sc w r 3 n))
/-- A tile's value. -/
theorem vOf_apply (r : Fin 256) (n : Fin 1024) : vOf h g sh sc w (ix2 r n) = tproj h g sh sc w r 2 n := by
  unfold vOf k0_pay51
  rw [shapeCast_self]
  exact (slice2_axis1_apply 2048 _ _ r n (part 2 n) rfl).trans (product_apply h g sh sc w r 2 n)

/-- The larger logit of a column. -/
theorem top_apply (n : Fin 1024) : k0_pay46 lb (ix2 (0 : Fin 1) n) = top fun i => lb (ix2 i n) := by
  refine (shapeCast_a_1a_apply _ _ (0 : Fin 1) n).trans ((Ideal.multiReduction_maximumf_single _ _ _ _ _ _).trans ?_)
  refine congrArg (fun f : Fin 2 → EReal => Finset.univ.fold max _ f) (funext fun i => ?_)
  exact congrArg lb (funext fun a => Fin.ext (match a with | ⟨0, _⟩ => rfl | ⟨1, _⟩ => rfl))

/-- The exponentials of the logits less the larger. -/
def exps : FVec Ideal S2x1024 .f32 := exp (subf lb (broadcastTo S2x1024 (k0_pay46 lb) broadcasts_S1x1024_S2x1024))

/-- An exponential. -/
theorem exps_apply (i : Fin 2) (n : Fin 1024) : exps lb (ix2 i n) = Ideal.exp (lb (ix2 i n) - top fun i => lb (ix2 i n)) :=
  congrArg (fun z : EReal => Ideal.exp (lb (ix2 i n) - z)) ((broadcastTo_1b_ab_apply _ _ i n).trans (top_apply lb n))

/-- The lower bound of the forget gates. -/
def lowers : FVec Ideal S1x1024 .f32 :=
  divf (shapeCast S1x1024 (multiReduction .add [0] S1024 (extractStridedSlice S1x1024 ![0, 0] (exps lb) slices_S2x1024_o0_0_S1x1024) 0x00000000#32
      reduces_S1x1024_S1024 (.inl rfl) rfl) shapeCasts_S1024_S1x1024)
    (shapeCast S1x1024 (multiReduction .add [0] S1024 (exps lb) 0x00000000#32 reduces_S2x1024_S1024 (.inl rfl) rfl) shapeCasts_S1024_S1x1024)

/-- A column's lower bound. -/
theorem lowers_apply (n : Fin 1024) : lowers lb (ix2 (0 : Fin 1) n) = lower fun i => lb (ix2 i n) := by
  refine congrArg₂ Ideal.div ((shapeCast_a_1a_apply _ _ (0 : Fin 1) n).trans ((Ideal.multiReduction_add_single _ _ _ _ _ _).trans ?_))
    ((shapeCast_a_1a_apply _ _ (0 : Fin 1) n).trans ((Ideal.multiReduction_add_single _ _ _ _ _ _).trans ?_))
  · refine (Finset.sum_congr rfl fun i _ => ?_).trans (Fin.sum_univ_one fun _ => Ideal.exp (lb (ix2 (0 : Fin 2) n) - top fun i => lb (ix2 i n)))
    refine (congrArg _ (funext fun a => Fin.ext (match a with | ⟨0, _⟩ => ?_ | ⟨1, _⟩ => rfl) : reduces_S1x1024_S1024.lift (ix1 n) i = ix2 (0 : Fin 1) n)).trans
      ((slice2_axis0_apply 0 _ _ (0 : Fin 1) n (0 : Fin 2) rfl).trans (exps_apply lb 0 n))
    have : (i : Fin 1).val < 1 := (i : Fin 1).isLt
    show (i : Fin 1).val = 0
    omega
  · refine Finset.sum_congr rfl fun i _ => ?_
    exact (congrArg _ (funext fun a => Fin.ext (match a with | ⟨0, _⟩ => rfl | ⟨1, _⟩ => rfl) :
      reduces_S2x1024_S1024.lift (ix1 n) i = ix2 (i : Fin 2) n)).trans (exps_apply lb i n)

/-- A tile's forget gate. -/
theorem keep_apply (r : Fin 256) (n : Fin 1024) : k0_pay47 (k0_pay45 h g sh sc w) lb (k0_pay46 lb) (ix2 r n)
    = keep (lower fun i => lb (ix2 i n)) (tproj h g sh sc w r 1 n) := by
  have e1 : broadcastTo S256x1024 (lowers lb) broadcasts_S1x1024_S256x1024 (ix2 r n) = lower fun i => lb (ix2 i n) :=
    (broadcastTo_1b_ab_apply _ _ r n).trans (lowers_apply lb n)
  have e2 : broadcastTo S256x1024 (subf (broadcast S1x1024 (Scalar.ofBits .f32 0x3F800000#32)) (lowers lb)) broadcasts_S1x1024_S256x1024 (ix2 r n)
      = 1 - lower fun i => lb (ix2 i n) :=
    (broadcastTo_1b_ab_apply _ _ r n).trans (congrArg₂ (fun a b : EReal => a - b) Ideal.ofBits_one_f32 (lowers_apply lb n))
  have e3 := (slice2_axis1_apply 1024 (k0_pay45 h g sh sc w) slices_S256x4096_o0_1024_S256x1024 r n (part 1 n) rfl).trans (product_apply h g sh sc w r 1 n)
  exact congrArg₂ (fun a b : EReal => a + b) e1 (congrArg₂ (fun a b : EReal => a * b) e2 (congrArg Ideal.logistic e3))

/-- A tile's key. -/
theorem kOf_apply (r : Fin 256) (n : Fin 1024) : kOf h g sh sc w lb (ix2 r n)
    = 1 - keep (lower fun i => lb (ix2 i n)) (tproj h g sh sc w r 1 n) := by
  unfold kOf k0_pay49
  rw [shapeCast_self]
  exact congrArg₂ (fun a b : EReal => a - b) Ideal.ofBits_one_f32 (keep_apply h g sh sc w lb r n)
/-- A tile's log decay. -/
theorem lOf_apply (r : Fin 256) (n : Fin 1024) : lOf h g sh sc w lb (ix2 r n)
    = Ideal.log (keep (lower fun i => lb (ix2 i n)) (tproj h g sh sc w r 1 n)) := by
  unfold lOf k0_pay50
  rw [shapeCast_self]
  exact congrArg Ideal.log (keep_apply h g sh sc w lb r n)

end Rows

section Finish

/-- Columns of a head lie in a tile. -/
theorem slices256 : ∀ hd : Fin 8, S256x1024.Slices ![0, 128 * hd.val] S256x128 := by decide

variable (h : Vec Ideal S1x256x1024 .f32) (og : Vec Ideal S1x1024 .f32) (gg o : Tile Ideal) (wo : Vec Ideal S1024x1024 .bf16)
  (gate : Vec Ideal S1x1x1024 .f32)

/-- The scales of the rows of a head's outputs. -/
def headScales (x : FVec Ideal S256x128 .f32) : FVec Ideal S256x1 .f32 :=
  rsqrt (addf (divf (shapeCast S256x1 (multiReduction .add [1] S256 (mulf x x) 0x00000000#32 reduces_S256x128_S256 (.inl rfl) rfl)
    shapeCasts_S256_S256x1) (broadcast S256x1 (Scalar.ofBits .f32 0x43000000#32))) (broadcast S256x1 (Scalar.ofBits .f32 0x358637BD#32)))

/-- A head's outputs, normalised, weighted and gated. -/
def headMixed (hd : Fin 8) (x : FVec Ideal S256x128 .f32) : FVec Ideal S256x128 .bf16 :=
  truncf .bf16 (mulf (mulf (mulf x (broadcastTo S256x128 (headScales x) broadcasts_S256x1_S256x128))
    (broadcastTo S256x128 (extractStridedSlice S1x128 ![0, 128 * hd.val] og (slices1 hd)) broadcasts_S1x128_S256x128))
    (extractStridedSlice S256x128 ![0, 128 * hd.val] gg (slices256 hd))) bitsLt_bf16_f32

/-- The heads side by side. -/
def joined : FVec Ideal S256x1024 .bf16 :=
  concatenate S256x1024 1 (List.ofFn fun hd : Fin 8 => (⟨S256x128, headMixed og gg hd (colsOf o hd)⟩ : (s : Shape) × (s.Idx → Ideal .bf16)))
    concatenates_S256x128_S256x128_S256x128_S256x128_S256x128_S256x128_S256x128_S256x128_S256x1024_d1

/-- What is stored, over the heads side by side. -/
theorem finish_eq : finish h og gg o wo gate = shapeCast S1x256x1024 (addf (k0_pay44 h)
    (mulf (broadcastTo S256x1024 (shapeCast S1x1024 gate shapeCasts_S1x1x1024_S1x1024) broadcasts_S1x1024_S256x1024)
      (matmul (φ₂ := .bf16) dot_S256x1024_S1024x1024_S256x1024_1_0_0_1_n_n none (joined og gg o) wo (constant S256x1024 .f32 0x00000000#32))))
    shapeCasts_S256x1024_S1x256x1024 := rfl

/-- A row's scale in a head. -/
theorem headScales_apply (x : FVec Ideal S256x128 .f32) (r : Fin 256) : headScales x (ix2 r (0 : Fin 1)) = headScale fun c => x (ix2 r c) := by
  have e : shapeCast S256x1 (multiReduction .add [1] S256 (mulf x x) 0x00000000#32 reduces_S256x128_S256 (.inl rfl) rfl)
      shapeCasts_S256_S256x1 (ix2 r (0 : Fin 1)) = ∑ k : Fin 128, x (ix2 r k) * x (ix2 r k) := by
    refine (shapeCast_a_a1_apply _ _ r 0).trans ((Ideal.multiReduction_add_single _ _ _ _ _ _).trans ?_)
    refine Finset.sum_congr rfl fun k _ => ?_
    have hm := congrArg x (funext fun a => Fin.ext (match a with | ⟨0, _⟩ => rfl | ⟨1, _⟩ => rfl) : reduces_S256x128_S256.lift (ix1 r) k = ix2 r (k : Fin 128))
    exact congrArg₂ (fun u v : EReal => u * v) hm hm
  exact congrArg (fun z : EReal => Ideal.rsqrt (Ideal.div z (Ideal.ofBits .f32 0x43000000#32) + Ideal.ofBits .f32 0x358637BD#32)) e

/-- A head's columns of a tile. -/
theorem colsOf_apply (hd : Fin 8) (r : Fin 256) (c : Fin 128) : colsOf o hd (ix2 r c) = o (ix2 r (cols hd c)) := by
  refine congrArg o (funext fun a => Fin.ext (match a with | ⟨0, _⟩ => rfl | ⟨1, _⟩ => ?_))
  have := hd.isLt; have := c.isLt
  exact Nat.mod_eq_of_lt (show 128 * hd.val + c.val < 1024 by omega)

/-- An entry of a head's outputs, normalised, weighted and gated. -/
theorem headMixed_apply (hd : Fin 8) (r : Fin 256) (c : Fin 128) : headMixed og gg hd (colsOf o hd) (ix2 r c)
    = mixed (fun n => o (ix2 r n)) (fun n => og (ix2 (0 : Fin 1) n)) (fun n => gg (ix2 r n)) (cols hd c) := by
  unfold mixed
  rw [headOf_cols]
  refine congrArg₂ (fun u v : EReal => u * v) (congrArg₂ (fun u v : EReal => u * v) (congrArg₂ (fun u v : EReal => u * v) (colsOf_apply o hd r c) ?_) ?_) ?_
  · refine (broadcastTo_apply _ _ _ (ix2 r (0 : Fin 1)) fun a => match a with | ⟨0, _⟩ => rfl | ⟨1, _⟩ => rfl).trans ((headScales_apply _ r).trans ?_)
    exact congrArg headScale (funext fun c => colsOf_apply o hd r c)
  · exact (broadcastTo_1b_ab_apply _ _ r c).trans (slice2_axis1_apply (128 * hd.val) og _ (0 : Fin 1) c (cols hd c) rfl)
  · exact slice2_axis1_apply (128 * hd.val) gg _ r c (cols hd c) rfl

/-- An entry of the heads side by side. -/
theorem joined_apply (r : Fin 256) (n : Fin 1024) : joined og gg o (ix2 r n)
    = mixed (fun n => o (ix2 r n)) (fun n => og (ix2 (0 : Fin 1) n)) (fun n => gg (ix2 r n)) n := by
  refine (concatenate_ofFn_apply (t := S256x1024) (s₁ := S256x128) 1 (fun hd : Fin 8 => headMixed og gg hd (colsOf o hd)) _ rfl 128 rfl (ix2 r n) (headOf n) rfl
    (ix2 r (placeOf n)) rfl ?_).trans ((headMixed_apply og gg o (headOf n) r (placeOf n)).trans ?_)
  · intro b hb
    match b with
    | ⟨0, _⟩ => rfl
    | ⟨1, _⟩ => exact absurd rfl hb
  · rw [cols_place]

/-- An entry of what is stored. -/
theorem finish_apply (r : Fin 256) (n : Fin 1024) : finish h og gg o wo gate (ix3 (0 : Fin 1) r n)
    = finished (h (ix3 (0 : Fin 1) r n)) (gate (ix3 (0 : Fin 1) (0 : Fin 1) n)) (fun n => o (ix2 r n)) (fun n => og (ix2 (0 : Fin 1) n))
      (fun n => gg (ix2 r n)) (fun k => wo (ix2 k n)) := by
  rw [finish_eq]
  refine (shapeCast_ab_1ab_apply _ _ (0 : Fin 1) r n).trans ?_
  refine congrArg₂ (fun u v : EReal => u + v) (mat_apply h r n) (congrArg₂ (fun u v : EReal => u * v)
    ((broadcastTo_1b_ab_apply _ _ r n).trans (shapeCast_1ab_ab_apply gate _ (0 : Fin 1) n)) ((Ideal.matmul_plain_apply none (joined og gg o) wo _ r n).trans ?_))
  rw [constant_apply, Ideal.ofBits_zero_f32, zero_add]
  exact Finset.sum_congr rfl fun k _ => congrArg (fun z : EReal => z * wo (ix2 k n)) (joined_apply og gg o r k)

end Finish

end Cert.Proof.HI

end
-- ==== Proof.HI.Stores.lean ====
/-
  Loads and stores stated of what a buffer reads (`at_`), and what each load and store of the recurrent layer's call reads
  and leaves: whole buffers, a head's state, a chunk of a tile, a head's columns.
-/
module

public import proofs.«01_k».proof.Proof.HI.Model
public import proofs.«01_k».proof.Proof.Gen.KernelHIdeal.Launch
public import proofs.«01_k».proof.Proof.Gen.KernelHIdeal.Points
public import Idealize.ShloMosaic.Lib.WritesUnit
public import Idealize.ShloMosaic.Lib.Pipeline.Frame
public import Idealize.ShloMosaic.Lib.Tactic

@[expose] public section

noncomputable section

namespace Cert.Proof.HI

open Cert.KernelHIdeal Cert.KernelHIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No label of the call calls itself. -/
abbrev 𝒱₀ : Variants := Variants.nat

section Steps

variable (c : Dev nD) {s : Shape} {e : EltTy} (m : Memref sig .tc .vmem s e)

/-- The buffer under `m` is held and reads `a`. -/
def at_ (a : Vec F s e) : sProp 𝕄 :=
  iprop(∃ f : Buf (Elt F) (m.view.loc (c : Thread nD τ)), ⌜m.view.read (Elt F) f = a⌝ ∗ (m.view.loc (c : Thread nD τ) ↦[m.view.set]{fullShare} f))

/-- A load from a buffer that reads `a` gives what that says it gives. -/
theorem load_at (E : Set ℕ) (a : Vec F s e) (r : LoadRect s) (hl) {α : Type} (k : _ → Prog (TpuEff nD τ sig (Elt F) Λ₀ .tc) α) (Q : α → sProp 𝕄)
    (b : r.shape.Idx → Elt F e) (hb : ∀ f, m.view.read (Elt F) f = a → m.view.readAt (Elt F) r f = b) :
    at_ c m a ⊢ iprop((at_ c m a -∗ wp frame (wpE (defs₀ (F := F)) 𝒱₀ (c : Thread nD τ) none) E (k b) Q)
      -∗ wp frame (wpE (defs₀ (F := F)) 𝒱₀ (c : Thread nD τ) none) E (.op (.load m r hl) k) Q) := by
  iintro H Hk
  unfold at_
  icases H with ⟨%f, %hf, H⟩
  iapply (wp_load 𝒱₀ (c : Thread nD τ) none E (m := m) (View.setOn_subset_set _ _)) $$ H; iintro H
  rw [hb f hf]
  iapply Hk
  iexists f; isplitr; swap; · iexact H
  ipureintro; exact hf

/-- A load whose value does not matter. -/
theorem load_any (E : Set ℕ) (a : Vec F s e) (r : LoadRect s) (hl) {α : Type} (p : Prog (TpuEff nD τ sig (Elt F) Λ₀ .tc) α) (Q : α → sProp 𝕄) :
    at_ c m a ⊢ iprop((at_ c m a -∗ wp frame (wpE (defs₀ (F := F)) 𝒱₀ (c : Thread nD τ) none) E p Q)
      -∗ wp frame (wpE (defs₀ (F := F)) 𝒱₀ (c : Thread nD τ) none) E (.op (.load m r hl) fun _ => p) Q) := by
  iintro H Hk
  unfold at_
  icases H with ⟨%f, %hf, H⟩
  iapply (wp_load 𝒱₀ (c : Thread nD τ) none E (m := m) (View.setOn_subset_set _ _)) $$ H; iintro H
  iapply Hk
  iexists f; isplitr; swap; · iexact H
  ipureintro; exact hf

/-- A store into a buffer that reads `a` leaves it reading what that says it reads. -/
theorem store_at (E : Set ℕ) (a a' : Vec F s e) (r : Rect s) (w : r.shape.Idx → Elt F e) (hs hx) {α : Type}
    (k : _ → Prog (TpuEff nD τ sig (Elt F) Λ₀ .tc) α) (Q : α → sProp 𝕄)
    (hb : ∀ f, m.view.read (Elt F) f = a → m.view.read (Elt F) ((m.view.slice r).write (Elt F) f w Finset.univ) = a') :
    at_ c m a ⊢ iprop((at_ c m a' -∗ wp frame (wpE (defs₀ (F := F)) 𝒱₀ (c : Thread nD τ) none) E (k ⟨⟩) Q)
      -∗ wp frame (wpE (defs₀ (F := F)) 𝒱₀ (c : Thread nD τ) none) E (.op (.store m r w Finset.univ hs hx) k) Q) := by
  iintro H Hk
  unfold at_
  icases H with ⟨%f, %hf, H⟩
  iapply (wp_store 𝒱₀ (c : Thread nD τ) none E (m := m) (r := r) (Mk := Finset.univ) (S := m.view.set)
    ((Memref.setOn_access_subset_setOn m _ Finset.univ).trans (View.setOn_subset_set _ _))) $$ H; iintro H
  iapply Hk
  iexists _; isplitr; swap; · iexact H
  ipureintro; exact hb f hf

end Steps

section Reads

variable {sp : Space}

/-- The whole of a buffer loaded is what the buffer reads. -/
theorem read_whole {s : Shape} {e : EltTy} (v : View sig .tc sp s e) {off : Fin s.rank → ℕ} (h : ∀ a, off a + s.size a ≤ s.size a)
    (a : Vec F s e) (f : v.ty.Contents (Elt F)) (hf : v.read (Elt F) f = a) :
    v.readAt (Elt F) (Rect.unit off s.size h).toLoadRect f = a := by
  funext y
  rw [View.readAt_apply]
  refine (congrFun hf _).trans (congrArg a (funext fun b => Fin.ext ?_))
  have := h b
  show off b + 1 * (y b).val = (y b).val
  omega

/-- The whole of a buffer stored is what the buffer reads afterwards. -/
theorem write_whole {s : Shape} {e : EltTy} (v : View sig .tc sp s e) {off : Fin s.rank → ℕ} (h : ∀ a, off a + s.size a ≤ s.size a)
    (w : Vec F s e) (f : v.ty.Contents (Elt F)) :
    v.read (Elt F) ((v.slice (Rect.unit off s.size h)).write (Elt F) f w Finset.univ) = w := by
  funext y
  refine View.read_writes_cons_unit_of_mem v f h w [] y y rfl fun b => ?_
  have := h b
  omega

/-- A state whose first `j` heads are the next ones. -/
def mix (j : ℕ) (s s' : State F) : State F := fun x => if (x 0).val < j then s' x else s x

/-- The state of head `j` loaded, before it has been replaced. -/
theorem read_slab (v : View sig .tc sp S8x128x128 .f32) {off : Fin 3 → ℕ} (h : ∀ a, off a + S1x128x128.size a ≤ S8x128x128.size a)
    (j : Fin 8) (ho : off = ![j.val, 0, 0]) (s s' : State F) (f : v.ty.Contents (Elt F)) (hf : v.read (Elt F) f = mix j.val s s') :
    v.readAt (Elt F) (Rect.unit (s := S8x128x128) off S1x128x128.size h).toLoadRect f = slab s j := by
  subst ho
  funext y
  rw [View.readAt_apply]
  have h0 : (y 0).val < 1 := (y 0).isLt
  refine (congrFun hf _).trans ?_
  unfold mix
  refine (if_neg ?_).trans ?_
  · show ¬ j.val + 1 * (y 0).val < j.val; omega
  · refine congrArg s (funext fun b => Fin.ext ?_)
    fin_cases b
    · show j.val + 1 * (y 0).val = j.val; omega
    · show 0 + 1 * (y 1).val = (y 1).val; omega
    · show 0 + 1 * (y 2).val = (y 2).val; omega

/-- The state of head `j` replaced. -/
theorem write_slab (v : View sig .tc sp S8x128x128 .f32) {off : Fin 3 → ℕ} (h : ∀ a, off a + S1x128x128.size a ≤ S8x128x128.size a)
    (j : Fin 8) (ho : off = ![j.val, 0, 0]) (s s' : State F) (w : Vec F S1x128x128 .f32) (hw : w = slab s' j) (f : v.ty.Contents (Elt F))
    (hf : v.read (Elt F) f = mix j.val s s') :
    v.read (Elt F) ((v.slice (Rect.unit (s := S8x128x128) off S1x128x128.size h)).write (Elt F) f w Finset.univ) = mix (j.val + 1) s s' := by
  funext x
  by_cases hx : (x 0).val = j.val
  · refine (View.read_writes_cons_unit_of_mem v f h w [] x
      (ix3 (0 : Fin 1) (⟨(x 1).val, (x 1).isLt⟩ : Fin 128) (⟨(x 2).val, (x 2).isLt⟩ : Fin 128)) ho fun b => ?_).trans ?_
    · fin_cases b
      · show (x 0).val = j.val + 0; omega
      · show (x 1).val = 0 + (x 1).val; omega
      · show (x 2).val = 0 + (x 2).val; omega
    · unfold mix
      rw [if_pos (by omega), hw]
      refine congrArg s' (funext fun b => Fin.ext ?_)
      fin_cases b
      · exact hx.symm
      · rfl
      · rfl
  · refine (View.read_writes_cons_unit_of_not_mem v f h w [] x ho (0 : Fin 3) ?_).trans ?_
    · show (x 0).val < j.val ∨ j.val + 1 ≤ (x 0).val; omega
    · refine (congrFun hf x).trans ?_
      unfold mix
      by_cases hlt : (x 0).val < j.val
      · rw [if_pos hlt, if_pos (by omega)]
      · rw [if_neg hlt, if_neg (by omega)]

/-- A chunk loaded from a tile. -/
theorem read_chunk (v : View sig .tc sp S256x1024 .f32) {off : Fin 2 → ℕ} (h : ∀ a, off a + S32x1024.size a ≤ S256x1024.size a)
    (k : ℕ) (hk : k < 8) (ho : off = ![32 * k, 0]) (a : Tile F) (f : v.ty.Contents (Elt F)) (hf : v.read (Elt F) f = a) :
    v.readAt (Elt F) (Rect.unit (s := S256x1024) off S32x1024.size h).toLoadRect f = chunkOf a k := by
  subst ho
  funext y
  rw [View.readAt_apply]
  have h0 : (y 0).val < 32 := (y 0).isLt
  refine (congrFun hf _).trans (congrArg a (funext fun b => Fin.ext ?_))
  fin_cases b
  · show 32 * k + 1 * (y 0).val = (32 * k + (y 0).val) % 256; omega
  · show 0 + 1 * (y 1).val = (y 1).val; omega

/-- A head's columns loaded from a tile. -/
theorem read_cols (v : View sig .tc sp S256x1024 .f32) {off : Fin 2 → ℕ} (h : ∀ a, off a + S256x128.size a ≤ S256x1024.size a)
    (j : Fin 8) (ho : off = ![0, 128 * j.val]) (a : Tile F) (f : v.ty.Contents (Elt F)) (hf : v.read (Elt F) f = a) :
    v.readAt (Elt F) (Rect.unit (s := S256x1024) off S256x128.size h).toLoadRect f = colsOf a j := by
  subst ho
  funext y
  rw [View.readAt_apply]
  have h0 : (y 0).val < 256 := (y 0).isLt
  have h1 : (y 1).val < 128 := (y 1).isLt
  refine (congrFun hf _).trans (congrArg a (funext fun b => Fin.ext ?_))
  fin_cases b
  · show 0 + 1 * (y 0).val = (y 0).val; omega
  · show 128 * j.val + 1 * (y 1).val = (128 * j.val + (y 1).val) % 1024; omega

/-- A tile of which the chunks before `k` and the first `j` heads of chunk `k` are `o`'s. -/
def part (k j : ℕ) (o a : Tile F) : Tile F := fun x =>
  if (x 0).val / 32 < k ∨ ((x 0).val / 32 = k ∧ (x 1).val / 128 < j) then o x else a x

/-- The output of head `j` of chunk `k` stored. -/
theorem write_part (v : View sig .tc sp S256x1024 .f32) {off : Fin 2 → ℕ} (h : ∀ a, off a + S32x128.size a ≤ S256x1024.size a)
    (k : ℕ) (j : Fin 8) (ho : off = ![32 * k, 128 * j.val]) (o a : Tile F) (w : Vec F S32x128 .f32)
    (hw : ∀ x : S256x1024.Idx, (x 0).val / 32 = k → (x 1).val / 128 = j.val → o x
      = w (ix2 (⟨(x 0).val % 32, Nat.mod_lt _ (by decide)⟩ : Fin 32) (⟨(x 1).val % 128, Nat.mod_lt _ (by decide)⟩ : Fin 128)))
    (f : v.ty.Contents (Elt F)) (hf : v.read (Elt F) f = part k j.val o a) :
    v.read (Elt F) ((v.slice (Rect.unit (s := S256x1024) off S32x128.size h)).write (Elt F) f w Finset.univ) = part k (j.val + 1) o a := by
  funext x
  by_cases hx : (x 0).val / 32 = k
  · by_cases hy : (x 1).val / 128 = j.val
    · refine (View.read_writes_cons_unit_of_mem v f h w [] x
        (ix2 (⟨(x 0).val % 32, Nat.mod_lt _ (by decide)⟩ : Fin 32) (⟨(x 1).val % 128, Nat.mod_lt _ (by decide)⟩ : Fin 128)) ho fun b => ?_).trans ?_
      · fin_cases b
        · show (x 0).val = 32 * k + (x 0).val % 32; omega
        · show (x 1).val = 128 * j.val + (x 1).val % 128; omega
      · unfold part
        rw [if_pos (by omega)]
        exact (hw x hx hy).symm
    · refine (View.read_writes_cons_unit_of_not_mem v f h w [] x ho (1 : Fin 2) ?_).trans ?_
      · show (x 1).val < 128 * j.val ∨ 128 * j.val + 128 ≤ (x 1).val; omega
      · refine (congrFun hf x).trans ?_
        unfold part
        by_cases hlt : (x 1).val / 128 < j.val
        · rw [if_pos (by omega), if_pos (by omega)]
        · rw [if_neg (by omega), if_neg (by omega)]
  · refine (View.read_writes_cons_unit_of_not_mem v f h w [] x ho (0 : Fin 2) ?_).trans ?_
    · show (x 0).val < 32 * k ∨ 32 * k + 32 ≤ (x 0).val; omega
    · refine (congrFun hf x).trans ?_
      unfold part
      by_cases hlt : (x 0).val / 32 < k
      · rw [if_pos (by omega), if_pos (by omega)]
      · rw [if_neg (by omega), if_neg (by omega)]

end Reads

/-- After eight heads the next states are whole. -/
theorem mix_eight (s s' : State F) : mix 8 s s' = s' := by
  funext x
  exact if_pos (x 0).isLt

/-- Before the first head the states are the old ones. -/
theorem mix_zero (s s' : State F) : mix 0 s s' = s := by
  funext x
  exact if_neg (Nat.not_lt_zero _)

/-- After eight heads the chunk is whole. -/
theorem part_eight (k : ℕ) (o a : Tile F) : part k 8 o a = part (k + 1) 0 o a := by
  funext x
  have h1 : (x 1).val < 1024 := (x 1).isLt
  unfold part
  by_cases hx : (x 0).val / 32 < k + 1
  · rw [if_pos (by omega), if_pos (by omega)]
  · rw [if_neg (by omega), if_neg (by omega)]

/-- Before the first chunk the tile is the old one. -/
theorem part_zero (o a : Tile F) : part 0 0 o a = a := by
  funext x
  exact if_neg (by omega)

/-- After eight chunks the tile is whole. -/
theorem part_all (o a : Tile F) : part 8 0 o a = o := by
  funext x
  have h0 : (x 0).val < 256 := (x 0).isLt
  exact if_pos (by omega)

end Cert.Proof.HI
-- ==== Proof.HI.Trip.lean ====
/-
  One trip of the recurrent layer's loop: chunk `k` of the tile. It reads the chunk's rows of the queries, keys, log decays
  and values, stores the eight heads' outputs in the chunk's rows and replaces the eight states.
-/
module

public import proofs.«01_k».proof.Proof.HI.Stores

@[expose] public section

noncomputable section

namespace Cert.Proof.HI

open Cert.KernelHIdeal Cert.KernelHIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The number of trips over the chunks. -/
theorem trips1 : k0_t1_loop.trips = 8 := by decide +kernel

section Trip

variable (c : Dev nD) (i : grid0.Coords)
  (arg2 : Memref sig .tc .vmem S1x256x1024 .f32) (harg2 : arg2.IsWhole) (arg3 : Memref sig .tc .vmem S1x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1x1x1024 .f32) (harg6 : arg6.IsWhole) (arg7 : Memref sig .tc .vmem S1024x4096 .bf16) (harg7 : arg7.IsWhole)
  (arg8 : Memref sig .tc .vmem S2x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1x256x1024 .f32) (harg11 : arg11.IsWhole)
  (arg12 : Memref sig .tc .vmem S256x1024 .f32) (harg12 : arg12.IsWhole) (arg13 : Memref sig .tc .vmem S256x1024 .f32) (harg13 : arg13.IsWhole)
  (arg14 : Memref sig .tc .vmem S256x1024 .f32) (harg14 : arg14.IsWhole) (arg15 : Memref sig .tc .vmem S256x1024 .f32) (harg15 : arg15.IsWhole)
  (arg16 : Memref sig .tc .vmem S256x1024 .f32) (harg16 : arg16.IsWhole) (arg17 : Memref sig .tc .vmem S256x1024 .f32) (harg17 : arg17.IsWhole)
  (arg18 : Memref sig .tc .vmem S8x128x128 .f32) (harg18 : arg18.IsWhole)
  (q ky l v : Tile F) (s₀ : State F)

/-- What the loop holds before chunk `k`: the tile's queries, keys, log decays and values, the output of the chunks before and
    the states after them. -/
def done (a : Tile F) (k : ℕ) : sProp 𝕄 :=
  iprop(at_ c arg12 q ∗ at_ c arg13 ky ∗ at_ c arg14 l ∗ at_ c arg15 v ∗ at_ c arg17 (part k 0 (outTile q ky l v s₀) a)
    ∗ at_ c arg18 (statesAt ky l v s₀ k))

/-- The rows of the tile's output of one chunk and one head. -/
theorem outTile_eq (k : ℕ) (j : Fin 8) (w : Vec F S32x128 .f32)
    (hw : w = outs (chunkOf q k) (chunkOf ky k) (chunkOf l k) (chunkOf v k) (statesAt ky l v s₀ k) j) (x : S256x1024.Idx)
    (h0 : (x 0).val / 32 = k) (h1 : (x 1).val / 128 = j.val) :
    outTile q ky l v s₀ x
      = w (ix2 (⟨(x 0).val % 32, Nat.mod_lt _ (by decide)⟩ : Fin 32) (⟨(x 1).val % 128, Nat.mod_lt _ (by decide)⟩ : Fin 128)) := by
  subst hw
  subst h0
  unfold outTile
  rw [show (⟨(x 1).val / 128, Nat.div_lt_of_lt_mul (x 1).isLt⟩ : Fin 8) = j from Fin.ext h1]

/-- One trip takes the output of the first `k` chunks to that of the first `k + 1`. -/
theorem trip (E : Set ℕ) (a : Tile F) (v75 : FVec F S256x1024 .f32) (k : Fin k0_t1_loop.trips) (acc : Unit) :
    done c arg12 arg13 arg14 arg15 arg17 arg18 q ky l v s₀ a k.val
      ⊢ wp frame (wpE (defs₀ (F := F)) 𝒱₀ (c : Thread nD τ) none) E
          (k0_t1_body i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18 v75 k acc)
          fun _ => done c arg12 arg13 arg14 arg15 arg17 arg18 q ky l v s₀ a (k.val + 1) := by
  have hk : k.val < 8 := trips1 ▸ k.isLt
  unfold k0_t1_body
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  simp only [Prog.lift, Prog.bind_op, Prog.bind_ret, Prog.pure_eq_ret]
  unfold done
  have hout := fun (j : Fin 8) (w : Vec F S32x128 .f32) hw => outTile_eq q ky l v s₀ k.val j w hw
  generalize hs : statesAt ky l v s₀ k.val = s at hout
  have hs' : statesAt ky l v s₀ (k.val + 1) = states (chunkOf ky k.val) (chunkOf l k.val) (chunkOf v k.val) s := by
    rw [← hs]; rfl
  have hslab : ∀ j : Fin 8, slab (states (chunkOf ky k.val) (chunkOf l k.val) (chunkOf v k.val) s) j = headState j (k0_pay2 (chunkOf v k.val))
      (k0_pay9 k0_pay54 (chunkOf l k.val) (chunkOf ky k.val)) (k0_pay10 k0_pay54 (chunkOf l k.val)) (slab s j) :=
    slab_states (chunkOf ky k.val) (chunkOf l k.val) (chunkOf v k.val) s
  rw [hs']
  generalize hS : states (chunkOf ky k.val) (chunkOf l k.val) (chunkOf v k.val) s = s' at hslab
  rw [show at_ (F := F) c arg18 s = at_ c arg18 (mix 0 s s') from congrArg _ (mix_zero s s').symm,
    show at_ (F := F) c arg18 s' = at_ c arg18 (mix 8 s s') from congrArg _ (mix_eight s s').symm, ← part_eight k.val (outTile q ky l v s₀) a]
  iintro ⟨HQ, HK, HL, HV, HO, HS⟩
  iapply (load_at c arg14 E _ _ _ _ _ (chunkOf l k.val) (fun f hf => read_chunk arg14.view (k0_off1_inb k) k.val hk (k0_off1_eq k) l f hf)) $$ HL; iintro HL
  iapply (load_at c arg12 E _ _ _ _ _ (chunkOf q k.val) (fun f hf => read_chunk arg12.view (k0_off1_inb k) k.val hk (k0_off1_eq k) q f hf)) $$ HQ; iintro HQ
  iapply (load_at c arg13 E _ _ _ _ _ (chunkOf ky k.val) (fun f hf => read_chunk arg13.view (k0_off1_inb k) k.val hk (k0_off1_eq k) ky f hf)) $$ HK; iintro HK
  iapply (load_at c arg15 E _ _ _ _ _ (chunkOf v k.val) (fun f hf => read_chunk arg15.view (k0_off1_inb k) k.val hk (k0_off1_eq k) v f hf)) $$ HV; iintro HV
  iapply (load_at c arg18 E (mix 0 s s') _ _ _ _ (slab s 0) (fun f hf => read_slab arg18.view inb_S8x128x128_S1x128x128_0_0_0 0 rfl s s' f hf)) $$ HS; iintro HS
  iapply (load_any c arg17 E _ _ _ _ _) $$ HO; iintro HO
  iapply (store_at c arg17 E (part k.val 0 (outTile q ky l v s₀) a) (part k.val 1 (outTile q ky l v s₀) a) _ _ _ _ _ _ (fun f hf =>
    write_part arg17.view (k0_off2_inb k) k.val 0 (k0_off2_eq k) (outTile q ky l v s₀) a _ (hout 0 _ (out0 _ _ _ _ _)) f hf)) $$ HO; iintro HO
  iapply (load_any c arg18 E _ _ _ _ _) $$ HS; iintro HS
  iapply (store_at c arg18 E (mix 0 s s') (mix 1 s s') _ _ _ _ _ _ (fun f hf =>
    write_slab arg18.view inb_S8x128x128_S1x128x128_0_0_0 0 rfl s s' _ ((state0 _ _ _ _).trans (hslab 0).symm) f hf)) $$ HS; iintro HS
  iapply (load_at c arg18 E (mix 1 s s') _ _ _ _ (slab s 1) (fun f hf => read_slab arg18.view inb_S8x128x128_S1x128x128_1_0_0 1 rfl s s' f hf)) $$ HS; iintro HS
  iapply (load_any c arg17 E _ _ _ _ _) $$ HO; iintro HO
  iapply (store_at c arg17 E (part k.val 1 (outTile q ky l v s₀) a) (part k.val 2 (outTile q ky l v s₀) a) _ _ _ _ _ _ (fun f hf =>
    write_part arg17.view (k0_off3_inb k) k.val 1 (k0_off3_eq k) (outTile q ky l v s₀) a _ (hout 1 _ (out1 _ _ _ _ _)) f hf)) $$ HO; iintro HO
  iapply (load_any c arg18 E _ _ _ _ _) $$ HS; iintro HS
  iapply (store_at c arg18 E (mix 1 s s') (mix 2 s s') _ _ _ _ _ _ (fun f hf =>
    write_slab arg18.view inb_S8x128x128_S1x128x128_1_0_0 1 rfl s s' _ ((state1 _ _ _ _).trans (hslab 1).symm) f hf)) $$ HS; iintro HS
  iapply (load_at c arg18 E (mix 2 s s') _ _ _ _ (slab s 2) (fun f hf => read_slab arg18.view inb_S8x128x128_S1x128x128_2_0_0 2 rfl s s' f hf)) $$ HS; iintro HS
  iapply (load_any c arg17 E _ _ _ _ _) $$ HO; iintro HO
  iapply (store_at c arg17 E (part k.val 2 (outTile q ky l v s₀) a) (part k.val 3 (outTile q ky l v s₀) a) _ _ _ _ _ _ (fun f hf =>
    write_part arg17.view (k0_off4_inb k) k.val 2 (k0_off4_eq k) (outTile q ky l v s₀) a _ (hout 2 _ (out2 _ _ _ _ _)) f hf)) $$ HO; iintro HO
  iapply (load_any c arg18 E _ _ _ _ _) $$ HS; iintro HS
  iapply (store_at c arg18 E (mix 2 s s') (mix 3 s s') _ _ _ _ _ _ (fun f hf =>
    write_slab arg18.view inb_S8x128x128_S1x128x128_2_0_0 2 rfl s s' _ ((state2 _ _ _ _).trans (hslab 2).symm) f hf)) $$ HS; iintro HS
  iapply (load_at c arg18 E (mix 3 s s') _ _ _ _ (slab s 3) (fun f hf => read_slab arg18.view inb_S8x128x128_S1x128x128_3_0_0 3 rfl s s' f hf)) $$ HS; iintro HS
  iapply (load_any c arg17 E _ _ _ _ _) $$ HO; iintro HO
  iapply (store_at c arg17 E (part k.val 3 (outTile q ky l v s₀) a) (part k.val 4 (outTile q ky l v s₀) a) _ _ _ _ _ _ (fun f hf =>
    write_part arg17.view (k0_off5_inb k) k.val 3 (k0_off5_eq k) (outTile q ky l v s₀) a _ (hout 3 _ (out3 _ _ _ _ _)) f hf)) $$ HO; iintro HO
  iapply (load_any c arg18 E _ _ _ _ _) $$ HS; iintro HS
  iapply (store_at c arg18 E (mix 3 s s') (mix 4 s s') _ _ _ _ _ _ (fun f hf =>
    write_slab arg18.view inb_S8x128x128_S1x128x128_3_0_0 3 rfl s s' _ ((state3 _ _ _ _).trans (hslab 3).symm) f hf)) $$ HS; iintro HS
  iapply (load_at c arg18 E (mix 4 s s') _ _ _ _ (slab s 4) (fun f hf => read_slab arg18.view inb_S8x128x128_S1x128x128_4_0_0 4 rfl s s' f hf)) $$ HS; iintro HS
  iapply (load_any c arg17 E _ _ _ _ _) $$ HO; iintro HO
  iapply (store_at c arg17 E (part k.val 4 (outTile q ky l v s₀) a) (part k.val 5 (outTile q ky l v s₀) a) _ _ _ _ _ _ (fun f hf =>
    write_part arg17.view (k0_off6_inb k) k.val 4 (k0_off6_eq k) (outTile q ky l v s₀) a _ (hout 4 _ (out4 _ _ _ _ _)) f hf)) $$ HO; iintro HO
  iapply (load_any c arg18 E _ _ _ _ _) $$ HS; iintro HS
  iapply (store_at c arg18 E (mix 4 s s') (mix 5 s s') _ _ _ _ _ _ (fun f hf =>
    write_slab arg18.view inb_S8x128x128_S1x128x128_4_0_0 4 rfl s s' _ ((state4 _ _ _ _).trans (hslab 4).symm) f hf)) $$ HS; iintro HS
  iapply (load_at c arg18 E (mix 5 s s') _ _ _ _ (slab s 5) (fun f hf => read_slab arg18.view inb_S8x128x128_S1x128x128_5_0_0 5 rfl s s' f hf)) $$ HS; iintro HS
  iapply (load_any c arg17 E _ _ _ _ _) $$ HO; iintro HO
  iapply (store_at c arg17 E (part k.val 5 (outTile q ky l v s₀) a) (part k.val 6 (outTile q ky l v s₀) a) _ _ _ _ _ _ (fun f hf =>
    write_part arg17.view (k0_off7_inb k) k.val 5 (k0_off7_eq k) (outTile q ky l v s₀) a _ (hout 5 _ (out5 _ _ _ _ _)) f hf)) $$ HO; iintro HO
  iapply (load_any c arg18 E _ _ _ _ _) $$ HS; iintro HS
  iapply (store_at c arg18 E (mix 5 s s') (mix 6 s s') _ _ _ _ _ _ (fun f hf =>
    write_slab arg18.view inb_S8x128x128_S1x128x128_5_0_0 5 rfl s s' _ ((state5 _ _ _ _).trans (hslab 5).symm) f hf)) $$ HS; iintro HS
  iapply (load_at c arg18 E (mix 6 s s') _ _ _ _ (slab s 6) (fun f hf => read_slab arg18.view inb_S8x128x128_S1x128x128_6_0_0 6 rfl s s' f hf)) $$ HS; iintro HS
  iapply (load_any c arg17 E _ _ _ _ _) $$ HO; iintro HO
  iapply (store_at c arg17 E (part k.val 6 (outTile q ky l v s₀) a) (part k.val 7 (outTile q ky l v s₀) a) _ _ _ _ _ _ (fun f hf =>
    write_part arg17.view (k0_off8_inb k) k.val 6 (k0_off8_eq k) (outTile q ky l v s₀) a _ (hout 6 _ (out6 _ _ _ _ _)) f hf)) $$ HO; iintro HO
  iapply (load_any c arg18 E _ _ _ _ _) $$ HS; iintro HS
  iapply (store_at c arg18 E (mix 6 s s') (mix 7 s s') _ _ _ _ _ _ (fun f hf =>
    write_slab arg18.view inb_S8x128x128_S1x128x128_6_0_0 6 rfl s s' _ ((state6 _ _ _ _).trans (hslab 6).symm) f hf)) $$ HS; iintro HS
  iapply (load_at c arg18 E (mix 7 s s') _ _ _ _ (slab s 7) (fun f hf => read_slab arg18.view inb_S8x128x128_S1x128x128_7_0_0 7 rfl s s' f hf)) $$ HS; iintro HS
  iapply (load_any c arg17 E _ _ _ _ _) $$ HO; iintro HO
  iapply (store_at c arg17 E (part k.val 7 (outTile q ky l v s₀) a) (part k.val 8 (outTile q ky l v s₀) a) _ _ _ _ _ _ (fun f hf =>
    write_part arg17.view (k0_off9_inb k) k.val 7 (k0_off9_eq k) (outTile q ky l v s₀) a _ (hout 7 _ (out7 _ _ _ _ _)) f hf)) $$ HO; iintro HO
  iapply (load_any c arg18 E _ _ _ _ _) $$ HS; iintro HS
  iapply (store_at c arg18 E (mix 7 s s') (mix 8 s s') _ _ _ _ _ _ (fun f hf =>
    write_slab arg18.view inb_S8x128x128_S1x128x128_7_0_0 7 rfl s s' _ ((state7 _ _ _ _).trans (hslab 7).symm) f hf)) $$ HS; iintro HS
  rw [wp_ret]; imodintro
  isplitl [HQ]; · iexact HQ
  isplitl [HK]; · iexact HK
  isplitl [HL]; · iexact HL
  isplitl [HV]; · iexact HV
  isplitl [HO]; · iexact HO
  iexact HS

end Trip

end Cert.Proof.HI
-- ==== Proof.HI.Body.lean ====
/-
  The recurrent layer's body at one grid point: a point that starts a sequence clears the states; the tile's rows are normed
  and projected; the loop over the chunks gives the tile's output and the next states; the rest stores the results.
-/
module

public import proofs.«01_k».proof.Proof.HI.Trip

@[expose] public section

noncomputable section

namespace Cert.Proof.HI

open Cert.KernelHIdeal Cert.KernelHIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords)
  (arg2 : Memref sig .tc .vmem S1x256x1024 .f32) (harg2 : arg2.IsWhole) (arg3 : Memref sig .tc .vmem S1x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1x1x1024 .f32) (harg6 : arg6.IsWhole) (arg7 : Memref sig .tc .vmem S1024x4096 .bf16) (harg7 : arg7.IsWhole)
  (arg8 : Memref sig .tc .vmem S2x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1x256x1024 .f32) (harg11 : arg11.IsWhole)
  (arg12 : Memref sig .tc .vmem S256x1024 .f32) (harg12 : arg12.IsWhole) (arg13 : Memref sig .tc .vmem S256x1024 .f32) (harg13 : arg13.IsWhole)
  (arg14 : Memref sig .tc .vmem S256x1024 .f32) (harg14 : arg14.IsWhole) (arg15 : Memref sig .tc .vmem S256x1024 .f32) (harg15 : arg15.IsWhole)
  (arg16 : Memref sig .tc .vmem S256x1024 .f32) (harg16 : arg16.IsWhole) (arg17 : Memref sig .tc .vmem S256x1024 .f32) (harg17 : arg17.IsWhole)
  (arg18 : Memref sig .tc .vmem S8x128x128 .f32) (harg18 : arg18.IsWhole)
  (h : Vec F S1x256x1024 .f32) (g : Vec F S1x1024 .f32) (sh sc gate : Vec F S1x1x1024 .f32) (w : Vec F S1024x4096 .bf16)
  (lb : Vec F S2x1024 .f32) (og : Vec F S1x1024 .f32) (wo : Vec F S1024x1024 .bf16)

/-- The point starts a sequence. -/
abbrev First : Prop := Scalar.cmpi .ne (Scalar.extui (Scalar.cmpi .eq (BitVec.ofNat 32 (i 1).val) 0#32) : BitVec 32) 0#32 = 1#1

/-- The states a point starts from: cleared if it starts a sequence. -/
def start (s : State F) : State F := if First i then k0_pay43 else s

/-- The states cleared or kept, and what comes after. -/
theorem clear (E : Set ℕ) (s : State F) {α : Type} (p : Prog (TpuEff nD τ sig (Elt F) Λ₀ .tc) α) (Q : α → sProp 𝕄) :
    at_ c arg18 s ⊢ iprop((at_ c arg18 (start i s) -∗ wp frame (wpE (defs₀ (F := F)) 𝒱₀ (c : Thread nD τ) none) E p Q)
      -∗ wp frame (wpE (defs₀ (F := F)) 𝒱₀ (c : Thread nD τ) none) E
      (if _h1 : First i then (do
          let _v232 : Vec F S8x128x128 .f32 ← Prog.lift (.load arg18 (Rect.unit (s := S8x128x128) ![0, 0, 0] S8x128x128.size inb_S8x128x128_S8x128x128_0_0_0).toLoadRect (View.loadsAt_vmem h_S8x128x128))
          Prog.lift (.store arg18 (Rect.unit (s := S8x128x128) ![0, 0, 0] S8x128x128.size inb_S8x128x128_S8x128x128_0_0_0) (k0_pay43 (F := F)) Finset.univ (View.stores_vmem_bits_univ h_S8x128x128 rfl) (.inl rfl))
          p)
        else p) Q) := by
  unfold start
  by_cases h1 : First i
  · rw [if_pos h1, dif_pos h1]
    simp only [Prog.lift, Prog.bind_op, Prog.bind_ret, Prog.pure_eq_ret]
    iintro H18 Hk
    iapply (load_any c arg18 E s _ _ _ _) $$ H18; iintro H18
    iapply (store_at c arg18 E s (k0_pay43 (F := F)) _ _ _ _ _ _ (fun f _ => write_whole arg18.view inb_S8x128x128_S8x128x128_0_0_0 (k0_pay43 (F := F)) f)) $$ H18; iintro H18
    iapply Hk; iexact H18
  · rw [if_neg h1, dif_neg h1]
    iintro H18 Hk
    iapply Hk; iexact H18

/-- What the body leaves: the inputs as they were, the results and the next states, and something in the tiles of its own. -/
def left (s : State F) : sProp 𝕄 :=
  iprop(at_ c arg2 h ∗ at_ c arg3 g ∗ at_ c arg4 sh ∗ at_ c arg5 sc ∗ at_ c arg6 gate ∗ at_ c arg7 w ∗ at_ c arg8 lb ∗ at_ c arg9 og ∗ at_ c arg10 wo ∗ at_ c arg11 (pointOut h g sh sc w lb og wo gate s) ∗ (∃ a, at_ c arg12 a) ∗ (∃ a, at_ c arg13 a) ∗ (∃ a, at_ c arg14 a) ∗ (∃ a, at_ c arg15 a) ∗ (∃ a, at_ c arg16 a) ∗ (∃ a, at_ c arg17 a) ∗ at_ c arg18 (pointState h g sh sc w lb s))

/-- The body at a grid point, from any results, anything in the tiles of its own and the states `s`. -/
theorem body (E : Set ℕ) (b11 : Vec F S1x256x1024 .f32) (b12 b13 b14 b15 b16 b17 : Tile F) (s : State F) (Kp : PUnit → sProp 𝕄) :
    iprop(at_ c arg2 h ∗ at_ c arg3 g ∗ at_ c arg4 sh ∗ at_ c arg5 sc ∗ at_ c arg6 gate ∗ at_ c arg7 w ∗ at_ c arg8 lb ∗ at_ c arg9 og ∗ at_ c arg10 wo ∗ at_ c arg11 b11 ∗ at_ c arg12 b12 ∗ at_ c arg13 b13 ∗ at_ c arg14 b14 ∗ at_ c arg15 b15 ∗ at_ c arg16 b16 ∗ at_ c arg17 b17 ∗ at_ c arg18 s ∗ (left c arg2 arg3 arg4 arg5 arg6 arg7 arg8 arg9 arg10 arg11 arg12 arg13 arg14 arg15 arg16 arg17 arg18 h g sh sc gate w lb og wo (start i s) -∗ Kp ⟨⟩))
      ⊢ wp frame (wpE (defs₀ (F := F)) 𝒱₀ (c : Thread nD τ) none) E (cc0_hgrn2_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Kp := by
  have h8 : Scf.trips k0_t1_loop.lb k0_t1_loop.ub k0_t1_loop.st = 8 := trips1
  simp only [cc0_hgrn2_layer_eq_skeleton]; unfold cc0_hgrn2_layer_skel
  simp only [k0_part7_eq_skeleton, k0_part8_eq_skeleton, k0_part9_eq_skeleton, k0_part10_eq_skeleton, k0_part11_eq_skeleton]
  unfold k0_part7_skel k0_part8_skel k0_part9_skel k0_part10_skel k0_part11_skel
  rw [wp_bind]
  iintro ⟨H2, H3, H4, H5, H6, H7, H8, H9, H10, H11, H12, H13, H14, H15, H16, H17, H18, Hk⟩
  iapply (clear c i arg18 E s _ _) $$ H18; iintro H18
  simp only [Prog.lift, Prog.bind_op, Prog.bind_ret, Prog.pure_eq_ret]
  iapply (load_at c arg2 E h _ _ _ _ h (fun f hf => read_whole arg2.view inb_S1x256x1024_S1x256x1024_0_0_0 h f hf)) $$ H2; iintro H2
  iapply (load_at c arg3 E g _ _ _ _ g (fun f hf => read_whole arg3.view inb_S1x1024_S1x1024_0_0 g f hf)) $$ H3; iintro H3
  iapply (load_at c arg4 E sh _ _ _ _ sh (fun f hf => read_whole arg4.view inb_S1x1x1024_S1x1x1024_0_0_0 sh f hf)) $$ H4; iintro H4
  iapply (load_at c arg5 E sc _ _ _ _ sc (fun f hf => read_whole arg5.view inb_S1x1x1024_S1x1x1024_0_0_0 sc f hf)) $$ H5; iintro H5
  iapply (load_at c arg7 E w _ _ _ _ w (fun f hf => read_whole arg7.view inb_S1024x4096_S1024x4096_0_0 w f hf)) $$ H7; iintro H7
  iapply (load_at c arg8 E lb _ _ _ _ lb (fun f hf => read_whole arg8.view inb_S2x1024_S2x1024_0_0 lb f hf)) $$ H8; iintro H8
  rw [wp_ret]; imodintro
  simp only [Prog.lift, Prog.bind_op, Prog.bind_ret, Prog.pure_eq_ret]
  iapply (load_any c arg12 E b12 _ _ _ _) $$ H12; iintro H12
  iapply (store_at c arg12 E b12 (qOf h g sh sc w) _ _ _ _ _ _ (fun f _ => write_whole arg12.view inb_S256x1024_S256x1024_0_0 (qOf h g sh sc w) f)) $$ H12; iintro H12
  iapply (load_any c arg13 E b13 _ _ _ _) $$ H13; iintro H13
  iapply (store_at c arg13 E b13 (kOf h g sh sc w lb) _ _ _ _ _ _ (fun f _ => write_whole arg13.view inb_S256x1024_S256x1024_0_0 (kOf h g sh sc w lb) f)) $$ H13; iintro H13
  iapply (load_any c arg14 E b14 _ _ _ _) $$ H14; iintro H14
  iapply (store_at c arg14 E b14 (lOf h g sh sc w lb) _ _ _ _ _ _ (fun f _ => write_whole arg14.view inb_S256x1024_S256x1024_0_0 (lOf h g sh sc w lb) f)) $$ H14; iintro H14
  iapply (load_any c arg15 E b15 _ _ _ _) $$ H15; iintro H15
  iapply (store_at c arg15 E b15 (vOf h g sh sc w) _ _ _ _ _ _ (fun f _ => write_whole arg15.view inb_S256x1024_S256x1024_0_0 (vOf h g sh sc w) f)) $$ H15; iintro H15
  iapply (load_any c arg16 E b16 _ _ _ _) $$ H16; iintro H16
  iapply (store_at c arg16 E b16 (gOf h g sh sc w) _ _ _ _ _ _ (fun f _ => write_whole arg16.view inb_S256x1024_S256x1024_0_0 (gOf h g sh sc w) f)) $$ H16; iintro H16
  simp only [bind_assoc]
  iapply (Scf.wp_for_bind frame (wpE (defs₀ (F := F)) 𝒱₀ (c : Thread nD τ) none) E k0_t1_loop.lb k0_t1_loop.ub k0_t1_loop.st k0_t1_ok ⟨⟩
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (k0_pay45 h g sh sc w)))
    (fun k _ => done c arg12 arg13 arg14 arg15 arg17 arg18 (qOf h g sh sc w) (kOf h g sh sc w lb) (lOf h g sh sc w lb) (vOf h g sh sc w) (start i s) b17 k)
    (fun k acc => trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (qOf h g sh sc w) (kOf h g sh sc w lb) (lOf h g sh sc w lb) (vOf h g sh sc w) (start i s) E b17 _ k acc)) $$ [H12 H13 H14 H15 H17 H18]
  · unfold done
    rw [part_zero]
    isplitl [H12]; · iexact H12
    isplitl [H13]; · iexact H13
    isplitl [H14]; · iexact H14
    isplitl [H15]; · iexact H15
    isplitl [H17]; · iexact H17
    iexact H18
  iintro %acc H
  rw [h8]; unfold done
  rw [part_all]
  icases H with ⟨H12, H13, H14, H15, H17, H18⟩
  simp only [Prog.lift, Prog.bind_op, Prog.bind_ret, Prog.pure_eq_ret]
  iapply (load_at c arg9 E og _ _ _ _ og (fun f hf => read_whole arg9.view inb_S1x1024_S1x1024_0_0 og f hf)) $$ H9; iintro H9
  iapply (load_at c arg16 E (gOf h g sh sc w) _ _ _ _ (gOf h g sh sc w) (fun f hf => read_whole arg16.view inb_S256x1024_S256x1024_0_0 (gOf h g sh sc w) f hf)) $$ H16; iintro H16
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 0) (fun f hf => read_cols arg17.view inb_S256x1024_S256x128_0_0 0 rfl (outTile (qOf h g sh sc w) (kOf h g sh sc w lb) (lOf h g sh sc w lb) (vOf h g sh sc w) (start i s)) f hf)) $$ H17; iintro H17
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 1) (fun f hf => read_cols arg17.view inb_S256x1024_S256x128_0_128 1 rfl (outTile (qOf h g sh sc w) (kOf h g sh sc w lb) (lOf h g sh sc w lb) (vOf h g sh sc w) (start i s)) f hf)) $$ H17; iintro H17
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 2) (fun f hf => read_cols arg17.view inb_S256x1024_S256x128_0_256 2 rfl (outTile (qOf h g sh sc w) (kOf h g sh sc w lb) (lOf h g sh sc w lb) (vOf h g sh sc w) (start i s)) f hf)) $$ H17; iintro H17
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 3) (fun f hf => read_cols arg17.view inb_S256x1024_S256x128_0_384 3 rfl (outTile (qOf h g sh sc w) (kOf h g sh sc w lb) (lOf h g sh sc w lb) (vOf h g sh sc w) (start i s)) f hf)) $$ H17; iintro H17
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 4) (fun f hf => read_cols arg17.view inb_S256x1024_S256x128_0_512 4 rfl (outTile (qOf h g sh sc w) (kOf h g sh sc w lb) (lOf h g sh sc w lb) (vOf h g sh sc w) (start i s)) f hf)) $$ H17; iintro H17
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 5) (fun f hf => read_cols arg17.view inb_S256x1024_S256x128_0_640 5 rfl (outTile (qOf h g sh sc w) (kOf h g sh sc w lb) (lOf h g sh sc w lb) (vOf h g sh sc w) (start i s)) f hf)) $$ H17; iintro H17
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 6) (fun f hf => read_cols arg17.view inb_S256x1024_S256x128_0_768 6 rfl (outTile (qOf h g sh sc w) (kOf h g sh sc w lb) (lOf h g sh sc w lb) (vOf h g sh sc w) (start i s)) f hf)) $$ H17; iintro H17
  iapply (load_at c arg17 E (outTile (qOf h g sh sc w) (kOf h g sh sc w lb) (lOf h g sh sc w lb) (vOf h g sh sc w) (start i s)) _ _ _ _ (colsOf (outTile (qOf h g sh sc w) (kOf h g sh sc w lb) (lOf h g sh sc w lb) (vOf h g sh sc w) (start i s)) 7) (fun f hf => read_cols arg17.view inb_S256x1024_S256x128_0_896 7 rfl (outTile (qOf h g sh sc w) (kOf h g sh sc w lb) (lOf h g sh sc w lb) (vOf h g sh sc w) (start i s)) f hf)) $$ H17; iintro H17
  iapply (load_at c arg10 E wo _ _ _ _ wo (fun f hf => read_whole arg10.view inb_S1024x1024_S1024x1024_0_0 wo f hf)) $$ H10; iintro H10
  iapply (load_at c arg6 E gate _ _ _ _ gate (fun f hf => read_whole arg6.view inb_S1x1x1024_S1x1x1024_0_0_0 gate f hf)) $$ H6; iintro H6
  iapply (load_any c arg11 E b11 _ _ _ _) $$ H11; iintro H11
  iapply (store_at c arg11 E b11 (pointOut h g sh sc w lb og wo gate (start i s)) _ _ _ _ _ _ (fun f _ => write_whole arg11.view inb_S1x256x1024_S1x256x1024_0_0_0 (pointOut h g sh sc w lb og wo gate (start i s)) f)) $$ H11; iintro H11
  rw [wp_ret]; imodintro
  iapply Hk
  unfold left
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexact H18

end Body

end Cert.Proof.HI
-- ==== Proof.HI.Run.lean ====
/-
  The whole recurrent layer's call. At a grid point the windows hold blocks of the nine arrays; the point leaves `pointOut`
  of them in the window of results (`body_obligation`). Between points the call keeps the eight states. The run then ends
  with the input arrays as they were, every counter at zero, and in the result array what the points left there.
-/
module

public import proofs.«01_k».proof.Proof.HI.Body
public import proofs.«01_k».proof.Proof.Gen.KernelHIdeal.Launch
public import proofs.«01_k».proof.Proof.Gen.KernelHIdeal.Points
public import Idealize.ShloMosaic.Lib.Pipeline.Frame
public import Idealize.ShloMosaic.Lib.Pipeline.FrameBody
public import Idealize.ShloMosaic.Lib.Pipeline.ValueKit.Geometry

@[expose] public section

noncomputable section

namespace Cert.Proof.HI

open Cert.KernelHIdeal Cert.KernelHIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ### The blocks the windows hold -/

/-- The rows of core `c` at grid point `t`. -/
def hAt (c : Dev nD) (t : Fin cfg0.N) : Vec F S1x256x1024 .f32 :=
  ((cfg0.win 0).blk t).view.read (Elt F) (m ((cfg0.win 0).arr.view.loc (c : Thread nD τ)))
/-- The weights of the norm of core `c` at grid point `t`. -/
def gAt (c : Dev nD) (t : Fin cfg0.N) : Vec F S1x1024 .f32 :=
  ((cfg0.win 1).blk t).view.read (Elt F) (m ((cfg0.win 1).arr.view.loc (c : Thread nD τ)))
/-- The shifts of core `c` at grid point `t`. -/
def shAt (c : Dev nD) (t : Fin cfg0.N) : Vec F S1x1x1024 .f32 :=
  ((cfg0.win 2).blk t).view.read (Elt F) (m ((cfg0.win 2).arr.view.loc (c : Thread nD τ)))
/-- The scales of core `c` at grid point `t`. -/
def scAt (c : Dev nD) (t : Fin cfg0.N) : Vec F S1x1x1024 .f32 :=
  ((cfg0.win 3).blk t).view.read (Elt F) (m ((cfg0.win 3).arr.view.loc (c : Thread nD τ)))
/-- The gates of core `c` at grid point `t`. -/
def gateAt (c : Dev nD) (t : Fin cfg0.N) : Vec F S1x1x1024 .f32 :=
  ((cfg0.win 4).blk t).view.read (Elt F) (m ((cfg0.win 4).arr.view.loc (c : Thread nD τ)))
/-- The input matrix of core `c` at grid point `t`. -/
def wAt (c : Dev nD) (t : Fin cfg0.N) : Vec F S1024x4096 .bf16 :=
  ((cfg0.win 5).blk t).view.read (Elt F) (m ((cfg0.win 5).arr.view.loc (c : Thread nD τ)))
/-- The logits of core `c` at grid point `t`. -/
def lbAt (c : Dev nD) (t : Fin cfg0.N) : Vec F S2x1024 .f32 :=
  ((cfg0.win 6).blk t).view.read (Elt F) (m ((cfg0.win 6).arr.view.loc (c : Thread nD τ)))
/-- The weights of the heads' norm of core `c` at grid point `t`. -/
def ogAt (c : Dev nD) (t : Fin cfg0.N) : Vec F S1x1024 .f32 :=
  ((cfg0.win 7).blk t).view.read (Elt F) (m ((cfg0.win 7).arr.view.loc (c : Thread nD τ)))
/-- The output matrix of core `c` at grid point `t`. -/
def woAt (c : Dev nD) (t : Fin cfg0.N) : Vec F S1024x1024 .bf16 :=
  ((cfg0.win 8).blk t).view.read (Elt F) (m ((cfg0.win 8).arr.view.loc (c : Thread nD τ)))

/-- The states before point `n`. -/
def stateAt (c : Dev nD) : ℕ → State F
  | 0 => k0_pay43
  | n + 1 => if h : n < cfg0.N then
      pointState (hAt m c ⟨n, h⟩) (gAt m c ⟨n, h⟩) (shAt m c ⟨n, h⟩) (scAt m c ⟨n, h⟩) (wAt m c ⟨n, h⟩) (lbAt m c ⟨n, h⟩)
        (start (grid0.coords ⟨n, h⟩) (stateAt c n))
    else stateAt c n

/-- What grid point `t` leaves in the window of results. -/
def outAt (c : Dev nD) (t : Fin cfg0.N) : Vec F S1x256x1024 .f32 :=
  pointOut (hAt m c t) (gAt m c t) (shAt m c t) (scAt m c t) (wAt m c t) (lbAt m c t) (ogAt m c t) (woAt m c t) (gateAt m c t) (start (grid0.coords t) (stateAt m c t.val))

/-- The states after point `t`. -/
theorem stateAt_succ (c : Dev nD) (t : Fin cfg0.N) : stateAt m c (t.val + 1)
    = pointState (hAt m c t) (gAt m c t) (shAt m c t) (scAt m c t) (wAt m c t) (lbAt m c t) (start (grid0.coords t) (stateAt m c t.val)) := by
  show dite _ _ _ = _
  rw [dif_pos t.isLt]

/-- The first point starts a sequence. -/
theorem first_zero : ∀ t : Fin grid0.N, t.val = 0 → First (grid0.coords t) := by decide +kernel

/-- What the core keeps between points: before point `n`, the states the point before left, if there is one; something in the
    tiles of its own; and the generator's register. -/
def kept (c : Dev nD) (n : ℕ) : sProp 𝕄 :=
  iprop((∃ s : State F, ⌜n ≠ 0 → s = stateAt m c n⌝ ∗ at_ c (Memref.whole cc0_scratch6) s)
    ∗ (∃ a, at_ c (Memref.whole cc0_scratch0) a) ∗ (∃ a, at_ c (Memref.whole cc0_scratch1) a) ∗ (∃ a, at_ c (Memref.whole cc0_scratch2) a)
    ∗ (∃ a, at_ c (Memref.whole cc0_scratch3) a) ∗ (∃ a, at_ c (Memref.whole cc0_scratch4) a) ∗ (∃ a, at_ c (Memref.whole cc0_scratch5) a)
    ∗ ∃ r, prngReg c r)

/-- The call's data: the arrays at their first contents, each window's block after a point, and what is kept between points. -/
def dats (_ : Fin 1) (c : Dev nD) : Dat τ (Elt F) Unit ℕ (UR sig nD τ) ℕ cfg0 c where
  A w := m ((cfg0.win w).arr.view.loc (c : Thread nD τ))
  after
    | 0 => fun t => hAt m c t
    | 1 => fun t => gAt m c t
    | 2 => fun t => shAt m c t
    | 3 => fun t => scAt m c t
    | 4 => fun t => gateAt m c t
    | 5 => fun t => wAt m c t
    | 6 => fun t => lbAt m c t
    | 7 => fun t => ogAt m c t
    | 8 => fun t => woAt m c t
    | 9 => fun t => outAt m c t
    | ⟨_ + 10, h⟩ => absurd h (Nat.not_lt.2 (Nat.le_add_left _ _))
  Φ t := kept m c t.val
  q _ := fullShare
  owed _ := 0

/-- After a point the window of operand 0 holds the point's block. -/
theorem after_0 (c : Dev nD) (t : Fin cfg0.N) : (dats m 0 c).after 0 t = hAt m c t := by dsimp only [dats]
/-- After a point the window of operand 1 holds the point's block. -/
theorem after_1 (c : Dev nD) (t : Fin cfg0.N) : (dats m 0 c).after 1 t = gAt m c t := by dsimp only [dats]
/-- After a point the window of operand 2 holds the point's block. -/
theorem after_2 (c : Dev nD) (t : Fin cfg0.N) : (dats m 0 c).after 2 t = shAt m c t := by dsimp only [dats]
/-- After a point the window of operand 3 holds the point's block. -/
theorem after_3 (c : Dev nD) (t : Fin cfg0.N) : (dats m 0 c).after 3 t = scAt m c t := by dsimp only [dats]
/-- After a point the window of operand 4 holds the point's block. -/
theorem after_4 (c : Dev nD) (t : Fin cfg0.N) : (dats m 0 c).after 4 t = gateAt m c t := by dsimp only [dats]
/-- After a point the window of operand 5 holds the point's block. -/
theorem after_5 (c : Dev nD) (t : Fin cfg0.N) : (dats m 0 c).after 5 t = wAt m c t := by dsimp only [dats]
/-- After a point the window of operand 6 holds the point's block. -/
theorem after_6 (c : Dev nD) (t : Fin cfg0.N) : (dats m 0 c).after 6 t = lbAt m c t := by dsimp only [dats]
/-- After a point the window of operand 7 holds the point's block. -/
theorem after_7 (c : Dev nD) (t : Fin cfg0.N) : (dats m 0 c).after 7 t = ogAt m c t := by dsimp only [dats]
/-- After a point the window of operand 8 holds the point's block. -/
theorem after_8 (c : Dev nD) (t : Fin cfg0.N) : (dats m 0 c).after 8 t = woAt m c t := by dsimp only [dats]
/-- After a point the window of operand 9 holds the point's block. -/
theorem after_9 (c : Dev nD) (t : Fin cfg0.N) : (dats m 0 c).after 9 t = outAt m c t := by dsimp only [dats]

/-- Before a point the core keeps what the points before left. -/
theorem Φ_before (c : Dev nD) (t : Fin cfg0.N) : (dats (F := F) m 0 c).Φ t.castSucc = kept m c t.val := by
  dsimp only [dats]; exact congrArg (kept m c) (Fin.val_castSucc t)
/-- After a point the core keeps what the point leaves. -/
theorem Φ_after (c : Dev nD) (t : Fin cfg0.N) : (dats (F := F) m 0 c).Φ t.succ = kept m c (t.val + 1) := by
  dsimp only [dats]; exact congrArg (kept m c) (Fin.val_succ t)

/-- Before a point the window of operand 0 holds the point's block. -/
theorem before_0 (c : Dev nD) (t : Fin cfg0.N) (d) : (dats m 0 c).before 0 t d = hAt m c t :=
  ((dats m 0 c).before_in_eq_fetched 0 rfl (fun _ => rfl) (fun _ _ _ => rfl) (fun t => by rw [after_0]; rfl) t d).trans rfl
/-- Before a point the window of operand 1 holds the point's block. -/
theorem before_1 (c : Dev nD) (t : Fin cfg0.N) (d) : (dats m 0 c).before 1 t d = gAt m c t :=
  ((dats m 0 c).before_in_eq_fetched 1 rfl (fun _ => rfl) (fun _ _ _ => rfl) (fun t => by rw [after_1]; rfl) t d).trans rfl
/-- Before a point the window of operand 2 holds the point's block. -/
theorem before_2 (c : Dev nD) (t : Fin cfg0.N) (d) : (dats m 0 c).before 2 t d = shAt m c t :=
  ((dats m 0 c).before_in_eq_fetched 2 rfl (fun _ => rfl) (fun _ _ _ => rfl) (fun t => by rw [after_2]; rfl) t d).trans rfl
/-- Before a point the window of operand 3 holds the point's block. -/
theorem before_3 (c : Dev nD) (t : Fin cfg0.N) (d) : (dats m 0 c).before 3 t d = scAt m c t :=
  ((dats m 0 c).before_in_eq_fetched 3 rfl (fun _ => rfl) (fun _ _ _ => rfl) (fun t => by rw [after_3]; rfl) t d).trans rfl
/-- Before a point the window of operand 4 holds the point's block. -/
theorem before_4 (c : Dev nD) (t : Fin cfg0.N) (d) : (dats m 0 c).before 4 t d = gateAt m c t :=
  ((dats m 0 c).before_in_eq_fetched 4 rfl (fun _ => rfl) (fun _ _ _ => rfl) (fun t => by rw [after_4]; rfl) t d).trans rfl
/-- Before a point the window of operand 5 holds the point's block. -/
theorem before_5 (c : Dev nD) (t : Fin cfg0.N) (d) : (dats m 0 c).before 5 t d = wAt m c t :=
  ((dats m 0 c).before_in_eq_fetched 5 rfl (fun _ => rfl) (fun _ _ _ => rfl) (fun t => by rw [after_5]; rfl) t d).trans rfl
/-- Before a point the window of operand 6 holds the point's block. -/
theorem before_6 (c : Dev nD) (t : Fin cfg0.N) (d) : (dats m 0 c).before 6 t d = lbAt m c t :=
  ((dats m 0 c).before_in_eq_fetched 6 rfl (fun _ => rfl) (fun _ _ _ => rfl) (fun t => by rw [after_6]; rfl) t d).trans rfl
/-- Before a point the window of operand 7 holds the point's block. -/
theorem before_7 (c : Dev nD) (t : Fin cfg0.N) (d) : (dats m 0 c).before 7 t d = ogAt m c t :=
  ((dats m 0 c).before_in_eq_fetched 7 rfl (fun _ => rfl) (fun _ _ _ => rfl) (fun t => by rw [after_7]; rfl) t d).trans rfl
/-- Before a point the window of operand 8 holds the point's block. -/
theorem before_8 (c : Dev nD) (t : Fin cfg0.N) (d) : (dats m 0 c).before 8 t d = woAt m c t :=
  ((dats m 0 c).before_in_eq_fetched 8 rfl (fun _ => rfl) (fun _ _ _ => rfl) (fun t => by rw [after_8]; rfl) t d).trans rfl

/-! ### One point -/

set_option maxHeartbeats 4000000 in
/-- What a grid point finds in its windows it leaves there, the results replaced by the point's. -/
theorem body_obligation (c : Dev nD) : BodyObligation (dats (F := F) m 0 c) (defs₀ (F := F)) 𝒱₀ () Set.univ := fun t => by
  rw [bigSep_W0, bigSep_W0]
  sl_whnfR [defs₀, Defs.onTc]
  rw [after_0, after_1, after_2, after_3, after_4, after_5, after_6, after_7, after_8, after_9]
  unfold owns
  rw [Φ_before, Φ_after]
  unfold kept
  iintro ⟨⟨⟨%s, %hs, HS6⟩, ⟨%a0, HS0⟩, ⟨%a1, HS1⟩, ⟨%a2, HS2⟩, ⟨%a3, HS3⟩, ⟨%a4, HS4⟩, ⟨%a5, HS5⟩, Hr⟩, Ho, ⟨%_, %f0, %h0, H0⟩, ⟨%_, %f1, %h1, H1⟩, ⟨%_, %f2, %h2, H2⟩, ⟨%_, %f3, %h3, H3⟩, ⟨%_, %f4, %h4, H4⟩, ⟨%_, %f5, %h5, H5⟩, ⟨%_, %f6, %h6, H6⟩, ⟨%_, %f7, %h7, H7⟩, ⟨%_, %f8, %h8, H8⟩, ⟨%_, %f9, %_, H9⟩⟩
  replace h0 := h0.trans (before_0 m c t _)
  replace h1 := h1.trans (before_1 m c t _)
  replace h2 := h2.trans (before_2 m c t _)
  replace h3 := h3.trans (before_3 m c t _)
  replace h4 := h4.trans (before_4 m c t _)
  replace h5 := h5.trans (before_5 m c t _)
  replace h6 := h6.trans (before_6 m c t _)
  replace h7 := h7.trans (before_7 m c t _)
  replace h8 := h8.trans (before_8 m c t _)
  have hst : start (grid0.coords t) s = start (grid0.coords t) (stateAt m c t.val) := by
    by_cases h0 : t.val = 0
    · unfold start; rw [if_pos (first_zero t h0), if_pos (first_zero t h0)]
    · rw [hs h0]
  iapply (body c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)
    (Memref.whole cc0_scratch5) (Memref.isWhole_whole _)
    (Memref.whole cc0_scratch6) (Memref.isWhole_whole _)
    (hAt m c t) (gAt m c t) (shAt m c t) (scAt m c t) (gateAt m c t) (wAt m c t) (lbAt m c t) (ogAt m c t) (woAt m c t)
    Set.univ (((win0_9.stage (cfg0.slots t 9))).view.read (Elt F) f9) a0 a1 a2 a3 a4 a5 s)
  isplitl [H0]; · unfold at_; iexists f0; isplitr; (· ipureintro; exact h0); iexact H0
  isplitl [H1]; · unfold at_; iexists f1; isplitr; (· ipureintro; exact h1); iexact H1
  isplitl [H2]; · unfold at_; iexists f2; isplitr; (· ipureintro; exact h2); iexact H2
  isplitl [H3]; · unfold at_; iexists f3; isplitr; (· ipureintro; exact h3); iexact H3
  isplitl [H4]; · unfold at_; iexists f4; isplitr; (· ipureintro; exact h4); iexact H4
  isplitl [H5]; · unfold at_; iexists f5; isplitr; (· ipureintro; exact h5); iexact H5
  isplitl [H6]; · unfold at_; iexists f6; isplitr; (· ipureintro; exact h6); iexact H6
  isplitl [H7]; · unfold at_; iexists f7; isplitr; (· ipureintro; exact h7); iexact H7
  isplitl [H8]; · unfold at_; iexists f8; isplitr; (· ipureintro; exact h8); iexact H8
  isplitl [H9]; · unfold at_; iexists f9; isplitr; (· ipureintro; rfl); iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  rw [hst]; unfold left
  iintro ⟨H0, H1, H2, H3, H4, H5, H6, H7, H8, H9, HS0, HS1, HS2, HS3, HS4, HS5, HS6⟩
  isplitl [HS0 HS1 HS2 HS3 HS4 HS5 HS6 Hr]
  · isplitl [HS6]
    · iexists _
      isplitr; swap; · iexact HS6
      ipureintro
      intro _
      exact (stateAt_succ m c t).symm
    isplitl [HS0]; · iexact HS0
    isplitl [HS1]; · iexact HS1
    isplitl [HS2]; · iexact HS2
    isplitl [HS3]; · iexact HS3
    isplitl [HS4]; · iexact HS4
    isplitl [HS5]; · iexact HS5
    iexact Hr
  isplitl [Ho]; · iexact Ho
  unfold at_
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ### The run -/

set_option maxHeartbeats 4000000 in
/-- What the run leaves: the inputs as they were, the results as the points left them. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_frame_track cfgs (dats m) 0 launch0 (defs₀ (F := F)) 𝒱₀ m ρ main
    (hbody := fun c => (body_obligation m c).loose)
    (hshare := fun c => (dats m 0 c).share_full fun _ => rfl) (howed := fun _ _ => rfl)
    (V := fun c b => m ((c.tc : Thread nD τ).loc b))
    (hmain := Pipeline.hmain_region cfgs 0 (defs₀ (F := F)) 𝒱₀ m main fun _ => rfl)
    (hA := fun _ _ => rfl)
    (hin := fun c => by
      rw [show (dats m 0 c).Φ 0 = kept m c 0 from rfl]
      unfold Pipeline.ΦA kept at_
      rw [scopedRest0_eq]
      iintro ⟨⟨⟨%f0, H0⟩, ⟨%f1, H1⟩, ⟨%f2, H2⟩, ⟨%f3, H3⟩, ⟨%f4, H4⟩, ⟨%f5, H5⟩, ⟨%f6, H6⟩⟩, Hr⟩
      isplitl [H6]
      · iexists _
        isplitr; swap
        · iexists f6
          isplitr; (· ipureintro; rfl)
          rw [(Memref.isWhole_whole cc0_scratch6).set_eq_univ]; iexact H6
        ipureintro; intro h; exact absurd rfl h
      isplitl [H0]
      · iexists _; iexists f0
        isplitr; (· ipureintro; rfl)
        rw [(Memref.isWhole_whole cc0_scratch0).set_eq_univ]; iexact H0
      isplitl [H1]
      · iexists _; iexists f1
        isplitr; (· ipureintro; rfl)
        rw [(Memref.isWhole_whole cc0_scratch1).set_eq_univ]; iexact H1
      isplitl [H2]
      · iexists _; iexists f2
        isplitr; (· ipureintro; rfl)
        rw [(Memref.isWhole_whole cc0_scratch2).set_eq_univ]; iexact H2
      isplitl [H3]
      · iexists _; iexists f3
        isplitr; (· ipureintro; rfl)
        rw [(Memref.isWhole_whole cc0_scratch3).set_eq_univ]; iexact H3
      isplitl [H4]
      · iexists _; iexists f4
        isplitr; (· ipureintro; rfl)
        rw [(Memref.isWhole_whole cc0_scratch4).set_eq_univ]; iexact H4
      isplitl [H5]
      · iexists _; iexists f5
        isplitr; (· ipureintro; rfl)
        rw [(Memref.isWhole_whole cc0_scratch5).set_eq_univ]; iexact H5
      iexact Hr)
    (hout := fun c => by
      rw [show (dats m 0 c).Φ (Fin.last cfg0.N) = kept m c cfg0.N from rfl]
      unfold Pipeline.ΦA kept at_
      rw [scopedRest0_eq]
      iintro ⟨⟨%s, %_, %f6, %_, H6⟩, ⟨%a0, %f0, %_, H0⟩, ⟨%a1, %f1, %_, H1⟩, ⟨%a2, %f2, %_, H2⟩, ⟨%a3, %f3, %_, H3⟩, ⟨%a4, %f4, %_, H4⟩, ⟨%a5, %f5, %_, H5⟩, Hr⟩
      isplitr [Hr]; swap; · iexact Hr
      isplitl [H0]
      · iexists f0; rw [(Memref.isWhole_whole cc0_scratch0).set_eq_univ]; iexact H0
      isplitl [H1]
      · iexists f1; rw [(Memref.isWhole_whole cc0_scratch1).set_eq_univ]; iexact H1
      isplitl [H2]
      · iexists f2; rw [(Memref.isWhole_whole cc0_scratch2).set_eq_univ]; iexact H2
      isplitl [H3]
      · iexists f3; rw [(Memref.isWhole_whole cc0_scratch3).set_eq_univ]; iexact H3
      isplitl [H4]
      · iexists f4; rw [(Memref.isWhole_whole cc0_scratch4).set_eq_univ]; iexact H4
      isplitl [H5]
      · iexists f5; rw [(Memref.isWhole_whole cc0_scratch5).set_eq_univ]; iexact H5
      iexists f6; rw [(Memref.isWhole_whole cc0_scratch6).set_eq_univ]; iexact H6)
    (Q' := fun r => (∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)
    (hQ' := fun r h => ⟨fun c => ⟨(h.1 c).1 9, ((h.1 c).1 0).trans ((dats m 0 c).arrAt_in 0 rfl _), ((h.1 c).1 1).trans ((dats m 0 c).arrAt_in 1 rfl _), ((h.1 c).1 2).trans ((dats m 0 c).arrAt_in 2 rfl _), ((h.1 c).1 3).trans ((dats m 0 c).arrAt_in 3 rfl _), ((h.1 c).1 4).trans ((dats m 0 c).arrAt_in 4 rfl _), ((h.1 c).1 5).trans ((dats m 0 c).arrAt_in 5 rfl _), ((h.1 c).1 6).trans ((dats m 0 c).arrAt_in 6 rfl _), ((h.1 c).1 7).trans ((dats m 0 c).arrAt_in 7 rfl _), ((h.1 c).1 8).trans ((dats m 0 c).arrAt_in 8 rfl _)⟩, h.2⟩)

end Cert.Proof.HI

end
-- ==== Proof.HI.Value.lean ====
/-
  The recurrent layer over the extended reals: when the norm's weights, the modulation and the input weights are real
  numbers, the call's result array is the layer of Spec.lean.
-/
module

public import proofs.«01_k».proof.Proof.HI.Point
public import proofs.«01_k».proof.Proof.HI.Run

@[expose] public section

noncomputable section

namespace Cert.Proof.HI

open Cert.KernelHIdeal Cert.KernelHIdeal.Gen Cert.Proof.HL
open Idealize.ShloMosaic Idealize.ShloMosaic.ValueIdx
open Idealize.ShloMosaic.TcCoe
open scoped BigOperators

/-! ### Blocks of the arrays -/

/-- The first coordinate of a step is its batch. -/
theorem coords_0 : ∀ t : Fin cfg0.N, (grid0.coords t 0).val = t.val / 64 := (by decide +kernel : ∀ t : Fin grid0.N, _)
/-- The second coordinate of a step is its tile. -/
theorem coords_1 : ∀ t : Fin cfg0.N, (grid0.coords t 1).val = t.val % 64 := (by decide +kernel : ∀ t : Fin grid0.N, _)
/-- A step starts a sequence if its tile is the first. -/
theorem first_iff : ∀ t : Fin cfg0.N, First (grid0.coords t) ↔ t.val % 64 = 0 := (by decide +kernel : ∀ t : Fin grid0.N, _)

/-- The block of the stream of a step. -/
theorem index_0 : ∀ t : Fin cfg0.N, win0_0.index t = ![(grid0.coords t 0).val, (grid0.coords t 1).val, 0] := (by decide +kernel : ∀ t : Fin grid0.N, _)
/-- All the norm's weights. -/
theorem index_1 : ∀ t : Fin cfg0.N, win0_1.index t = ![0, 0] := (by decide +kernel : ∀ t : Fin grid0.N, _)
/-- The shifts of a step's batch. -/
theorem index_2 : ∀ t : Fin cfg0.N, win0_2.index t = ![(grid0.coords t 0).val, 0, 0] := (by decide +kernel : ∀ t : Fin grid0.N, _)
/-- The scales of a step's batch. -/
theorem index_3 : ∀ t : Fin cfg0.N, win0_3.index t = ![(grid0.coords t 0).val, 0, 0] := (by decide +kernel : ∀ t : Fin grid0.N, _)
/-- The gates of a step's batch. -/
theorem index_4 : ∀ t : Fin cfg0.N, win0_4.index t = ![(grid0.coords t 0).val, 0, 0] := (by decide +kernel : ∀ t : Fin grid0.N, _)
/-- All the input weights. -/
theorem index_5 : ∀ t : Fin cfg0.N, win0_5.index t = ![0, 0] := (by decide +kernel : ∀ t : Fin grid0.N, _)
/-- All the logits. -/
theorem index_6 : ∀ t : Fin cfg0.N, win0_6.index t = ![0, 0] := (by decide +kernel : ∀ t : Fin grid0.N, _)
/-- All the output norm's weights. -/
theorem index_7 : ∀ t : Fin cfg0.N, win0_7.index t = ![0, 0] := (by decide +kernel : ∀ t : Fin grid0.N, _)
/-- All the output weights. -/
theorem index_8 : ∀ t : Fin cfg0.N, win0_8.index t = ![0, 0] := (by decide +kernel : ∀ t : Fin grid0.N, _)
/-- The block of results of a step. -/
theorem index_9 : ∀ t : Fin cfg0.N, win0_9.index t = ![(grid0.coords t 0).val, (grid0.coords t 1).val, 0] := (by decide +kernel : ∀ t : Fin grid0.N, _)

variable (m : (ℓ : Loc nD τ sig) → Buf (Elt Ideal) ℓ) (c : Dev nD)

/-- The stream. -/
abbrev arg0 : Hs.Idx → EReal := m ((c.tc : Thread nD τ).loc main_arg0)
/-- The norm's weights. -/
abbrev arg1 : Gs.Idx → EReal := m ((c.tc : Thread nD τ).loc main_arg1)
/-- The shifts. -/
abbrev arg2 : Bs.Idx → EReal := m ((c.tc : Thread nD τ).loc main_arg2)
/-- The scales. -/
abbrev arg3 : Bs.Idx → EReal := m ((c.tc : Thread nD τ).loc main_arg3)
/-- The gates. -/
abbrev arg4 : Bs.Idx → EReal := m ((c.tc : Thread nD τ).loc main_arg4)
/-- The input weights. -/
abbrev arg5 : Ws.Idx → EReal := m ((c.tc : Thread nD τ).loc main_arg5)
/-- The logits. -/
abbrev arg6 : Ls.Idx → EReal := m ((c.tc : Thread nD τ).loc main_arg6)
/-- The output norm's weights. -/
abbrev arg7 : Gs.Idx → EReal := m ((c.tc : Thread nD τ).loc main_arg7)
/-- The output weights. -/
abbrev arg8 : Os.Idx → EReal := m ((c.tc : Thread nD τ).loc main_arg8)

variable (t : Fin cfg0.N) (b : Fin 2) (s : Fin 16384) (r : Fin 256) (n : Fin 1024)

/-- An entry of a step's stream. -/
theorem h_apply (hb : b.val = (grid0.coords t 0).val) (hs : s.val = (grid0.coords t 1).val * 256 + r.val) :
    hAt m c t (ix3 (0 : Fin 1) r n) = arg0 m c (ix3 b s n) := by
  unfold hAt
  blk_ext [index_0 t]
  · exact hb.symm
  · exact hs.symm
/-- An entry of a step's norm weights. -/
theorem g_apply : gAt m c t (ix2 (0 : Fin 1) n) = arg1 m c (ix2 (0 : Fin 1) n) := by
  unfold gAt
  blk_ext [index_1 t]
/-- An entry of a step's shifts. -/
theorem sh_apply (hb : b.val = (grid0.coords t 0).val) : shAt m c t (ix3 (0 : Fin 1) (0 : Fin 1) n) = arg2 m c (ix3 b (0 : Fin 1) n) := by
  unfold shAt
  blk_ext [index_2 t]
  · exact hb.symm
/-- An entry of a step's scales. -/
theorem sc_apply (hb : b.val = (grid0.coords t 0).val) : scAt m c t (ix3 (0 : Fin 1) (0 : Fin 1) n) = arg3 m c (ix3 b (0 : Fin 1) n) := by
  unfold scAt
  blk_ext [index_3 t]
  · exact hb.symm
/-- An entry of a step's gates. -/
theorem gate_apply (hb : b.val = (grid0.coords t 0).val) : gateAt m c t (ix3 (0 : Fin 1) (0 : Fin 1) n) = arg4 m c (ix3 b (0 : Fin 1) n) := by
  unfold gateAt
  blk_ext [index_4 t]
  · exact hb.symm
/-- An entry of a step's input weights. -/
theorem w_apply (k : Fin 1024) (n : Fin 4096) : wAt m c t (ix2 k n) = arg5 m c (ix2 k n) := by
  unfold wAt
  blk_ext [index_5 t]
/-- An entry of a step's logits. -/
theorem lb_apply (i : Fin 2) : lbAt m c t (ix2 i n) = arg6 m c (ix2 i n) := by
  unfold lbAt
  blk_ext [index_6 t]
/-- An entry of a step's output norm weights. -/
theorem og_apply : ogAt m c t (ix2 (0 : Fin 1) n) = arg7 m c (ix2 (0 : Fin 1) n) := by
  unfold ogAt
  blk_ext [index_7 t]
/-- An entry of a step's output weights. -/
theorem wo_apply (k : Fin 1024) : woAt m c t (ix2 k n) = arg8 m c (ix2 k n) := by
  unfold woAt
  blk_ext [index_8 t]

/-! ### The recurrence over a sequence -/

/-- The projection of a step's row is that of the row of the arrays. -/
theorem tproj_eq (p : Fin 4) (hb : b.val = (grid0.coords t 0).val) (hs : s.val = (grid0.coords t 1).val * 256 + r.val) :
    tproj (hAt m c t) (gAt m c t) (shAt m c t) (scAt m c t) (wAt m c t) r p n = proj (arg0 m c) (arg1 m c) (arg2 m c) (arg3 m c) (arg5 m c) b s p n := by
  unfold tproj proj
  rw [funext fun k => h_apply m c t b s r k hb hs, funext fun k => g_apply m c t k, funext fun k => sh_apply m c t b k hb,
    funext fun k => sc_apply m c t b k hb, funext fun k => w_apply m c t k (HL.part p n)]

/-- The batch of a step. -/
def batch : Fin 2 := ⟨t.val / 64, by have : t.val < 128 := t.isLt; omega⟩

/-- The queries of a batch. -/
def Qs : Chunks.Rows := reals (qAt (arg0 m c) (arg1 m c) (arg2 m c) (arg3 m c) (arg5 m c) b)
/-- The keys of a batch. -/
def Ks : Chunks.Rows := reals (kAt (arg0 m c) (arg1 m c) (arg2 m c) (arg3 m c) (arg5 m c) (arg6 m c) b)
/-- The log decays of a batch. -/
def Ls' : Chunks.Rows := reals (lAt (arg0 m c) (arg1 m c) (arg2 m c) (arg3 m c) (arg5 m c) (arg6 m c) b)
/-- The values of a batch. -/
def Vs : Chunks.Rows := reals (vAt (arg0 m c) (arg1 m c) (arg2 m c) (arg3 m c) (arg5 m c) b)

/-- The batch of a step is its first coordinate. -/
theorem batch_val : (batch t).val = (grid0.coords t 0).val := (coords_0 t).symm

/-- The row of a step's row. -/
theorem row_tile : (Spec.row (256 * (t.val % 64) + r.val)).val = (grid0.coords t 1).val * 256 + r.val := by
  have := r.isLt
  show (256 * (t.val % 64) + r.val) % 16384 = _
  rw [coords_1]
  omega

variable (H : Finite (arg1 m c) (arg2 m c) (arg3 m c) (arg5 m c))

include H

/-- A step's queries. -/
theorem q_tile : HoldsTile (256 * (t.val % 64)) (qOf (hAt m c t) (gAt m c t) (shAt m c t) (scAt m c t) (wAt m c t)) (Qs m c (batch t)) := by
  intro r n
  rw [qOf_apply, tproj_eq m c t (batch t) (Spec.row (256 * (t.val % 64) + r.val)) r n 0 (batch_val t) (row_tile t r)]
  exact (Is.coe (H.q (batch t) _ n)).symm
/-- A step's values. -/
theorem v_tile : HoldsTile (256 * (t.val % 64)) (vOf (hAt m c t) (gAt m c t) (shAt m c t) (scAt m c t) (wAt m c t)) (Vs m c (batch t)) := by
  intro r n
  rw [vOf_apply, tproj_eq m c t (batch t) (Spec.row (256 * (t.val % 64) + r.val)) r n 2 (batch_val t) (row_tile t r)]
  exact (Is.coe (H.v (batch t) _ n)).symm
/-- A step's keys and log decays. -/
theorem kl_tile : KeyedTile (256 * (t.val % 64)) (kOf (hAt m c t) (gAt m c t) (shAt m c t) (scAt m c t) (wAt m c t) (lbAt m c t))
    (lOf (hAt m c t) (gAt m c t) (shAt m c t) (scAt m c t) (wAt m c t) (lbAt m c t)) (Ks m c (batch t)) (Ls' m c (batch t)) := by
  intro n
  have ek : ∀ r : Fin 256, kOf (hAt m c t) (gAt m c t) (shAt m c t) (scAt m c t) (wAt m c t) (lbAt m c t) (ix2 r n)
      = kAt (arg0 m c) (arg1 m c) (arg2 m c) (arg3 m c) (arg5 m c) (arg6 m c) (batch t) (Spec.row (256 * (t.val % 64) + r.val)) n := fun r => by
    rw [kOf_apply, tproj_eq m c t (batch t) (Spec.row (256 * (t.val % 64) + r.val)) r n 1 (batch_val t) (row_tile t r), funext fun i => lb_apply m c t n i]
    rfl
  have el : ∀ r : Fin 256, lOf (hAt m c t) (gAt m c t) (shAt m c t) (scAt m c t) (wAt m c t) (lbAt m c t) (ix2 r n)
      = lAt (arg0 m c) (arg1 m c) (arg2 m c) (arg3 m c) (arg5 m c) (arg6 m c) (batch t) (Spec.row (256 * (t.val % 64) + r.val)) n := fun r => by
    rw [lOf_apply, tproj_eq m c t (batch t) (Spec.row (256 * (t.val % 64) + r.val)) r n 1 (batch_val t) (row_tile t r), funext fun i => lb_apply m c t n i]
    rfl
  by_cases hn : Dead (arg6 m c) n
  · exact .inr ⟨fun r => (el r).trans (lAt_dead _ _ n hn), fun s => kAt_dead _ n s hn⟩
  · exact .inl fun r => ⟨(ek r).trans (Is.coe (H.k (batch t) _ n hn)).symm, (el r).trans (Is.coe (H.l (batch t) _ n hn)).symm⟩

/-- The states a step starts from are the recurrence's before the step's rows. -/
theorem carries : ∀ (k : ℕ) (t : Fin cfg0.N), t.val = k →
    Carries (Ks m c (batch t)) (Ls' m c (batch t)) (Vs m c (batch t)) (256 * (t.val % 64)) (start (grid0.coords t) (stateAt m c t.val)) := by
  intro k
  induction k with
  | zero =>
    intro t ht hd a n
    unfold start
    rw [if_pos ((first_iff t).2 (by omega)), show t.val % 64 = 0 by omega, Nat.mul_zero, Chunks.state_zero]
    unfold k0_pay43
    rw [shapeCast_self]
    exact Ideal.ofBits_zero_f32.trans EReal.coe_zero.symm
  | succ k ih =>
    intro t ht
    by_cases h0 : t.val % 64 = 0
    · intro hd a n
      unfold start
      rw [if_pos ((first_iff t).2 h0), h0, Nat.mul_zero, Chunks.state_zero]
      unfold k0_pay43
      rw [shapeCast_self]
      exact Ideal.ofBits_zero_f32.trans EReal.coe_zero.symm
    · have hlt : k < cfg0.N := by have := t.isLt; omega
      have e := ih ⟨k, hlt⟩ rfl
      have hb : batch (⟨k, hlt⟩ : Fin cfg0.N) = batch t := Fin.ext (by show k / 64 = t.val / 64; omega)
      have hs := stateAt_succ m c ⟨k, hlt⟩
      have h8 := statesAt_carry (kl_tile m c ⟨k, hlt⟩ H) (v_tile m c ⟨k, hlt⟩ H) e 8 le_rfl
      unfold start at *
      rw [if_neg (fun h => h0 ((first_iff t).1 h)), ht]
      rw [hb] at h8
      have hi : 256 * (k % 64) + 32 * 8 = 256 * (t.val % 64) := by omega
      rw [hs]
      rw [← ht, ← hi]
      exact h8

/-- What a step leaves at a row and column of its block is the layer there. -/
theorem block_apply (hb : b.val = (grid0.coords t 0).val) (hs : s.val = (grid0.coords t 1).val * 256 + r.val) :
    outAt m c t (ix3 (0 : Fin 1) r n)
      = entry (arg0 m c) (arg1 m c) (arg2 m c) (arg3 m c) (arg4 m c) (arg5 m c) (arg6 m c) (arg7 m c) (arg8 m c) b s n := by
  have hbt : b = batch t := Fin.ext (hb.trans (coords_0 t))
  have hst : 256 * (t.val % 64) + r.val = s.val := by rw [hs, coords_1]; omega
  unfold outAt pointOut entry
  rw [finish_apply, h_apply m c t b s r n hb hs, gate_apply m c t b n hb, funext fun k => og_apply m c t k, funext fun k => wo_apply m c t n k]
  refine congrArg₂ (fun u v : Fin 1024 → EReal => finished _ _ u _ v _) (funext fun n => ?_) (funext fun n => ?_)
  · rw [outTile_chunk (q_tile m c t H) (kl_tile m c t H) (v_tile m c t H) (carries m c H t.val t rfl) r n, hst, hbt]
    rfl
  · rw [gOf_apply, tproj_eq m c t b s r n 3 hb hs]
    rfl

/-- The result array after the run. -/
theorem final : (dats m 0 c).arrAt 9 cfg0.N
    = G (arg0 m c) (arg1 m c) (arg2 m c) (arg3 m c) (arg4 m c) (arg5 m c) (arg6 m c) (arg7 m c) (arg8 m c) := by
  refine (dats m 0 c).arrAt_eq_of_covers 9 _ (by decide +kernel) fun t hf y => ?_
  blk_simp
  rw [after_9]
  have hy : y = ix3 (0 : Fin 1) (y 1 : Fin 256) (y 2 : Fin 1024) :=
    (eq_ix3 (n0 := 1) (n1 := 256) (n2 := 1024) y).trans (congrArg (fun z => ix3 z _ _) (Subsingleton.elim (α := Fin 1) _ _))
  have e0 : (((win0_9.blk t).view.emb y 0 : Fin 2)).val = (grid0.coords t 0).val := by
    blk_simp [index_9 t]
  have e1 : (((win0_9.blk t).view.emb y 1 : Fin 16384)).val = (grid0.coords t 1).val * 256 + (y 1 : Fin 256).val := by
    blk_simp [index_9 t]
  have e2 : ((win0_9.blk t).view.emb y 2 : Fin 1024) = (y 2 : Fin 1024) := Fin.ext (by
    blk_simp [index_9 t])
  refine (congrArg (outAt m c t) hy).trans ((block_apply m c t _ _ _ _ H e0 e1).trans ?_)
  unfold G
  exact congrArg (fun v => entry _ _ _ _ _ _ _ _ _ _ _ v) e2.symm

end Cert.Proof.HI

end
-- ==== Proof.HL.RefRows.lean ====
/-
  The rows of the recurrent layer in the reference, over the extended reals: the projection of the normalised, modulated stream,
  and from it the queries, the forget gates, the values and the output gates, entry by entry those of Spec.lean.
-/
module

public import proofs.«01_k».proof.Proof.Gen.ReferenceHIdeal.Run
public import proofs.«01_k».proof.Proof.Q.Value
public import proofs.«01_k».proof.Proof.HL.Real
public import Idealize.ShloMosaic.Lib.WordCmp
public import Idealize.ShloMosaic.Lib.KernelVsHost

@[expose] public section

noncomputable section

namespace Cert.Proof.HL

open Cert.ReferenceHIdeal Cert.ReferenceHIdeal.Gen
open Idealize.ShloMosaic Idealize.ShloMosaic.ValueIdx
open scoped BigOperators

variable (h : FVec Ideal S2x16384x1024 .f32) (g : FVec Ideal S1x1024 .f32) (sh sc : FVec Ideal S2x1x1024 .f32) (w : FVec Ideal S1024x4096 .bf16)
  (lb : FVec Ideal S2x1024 .f32)

/-- All four parts of the projection. -/
def parts : FVec Ideal S2x16384x4096 .f32 :=
  Host.dotGeneral dot_S2x16384x1024_S1024x4096_S2x16384x4096_2_0_01_1_n_n none (Q.rnormed h g sh sc) (extf .f32 w bitsLt_bf16_f32)

/-- One everywhere. -/
def ones : FVec Ideal S2x16384x1024 .f32 := broadcastInDim S2x16384x1024 ![] bcast_S_S2x16384x1024 (constant S_ .f32 0x3F800000#32)

/-- The logistic of an array. -/
def logistics (x : FVec Ideal S2x16384x1024 .f32) : FVec Ideal S2x16384x1024 .f32 := Host.divf ones (addf ones (Host.exp (Host.negf x)))

/-- An array times its logistic. -/
def silus (x : FVec Ideal S2x16384x1024 .f32) : FVec Ideal S2x16384x1024 .f32 := mulf x (logistics x)

/-- The first part of the projection. -/
def part0 (p : FVec Ideal S2x16384x4096 .f32) : FVec Ideal S2x16384x1024 .f32 := extractStridedSlice S2x16384x1024 ![0, 0, 0] p slices_S2x16384x4096_S2x16384x1024_0_0_0
/-- The second part of the projection. -/
def part1 (p : FVec Ideal S2x16384x4096 .f32) : FVec Ideal S2x16384x1024 .f32 := extractStridedSlice S2x16384x1024 ![0, 0, 1024] p slices_S2x16384x4096_S2x16384x1024_0_0_1024
/-- The third part of the projection. -/
def part2 (p : FVec Ideal S2x16384x4096 .f32) : FVec Ideal S2x16384x1024 .f32 := extractStridedSlice S2x16384x1024 ![0, 0, 2048] p slices_S2x16384x4096_S2x16384x1024_0_0_2048
/-- The fourth part of the projection. -/
def part3 (p : FVec Ideal S2x16384x4096 .f32) : FVec Ideal S2x16384x1024 .f32 := extractStridedSlice S2x16384x1024 ![0, 0, 3072] p slices_S2x16384x4096_S2x16384x1024_0_0_3072

/-- The larger logit of each column. -/
def tops : FVec Ideal S1024 .f32 :=
  maximumf (broadcastInDim S1024 ![] bcast_S_S1024 (constant S_ .f32 0xFF800000#32))
    (Host.reduce FloatOps.maximumf lb (constant S_ .f32 0xFF800000#32) reducesTo_S2x1024_S1024_d0 h_S_)

/-- A row for each logit. -/
def twice (x : FVec Ideal S1024 .f32) : FVec Ideal S2x1024 .f32 :=
  broadcastInDim S2x1024 ![0, 1] bcast_S1x1024_S2x1024_0_1 (broadcastInDim S1x1024 ![1] bcast_S1024_S1x1024_1 x)

/-- The exponentials of the logits less the larger one. -/
def rexps : FVec Ideal S2x1024 .f32 := Host.exp (subf lb (twice (tops lb)))

/-- The first share of the softmax of the logits. -/
def rlowers : FVec Ideal S1024 .f32 :=
  shapeCast _ (extractStridedSlice S1x1024 ![0, 0] (Host.divf (rexps lb)
    (twice (Host.reduceAdd (rexps lb) (constant S_ .f32 0x00000000#32) reducesTo_S2x1024_S1024_d0 h_S_))) slices_S2x1024_S1x1024_0_0) shapeCasts_S1x1024_S1024

/-- A row of columns at every row of the stream. -/
def everyRow (x : FVec Ideal S1024 .f32) : FVec Ideal S2x16384x1024 .f32 :=
  broadcastInDim S2x16384x1024 ![0, 1, 2] bcast_S1x1x1024_S2x16384x1024_0_1_2 (broadcastInDim S1x1x1024 ![2] bcast_S1024_S1x1x1024_2 x)

/-- The forget gates. -/
def keeps (p : FVec Ideal S2x16384x4096 .f32) : FVec Ideal S2x16384x1024 .f32 :=
  addf (everyRow (rlowers lb)) (mulf (everyRow (subf (broadcastInDim S1024 ![] bcast_S_S1024 (constant S_ .f32 0x3F800000#32)) (rlowers lb))) (logistics (part1 p)))

variable (b : Fin 2) (t : Fin 16384) (n : Fin 1024)

/-- An entry of the projection. -/
theorem parts_apply (p : Fin 4) : parts h g sh sc w (ix3 b t (part p n)) = proj h g sh sc w b t p n := by
  unfold parts proj project
  simp only [Host.dotGeneral]
  rw [Ideal.dotGeneral_apply, ← Equiv.sum_comp (contrEquiv1 dot_S2x16384x1024_S1024x4096_S2x16384x4096_2_0_01_1_n_n 1024 rfl rfl).symm]
  refine Finset.sum_congr rfl fun k _ => ?_
  have hk := contrEquiv1_symm_val dot_S2x16384x1024_S1024x4096_S2x16384x4096_2_0_01_1_n_n 1024 rfl rfl k
  have el : dot_S2x16384x1024_S1024x4096_S2x16384x4096_2_0_01_1_n_n.lhsIdx (ix3 b t (part p n))
      ((contrEquiv1 dot_S2x16384x1024_S1024x4096_S2x16384x4096_2_0_01_1_n_n 1024 rfl rfl).symm k) = ix3 b t k :=
    funext fun i => Fin.ext (match i with | ⟨0, _⟩ => rfl | ⟨1, _⟩ => rfl | ⟨2, _⟩ => hk)
  have er : dot_S2x16384x1024_S1024x4096_S2x16384x4096_2_0_01_1_n_n.rhsIdx (ix3 b t (part p n))
      ((contrEquiv1 dot_S2x16384x1024_S1024x4096_S2x16384x4096_2_0_01_1_n_n 1024 rfl rfl).symm k) = ix2 k (part p n) :=
    funext fun i => Fin.ext (match i with | ⟨0, _⟩ => hk | ⟨1, _⟩ => rfl)
  exact congrArg₂ (fun u v : EReal => u * v) ((congrArg (Q.rnormed h g sh sc) el).trans (Q.rnormed_apply h g sh sc b t k)) (congrArg w er)

/-- The array of ones holds one. -/
theorem ones_apply (i : S2x16384x1024.Idx) : ones i = 1 := Ideal.ofBits_one_f32

/-- An entry of the logistic. -/
theorem logistics_apply (x : FVec Ideal S2x16384x1024 .f32) (i : S2x16384x1024.Idx) : logistics x i = Ideal.logistic (x i) :=
  congrArg (fun z : EReal => Ideal.div z (z + Ideal.exp (-(x i)))) (ones_apply i)

/-- An entry of an array times its logistic. -/
theorem silus_apply (x : FVec Ideal S2x16384x1024 .f32) (i : S2x16384x1024.Idx) : silus x i = silu (x i) :=
  congrArg (fun z : EReal => x i * z) (logistics_apply x i)

/-- An entry of the first part. -/
theorem part0_apply (p : FVec Ideal S2x16384x4096 .f32) : part0 p (ix3 b t n) = p (ix3 b t (part 0 n)) :=
  extractStridedSlice_apply _ _ _ _ _ fun a => match a with | ⟨0, _⟩ => (Nat.zero_add _).symm | ⟨1, _⟩ => (Nat.zero_add _).symm | ⟨2, _⟩ => rfl
/-- An entry of the second part. -/
theorem part1_apply (p : FVec Ideal S2x16384x4096 .f32) : part1 p (ix3 b t n) = p (ix3 b t (part 1 n)) :=
  extractStridedSlice_apply _ _ _ _ _ fun a => match a with | ⟨0, _⟩ => (Nat.zero_add _).symm | ⟨1, _⟩ => (Nat.zero_add _).symm | ⟨2, _⟩ => rfl
/-- An entry of the third part. -/
theorem part2_apply (p : FVec Ideal S2x16384x4096 .f32) : part2 p (ix3 b t n) = p (ix3 b t (part 2 n)) :=
  extractStridedSlice_apply _ _ _ _ _ fun a => match a with | ⟨0, _⟩ => (Nat.zero_add _).symm | ⟨1, _⟩ => (Nat.zero_add _).symm | ⟨2, _⟩ => rfl
/-- An entry of the fourth part. -/
theorem part3_apply (p : FVec Ideal S2x16384x4096 .f32) : part3 p (ix3 b t n) = p (ix3 b t (part 3 n)) :=
  extractStridedSlice_apply _ _ _ _ _ fun a => match a with | ⟨0, _⟩ => (Nat.zero_add _).symm | ⟨1, _⟩ => (Nat.zero_add _).symm | ⟨2, _⟩ => rfl

/-- Taking the logits' axis away. -/
theorem reduces_logits : S2x1024.Reduces [0] S1024 := by decide

/-- A logit of a column, by the axis taken away. -/
theorem lift_logits (k : Fin 2) : reduces_logits.lift (ix1 n) k = ix2 (k : Fin 2) n :=
  funext fun a => Fin.ext (match a with | ⟨0, _⟩ => rfl | ⟨1, _⟩ => rfl)

/-- A column's larger logit. -/
theorem tops_apply : tops lb (ix1 n) = top fun i => lb (ix2 i n) := by
  have e : Host.reduce FloatOps.maximumf lb (constant S_ .f32 0xFF800000#32) reducesTo_S2x1024_S1024_d0 h_S_ (ix1 n) = top fun i => lb (ix2 i n) := by
    rw [hostReduce_maximumf_eq_multiReduction lb 0xFF800000#32 reducesTo_S2x1024_S1024_d0 h_S_ reduces_logits (.inl rfl) rfl]
    refine (Ideal.multiReduction_maximumf_single _ _ _ _ _ _).trans ?_
    unfold top
    exact Finset.fold_congr fun k _ => congrArg lb (lift_logits n k)
  have hb : Ideal.ofBits .f32 0xFF800000#32 = ⊥ := by simp [Ideal.ofBits, Ideal.ieee]
  refine (congrArg₂ (fun u v : EReal => max u v) hb e).trans (max_eq_right bot_le)

/-- An entry of a row for each logit. -/
theorem twice_apply (x : FVec Ideal S1024 .f32) (i : Fin 2) : twice x (ix2 i n) = x (ix1 n) :=
  (broadcastInDim_apply _ _ _ _ (ix2 (0 : Fin 1) n) (fun a => match a with | ⟨0, _⟩ => rfl | ⟨1, _⟩ => rfl)).trans
    (broadcastInDim_apply _ _ _ _ (ix1 n) (fun a => match a with | ⟨0, _⟩ => rfl))

/-- An exponential of a logit. -/
theorem rexps_apply (i : Fin 2) : rexps lb (ix2 i n) = Ideal.exp (lb (ix2 i n) - top fun i => lb (ix2 i n)) :=
  congrArg (fun z : EReal => Ideal.exp (lb (ix2 i n) - z)) ((twice_apply n _ i).trans (tops_apply lb n))

/-- A column's lower bound of the forget gate. -/
theorem rlowers_apply : rlowers lb (ix1 n) = lower fun i => lb (ix2 i n) := by
  unfold rlowers
  refine (shapeCast_1a_a_apply _ _ n).trans ((extractStridedSlice_apply _ _ _ _ (ix2 (0 : Fin 2) n)
    fun a => match a with | ⟨0, _⟩ => rfl | ⟨1, _⟩ => (Nat.zero_add _).symm).trans ?_)
  unfold lower
  refine congrArg₂ (fun u v : EReal => Ideal.div u v) (rexps_apply lb n 0) ((twice_apply n _ 0).trans ?_)
  rw [hostReduceAdd_apply, Ideal.hostReduceAdd_single _ reduces_logits, constant_apply, Ideal.ofBits_zero_f32, zero_add]
  exact Finset.sum_congr rfl fun k _ => (congrArg (rexps lb) (lift_logits n k)).trans (rexps_apply lb n k)

/-- An entry of a row of columns at every row of the stream. -/
theorem everyRow_apply (x : FVec Ideal S1024 .f32) : everyRow x (ix3 b t n) = x (ix1 n) :=
  (broadcastInDim_apply _ _ _ _ (ix3 (0 : Fin 1) (0 : Fin 1) n) (fun a => match a with | ⟨0, _⟩ => rfl | ⟨1, _⟩ => rfl | ⟨2, _⟩ => rfl)).trans
    (broadcastInDim_apply _ _ _ _ (ix1 n) (fun a => match a with | ⟨0, _⟩ => rfl))

/-- A forget gate. -/
theorem keeps_apply : keeps lb (parts h g sh sc w) (ix3 b t n) = fAt h g sh sc w lb b t n := by
  have e0 : everyRow (rlowers lb) (ix3 b t n) = lower fun i => lb (ix2 i n) := (everyRow_apply b t n _).trans (rlowers_apply lb n)
  have e1 : everyRow (subf (broadcastInDim S1024 ![] bcast_S_S1024 (constant S_ .f32 0x3F800000#32)) (rlowers lb)) (ix3 b t n)
      = 1 - lower fun i => lb (ix2 i n) :=
    (everyRow_apply b t n _).trans (congrArg₂ (fun u v : EReal => u - v) Ideal.ofBits_one_f32 (rlowers_apply lb n))
  have e2 : logistics (part1 (parts h g sh sc w)) (ix3 b t n) = Ideal.logistic (proj h g sh sc w b t 1 n) := by
    rw [logistics_apply, part1_apply, parts_apply]
  exact congrArg₂ (fun u v : EReal => u + v) e0 (congrArg₂ (fun u v : EReal => u * v) e1 e2)

end Cert.Proof.HL

end
-- ==== Proof.HL.Ref.lean ====
/-
  The recurrent layer in the reference, over the extended reals. Every row is scored against every earlier row and itself by
  sums of log decays from the sequence's start; when queries and values are real numbers, the weighted sums of values are
  the recurrence's outputs of Chunks.lean, and the reference's result is the layer of Spec.lean.
-/
module

public import proofs.«01_k».proof.Proof.HL.RefRows

@[expose] public section

noncomputable section

namespace Cert.Proof.HL

open Cert.ReferenceHIdeal Cert.ReferenceHIdeal.Gen
open Idealize.ShloMosaic Idealize.ShloMosaic.ValueIdx
open scoped BigOperators

/-- The columns of an array, head by head. -/
def heads (x : FVec Ideal S2x16384x1024 .f32) : FVec Ideal S2x8x16384x128 .f32 :=
  transpose S2x8x16384x128 [0, 2, 1, 3] (shapeCast _ x shapeCasts_S2x16384x1024_S2x16384x8x128) transposes_S2x16384x8x128_S2x8x16384x128_0_2_1_3

/-- The heads' columns side by side. -/
def joined (x : FVec Ideal S2x8x16384x128 .f32) : FVec Ideal S2x16384x1024 .f32 :=
  shapeCast _ (transpose S2x16384x8x128 [0, 2, 1, 3] x transposes_S2x8x16384x128_S2x16384x8x128_0_2_1_3) shapeCasts_S2x16384x8x128_S2x16384x1024

/-- Whether a column is at most the row. -/
def seen : IVec S16384x16384 1 := cmpi .sle (iotaInDim S16384x16384 32 1) (iotaInDim S16384x16384 32 0)

/-- Each row's sum over itself and the earlier rows. -/
def sums (l : FVec Ideal S2x8x16384x128 .f32) : FVec Ideal S2x8x16384x128 .f32 :=
  transpose S2x8x16384x128 [0, 1, 3, 2] (Host.dotGeneral dot_S2x8x16384x128_S16384x16384_S2x8x128x16384_2_1_013_0_n_n none l (uitofp .f32 seen))
    transposes_S2x8x128x16384_S2x8x16384x128_0_1_3_2

/-- The scores of all pairs of rows. -/
def allScores (q k l : FVec Ideal S2x8x16384x128 .f32) : FVec Ideal S2x8x16384x16384 .f32 :=
  Host.dotGeneral dot_S2x8x16384x128_S2x8x16384x128_S2x8x16384x16384_3_3_2_2_01_01 none (mulf q (Host.exp (sums l)))
    (mulf k (Host.exp (Host.negf (sums l))))

/-- The scores of each row with itself and the earlier rows, zero for the others. -/
def rscores (q k l : FVec Ideal S2x8x16384x128 .f32) : FVec Ideal S2x8x16384x16384 .f32 :=
  select (broadcastInDim S2x8x16384x16384 ![2, 3] bcast_S16384x16384_S2x8x16384x16384_2_3 seen) (allScores q k l)
    (broadcastInDim S2x8x16384x16384 ![] bcast_S_S2x8x16384x16384 (id (constant S_ .f32 0x00000000#32)))

/-- The recurrence's outputs. -/
def outs (q k l v : FVec Ideal S2x8x16384x128 .f32) : FVec Ideal S2x8x16384x128 .f32 :=
  Host.dotGeneral dot_S2x8x16384x16384_S2x8x16384x128_S2x8x16384x128_3_2_2_3_01_01 none (rscores q k l) v

/-- One over the root of each head's mean square plus a millionth. -/
def headScales (o : FVec Ideal S2x8x16384x128 .f32) : FVec Ideal S2x8x16384x1 .f32 :=
  Host.rsqrt (addf (Host.divf (broadcastInDim S2x8x16384x1 ![0, 1, 2] bcast_S2x8x16384_S2x8x16384x1_0_1_2
      (Host.reduceAdd (mulf o o) (constant S_ .f32 0x00000000#32) reducesTo_S2x8x16384x128_S2x8x16384_d3 h_S_))
    (broadcastInDim S2x8x16384x1 ![] bcast_S_S2x8x16384x1 (constant S_ .f32 0x43000000#32)))
    (broadcastInDim S2x8x16384x1 ![] bcast_S_S2x8x16384x1 (constant S_ .f32 0x358637BD#32)))

/-- The outputs normalised over their heads, weighted and gated. -/
def mixes (o : FVec Ideal S2x8x16384x128 .f32) (og : FVec Ideal S1x1024 .f32) (gg : FVec Ideal S2x16384x1024 .f32) : FVec Ideal S2x16384x1024 .f32 :=
  mulf (mulf (joined (mulf o (broadcastInDim S2x8x16384x128 ![0, 1, 2, 3] bcast_S2x8x16384x1_S2x8x16384x128_0_1_2_3 (headScales o))))
    (broadcastInDim S2x16384x1024 ![0, 1, 2] bcast_S1x1x1024_S2x16384x1024_0_1_2 (broadcastInDim S1x1x1024 ![1, 2] bcast_S1x1024_S1x1x1024_1_2 og))) gg

/-- The stream plus the gated projection of the mixed outputs. -/
def closing (h : FVec Ideal S2x16384x1024 .f32) (gate : FVec Ideal S2x1x1024 .f32) (x : FVec Ideal S2x16384x1024 .f32)
    (wo : FVec Ideal S1024x1024 .bf16) : FVec Ideal S2x16384x1024 .f32 :=
  addf h (mulf (broadcastInDim S2x16384x1024 ![0, 1, 2] bcast_S2x1x1024_S2x16384x1024_0_1_2 gate)
    (Host.dotGeneral dot_S2x16384x1024_S1024x1024_S2x16384x1024_2_0_01_1_n_n none x (extf .f32 wo bitsLt_bf16_f32)))

/-! ### Entries -/

variable (b : Fin 2) (hd : Fin 8) (t s : Fin 16384) (a c : Fin 128) (n : Fin 1024)

/-- An entry of a head. -/
theorem heads_apply (x : FVec Ideal S2x16384x1024 .f32) : heads x (ix4 b hd t a) = x (ix3 b t (cols hd a)) := by
  refine (transpose_apply _ _ _ _ (ix4 b t hd a) ?_).trans (shapeCast_apply _ _ _ (ix3 b t (cols hd a)) ?_)
  · intro i
    match i with
    | ⟨0, _⟩ => rfl
    | ⟨1, _⟩ => rfl
    | ⟨2, _⟩ => rfl
    | ⟨3, _⟩ => rfl
  · rw [Shape.rowMajor_val_four, Shape.rowMajor_val_three]
    show (b.val * 16384 + t.val) * 1024 + (128 * hd.val + a.val) = ((b.val * 16384 + t.val) * 8 + hd.val) * 128 + a.val
    omega

/-- A column of the heads side by side. -/
theorem joined_apply (x : FVec Ideal S2x8x16384x128 .f32) : joined x (ix3 b t n) = x (ix4 b (headOf n) t (placeOf n)) := by
  refine (shapeCast_apply _ _ _ (ix4 b t (headOf n) (placeOf n)) ?_).trans (transpose_apply _ _ _ _ (ix4 b (headOf n) t (placeOf n)) ?_)
  · rw [Shape.rowMajor_val_four, Shape.rowMajor_val_three]
    show ((b.val * 16384 + t.val) * 8 + n.val / 128) * 128 + n.val % 128 = (b.val * 16384 + t.val) * 1024 + n.val
    omega
  · intro i
    match i with
    | ⟨0, _⟩ => rfl
    | ⟨1, _⟩ => rfl
    | ⟨2, _⟩ => rfl
    | ⟨3, _⟩ => rfl

/-- A bit of the comparison of a column and a row. -/
theorem seen_apply : seen (ix2 t s) = if s.val ≤ t.val then 1#1 else 0#1 := by
  show IntOp.cmpi .sle (BitVec.ofNat 32 s.val) (BitVec.ofNat 32 t.val) = _
  have ht := t.isLt; have hs := s.isLt
  rw [WordCmp.cmpi_sle_ofNat (by omega) (by omega)]
  split_ifs with h <;> simp [h]

/-- The bit as a number: one where the column is at most the row, zero elsewhere. -/
theorem tri_apply : uitofp (F := Ideal) .f32 seen (ix2 t s) = if s.val ≤ t.val then (1 : EReal) else 0 := by
  show (((seen (ix2 t s)).toNat : ℝ) : EReal) = _
  rw [seen_apply]
  split_ifs with h <;> simp

/-- A sum over the rows up to `t`, written over all rows. -/
theorem sum_seen (x : ℕ → ℝ) : (∑ s : Fin 16384, if s.val ≤ t.val then (x s.val : EReal) else 0) = ((∑ s ∈ Finset.range (t.val + 1), x s : ℝ) : EReal) := by
  have ht := t.isLt
  rw [coe_sum, ← Finset.sum_range fun s => if s ≤ t.val then (x s : EReal) else 0, ← Finset.sum_filter]
  refine Finset.sum_congr (Finset.ext fun s => ?_) fun _ _ => rfl
  simp only [Finset.mem_filter, Finset.mem_range]
  omega

/-- An array of heads holds the columns of numbered rows of real numbers, in one batch. -/
def HoldsHeads (x : FVec Ideal S2x8x16384x128 .f32) (b : Fin 2) (X : Chunks.Rows) : Prop :=
  ∀ hd t a, x (ix4 b hd t a) = ((X t.val (cols hd a) : ℝ) : EReal)

/-- The rows of an array of real numbers, head by head. -/
theorem holds_heads {x : FVec Ideal S2x16384x1024 .f32} {X : Fin 16384 → Fin 1024 → EReal} (hx : ∀ t n, x (ix3 b t n) = X t n) (hX : ∀ t n, Is (X t n)) :
    HoldsHeads (heads x) b (reals X) := by
  intro hd t a
  rw [heads_apply, hx]
  unfold reals
  rw [Spec.row_val, (hX _ _).coe]

/-- Heads of keys and log decays: real numbers, or, in a column where every key counts as zero, log decays of minus infinity. -/
def KeyedHeads (k l : FVec Ideal S2x8x16384x128 .f32) (b : Fin 2) (K L : Chunks.Rows) : Prop :=
  ∀ hd c, (∀ s : Fin 16384, k (ix4 b hd s c) = ((K s.val (cols hd c) : ℝ) : EReal) ∧ l (ix4 b hd s c) = ((L s.val (cols hd c) : ℝ) : EReal))
    ∨ ((∀ s : Fin 16384, l (ix4 b hd s c) = ⊥) ∧ ∀ s, K s (cols hd c) = 0)

variable {b}
variable {q k l v : FVec Ideal S2x8x16384x128 .f32} {Q K L V : Chunks.Rows}

/-- A sum of log decays up to a row, written over all rows. -/
theorem sums_entry : sums l (ix4 b hd t c) = ∑ s : Fin 16384, l (ix4 b hd s c) * if s.val ≤ t.val then (1 : EReal) else 0 := by
  refine (transpose_apply _ _ _ _ (ix4 b hd c t) ?_).trans ?_
  · intro i
    match i with
    | ⟨0, _⟩ => rfl
    | ⟨1, _⟩ => rfl
    | ⟨2, _⟩ => rfl
    | ⟨3, _⟩ => rfl
  simp only [Host.dotGeneral]
  rw [Ideal.dotGeneral_apply, ← Equiv.sum_comp (contrEquiv1 dot_S2x8x16384x128_S16384x16384_S2x8x128x16384_2_1_013_0_n_n 16384 rfl rfl).symm]
  refine Finset.sum_congr rfl fun s _ => ?_
  have hk := contrEquiv1_symm_val dot_S2x8x16384x128_S16384x16384_S2x8x128x16384_2_1_013_0_n_n 16384 rfl rfl s
  have el : dot_S2x8x16384x128_S16384x16384_S2x8x128x16384_2_1_013_0_n_n.lhsIdx (ix4 b hd c t)
      ((contrEquiv1 dot_S2x8x16384x128_S16384x16384_S2x8x128x16384_2_1_013_0_n_n 16384 rfl rfl).symm s) = ix4 b hd s c :=
    funext fun i => Fin.ext (match i with | ⟨0, _⟩ => rfl | ⟨1, _⟩ => rfl | ⟨2, _⟩ => hk | ⟨3, _⟩ => rfl)
  have er : dot_S2x8x16384x128_S16384x16384_S2x8x128x16384_2_1_013_0_n_n.rhsIdx (ix4 b hd c t)
      ((contrEquiv1 dot_S2x8x16384x128_S16384x16384_S2x8x128x16384_2_1_013_0_n_n 16384 rfl rfl).symm s) = ix2 t s :=
    funext fun i => Fin.ext (match i with | ⟨0, _⟩ => rfl | ⟨1, _⟩ => hk)
  rw [el, er, tri_apply]

/-- A sum of real log decays up to a row. -/
theorem sums_apply (hl : ∀ s : Fin 16384, l (ix4 b hd s c) = ((L s.val (cols hd c) : ℝ) : EReal)) :
    sums l (ix4 b hd t c) = ((Chunks.cum L (t.val + 1) (cols hd c) : ℝ) : EReal) := by
  unfold Chunks.cum
  rw [sums_entry, ← sum_seen t fun s => L s (cols hd c)]
  exact Finset.sum_congr rfl fun s _ => by rw [hl, mul_ite, mul_one, mul_zero]

/-- A sum of log decays of minus infinity is minus infinity. -/
theorem sums_bot (hl : ∀ s : Fin 16384, l (ix4 b hd s c) = ⊥) : sums l (ix4 b hd t c) = ⊥ := by
  rw [sums_entry, ← Finset.add_sum_erase _ _ (Finset.mem_univ t), hl, if_pos le_rfl, mul_one, EReal.bot_add]

/-- An entry of an exponential. -/
theorem exp_entry {S : Shape} (x : FVec Ideal S .f32) (i : S.Idx) : Host.exp x i = Ideal.exp (x i) := rfl
/-- An entry of a negation. -/
theorem neg_entry {S : Shape} (x : FVec Ideal S .f32) (i : S.Idx) : Host.negf x i = -(x i) := rfl

/-- The score of a pair of rows. -/
theorem allScores_apply (hq : HoldsHeads q b Q) (hk : KeyedHeads k l b K L) :
    allScores q k l (ix4 b hd t s) = ((Chunks.score Q K L (cols hd) t.val s.val : ℝ) : EReal) := by
  unfold allScores Chunks.score
  rw [coe_sum]
  simp only [Host.dotGeneral]
  rw [Ideal.dotGeneral_apply, ← Equiv.sum_comp (contrEquiv1 dot_S2x8x16384x128_S2x8x16384x128_S2x8x16384x16384_3_3_2_2_01_01 128 rfl rfl).symm]
  refine Finset.sum_congr rfl fun c _ => ?_
  have hc := contrEquiv1_symm_val dot_S2x8x16384x128_S2x8x16384x128_S2x8x16384x16384_3_3_2_2_01_01 128 rfl rfl c
  have el : dot_S2x8x16384x128_S2x8x16384x128_S2x8x16384x16384_3_3_2_2_01_01.lhsIdx (ix4 b hd t s)
      ((contrEquiv1 dot_S2x8x16384x128_S2x8x16384x128_S2x8x16384x16384_3_3_2_2_01_01 128 rfl rfl).symm c) = ix4 b hd t c :=
    funext fun i => Fin.ext (match i with | ⟨0, _⟩ => rfl | ⟨1, _⟩ => rfl | ⟨2, _⟩ => rfl | ⟨3, _⟩ => hc)
  have er : dot_S2x8x16384x128_S2x8x16384x128_S2x8x16384x16384_3_3_2_2_01_01.rhsIdx (ix4 b hd t s)
      ((contrEquiv1 dot_S2x8x16384x128_S2x8x16384x128_S2x8x16384x16384_3_3_2_2_01_01 128 rfl rfl).symm c) = ix4 b hd s c :=
    funext fun i => Fin.ext (match i with | ⟨0, _⟩ => rfl | ⟨1, _⟩ => rfl | ⟨2, _⟩ => rfl | ⟨3, _⟩ => hc)
  have e1 : mulf q (Host.exp (sums l)) (ix4 b hd t c) = q (ix4 b hd t c) * Ideal.exp (sums l (ix4 b hd t c)) := by rw [mulf_apply, exp_entry]
  have e2 : mulf k (Host.exp (Host.negf (sums l))) (ix4 b hd s c) = k (ix4 b hd s c) * Ideal.exp (-(sums l (ix4 b hd s c))) := by
    rw [mulf_apply, exp_entry, neg_entry]
  rw [el, er, e1, e2, hq]
  rcases hk hd c with h | ⟨hl, hK⟩
  · rw [(h s).1, sums_apply hd t c fun s => (h s).2, sums_apply hd s c fun s => (h s).2, ← EReal.coe_neg, Ideal.exp_coe, Ideal.exp_coe, ← EReal.coe_mul,
      ← EReal.coe_mul]
    exact (EReal.coe_mul _ _).symm
  · rw [sums_bot hd t c hl, Ideal.exp_bot, mul_zero, zero_mul, hK, zero_mul, mul_zero, EReal.coe_zero]

/-- The score of a pair of rows, zero for a later row. -/
theorem rscores_apply (hq : HoldsHeads q b Q) (hk : KeyedHeads k l b K L) :
    rscores q k l (ix4 b hd t s) = if s.val ≤ t.val then ((Chunks.score Q K L (cols hd) t.val s.val : ℝ) : EReal) else 0 := by
  have e : broadcastInDim S2x8x16384x16384 ![2, 3] bcast_S16384x16384_S2x8x16384x16384_2_3 seen (ix4 b hd t s) = if s.val ≤ t.val then 1#1 else 0#1 :=
    (broadcastInDim_apply _ _ _ _ (ix2 t s) (fun i => match i with | ⟨0, _⟩ => rfl | ⟨1, _⟩ => rfl)).trans (seen_apply t s)
  unfold rscores
  rw [select_apply, e]
  split_ifs
  · rw [select_one, allScores_apply hd t s hq hk]
  · rw [select_zero]
    exact Ideal.ofBits_zero_f32

/-- An output of the recurrence. -/
theorem outs_apply (hq : HoldsHeads q b Q) (hk : KeyedHeads k l b K L) (hv : HoldsHeads v b V) :
    outs q k l v (ix4 b hd t a) = ((Chunks.out Q K L V (cols hd) t.val (cols hd a) : ℝ) : EReal) := by
  unfold outs Chunks.out
  rw [← sum_seen t fun s => Chunks.score Q K L (cols hd) t.val s * V s (cols hd a)]
  simp only [Host.dotGeneral]
  rw [Ideal.dotGeneral_apply, ← Equiv.sum_comp (contrEquiv1 dot_S2x8x16384x16384_S2x8x16384x128_S2x8x16384x128_3_2_2_3_01_01 16384 rfl rfl).symm]
  refine Finset.sum_congr rfl fun s _ => ?_
  have hs := contrEquiv1_symm_val dot_S2x8x16384x16384_S2x8x16384x128_S2x8x16384x128_3_2_2_3_01_01 16384 rfl rfl s
  have el : dot_S2x8x16384x16384_S2x8x16384x128_S2x8x16384x128_3_2_2_3_01_01.lhsIdx (ix4 b hd t a)
      ((contrEquiv1 dot_S2x8x16384x16384_S2x8x16384x128_S2x8x16384x128_3_2_2_3_01_01 16384 rfl rfl).symm s) = ix4 b hd t s :=
    funext fun i => Fin.ext (match i with | ⟨0, _⟩ => rfl | ⟨1, _⟩ => rfl | ⟨2, _⟩ => rfl | ⟨3, _⟩ => hs)
  have er : dot_S2x8x16384x16384_S2x8x16384x128_S2x8x16384x128_3_2_2_3_01_01.rhsIdx (ix4 b hd t a)
      ((contrEquiv1 dot_S2x8x16384x16384_S2x8x16384x128_S2x8x16384x128_3_2_2_3_01_01 16384 rfl rfl).symm s) = ix4 b hd s a :=
    funext fun i => Fin.ext (match i with | ⟨0, _⟩ => rfl | ⟨1, _⟩ => rfl | ⟨2, _⟩ => hs | ⟨3, _⟩ => rfl)
  rw [el, er, rscores_apply hd t s hq hk, hv, ite_mul, zero_mul, ← EReal.coe_mul]

variable (b)

/-- Summing a head's columns away. -/
theorem reduces_head : S2x8x16384x128.Reduces [3] S2x8x16384 := by decide

/-- A head's scale. -/
theorem headScales_apply (o : FVec Ideal S2x8x16384x128 .f32) : headScales o (ix4 b hd t (0 : Fin 1)) = headScale fun c => o (ix4 b hd t c) := by
  have e : broadcastInDim S2x8x16384x1 ![0, 1, 2] bcast_S2x8x16384_S2x8x16384x1_0_1_2
      (Host.reduceAdd (mulf o o) (constant S_ .f32 0x00000000#32) reducesTo_S2x8x16384x128_S2x8x16384_d3 h_S_) (ix4 b hd t (0 : Fin 1))
      = ∑ c : Fin 128, o (ix4 b hd t c) * o (ix4 b hd t c) := by
    refine (broadcastInDim_apply _ _ _ _ (ix3 b hd t) (fun i => match i with | ⟨0, _⟩ => rfl | ⟨1, _⟩ => rfl | ⟨2, _⟩ => rfl)).trans ?_
    rw [hostReduceAdd_apply, Ideal.hostReduceAdd_single _ reduces_head, constant_apply, Ideal.ofBits_zero_f32, zero_add]
    refine Finset.sum_congr rfl fun c _ => ?_
    have hc : reduces_head.lift (ix3 b hd t) c = ix4 b hd t (c : Fin 128) :=
      funext fun i => Fin.ext (match i with | ⟨0, _⟩ => rfl | ⟨1, _⟩ => rfl | ⟨2, _⟩ => rfl | ⟨3, _⟩ => rfl)
    exact congrArg (fun i => o i * o i) hc
  exact congrArg (fun z : EReal => Ideal.rsqrt (Ideal.div z (Ideal.ofBits .f32 0x43000000#32) + Ideal.ofBits .f32 0x358637BD#32)) e

/-- A mixed output. -/
theorem mixes_apply (o : FVec Ideal S2x8x16384x128 .f32) (O : Fin 1024 → EReal) (ho : ∀ hd a, o (ix4 b hd t a) = O (cols hd a))
    (og : FVec Ideal S1x1024 .f32) (gg : FVec Ideal S2x16384x1024 .f32) :
    mixes o og gg (ix3 b t n) = mixed O (fun k => og (ix2 (0 : Fin 1) k)) (fun k => gg (ix3 b t k)) n := by
  have e0 : o (ix4 b (headOf n) t (placeOf n)) = O n := (ho _ _).trans (congrArg O (cols_place n))
  have e1 : broadcastInDim S2x8x16384x128 ![0, 1, 2, 3] bcast_S2x8x16384x1_S2x8x16384x128_0_1_2_3 (headScales o) (ix4 b (headOf n) t (placeOf n))
      = headScale fun c => O (cols (headOf n) c) :=
    (broadcastInDim_apply _ _ _ _ (ix4 b (headOf n) t (0 : Fin 1)) (fun i => match i with | ⟨0, _⟩ => rfl | ⟨1, _⟩ => rfl | ⟨2, _⟩ => rfl | ⟨3, _⟩ => rfl)).trans
      ((headScales_apply b (headOf n) t o).trans (congrArg headScale (funext fun c => ho (headOf n) c)))
  have e2 : broadcastInDim S2x16384x1024 ![0, 1, 2] bcast_S1x1x1024_S2x16384x1024_0_1_2 (broadcastInDim S1x1x1024 ![1, 2] bcast_S1x1024_S1x1x1024_1_2 og)
      (ix3 b t n) = og (ix2 (0 : Fin 1) n) :=
    (broadcastInDim_apply _ _ _ _ (ix3 (0 : Fin 1) (0 : Fin 1) n) (fun i => match i with | ⟨0, _⟩ => rfl | ⟨1, _⟩ => rfl | ⟨2, _⟩ => rfl)).trans
      (broadcastInDim_apply _ _ _ _ (ix2 (0 : Fin 1) n) (fun i => match i with | ⟨0, _⟩ => rfl | ⟨1, _⟩ => rfl))
  exact congrArg (fun z : EReal => z * gg (ix3 b t n)) (congrArg₂ (fun u v : EReal => u * v)
    ((joined_apply b t n _).trans (congrArg₂ (fun u v : EReal => u * v) e0 e1)) e2)

/-- An entry of the result. -/
theorem closing_apply (h : FVec Ideal S2x16384x1024 .f32) (gate : FVec Ideal S2x1x1024 .f32) (x : FVec Ideal S2x16384x1024 .f32)
    (wo : FVec Ideal S1024x1024 .bf16) :
    closing h gate x wo (ix3 b t n) = h (ix3 b t n) + gate (ix3 b (0 : Fin 1) n) * ∑ k : Fin 1024, x (ix3 b t k) * wo (ix2 k n) := by
  refine congrArg (fun z : EReal => h (ix3 b t n) + z) (congrArg₂ (fun u v : EReal => u * v)
    (broadcastInDim_apply _ _ _ _ _ (fun i => match i with | ⟨0, _⟩ => rfl | ⟨1, _⟩ => rfl | ⟨2, _⟩ => rfl)) ?_)
  simp only [Host.dotGeneral]
  rw [Ideal.dotGeneral_apply, ← Equiv.sum_comp (contrEquiv1 dot_S2x16384x1024_S1024x1024_S2x16384x1024_2_0_01_1_n_n 1024 rfl rfl).symm]
  refine Finset.sum_congr rfl fun k _ => ?_
  have hk := contrEquiv1_symm_val dot_S2x16384x1024_S1024x1024_S2x16384x1024_2_0_01_1_n_n 1024 rfl rfl k
  have el : dot_S2x16384x1024_S1024x1024_S2x16384x1024_2_0_01_1_n_n.lhsIdx (ix3 b t n)
      ((contrEquiv1 dot_S2x16384x1024_S1024x1024_S2x16384x1024_2_0_01_1_n_n 1024 rfl rfl).symm k) = ix3 b t k :=
    funext fun i => Fin.ext (match i with | ⟨0, _⟩ => rfl | ⟨1, _⟩ => rfl | ⟨2, _⟩ => hk)
  have er : dot_S2x16384x1024_S1024x1024_S2x16384x1024_2_0_01_1_n_n.rhsIdx (ix3 b t n)
      ((contrEquiv1 dot_S2x16384x1024_S1024x1024_S2x16384x1024_2_0_01_1_n_n 1024 rfl rfl).symm k) = ix2 k n :=
    funext fun i => Fin.ext (match i with | ⟨0, _⟩ => hk | ⟨1, _⟩ => rfl)
  exact congrArg₂ (fun u v : EReal => u * v) (congrArg x el) (congrArg wo er)

/-! ### The layer -/

variable (h : FVec Ideal S2x16384x1024 .f32) (g : FVec Ideal S1x1024 .f32) (sh sc gate : FVec Ideal S2x1x1024 .f32) (w : FVec Ideal S1024x4096 .bf16)
  (lb : FVec Ideal S2x1024 .f32) (og : FVec Ideal S1x1024 .f32) (wo : FVec Ideal S1024x1024 .bf16)

/-- The reference's result. -/
def result : FVec Ideal S2x16384x1024 .f32 :=
  closing h gate (mixes (outs (heads (silus (part0 (parts h g sh sc w)))) (heads (subf ones (keeps lb (parts h g sh sc w))))
    (heads (Host.log (keeps lb (parts h g sh sc w)))) (heads (part2 (parts h g sh sc w)))) og (silus (part3 (parts h g sh sc w)))) wo

/-- The reference's result is the layer of Spec.lean. -/
theorem result_eq (H : Finite g sh sc w) : result h g sh sc gate w lb og wo = G h g sh sc gate w lb og wo := by
  funext x
  obtain ⟨b, t, n, rfl⟩ : ∃ (b : Fin 2) (t : Fin 16384) (n : Fin 1024), x = ix3 b t n := ⟨x 0, x 1, x 2, eq_ix3 x⟩
  have hq : HoldsHeads (heads (silus (part0 (parts h g sh sc w)))) b (reals (qAt h g sh sc w b)) :=
    holds_heads b (fun t n => by rw [silus_apply, part0_apply, parts_apply]; rfl) (H.q b)
  have ek : ∀ hd s c, heads (subf ones (keeps lb (parts h g sh sc w))) (ix4 b hd s c) = kAt h g sh sc w lb b s (cols hd c) := fun hd s c => by
    rw [heads_apply, subf_apply, ones_apply, keeps_apply]; rfl
  have el : ∀ hd s c, heads (Host.log (keeps lb (parts h g sh sc w))) (ix4 b hd s c) = lAt h g sh sc w lb b s (cols hd c) := fun hd s c =>
    (heads_apply b hd s c _).trans (congrArg Ideal.log (keeps_apply h g sh sc w lb b s (cols hd c)))
  have er : ∀ (x : Fin 16384 → Fin 1024 → EReal) (s : Fin 16384) (n : Fin 1024), Is (x s n) → x s n = ((reals x s.val n : ℝ) : EReal) := fun x s n hx => by
    unfold reals
    rw [Spec.row_val, hx.coe]
  have hk : KeyedHeads (heads (subf ones (keeps lb (parts h g sh sc w)))) (heads (Host.log (keeps lb (parts h g sh sc w)))) b
      (reals (kAt h g sh sc w lb b)) (reals (lAt h g sh sc w lb b)) := fun hd c => by
    by_cases hn : Dead lb (cols hd c)
    · exact .inr ⟨fun s => (el hd s c).trans (lAt_dead b s _ hn), fun s => kAt_dead b _ s hn⟩
    · exact .inl fun s => ⟨(ek hd s c).trans (er _ _ _ (H.k b s _ hn)), (el hd s c).trans (er _ _ _ (H.l b s _ hn))⟩
  have hv : HoldsHeads (heads (part2 (parts h g sh sc w))) b (reals (vAt h g sh sc w b)) :=
    holds_heads b (fun t n => by rw [part2_apply, parts_apply]; rfl) (H.v b)
  have ho : ∀ hd a, outs (heads (silus (part0 (parts h g sh sc w)))) (heads (subf ones (keeps lb (parts h g sh sc w))))
      (heads (Host.log (keeps lb (parts h g sh sc w)))) (heads (part2 (parts h g sh sc w))) (ix4 b hd t a) = oAt h g sh sc w lb b t (cols hd a) := fun hd a => by
    unfold oAt
    rw [outs_apply hd t a hq hk hv, headOf_cols]
  have hg : ∀ n, silus (part3 (parts h g sh sc w)) (ix3 b t n) = gAt h g sh sc w b t n := fun n => by
    rw [silus_apply, part3_apply, parts_apply]; rfl
  unfold result G entry finished
  rw [closing_apply]
  refine congrArg (fun z : EReal => h (ix3 b t n) + gate (ix3 b (0 : Fin 1) n) * z) (Finset.sum_congr rfl fun k _ => ?_)
  rw [mixes_apply b t k _ (oAt h g sh sc w lb b t) ho, funext hg]

/-- The reference's run ends with that result. -/
theorem run_result (m : (ℓ : Loc nD τ sig) → Buf (Elt Ideal) ℓ) (c : Dev nD) :
    Cert.ReferenceHIdeal.Value.res_out0 m c
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Cert.ReferenceHIdeal.Value.res_out0 Cert.ReferenceHIdeal.Value.res_main_v99
  rfl

end Cert.Proof.HL

end
-- ==== Proof.HL.Pre.lean ====
/-
  The precondition of the recurrent layer, read: an array whose absolute values all compare below infinity holds real numbers.
-/
module

public import proofs.«01_k».proof.Pre_finite_h
public import proofs.«01_k».proof.Proof.HL.Real

@[expose] public section

noncomputable section

namespace Cert.Proof.HL

open Cert.Pre_finite_h
open Idealize.ShloMosaic Idealize.ShloMosaic.ValueIdx

/-- The side conditions of the precondition's operations hold. -/
theorem facts_finite : Cert.Pre_finite_h.Facts where
  bitsLt_bf16_f32 := by decide
  bcast_S_S1x1024 := by decide
  bcast_S_S2x1x1024 := by decide
  bcast_S_S1024x4096 := by decide

/-- A number whose absolute value compares below infinity is real. -/
theorem is_of_lt {x : EReal} (h : Ideal.cmp .olt (max x (-x)) (Ideal.ofBits .f32 0x7F800000#32) = 1#1) : Is x := by
  have hb : Ideal.ofBits .f32 0x7F800000#32 = ⊤ := by simp [Ideal.ofBits, Ideal.ieee]
  rw [hb] at h
  have hl : max x (-x) < ⊤ := by
    by_contra hn
    simp [Ideal.cmp, hn] at h
  have h1 : x ≠ ⊤ := fun e => by rw [e] at hl; simp at hl
  have h2 : x ≠ ⊥ := fun e => by rw [e] at hl; simp at hl
  exact ⟨x.toReal, (EReal.coe_toReal h1 h2).symm⟩

/-- An array that passes the comparison holds real numbers. -/
theorem is_of_all {S : Shape} (x : FVec Ideal S .f32) (hb : S_.BroadcastsInDim S (![] : Fin 0 → Fin S.rank))
    (h : cmpf .olt (Host.absf x) (broadcastInDim S ![] hb (constant S_ .f32 0x7F800000#32)) = fun _ => 1#1) (i : S.Idx) : Is (x i) :=
  is_of_lt (congrFun h i)

variable (h : FVec Ideal S2x16384x1024 .f32) (g : FVec Ideal S1x1024 .f32) (sh sc gate : FVec Ideal S2x1x1024 .f32) (w : FVec Ideal S1024x4096 .bf16)
  (lb : FVec Ideal S2x1024 .f32) (og : FVec Ideal S1x1024 .f32) (wo : FVec Ideal S1024x1024 .bf16)

/-- The precondition says that the norm's weights, the modulation and the input weights are real numbers. -/
theorem finite_of [Cert.Pre_finite_h.Facts]
    (H : (fn (F := Ideal) h g sh sc gate w lb og wo).1 = (fun _ => 1#1) ∧ (fn (F := Ideal) h g sh sc gate w lb og wo).2.1 = (fun _ => 1#1)
      ∧ (fn (F := Ideal) h g sh sc gate w lb og wo).2.2.1 = (fun _ => 1#1) ∧ (fn (F := Ideal) h g sh sc gate w lb og wo).2.2.2 = (fun _ => 1#1)) : Finite g sh sc w where
  g := is_of_all g _ H.1
  sh := is_of_all sh _ H.2.1
  sc := is_of_all sc _ H.2.2.1
  w := is_of_all (extf .f32 w Facts.bitsLt_bf16_f32) _ H.2.2.2

end Cert.Proof.HL

end
-- ==== Proof.M0.Value.lean ====
/-
  The modulation of the first layer over the extended reals: the call's result array, and its reference's, are the product of the conditioning's silu
  with the weights, plus the bias.
-/
module

public import proofs.«01_k».proof.Proof.Gen.KernelM0.Frame
public import proofs.«01_k».proof.Proof.Gen.KernelM0Ideal.Value
public import proofs.«01_k».proof.Proof.Gen.ReferenceM0Ideal.Run
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.ValueKit.Geometry

@[expose] public section

noncomputable section

namespace Cert.Proof.M0

open Cert.KernelM0Ideal Cert.KernelM0Ideal.Gen Cert.KernelM0Ideal.Value
open Idealize.ShloMosaic Idealize.ShloMosaic.ValueIdx
open Idealize.ShloMosaic.TcCoe
open scoped BigOperators

/-- An entry of the result: a row of the conditioning, each entry times its logistic, times a column of the weights, plus the bias. -/
def entry (x : S8x1024.Idx → EReal) (w : S2x1024x6144.Idx → EReal) (b : S2x1x6144.Idx → EReal) (j : Fin 8) (n : Fin 6144) : EReal :=
  (∑ k : Fin 1024, x (ix2 j k) * Ideal.logistic (x (ix2 j k)) * w (ix3 (0 : Fin 2) k n)) + b (ix3 (0 : Fin 2) (0 : Fin 1) n)

/-- The result array. -/
def G (x : S8x1024.Idx → EReal) (w : S2x1024x6144.Idx → EReal) (b : S2x1x6144.Idx → EReal) (y : S8x6144.Idx) : EReal := entry x w b (y 0) (y 1)

/-! ### A block of the call -/

/-- What a grid point computes for a row and column of its block. -/
theorem product_apply (x : Vec Ideal S8x1024 .f32) (w : Vec Ideal S1x1024x1024 .f32) (b : Vec Ideal S1x1x1024 .f32) (j : Fin 8) (n : Fin 1024) :
    k0_pay1 x w b (ix2 j n)
      = (∑ k : Fin 1024, x (ix2 j k) * Ideal.logistic (x (ix2 j k)) * w (ix3 (0 : Fin 1) k n)) + b (ix3 (0 : Fin 1) (0 : Fin 1) n) := by
  unfold k0_pay1
  refine congrArg₂ (fun u v : EReal => u + v) ?_ ?_
  · refine (Ideal.matmul_plain_apply (some .fp32) _ _ _ j n).trans ?_
    rw [constant_apply, Ideal.ofBits_zero_f32, zero_add]
    refine Finset.sum_congr rfl fun k _ => congrArg (fun z : EReal => x (ix2 j k) * Ideal.logistic (x (ix2 j k)) * z) ?_
    refine shapeCast_apply _ _ _ (ix3 (0 : Fin 1) k n) ?_
    rw [Shape.rowMajor_val_three, Shape.rowMajor_val_two]
    show (0 * 1024 + k.val) * 1024 + n.val = k.val * 1024 + n.val
    omega
  · refine (broadcastTo_1b_ab_apply _ _ j n).trans ?_
    refine shapeCast_apply _ _ _ (ix3 (0 : Fin 1) (0 : Fin 1) n) ?_
    rw [Shape.rowMajor_val_three, Shape.rowMajor_val_two]
    show (0 * 1 + 0) * 1024 + n.val = 0 * 1024 + n.val
    omega

/-- A store of a whole block leaves what was stored. -/
theorem whole (P : S8x1024.Idx → EReal) (j : Fin 8) (n : Fin 1024) :
    View.canon (Val := Elt Ideal) (e := .f32) [⟨r0_0, P⟩] (ix2 j n) = P (ix2 j n) := by
  have hv : ∀ {m : ℕ} (i : Fin m), 0 + 1 * i.val = i.val := fun i => by omega
  have ey : r0_0.emb (ix2 j n) = ix2 j n := funext fun a => Fin.ext (match a with | ⟨0, _⟩ => hv j | ⟨1, _⟩ => hv n)
  have e := View.canon_cons_emb (Val := Elt Ideal) (e := .f32) r0_0 P [] (ix2 j n)
  rw [ey] at e
  exact e

/-- What a grid point leaves at a row and column of its block. -/
theorem out_apply (x : Vec Ideal S8x1024 .f32) (w : Vec Ideal S1x1024x1024 .f32) (b : Vec Ideal S1x1x1024 .f32) (j : Fin 8) (n : Fin 1024) :
    out0_3 x w b (ix2 j n)
      = (∑ k : Fin 1024, x (ix2 j k) * Ideal.logistic (x (ix2 j k)) * w (ix3 (0 : Fin 1) k n)) + b (ix3 (0 : Fin 1) (0 : Fin 1) n) := by
  have hv : ∀ {m : ℕ} (i : Fin m), 0 + 1 * i.val = i.val := fun i => by omega
  have ex : View.ld x r0_0 = x := funext fun i => congrArg x (funext fun a => Fin.ext (match a with | ⟨0, _⟩ => hv (i 0 : Fin 8) | ⟨1, _⟩ => hv (i 1 : Fin 1024)))
  have ew : View.ld w r0_1 = w := funext fun i => congrArg w (funext fun a =>
    Fin.ext (match a with | ⟨0, _⟩ => hv (i 0 : Fin 1) | ⟨1, _⟩ => hv (i 1 : Fin 1024) | ⟨2, _⟩ => hv (i 2 : Fin 1024)))
  have eb : View.ld b r0_2 = b := funext fun i => congrArg b (funext fun a =>
    Fin.ext (match a with | ⟨0, _⟩ => hv (i 0 : Fin 1) | ⟨1, _⟩ => hv (i 1 : Fin 1) | ⟨2, _⟩ => hv (i 2 : Fin 1024)))
  unfold out0_3
  rw [ex, ew, eb]
  exact (whole (k0_pay1 x w b) j n).trans (product_apply x w b j n)

/-! ### Blocks of the arrays -/

/-- All the conditioning. -/
theorem index_0 : ∀ t : Fin cfg0.N, win0_0.index t = ![0, 0] :=
  (by decide +kernel : ∀ t : Fin grid0.N, _)
/-- The block of weights of a step. -/
theorem index_1 : ∀ t : Fin cfg0.N, win0_1.index t = ![0, 0, (grid0.coords t 0).val] :=
  (by decide +kernel : ∀ t : Fin grid0.N, _)
/-- The block of the bias of a step. -/
theorem index_2 : ∀ t : Fin cfg0.N, win0_2.index t = ![0, 0, (grid0.coords t 0).val] :=
  (by decide +kernel : ∀ t : Fin grid0.N, _)
/-- The block of results of a step. -/
theorem index_3 : ∀ t : Fin cfg0.N, win0_3.index t = ![0, (grid0.coords t 0).val] :=
  (by decide +kernel : ∀ t : Fin grid0.N, _)

variable (m : (ℓ : Loc nD τ sig) → Buf (Elt Ideal) ℓ) (c : Dev nD)

/-- An entry of a step's conditioning. -/
theorem x_apply (t : Fin cfg0.N) (j : Fin 8) (k : Fin 1024) : iblk m c 0 t (ix2 j k) = m ((c.tc : Thread nD τ).loc main_arg0) (ix2 j k) := by
  unfold iblk
  blk_ext [index_0 t]

/-- An entry of a step's weights. -/
theorem w_apply (t : Fin cfg0.N) (k n : Fin 1024) (p : Fin 6144) (hp : p.val = (grid0.coords t 0).val * 1024 + n.val) :
    iblk m c 1 t (ix3 (0 : Fin 1) k n) = m ((c.tc : Thread nD τ).loc main_arg1) (ix3 (0 : Fin 2) k p) := by
  unfold iblk
  blk_ext [index_1 t]
  · exact hp.symm

/-- An entry of a step's bias. -/
theorem b_apply (t : Fin cfg0.N) (n : Fin 1024) (p : Fin 6144) (hp : p.val = (grid0.coords t 0).val * 1024 + n.val) :
    iblk m c 2 t (ix3 (0 : Fin 1) (0 : Fin 1) n) = m ((c.tc : Thread nD τ).loc main_arg2) (ix3 (0 : Fin 2) (0 : Fin 1) p) := by
  unfold iblk
  blk_ext [index_2 t]
  · exact hp.symm

/-- What a step leaves at a row and column of its block is the entry of the result there. -/
theorem block_apply (t : Fin cfg0.N) (j : Fin 8) (n : Fin 1024) (p : Fin 6144) (hp : p.val = (grid0.coords t 0).val * 1024 + n.val) :
    out0_3 (iblk m c 0 t) (iblk m c 1 t) (iblk m c 2 t) (ix2 j n)
      = entry (m ((c.tc : Thread nD τ).loc main_arg0)) (m ((c.tc : Thread nD τ).loc main_arg1)) (m ((c.tc : Thread nD τ).loc main_arg2)) j p := by
  refine (out_apply _ _ _ _ _).trans ?_
  unfold entry
  refine congrArg₂ (fun u v : EReal => u + v) (Finset.sum_congr rfl fun k _ => ?_) (b_apply m c t n p hp)
  exact congrArg₂ (fun u v : EReal => u * Ideal.logistic u * v) (x_apply m c t j k) (w_apply m c t k n p hp)

/-- The result array after the run. -/
theorem final : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have hy : y = ix2 (y 0 : Fin 8) (y 1 : Fin 1024) := eq_ix2 (n0 := 8) (n1 := 1024) y
  have e0 : ((win0_3.blk t).view.emb y 0 : Fin 8) = (y 0 : Fin 8) := Fin.ext (by
    blk_simp [index_3 t])
  have e1 : (((win0_3.blk t).view.emb y 1 : Fin 6144)).val = (grid0.coords t 0).val * 1024 + (y 1 : Fin 1024).val := by
    blk_simp [index_3 t]
  refine (congrArg (out0_3 _ _ _) hy).trans ((block_apply m c t _ _ _ e1).trans ?_)
  unfold G
  exact congrArg (fun z => entry _ _ _ z _) e0.symm

end Cert.Proof.M0

/-! ### The reference -/

namespace Cert.Proof.M0

open Cert.ReferenceM0Ideal Cert.ReferenceM0Ideal.Gen
open Idealize.ShloMosaic Idealize.ShloMosaic.ValueIdx
open scoped BigOperators

variable (x : FVec Ideal S8x1024 .f32) (w : FVec Ideal S2x1024x6144 .f32) (b : FVec Ideal S2x1x6144 .f32)

/-- Ones. -/
def ones : FVec Ideal S8x1024 .f32 := broadcastInDim S8x1024 ![] bcast_S_S8x1024 (constant S_ .f32 0x3F800000#32)

/-- The conditioning, each entry times its logistic. -/
def silus : FVec Ideal S8x1024 .f32 := mulf x (Host.divf ones (addf ones (Host.exp (Host.negf x))))

/-- The reference's result. -/
def out : FVec Ideal S8x6144 .f32 :=
  addf (Host.dotGeneral dot_S8x1024_S1024x6144_S8x6144_1_0_0_1_n_n none (silus x)
      (shapeCast _ (extractStridedSlice S1x1024x6144 ![0, 0, 0] w slices_S2x1024x6144_S1x1024x6144_0_0_0) shapeCasts_S1x1024x6144_S1024x6144))
    (broadcastInDim S8x6144 ![0, 1] bcast_S1x6144_S8x6144_0_1
      (shapeCast _ (extractStridedSlice S1x1x6144 ![0, 0, 0] b slices_S2x1x6144_S1x1x6144_0_0_0) shapeCasts_S1x1x6144_S1x6144))

/-- An entry of the conditioning, times its logistic. -/
theorem silus_apply (i : S8x1024.Idx) : silus x i = x i * Ideal.logistic (x i) :=
  congrArg (fun z : EReal => x i * Ideal.div z (z + Ideal.exp (-(x i)))) (Ideal.ofBits_one_f32 : ones i = 1)

/-- An entry of a product with weights. -/
theorem dot_apply (p : FVec Ideal S8x1024 .f32) (q : FVec Ideal S1024x6144 .f32) (j : Fin 8) (n : Fin 6144) :
    Host.dotGeneral dot_S8x1024_S1024x6144_S8x6144_1_0_0_1_n_n none p q (ix2 j n) = ∑ k : Fin 1024, p (ix2 j k) * q (ix2 k n) := by
  simp only [Host.dotGeneral]
  rw [Ideal.dotGeneral_apply, ← Equiv.sum_comp (contrEquiv1 dot_S8x1024_S1024x6144_S8x6144_1_0_0_1_n_n 1024 rfl rfl).symm]
  refine Finset.sum_congr rfl fun k _ => ?_
  have hk := contrEquiv1_symm_val dot_S8x1024_S1024x6144_S8x6144_1_0_0_1_n_n 1024 rfl rfl k
  exact congrArg₂ (· * ·)
    (congrArg p (funext fun i => Fin.ext (match i with | ⟨0, _⟩ => rfl | ⟨1, _⟩ => hk)))
    (congrArg q (funext fun i => Fin.ext (match i with | ⟨0, _⟩ => hk | ⟨1, _⟩ => rfl)))

/-- An entry of the layer's weights. -/
theorem weights_apply (k : Fin 1024) (n : Fin 6144) :
    (shapeCast _ (extractStridedSlice S1x1024x6144 ![0, 0, 0] w slices_S2x1024x6144_S1x1024x6144_0_0_0) shapeCasts_S1x1024x6144_S1024x6144) (ix2 k n) = w (ix3 (0 : Fin 2) k n) := by
  refine (shapeCast_apply _ _ _ (ix3 (0 : Fin 1) k n) ?_).trans
    (extractStridedSlice_apply _ _ _ _ (ix3 (0 : Fin 2) k n) fun a => match a with | ⟨0, _⟩ => rfl | ⟨1, _⟩ => (Nat.zero_add _).symm | ⟨2, _⟩ => (Nat.zero_add _).symm)
  rw [Shape.rowMajor_val_three, Shape.rowMajor_val_two]
  show (0 * 1024 + k.val) * 6144 + n.val = k.val * 6144 + n.val
  omega

/-- An entry of the layer's bias. -/
theorem bias_apply (n : Fin 6144) :
    (shapeCast _ (extractStridedSlice S1x1x6144 ![0, 0, 0] b slices_S2x1x6144_S1x1x6144_0_0_0) shapeCasts_S1x1x6144_S1x6144) (ix2 (0 : Fin 1) n) = b (ix3 (0 : Fin 2) (0 : Fin 1) n) := by
  refine (shapeCast_apply _ _ _ (ix3 (0 : Fin 1) (0 : Fin 1) n) ?_).trans
    (extractStridedSlice_apply _ _ _ _ (ix3 (0 : Fin 2) (0 : Fin 1) n) fun a => match a with | ⟨0, _⟩ => rfl | ⟨1, _⟩ => (Nat.zero_add _).symm | ⟨2, _⟩ => (Nat.zero_add _).symm)
  rw [Shape.rowMajor_val_three, Shape.rowMajor_val_two]
  show (0 * 1 + 0) * 6144 + n.val = 0 * 6144 + n.val
  omega

/-- The reference's result is the call's. -/
theorem out_eq : out x w b = G x w b := by
  funext y
  obtain ⟨j, n, rfl⟩ : ∃ (j : Fin 8) (n : Fin 6144), y = ix2 j n := ⟨y 0, y 1, eq_ix2 y⟩
  unfold out
  rw [addf_apply, dot_apply]
  refine congrArg₂ (fun u v : EReal => u + v) (Finset.sum_congr rfl fun k _ => congrArg₂ (fun u v : EReal => u * v) (silus_apply x _) (weights_apply w k n)) ?_
  exact (broadcastInDim_apply _ _ _ _ (ix2 (0 : Fin 1) n) (fun i => match i with | ⟨0, _⟩ => rfl | ⟨1, _⟩ => rfl)).trans (bias_apply b n)

end Cert.Proof.M0

end
-- ==== Proof.M1.Value.lean ====
/-
  The modulation of the second layer over the extended reals: the call's result array, and its reference's, are the product of the conditioning's silu
  with the weights, plus the bias.
-/
module

public import proofs.«01_k».proof.Proof.Gen.KernelM1.Frame
public import proofs.«01_k».proof.Proof.Gen.KernelM1Ideal.Value
public import proofs.«01_k».proof.Proof.Gen.ReferenceM1Ideal.Run
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.ValueKit.Geometry

@[expose] public section

noncomputable section

namespace Cert.Proof.M1

open Cert.KernelM1Ideal Cert.KernelM1Ideal.Gen Cert.KernelM1Ideal.Value
open Idealize.ShloMosaic Idealize.ShloMosaic.ValueIdx
open Idealize.ShloMosaic.TcCoe
open scoped BigOperators

/-- An entry of the result: a row of the conditioning, each entry times its logistic, times a column of the weights, plus the bias. -/
def entry (x : S8x1024.Idx → EReal) (w : S2x1024x6144.Idx → EReal) (b : S2x1x6144.Idx → EReal) (j : Fin 8) (n : Fin 6144) : EReal :=
  (∑ k : Fin 1024, x (ix2 j k) * Ideal.logistic (x (ix2 j k)) * w (ix3 (1 : Fin 2) k n)) + b (ix3 (1 : Fin 2) (0 : Fin 1) n)

/-- The result array. -/
def G (x : S8x1024.Idx → EReal) (w : S2x1024x6144.Idx → EReal) (b : S2x1x6144.Idx → EReal) (y : S8x6144.Idx) : EReal := entry x w b (y 0) (y 1)

/-! ### A block of the call -/

/-- What a grid point computes for a row and column of its block. -/
theorem product_apply (x : Vec Ideal S8x1024 .f32) (w : Vec Ideal S1x1024x1024 .f32) (b : Vec Ideal S1x1x1024 .f32) (j : Fin 8) (n : Fin 1024) :
    k0_pay1 x w b (ix2 j n)
      = (∑ k : Fin 1024, x (ix2 j k) * Ideal.logistic (x (ix2 j k)) * w (ix3 (0 : Fin 1) k n)) + b (ix3 (0 : Fin 1) (0 : Fin 1) n) := by
  unfold k0_pay1
  refine congrArg₂ (fun u v : EReal => u + v) ?_ ?_
  · refine (Ideal.matmul_plain_apply (some .fp32) _ _ _ j n).trans ?_
    rw [constant_apply, Ideal.ofBits_zero_f32, zero_add]
    refine Finset.sum_congr rfl fun k _ => congrArg (fun z : EReal => x (ix2 j k) * Ideal.logistic (x (ix2 j k)) * z) ?_
    refine shapeCast_apply _ _ _ (ix3 (0 : Fin 1) k n) ?_
    rw [Shape.rowMajor_val_three, Shape.rowMajor_val_two]
    show (0 * 1024 + k.val) * 1024 + n.val = k.val * 1024 + n.val
    omega
  · refine (broadcastTo_1b_ab_apply _ _ j n).trans ?_
    refine shapeCast_apply _ _ _ (ix3 (0 : Fin 1) (0 : Fin 1) n) ?_
    rw [Shape.rowMajor_val_three, Shape.rowMajor_val_two]
    show (0 * 1 + 0) * 1024 + n.val = 0 * 1024 + n.val
    omega

/-- A store of a whole block leaves what was stored. -/
theorem whole (P : S8x1024.Idx → EReal) (j : Fin 8) (n : Fin 1024) :
    View.canon (Val := Elt Ideal) (e := .f32) [⟨r0_0, P⟩] (ix2 j n) = P (ix2 j n) := by
  have hv : ∀ {m : ℕ} (i : Fin m), 0 + 1 * i.val = i.val := fun i => by omega
  have ey : r0_0.emb (ix2 j n) = ix2 j n := funext fun a => Fin.ext (match a with | ⟨0, _⟩ => hv j | ⟨1, _⟩ => hv n)
  have e := View.canon_cons_emb (Val := Elt Ideal) (e := .f32) r0_0 P [] (ix2 j n)
  rw [ey] at e
  exact e

/-- What a grid point leaves at a row and column of its block. -/
theorem out_apply (x : Vec Ideal S8x1024 .f32) (w : Vec Ideal S1x1024x1024 .f32) (b : Vec Ideal S1x1x1024 .f32) (j : Fin 8) (n : Fin 1024) :
    out0_3 x w b (ix2 j n)
      = (∑ k : Fin 1024, x (ix2 j k) * Ideal.logistic (x (ix2 j k)) * w (ix3 (0 : Fin 1) k n)) + b (ix3 (0 : Fin 1) (0 : Fin 1) n) := by
  have hv : ∀ {m : ℕ} (i : Fin m), 0 + 1 * i.val = i.val := fun i => by omega
  have ex : View.ld x r0_0 = x := funext fun i => congrArg x (funext fun a => Fin.ext (match a with | ⟨0, _⟩ => hv (i 0 : Fin 8) | ⟨1, _⟩ => hv (i 1 : Fin 1024)))
  have ew : View.ld w r0_1 = w := funext fun i => congrArg w (funext fun a =>
    Fin.ext (match a with | ⟨0, _⟩ => hv (i 0 : Fin 1) | ⟨1, _⟩ => hv (i 1 : Fin 1024) | ⟨2, _⟩ => hv (i 2 : Fin 1024)))
  have eb : View.ld b r0_2 = b := funext fun i => congrArg b (funext fun a =>
    Fin.ext (match a with | ⟨0, _⟩ => hv (i 0 : Fin 1) | ⟨1, _⟩ => hv (i 1 : Fin 1) | ⟨2, _⟩ => hv (i 2 : Fin 1024)))
  unfold out0_3
  rw [ex, ew, eb]
  exact (whole (k0_pay1 x w b) j n).trans (product_apply x w b j n)

/-! ### Blocks of the arrays -/

/-- All the conditioning. -/
theorem index_0 : ∀ t : Fin cfg0.N, win0_0.index t = ![0, 0] :=
  (by decide +kernel : ∀ t : Fin grid0.N, _)
/-- The block of weights of a step. -/
theorem index_1 : ∀ t : Fin cfg0.N, win0_1.index t = ![1, 0, (grid0.coords t 0).val] :=
  (by decide +kernel : ∀ t : Fin grid0.N, _)
/-- The block of the bias of a step. -/
theorem index_2 : ∀ t : Fin cfg0.N, win0_2.index t = ![1, 0, (grid0.coords t 0).val] :=
  (by decide +kernel : ∀ t : Fin grid0.N, _)
/-- The block of results of a step. -/
theorem index_3 : ∀ t : Fin cfg0.N, win0_3.index t = ![0, (grid0.coords t 0).val] :=
  (by decide +kernel : ∀ t : Fin grid0.N, _)

variable (m : (ℓ : Loc nD τ sig) → Buf (Elt Ideal) ℓ) (c : Dev nD)

/-- An entry of a step's conditioning. -/
theorem x_apply (t : Fin cfg0.N) (j : Fin 8) (k : Fin 1024) : iblk m c 0 t (ix2 j k) = m ((c.tc : Thread nD τ).loc main_arg0) (ix2 j k) := by
  unfold iblk
  blk_ext [index_0 t]

/-- An entry of a step's weights. -/
theorem w_apply (t : Fin cfg0.N) (k n : Fin 1024) (p : Fin 6144) (hp : p.val = (grid0.coords t 0).val * 1024 + n.val) :
    iblk m c 1 t (ix3 (0 : Fin 1) k n) = m ((c.tc : Thread nD τ).loc main_arg1) (ix3 (1 : Fin 2) k p) := by
  unfold iblk
  blk_ext [index_1 t]
  · exact hp.symm

/-- An entry of a step's bias. -/
theorem b_apply (t : Fin cfg0.N) (n : Fin 1024) (p : Fin 6144) (hp : p.val = (grid0.coords t 0).val * 1024 + n.val) :
    iblk m c 2 t (ix3 (0 : Fin 1) (0 : Fin 1) n) = m ((c.tc : Thread nD τ).loc main_arg2) (ix3 (1 : Fin 2) (0 : Fin 1) p) := by
  unfold iblk
  blk_ext [index_2 t]
  · exact hp.symm

/-- What a step leaves at a row and column of its block is the entry of the result there. -/
theorem block_apply (t : Fin cfg0.N) (j : Fin 8) (n : Fin 1024) (p : Fin 6144) (hp : p.val = (grid0.coords t 0).val * 1024 + n.val) :
    out0_3 (iblk m c 0 t) (iblk m c 1 t) (iblk m c 2 t) (ix2 j n)
      = entry (m ((c.tc : Thread nD τ).loc main_arg0)) (m ((c.tc : Thread nD τ).loc main_arg1)) (m ((c.tc : Thread nD τ).loc main_arg2)) j p := by
  refine (out_apply _ _ _ _ _).trans ?_
  unfold entry
  refine congrArg₂ (fun u v : EReal => u + v) (Finset.sum_congr rfl fun k _ => ?_) (b_apply m c t n p hp)
  exact congrArg₂ (fun u v : EReal => u * Ideal.logistic u * v) (x_apply m c t j k) (w_apply m c t k n p hp)

/-- The result array after the run. -/
theorem final : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have hy : y = ix2 (y 0 : Fin 8) (y 1 : Fin 1024) := eq_ix2 (n0 := 8) (n1 := 1024) y
  have e0 : ((win0_3.blk t).view.emb y 0 : Fin 8) = (y 0 : Fin 8) := Fin.ext (by
    blk_simp [index_3 t])
  have e1 : (((win0_3.blk t).view.emb y 1 : Fin 6144)).val = (grid0.coords t 0).val * 1024 + (y 1 : Fin 1024).val := by
    blk_simp [index_3 t]
  refine (congrArg (out0_3 _ _ _) hy).trans ((block_apply m c t _ _ _ e1).trans ?_)
  unfold G
  exact congrArg (fun z => entry _ _ _ z _) e0.symm

end Cert.Proof.M1

/-! ### The reference -/

namespace Cert.Proof.M1

open Cert.ReferenceM1Ideal Cert.ReferenceM1Ideal.Gen
open Idealize.ShloMosaic Idealize.ShloMosaic.ValueIdx
open scoped BigOperators

variable (x : FVec Ideal S8x1024 .f32) (w : FVec Ideal S2x1024x6144 .f32) (b : FVec Ideal S2x1x6144 .f32)

/-- Ones. -/
def ones : FVec Ideal S8x1024 .f32 := broadcastInDim S8x1024 ![] bcast_S_S8x1024 (constant S_ .f32 0x3F800000#32)

/-- The conditioning, each entry times its logistic. -/
def silus : FVec Ideal S8x1024 .f32 := mulf x (Host.divf ones (addf ones (Host.exp (Host.negf x))))

/-- The reference's result. -/
def out : FVec Ideal S8x6144 .f32 :=
  addf (Host.dotGeneral dot_S8x1024_S1024x6144_S8x6144_1_0_0_1_n_n none (silus x)
      (shapeCast _ (extractStridedSlice S1x1024x6144 ![1, 0, 0] w slices_S2x1024x6144_S1x1024x6144_1_0_0) shapeCasts_S1x1024x6144_S1024x6144))
    (broadcastInDim S8x6144 ![0, 1] bcast_S1x6144_S8x6144_0_1
      (shapeCast _ (extractStridedSlice S1x1x6144 ![1, 0, 0] b slices_S2x1x6144_S1x1x6144_1_0_0) shapeCasts_S1x1x6144_S1x6144))

/-- An entry of the conditioning, times its logistic. -/
theorem silus_apply (i : S8x1024.Idx) : silus x i = x i * Ideal.logistic (x i) :=
  congrArg (fun z : EReal => x i * Ideal.div z (z + Ideal.exp (-(x i)))) (Ideal.ofBits_one_f32 : ones i = 1)

/-- An entry of a product with weights. -/
theorem dot_apply (p : FVec Ideal S8x1024 .f32) (q : FVec Ideal S1024x6144 .f32) (j : Fin 8) (n : Fin 6144) :
    Host.dotGeneral dot_S8x1024_S1024x6144_S8x6144_1_0_0_1_n_n none p q (ix2 j n) = ∑ k : Fin 1024, p (ix2 j k) * q (ix2 k n) := by
  simp only [Host.dotGeneral]
  rw [Ideal.dotGeneral_apply, ← Equiv.sum_comp (contrEquiv1 dot_S8x1024_S1024x6144_S8x6144_1_0_0_1_n_n 1024 rfl rfl).symm]
  refine Finset.sum_congr rfl fun k _ => ?_
  have hk := contrEquiv1_symm_val dot_S8x1024_S1024x6144_S8x6144_1_0_0_1_n_n 1024 rfl rfl k
  exact congrArg₂ (· * ·)
    (congrArg p (funext fun i => Fin.ext (match i with | ⟨0, _⟩ => rfl | ⟨1, _⟩ => hk)))
    (congrArg q (funext fun i => Fin.ext (match i with | ⟨0, _⟩ => hk | ⟨1, _⟩ => rfl)))

/-- An entry of the layer's weights. -/
theorem weights_apply (k : Fin 1024) (n : Fin 6144) :
    (shapeCast _ (extractStridedSlice S1x1024x6144 ![1, 0, 0] w slices_S2x1024x6144_S1x1024x6144_1_0_0) shapeCasts_S1x1024x6144_S1024x6144) (ix2 k n) = w (ix3 (1 : Fin 2) k n) := by
  refine (shapeCast_apply _ _ _ (ix3 (0 : Fin 1) k n) ?_).trans
    (extractStridedSlice_apply _ _ _ _ (ix3 (1 : Fin 2) k n) fun a => match a with | ⟨0, _⟩ => rfl | ⟨1, _⟩ => (Nat.zero_add _).symm | ⟨2, _⟩ => (Nat.zero_add _).symm)
  rw [Shape.rowMajor_val_three, Shape.rowMajor_val_two]
  show (0 * 1024 + k.val) * 6144 + n.val = k.val * 6144 + n.val
  omega

/-- An entry of the layer's bias. -/
theorem bias_apply (n : Fin 6144) :
    (shapeCast _ (extractStridedSlice S1x1x6144 ![1, 0, 0] b slices_S2x1x6144_S1x1x6144_1_0_0) shapeCasts_S1x1x6144_S1x6144) (ix2 (0 : Fin 1) n) = b (ix3 (1 : Fin 2) (0 : Fin 1) n) := by
  refine (shapeCast_apply _ _ _ (ix3 (0 : Fin 1) (0 : Fin 1) n) ?_).trans
    (extractStridedSlice_apply _ _ _ _ (ix3 (1 : Fin 2) (0 : Fin 1) n) fun a => match a with | ⟨0, _⟩ => rfl | ⟨1, _⟩ => (Nat.zero_add _).symm | ⟨2, _⟩ => (Nat.zero_add _).symm)
  rw [Shape.rowMajor_val_three, Shape.rowMajor_val_two]
  show (0 * 1 + 0) * 6144 + n.val = 0 * 6144 + n.val
  omega

/-- The reference's result is the call's. -/
theorem out_eq : out x w b = G x w b := by
  funext y
  obtain ⟨j, n, rfl⟩ : ∃ (j : Fin 8) (n : Fin 6144), y = ix2 j n := ⟨y 0, y 1, eq_ix2 y⟩
  unfold out
  rw [addf_apply, dot_apply]
  refine congrArg₂ (fun u v : EReal => u + v) (Finset.sum_congr rfl fun k _ => congrArg₂ (fun u v : EReal => u * v) (silus_apply x _) (weights_apply w k n)) ?_
  exact (broadcastInDim_apply _ _ _ _ (ix2 (0 : Fin 1) n) (fun i => match i with | ⟨0, _⟩ => rfl | ⟨1, _⟩ => rfl)).trans (bias_apply b n)

end Cert.Proof.M1

end
-- ==== Proof.Mkv.Value.lean ====
/-
  The modulation of the keys and values over the extended reals: the call's result array, and its reference's, are the product of the conditioning's silu
  with the weights, plus the bias.
-/
module

public import proofs.«01_k».proof.Proof.Gen.KernelMkv.Frame
public import proofs.«01_k».proof.Proof.Gen.KernelMkvIdeal.Value
public import proofs.«01_k».proof.Proof.Gen.ReferenceMkvIdeal.Run
public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.ValueKit.Geometry

@[expose] public section

noncomputable section

namespace Cert.Proof.Mkv

open Cert.KernelMkvIdeal Cert.KernelMkvIdeal.Gen Cert.KernelMkvIdeal.Value
open Idealize.ShloMosaic Idealize.ShloMosaic.ValueIdx
open Idealize.ShloMosaic.TcCoe
open scoped BigOperators

/-- An entry of the result: a row of the conditioning, each entry times its logistic, times a column of the weights, plus the bias. -/
def entry (x : S8x1024.Idx → EReal) (w : S1x1024x2048.Idx → EReal) (b : S1x1x2048.Idx → EReal) (j : Fin 8) (n : Fin 2048) : EReal :=
  (∑ k : Fin 1024, x (ix2 j k) * Ideal.logistic (x (ix2 j k)) * w (ix3 (0 : Fin 1) k n)) + b (ix3 (0 : Fin 1) (0 : Fin 1) n)

/-- The result array. -/
def G (x : S8x1024.Idx → EReal) (w : S1x1024x2048.Idx → EReal) (b : S1x1x2048.Idx → EReal) (y : S8x2048.Idx) : EReal := entry x w b (y 0) (y 1)

/-! ### A block of the call -/

/-- What a grid point computes for a row and column of its block. -/
theorem product_apply (x : Vec Ideal S8x1024 .f32) (w : Vec Ideal S1x1024x1024 .f32) (b : Vec Ideal S1x1x1024 .f32) (j : Fin 8) (n : Fin 1024) :
    k0_pay1 x w b (ix2 j n)
      = (∑ k : Fin 1024, x (ix2 j k) * Ideal.logistic (x (ix2 j k)) * w (ix3 (0 : Fin 1) k n)) + b (ix3 (0 : Fin 1) (0 : Fin 1) n) := by
  unfold k0_pay1
  refine congrArg₂ (fun u v : EReal => u + v) ?_ ?_
  · refine (Ideal.matmul_plain_apply (some .fp32) _ _ _ j n).trans ?_
    rw [constant_apply, Ideal.ofBits_zero_f32, zero_add]
    refine Finset.sum_congr rfl fun k _ => congrArg (fun z : EReal => x (ix2 j k) * Ideal.logistic (x (ix2 j k)) * z) ?_
    refine shapeCast_apply _ _ _ (ix3 (0 : Fin 1) k n) ?_
    rw [Shape.rowMajor_val_three, Shape.rowMajor_val_two]
    show (0 * 1024 + k.val) * 1024 + n.val = k.val * 1024 + n.val
    omega
  · refine (broadcastTo_1b_ab_apply _ _ j n).trans ?_
    refine shapeCast_apply _ _ _ (ix3 (0 : Fin 1) (0 : Fin 1) n) ?_
    rw [Shape.rowMajor_val_three, Shape.rowMajor_val_two]
    show (0 * 1 + 0) * 1024 + n.val = 0 * 1024 + n.val
    omega

/-- A store of a whole block leaves what was stored. -/
theorem whole (P : S8x1024.Idx → EReal) (j : Fin 8) (n : Fin 1024) :
    View.canon (Val := Elt Ideal) (e := .f32) [⟨r0_0, P⟩] (ix2 j n) = P (ix2 j n) := by
  have hv : ∀ {m : ℕ} (i : Fin m), 0 + 1 * i.val = i.val := fun i => by omega
  have ey : r0_0.emb (ix2 j n) = ix2 j n := funext fun a => Fin.ext (match a with | ⟨0, _⟩ => hv j | ⟨1, _⟩ => hv n)
  have e := View.canon_cons_emb (Val := Elt Ideal) (e := .f32) r0_0 P [] (ix2 j n)
  rw [ey] at e
  exact e

/-- What a grid point leaves at a row and column of its block. -/
theorem out_apply (x : Vec Ideal S8x1024 .f32) (w : Vec Ideal S1x1024x1024 .f32) (b : Vec Ideal S1x1x1024 .f32) (j : Fin 8) (n : Fin 1024) :
    out0_3 x w b (ix2 j n)
      = (∑ k : Fin 1024, x (ix2 j k) * Ideal.logistic (x (ix2 j k)) * w (ix3 (0 : Fin 1) k n)) + b (ix3 (0 : Fin 1) (0 : Fin 1) n) := by
  have hv : ∀ {m : ℕ} (i : Fin m), 0 + 1 * i.val = i.val := fun i => by omega
  have ex : View.ld x r0_0 = x := funext fun i => congrArg x (funext fun a => Fin.ext (match a with | ⟨0, _⟩ => hv (i 0 : Fin 8) | ⟨1, _⟩ => hv (i 1 : Fin 1024)))
  have ew : View.ld w r0_1 = w := funext fun i => congrArg w (funext fun a =>
    Fin.ext (match a with | ⟨0, _⟩ => hv (i 0 : Fin 1) | ⟨1, _⟩ => hv (i 1 : Fin 1024) | ⟨2, _⟩ => hv (i 2 : Fin 1024)))
  have eb : View.ld b r0_2 = b := funext fun i => congrArg b (funext fun a =>
    Fin.ext (match a with | ⟨0, _⟩ => hv (i 0 : Fin 1) | ⟨1, _⟩ => hv (i 1 : Fin 1) | ⟨2, _⟩ => hv (i 2 : Fin 1024)))
  unfold out0_3
  rw [ex, ew, eb]
  exact (whole (k0_pay1 x w b) j n).trans (product_apply x w b j n)

/-! ### Blocks of the arrays -/

/-- All the conditioning. -/
theorem index_0 : ∀ t : Fin cfg0.N, win0_0.index t = ![0, 0] :=
  (by decide +kernel : ∀ t : Fin grid0.N, _)
/-- The block of weights of a step. -/
theorem index_1 : ∀ t : Fin cfg0.N, win0_1.index t = ![0, 0, (grid0.coords t 0).val] :=
  (by decide +kernel : ∀ t : Fin grid0.N, _)
/-- The block of the bias of a step. -/
theorem index_2 : ∀ t : Fin cfg0.N, win0_2.index t = ![0, 0, (grid0.coords t 0).val] :=
  (by decide +kernel : ∀ t : Fin grid0.N, _)
/-- The block of results of a step. -/
theorem index_3 : ∀ t : Fin cfg0.N, win0_3.index t = ![0, (grid0.coords t 0).val] :=
  (by decide +kernel : ∀ t : Fin grid0.N, _)

variable (m : (ℓ : Loc nD τ sig) → Buf (Elt Ideal) ℓ) (c : Dev nD)

/-- An entry of a step's conditioning. -/
theorem x_apply (t : Fin cfg0.N) (j : Fin 8) (k : Fin 1024) : iblk m c 0 t (ix2 j k) = m ((c.tc : Thread nD τ).loc main_arg0) (ix2 j k) := by
  unfold iblk
  blk_ext [index_0 t]

/-- An entry of a step's weights. -/
theorem w_apply (t : Fin cfg0.N) (k n : Fin 1024) (p : Fin 2048) (hp : p.val = (grid0.coords t 0).val * 1024 + n.val) :
    iblk m c 1 t (ix3 (0 : Fin 1) k n) = m ((c.tc : Thread nD τ).loc main_arg1) (ix3 (0 : Fin 1) k p) := by
  unfold iblk
  blk_ext [index_1 t]
  · exact hp.symm

/-- An entry of a step's bias. -/
theorem b_apply (t : Fin cfg0.N) (n : Fin 1024) (p : Fin 2048) (hp : p.val = (grid0.coords t 0).val * 1024 + n.val) :
    iblk m c 2 t (ix3 (0 : Fin 1) (0 : Fin 1) n) = m ((c.tc : Thread nD τ).loc main_arg2) (ix3 (0 : Fin 1) (0 : Fin 1) p) := by
  unfold iblk
  blk_ext [index_2 t]
  · exact hp.symm

/-- What a step leaves at a row and column of its block is the entry of the result there. -/
theorem block_apply (t : Fin cfg0.N) (j : Fin 8) (n : Fin 1024) (p : Fin 2048) (hp : p.val = (grid0.coords t 0).val * 1024 + n.val) :
    out0_3 (iblk m c 0 t) (iblk m c 1 t) (iblk m c 2 t) (ix2 j n)
      = entry (m ((c.tc : Thread nD τ).loc main_arg0)) (m ((c.tc : Thread nD τ).loc main_arg1)) (m ((c.tc : Thread nD τ).loc main_arg2)) j p := by
  refine (out_apply _ _ _ _ _).trans ?_
  unfold entry
  refine congrArg₂ (fun u v : EReal => u + v) (Finset.sum_congr rfl fun k _ => ?_) (b_apply m c t n p hp)
  exact congrArg₂ (fun u v : EReal => u * Ideal.logistic u * v) (x_apply m c t j k) (w_apply m c t k n p hp)

/-- The result array after the run. -/
theorem final : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have hy : y = ix2 (y 0 : Fin 8) (y 1 : Fin 1024) := eq_ix2 (n0 := 8) (n1 := 1024) y
  have e0 : ((win0_3.blk t).view.emb y 0 : Fin 8) = (y 0 : Fin 8) := Fin.ext (by
    blk_simp [index_3 t])
  have e1 : (((win0_3.blk t).view.emb y 1 : Fin 2048)).val = (grid0.coords t 0).val * 1024 + (y 1 : Fin 1024).val := by
    blk_simp [index_3 t]
  refine (congrArg (out0_3 _ _ _) hy).trans ((block_apply m c t _ _ _ e1).trans ?_)
  unfold G
  exact congrArg (fun z => entry _ _ _ z _) e0.symm

end Cert.Proof.Mkv

/-! ### The reference -/

namespace Cert.Proof.Mkv

open Cert.ReferenceMkvIdeal Cert.ReferenceMkvIdeal.Gen
open Idealize.ShloMosaic Idealize.ShloMosaic.ValueIdx
open scoped BigOperators

variable (x : FVec Ideal S8x1024 .f32) (w : FVec Ideal S1x1024x2048 .f32) (b : FVec Ideal S1x1x2048 .f32)

/-- Ones. -/
def ones : FVec Ideal S8x1024 .f32 := broadcastInDim S8x1024 ![] bcast_S_S8x1024 (constant S_ .f32 0x3F800000#32)

/-- The conditioning, each entry times its logistic. -/
def silus : FVec Ideal S8x1024 .f32 := mulf x (Host.divf ones (addf ones (Host.exp (Host.negf x))))

/-- The reference's result. -/
def out : FVec Ideal S8x2048 .f32 :=
  addf (Host.dotGeneral dot_S8x1024_S1024x2048_S8x2048_1_0_0_1_n_n none (silus x)
      (shapeCast _ w shapeCasts_S1x1024x2048_S1024x2048))
    (broadcastInDim S8x2048 ![0, 1] bcast_S1x2048_S8x2048_0_1
      (shapeCast _ b shapeCasts_S1x1x2048_S1x2048))

/-- An entry of the conditioning, times its logistic. -/
theorem silus_apply (i : S8x1024.Idx) : silus x i = x i * Ideal.logistic (x i) :=
  congrArg (fun z : EReal => x i * Ideal.div z (z + Ideal.exp (-(x i)))) (Ideal.ofBits_one_f32 : ones i = 1)

/-- An entry of a product with weights. -/
theorem dot_apply (p : FVec Ideal S8x1024 .f32) (q : FVec Ideal S1024x2048 .f32) (j : Fin 8) (n : Fin 2048) :
    Host.dotGeneral dot_S8x1024_S1024x2048_S8x2048_1_0_0_1_n_n none p q (ix2 j n) = ∑ k : Fin 1024, p (ix2 j k) * q (ix2 k n) := by
  simp only [Host.dotGeneral]
  rw [Ideal.dotGeneral_apply, ← Equiv.sum_comp (contrEquiv1 dot_S8x1024_S1024x2048_S8x2048_1_0_0_1_n_n 1024 rfl rfl).symm]
  refine Finset.sum_congr rfl fun k _ => ?_
  have hk := contrEquiv1_symm_val dot_S8x1024_S1024x2048_S8x2048_1_0_0_1_n_n 1024 rfl rfl k
  exact congrArg₂ (· * ·)
    (congrArg p (funext fun i => Fin.ext (match i with | ⟨0, _⟩ => rfl | ⟨1, _⟩ => hk)))
    (congrArg q (funext fun i => Fin.ext (match i with | ⟨0, _⟩ => hk | ⟨1, _⟩ => rfl)))

/-- An entry of the layer's weights. -/
theorem weights_apply (k : Fin 1024) (n : Fin 2048) :
    (shapeCast _ w shapeCasts_S1x1024x2048_S1024x2048) (ix2 k n) = w (ix3 (0 : Fin 1) k n) := by
  refine (shapeCast_apply _ _ _ (ix3 (0 : Fin 1) k n) ?_)
  rw [Shape.rowMajor_val_three, Shape.rowMajor_val_two]
  show (0 * 1024 + k.val) * 2048 + n.val = k.val * 2048 + n.val
  omega

/-- An entry of the layer's bias. -/
theorem bias_apply (n : Fin 2048) :
    (shapeCast _ b shapeCasts_S1x1x2048_S1x2048) (ix2 (0 : Fin 1) n) = b (ix3 (0 : Fin 1) (0 : Fin 1) n) := by
  refine (shapeCast_apply _ _ _ (ix3 (0 : Fin 1) (0 : Fin 1) n) ?_)
  rw [Shape.rowMajor_val_three, Shape.rowMajor_val_two]
  show (0 * 1 + 0) * 2048 + n.val = 0 * 2048 + n.val
  omega

/-- The reference's result is the call's. -/
theorem out_eq : out x w b = G x w b := by
  funext y
  obtain ⟨j, n, rfl⟩ : ∃ (j : Fin 8) (n : Fin 2048), y = ix2 j n := ⟨y 0, y 1, eq_ix2 y⟩
  unfold out
  rw [addf_apply, dot_apply]
  refine congrArg₂ (fun u v : EReal => u + v) (Finset.sum_congr rfl fun k _ => congrArg₂ (fun u v : EReal => u * v) (silus_apply x _) (weights_apply w k n)) ?_
  exact (broadcastInDim_apply _ _ _ _ (ix2 (0 : Fin 1) n) (fun i => match i with | ⟨0, _⟩ => rfl | ⟨1, _⟩ => rfl)).trans (bias_apply b n)

end Cert.Proof.Mkv

end
-- ==== Proof.lean ====
/-
  The proof of `Cert.Claim`, call by call: the attention (`frame_k` to `algebraic`), then the projection to queries, the
  projection to keys and values, the output projection, the recurrent layer, and the three modulations. For each, the three programs run and end quiescent (`frame_`),
  the idealized kernel is the kernel (`preserves`; the attention's with its one named constant), and the idealized kernel
  computes what the idealized reference computes (`algebraic`).
-/
module

public import proofs.«01_k».proof.Defs
public import proofs.«01_k».proof.Proof.K.Run
public import proofs.«01_k».proof.Proof.KI.Value
public import proofs.«01_k».proof.Proof.Ref
public import proofs.«01_k».proof.Proof.Q.Value
public import proofs.«01_k».proof.Proof.Kv.Value
public import proofs.«01_k».proof.Proof.O.Value
public import proofs.«01_k».proof.Proof.H.Run
public import proofs.«01_k».proof.Proof.HI.Value
public import proofs.«01_k».proof.Proof.HL.Ref
public import proofs.«01_k».proof.Proof.HL.Pre
public import proofs.«01_k».proof.Proof.M0.Value
public import proofs.«01_k».proof.Proof.M1.Value
public import proofs.«01_k».proof.Proof.Mkv.Value
public import proofs.«01_k».proof.Proof.Gen.ReferenceIdeal
public import proofs.«01_k».proof.Proof.Gen.ReferenceIdeal.Run

@[expose] public section

noncomputable section

namespace Cert.Proof

open Idealize.ShloMosaic Idealize.ShloMosaic.ValueIdx Idealize.SL.Sem

/-- The attention call, as printed, runs from any memory, faults nowhere, leaves its two arguments and every counter. -/
theorem frame_k : Cert.quiescent_Kernel := fun m ρ _ =>
  (θ_run Cert.Kernel.defs _ _).mono (fun _ h => ⟨fun c => (h.1 c).2, h.2⟩) (K.run_main (F := Bits) m ρ)

/-- So does the idealized attention call. -/
theorem frame_ki : Cert.quiescent_KernelIdeal := fun m ρ _ =>
  (θ_run Cert.KernelIdeal.defs _ _).mono (fun _ h => ⟨fun c => (h.1 c).2, h.2⟩) (KI.run_main (F := Ideal) m ρ)

/-- So does the idealized reference, which has no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant the idealization renames is the one the table names. -/
theorem preserves : Cert.preserves_Kernel_KernelIdeal := IdealRules.named_const.statement _ _ _ _ _ rfl

/-- The reference's result array is the attention of its two arguments. -/
theorem out_eq (q : FVec Ideal Cert.ReferenceIdeal.S2x8x16384x128 .bf16) (kv : FVec Ideal Cert.ReferenceIdeal.S2x16x16384x128 .bf16) :
    Ref.out q kv = KI.G q kv := by
  funext x
  obtain ⟨b, h, t, d, rfl⟩ : ∃ (b : Fin 2) (h : Fin 8) (t : Fin 16384) (d : Fin 128), x = ix4 b h t d := ⟨x 0, x 1, x 2, x 3, eq_ix4 x⟩
  exact Ref.out_apply q kv b h t d

/-- Over the extended reals the idealized attention call and the idealized reference end with the same result. -/
theorem algebraic : Cert.algebraic_KernelIdeal_ReferenceIdeal := fun m ρ m' ρ' _ ha =>
  ⟨fun c => KI.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h c => ⟨((h.1 c).1).trans (KI.final_o m c), (h.1 c).2⟩) (KI.run_main (F := Ideal) m ρ),
    (θ_run Cert.ReferenceIdeal.defs _ _).mono (fun _ h c => ⟨((h c).1).trans ((out_eq _ _).trans (by rw [(ha c).1, (ha c).2])), (h c).2⟩)
      (Cert.ReferenceIdeal.Value.run (F := Ideal) m' ρ')⟩

/-! ### The query projection -/

/-- The query projection, as printed, runs from any memory, faults nowhere, leaves its arguments and every counter. -/
theorem frame_q : Cert.quiescent_KernelQ := fun m ρ _ => Cert.KernelQ.Gen.frame (F := Bits) m ρ

/-- So does the idealized query projection. -/
theorem frame_qi : Cert.quiescent_KernelQIdeal := fun m ρ _ => Cert.KernelQIdeal.Gen.frame (F := Ideal) m ρ

/-- So does its idealized reference, which has no counter. -/
theorem frame_rqi : Cert.quiescent_ReferenceQIdeal := fun m ρ _ =>
  (θ_run Cert.ReferenceQIdeal.defs _ _).mono (fun r h => ⟨fun c => (h c).2, sem_eq_zero_of_no_sems (by decide) r.2⟩)
    (Cert.ReferenceQIdeal.Value.run (F := Ideal) m ρ)

/-- The idealization renames nothing in the query projection. -/
theorem preserves_q : Cert.preserves_KernelQ_KernelQIdeal := trivial

/-- Over the extended reals the idealized query projection and its idealized reference end with the same result. -/
theorem algebraic_q : Cert.algebraic_KernelQIdeal_ReferenceQIdeal := fun m ρ m' ρ' _ ha =>
  ⟨fun c => Q.G (m ((c.tc : Thread Cert.KernelQIdeal.nD Cert.KernelQIdeal.τ).loc Cert.KernelQIdeal.main_arg0))
      (m ((c.tc : Thread Cert.KernelQIdeal.nD Cert.KernelQIdeal.τ).loc Cert.KernelQIdeal.main_arg1))
      (m ((c.tc : Thread Cert.KernelQIdeal.nD Cert.KernelQIdeal.τ).loc Cert.KernelQIdeal.main_arg2))
      (m ((c.tc : Thread Cert.KernelQIdeal.nD Cert.KernelQIdeal.τ).loc Cert.KernelQIdeal.main_arg3))
      (m ((c.tc : Thread Cert.KernelQIdeal.nD Cert.KernelQIdeal.τ).loc Cert.KernelQIdeal.main_arg4)),
    (θ_run Cert.KernelQIdeal.defs _ _).mono (fun _ h c => ⟨((h c).1).trans (Q.final m c), (h c).2⟩) (Cert.KernelQIdeal.Value.run_blocks (F := Ideal) m ρ),
    (θ_run Cert.ReferenceQIdeal.defs _ _).mono
      (fun _ h c => ⟨((h c).1).trans ((Q.out_eq _ _ _ _ _ ).trans (by rw [(ha c).1, (ha c).2.1, (ha c).2.2.1, (ha c).2.2.2.1, (ha c).2.2.2.2])), (h c).2⟩)
      (Cert.ReferenceQIdeal.Value.run (F := Ideal) m' ρ')⟩

/-! ### The projection to keys and values -/

/-- The projection to keys and values, as printed, runs from any memory, faults nowhere, leaves its arguments and every counter. -/
theorem frame_kv : Cert.quiescent_KernelKv := fun m ρ _ => Cert.KernelKv.Gen.frame (F := Bits) m ρ

/-- So does the idealized projection to keys and values. -/
theorem frame_kvi : Cert.quiescent_KernelKvIdeal := fun m ρ _ => Cert.KernelKvIdeal.Gen.frame (F := Ideal) m ρ

/-- So does its idealized reference, which has no counter. -/
theorem frame_rkvi : Cert.quiescent_ReferenceKvIdeal := fun m ρ _ =>
  (θ_run Cert.ReferenceKvIdeal.defs _ _).mono (fun r h => ⟨fun c => (h c).2, sem_eq_zero_of_no_sems (by decide) r.2⟩)
    (Cert.ReferenceKvIdeal.Value.run (F := Ideal) m ρ)

/-- The idealization renames nothing in the projection to keys and values. -/
theorem preserves_kv : Cert.preserves_KernelKv_KernelKvIdeal := trivial

/-- Over the extended reals the idealized projection to keys and values and its idealized reference end with the same result. -/
theorem algebraic_kv : Cert.algebraic_KernelKvIdeal_ReferenceKvIdeal := fun m ρ m' ρ' _ ha =>
  ⟨fun c => Kv.G (m ((c.tc : Thread Cert.KernelKvIdeal.nD Cert.KernelKvIdeal.τ).loc Cert.KernelKvIdeal.main_arg0))
      (m ((c.tc : Thread Cert.KernelKvIdeal.nD Cert.KernelKvIdeal.τ).loc Cert.KernelKvIdeal.main_arg1))
      (m ((c.tc : Thread Cert.KernelKvIdeal.nD Cert.KernelKvIdeal.τ).loc Cert.KernelKvIdeal.main_arg2))
      (m ((c.tc : Thread Cert.KernelKvIdeal.nD Cert.KernelKvIdeal.τ).loc Cert.KernelKvIdeal.main_arg3))
      (m ((c.tc : Thread Cert.KernelKvIdeal.nD Cert.KernelKvIdeal.τ).loc Cert.KernelKvIdeal.main_arg4)),
    (θ_run Cert.KernelKvIdeal.defs _ _).mono (fun _ h c => ⟨((h c).1).trans (Kv.final m c), (h c).2⟩) (Cert.KernelKvIdeal.Value.run_blocks (F := Ideal) m ρ),
    (θ_run Cert.ReferenceKvIdeal.defs _ _).mono
      (fun _ h c => ⟨((h c).1).trans ((Kv.out_eq _ _ _ _ _ ).trans (by rw [(ha c).1, (ha c).2.1, (ha c).2.2.1, (ha c).2.2.2.1, (ha c).2.2.2.2])), (h c).2⟩)
      (Cert.ReferenceKvIdeal.Value.run (F := Ideal) m' ρ')⟩

/-! ### The output projection -/

/-- The output projection, as printed, runs from any memory, faults nowhere, leaves its arguments and every counter. -/
theorem frame_o : Cert.quiescent_KernelO := fun m ρ _ => Cert.KernelO.Gen.frame (F := Bits) m ρ

/-- So does the idealized output projection. -/
theorem frame_oi : Cert.quiescent_KernelOIdeal := fun m ρ _ => Cert.KernelOIdeal.Gen.frame (F := Ideal) m ρ

/-- So does its idealized reference, which has no counter. -/
theorem frame_roi : Cert.quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

/-- The idealization renames nothing in the output projection. -/
theorem preserves_o : Cert.preserves_KernelO_KernelOIdeal := trivial

/-- Over the extended reals the idealized output projection and its idealized reference end with the same result. -/
theorem algebraic_o : Cert.algebraic_KernelOIdeal_ReferenceOIdeal := fun m ρ m' ρ' _ ha =>
  ⟨fun c => O.G (m ((c.tc : Thread Cert.KernelOIdeal.nD Cert.KernelOIdeal.τ).loc Cert.KernelOIdeal.main_arg0))
      (m ((c.tc : Thread Cert.KernelOIdeal.nD Cert.KernelOIdeal.τ).loc Cert.KernelOIdeal.main_arg1))
      (m ((c.tc : Thread Cert.KernelOIdeal.nD Cert.KernelOIdeal.τ).loc Cert.KernelOIdeal.main_arg2))
      (m ((c.tc : Thread Cert.KernelOIdeal.nD Cert.KernelOIdeal.τ).loc Cert.KernelOIdeal.main_arg3)),
    (θ_run Cert.KernelOIdeal.defs _ _).mono (fun _ h c => ⟨((h c).1).trans (O.final m c), (h c).2⟩) (Cert.KernelOIdeal.Value.run_blocks (F := Ideal) m ρ),
    (θ_run Cert.ReferenceOIdeal.defs _ _).mono
      (fun _ h c => ⟨((h c).1).trans ((O.out_eq _ _ _ _ ).trans (by rw [(ha c).1, (ha c).2.1, (ha c).2.2.1, (ha c).2.2.2])), (h c).2⟩)
      (Cert.ReferenceOIdeal.Value.run (F := Ideal) m' ρ')⟩

/-! ### The recurrent layer -/

/-- The recurrent layer, as printed, runs from any memory, faults nowhere, leaves its arguments and every counter. -/
theorem frame_h : Cert.quiescent_KernelH := fun m ρ _ =>
  (θ_run Cert.KernelH.defs _ _).mono (fun _ h => ⟨fun c => (h.1 c).2, h.2⟩) (H.run_main (F := Bits) m ρ)

/-- So does the idealized recurrent layer. -/
theorem frame_hi : Cert.quiescent_KernelHIdeal := fun m ρ _ =>
  (θ_run Cert.KernelHIdeal.defs _ _).mono (fun _ h => ⟨fun c => (h.1 c).2, h.2⟩) (HI.run_main (F := Ideal) m ρ)

/-- So does the idealized recurrent layer from a memory with the precondition. -/
theorem frame_hi_pre : @Cert.quiescent_KernelHIdeal_pre_finite_h Cert.KernelHIdeal.Gen.facts HL.facts_finite := fun m ρ _ => frame_hi m ρ trivial

/-- So does its idealized reference, which has no counter. -/
theorem frame_rhi : Cert.quiescent_ReferenceHIdeal := fun m ρ _ =>
  (θ_run Cert.ReferenceHIdeal.defs _ _).mono (fun r h => ⟨fun c => (h c).2, sem_eq_zero_of_no_sems (by decide) r.2⟩)
    (Cert.ReferenceHIdeal.Value.run (F := Ideal) m ρ)

/-- So does its idealized reference from a memory with the precondition. -/
theorem frame_rhi_pre : @Cert.quiescent_ReferenceHIdeal_pre_finite_h Cert.ReferenceHIdeal.Gen.facts HL.facts_finite := fun m ρ _ => frame_rhi m ρ trivial

/-- The idealization renames nothing in the recurrent layer. -/
theorem preserves_h : Cert.preserves_KernelH_KernelHIdeal := trivial

/-- Over the extended reals, when the norm's weights, the modulation and the input weights are real numbers, the idealized recurrent layer and
    its idealized reference end with the same result. -/
theorem algebraic_h : @Cert.algebraic_KernelHIdeal_ReferenceHIdeal_pre_finite_h Cert.KernelHIdeal.Gen.facts Cert.ReferenceHIdeal.Gen.facts HL.facts_finite :=
  fun m ρ m' ρ' hp ha =>
  have H := fun c => @HL.finite_of _ _ _ _ _ _ _ _ _ HL.facts_finite (hp c)
  ⟨fun c => HL.G (m ((c.tc : Thread Cert.KernelHIdeal.nD Cert.KernelHIdeal.τ).loc Cert.KernelHIdeal.main_arg0))
      (m ((c.tc : Thread Cert.KernelHIdeal.nD Cert.KernelHIdeal.τ).loc Cert.KernelHIdeal.main_arg1))
      (m ((c.tc : Thread Cert.KernelHIdeal.nD Cert.KernelHIdeal.τ).loc Cert.KernelHIdeal.main_arg2))
      (m ((c.tc : Thread Cert.KernelHIdeal.nD Cert.KernelHIdeal.τ).loc Cert.KernelHIdeal.main_arg3))
      (m ((c.tc : Thread Cert.KernelHIdeal.nD Cert.KernelHIdeal.τ).loc Cert.KernelHIdeal.main_arg4))
      (m ((c.tc : Thread Cert.KernelHIdeal.nD Cert.KernelHIdeal.τ).loc Cert.KernelHIdeal.main_arg5))
      (m ((c.tc : Thread Cert.KernelHIdeal.nD Cert.KernelHIdeal.τ).loc Cert.KernelHIdeal.main_arg6))
      (m ((c.tc : Thread Cert.KernelHIdeal.nD Cert.KernelHIdeal.τ).loc Cert.KernelHIdeal.main_arg7))
      (m ((c.tc : Thread Cert.KernelHIdeal.nD Cert.KernelHIdeal.τ).loc Cert.KernelHIdeal.main_arg8)),
    (θ_run Cert.KernelHIdeal.defs _ _).mono (fun _ h c => ⟨((h.1 c).1).trans (HI.final m c (H c)), (h.1 c).2⟩) (HI.run_main (F := Ideal) m ρ),
    (θ_run Cert.ReferenceHIdeal.defs _ _).mono
      (fun _ h c => ⟨((h c).1).trans ((HL.run_result m' c).trans (by
        rw [(ha c).1, (ha c).2.1, (ha c).2.2.1, (ha c).2.2.2.1, (ha c).2.2.2.2.1, (ha c).2.2.2.2.2.1, (ha c).2.2.2.2.2.2.1, (ha c).2.2.2.2.2.2.2.1,
          (ha c).2.2.2.2.2.2.2.2]
        exact HL.result_eq _ _ _ _ _ _ _ _ _ (H c))), (h c).2⟩)
      (Cert.ReferenceHIdeal.Value.run (F := Ideal) m' ρ')⟩

/-! ### The first layer's modulation -/

/-- The first layer's modulation, as printed, runs from any memory, faults nowhere, leaves its arguments and every counter. -/
theorem frame_m0 : Cert.quiescent_KernelM0 := fun m ρ _ => Cert.KernelM0.Gen.frame (F := Bits) m ρ

/-- So does its idealization. -/
theorem frame_m0i : Cert.quiescent_KernelM0Ideal := fun m ρ _ => Cert.KernelM0Ideal.Gen.frame (F := Ideal) m ρ

/-- So does its idealized reference, which has no counter. -/
theorem frame_rm0i : Cert.quiescent_ReferenceM0Ideal := fun m ρ _ =>
  (θ_run Cert.ReferenceM0Ideal.defs _ _).mono (fun r h => ⟨fun c => (h c).2, sem_eq_zero_of_no_sems (by decide) r.2⟩)
    (Cert.ReferenceM0Ideal.Value.run (F := Ideal) m ρ)

/-- The idealization renames nothing in the first layer's modulation. -/
theorem preserves_m0 : Cert.preserves_KernelM0_KernelM0Ideal := trivial

/-- Over the extended reals the first layer's modulation, idealized, and its idealized reference end with the same result. -/
theorem algebraic_m0 : Cert.algebraic_KernelM0Ideal_ReferenceM0Ideal := fun m ρ m' ρ' _ ha =>
  ⟨fun c => M0.G (m ((c.tc : Thread Cert.KernelM0Ideal.nD Cert.KernelM0Ideal.τ).loc Cert.KernelM0Ideal.main_arg0))
      (m ((c.tc : Thread Cert.KernelM0Ideal.nD Cert.KernelM0Ideal.τ).loc Cert.KernelM0Ideal.main_arg1))
      (m ((c.tc : Thread Cert.KernelM0Ideal.nD Cert.KernelM0Ideal.τ).loc Cert.KernelM0Ideal.main_arg2)),
    (θ_run Cert.KernelM0Ideal.defs _ _).mono (fun _ h c => ⟨((h c).1).trans (M0.final m c), (h c).2⟩) (Cert.KernelM0Ideal.Value.run_blocks (F := Ideal) m ρ),
    (θ_run Cert.ReferenceM0Ideal.defs _ _).mono
      (fun _ h c => ⟨((h c).1).trans ((M0.out_eq _ _ _).trans (by rw [(ha c).1, (ha c).2.1, (ha c).2.2])), (h c).2⟩)
      (Cert.ReferenceM0Ideal.Value.run (F := Ideal) m' ρ')⟩

/-! ### The second layer's modulation -/

/-- The second layer's modulation, as printed, runs from any memory, faults nowhere, leaves its arguments and every counter. -/
theorem frame_m1 : Cert.quiescent_KernelM1 := fun m ρ _ => Cert.KernelM1.Gen.frame (F := Bits) m ρ

/-- So does its idealization. -/
theorem frame_m1i : Cert.quiescent_KernelM1Ideal := fun m ρ _ => Cert.KernelM1Ideal.Gen.frame (F := Ideal) m ρ

/-- So does its idealized reference, which has no counter. -/
theorem frame_rm1i : Cert.quiescent_ReferenceM1Ideal := fun m ρ _ =>
  (θ_run Cert.ReferenceM1Ideal.defs _ _).mono (fun r h => ⟨fun c => (h c).2, sem_eq_zero_of_no_sems (by decide) r.2⟩)
    (Cert.ReferenceM1Ideal.Value.run (F := Ideal) m ρ)

/-- The idealization renames nothing in the second layer's modulation. -/
theorem preserves_m1 : Cert.preserves_KernelM1_KernelM1Ideal := trivial

/-- Over the extended reals the second layer's modulation, idealized, and its idealized reference end with the same result. -/
theorem algebraic_m1 : Cert.algebraic_KernelM1Ideal_ReferenceM1Ideal := fun m ρ m' ρ' _ ha =>
  ⟨fun c => M1.G (m ((c.tc : Thread Cert.KernelM1Ideal.nD Cert.KernelM1Ideal.τ).loc Cert.KernelM1Ideal.main_arg0))
      (m ((c.tc : Thread Cert.KernelM1Ideal.nD Cert.KernelM1Ideal.τ).loc Cert.KernelM1Ideal.main_arg1))
      (m ((c.tc : Thread Cert.KernelM1Ideal.nD Cert.KernelM1Ideal.τ).loc Cert.KernelM1Ideal.main_arg2)),
    (θ_run Cert.KernelM1Ideal.defs _ _).mono (fun _ h c => ⟨((h c).1).trans (M1.final m c), (h c).2⟩) (Cert.KernelM1Ideal.Value.run_blocks (F := Ideal) m ρ),
    (θ_run Cert.ReferenceM1Ideal.defs _ _).mono
      (fun _ h c => ⟨((h c).1).trans ((M1.out_eq _ _ _).trans (by rw [(ha c).1, (ha c).2.1, (ha c).2.2])), (h c).2⟩)
      (Cert.ReferenceM1Ideal.Value.run (F := Ideal) m' ρ')⟩

/-! ### The modulation of the keys and values -/

/-- The modulation of the keys and values, as printed, runs from any memory, faults nowhere, leaves its arguments and every counter. -/
theorem frame_mkv : Cert.quiescent_KernelMkv := fun m ρ _ => Cert.KernelMkv.Gen.frame (F := Bits) m ρ

/-- So does its idealization. -/
theorem frame_mkvi : Cert.quiescent_KernelMkvIdeal := fun m ρ _ => Cert.KernelMkvIdeal.Gen.frame (F := Ideal) m ρ

/-- So does its idealized reference, which has no counter. -/
theorem frame_rmkvi : Cert.quiescent_ReferenceMkvIdeal := fun m ρ _ =>
  (θ_run Cert.ReferenceMkvIdeal.defs _ _).mono (fun r h => ⟨fun c => (h c).2, sem_eq_zero_of_no_sems (by decide) r.2⟩)
    (Cert.ReferenceMkvIdeal.Value.run (F := Ideal) m ρ)

/-- The idealization renames nothing in the modulation of the keys and values. -/
theorem preserves_mkv : Cert.preserves_KernelMkv_KernelMkvIdeal := trivial

/-- Over the extended reals the modulation of the keys and values, idealized, and its idealized reference end with the same result. -/
theorem algebraic_mkv : Cert.algebraic_KernelMkvIdeal_ReferenceMkvIdeal := fun m ρ m' ρ' _ ha =>
  ⟨fun c => Mkv.G (m ((c.tc : Thread Cert.KernelMkvIdeal.nD Cert.KernelMkvIdeal.τ).loc Cert.KernelMkvIdeal.main_arg0))
      (m ((c.tc : Thread Cert.KernelMkvIdeal.nD Cert.KernelMkvIdeal.τ).loc Cert.KernelMkvIdeal.main_arg1))
      (m ((c.tc : Thread Cert.KernelMkvIdeal.nD Cert.KernelMkvIdeal.τ).loc Cert.KernelMkvIdeal.main_arg2)),
    (θ_run Cert.KernelMkvIdeal.defs _ _).mono (fun _ h c => ⟨((h c).1).trans (Mkv.final m c), (h c).2⟩) (Cert.KernelMkvIdeal.Value.run_blocks (F := Ideal) m ρ),
    (θ_run Cert.ReferenceMkvIdeal.defs _ _).mono
      (fun _ h c => ⟨((h c).1).trans ((Mkv.out_eq _ _ _).trans (by rw [(ha c).1, (ha c).2.1, (ha c).2.2])), (h c).2⟩)
      (Cert.ReferenceMkvIdeal.Value.run (F := Ideal) m' ρ')⟩

/-- The claims. -/
theorem claim : Cert.Claim :=
  ⟨Cert.Kernel.Gen.facts, Cert.KernelIdeal.Gen.facts, Cert.ReferenceIdeal.Gen.facts, Cert.KernelQ.Gen.facts, Cert.KernelQIdeal.Gen.facts,
    Cert.ReferenceQIdeal.Gen.facts, Cert.KernelKv.Gen.facts, Cert.KernelKvIdeal.Gen.facts, Cert.ReferenceKvIdeal.Gen.facts, Cert.KernelO.Gen.facts,
    Cert.KernelOIdeal.Gen.facts, Cert.ReferenceOIdeal.Gen.facts, Cert.KernelH.Gen.facts, Cert.KernelHIdeal.Gen.facts, Cert.ReferenceHIdeal.Gen.facts,
    Cert.KernelM0.Gen.facts, Cert.KernelM0Ideal.Gen.facts, Cert.ReferenceM0Ideal.Gen.facts, Cert.KernelM1.Gen.facts, Cert.KernelM1Ideal.Gen.facts,
    Cert.ReferenceM1Ideal.Gen.facts, Cert.KernelMkv.Gen.facts, Cert.KernelMkvIdeal.Gen.facts, Cert.ReferenceMkvIdeal.Gen.facts,
    HL.facts_finite, frame_k, frame_ki, frame_ri, frame_q, frame_qi, frame_rqi, frame_kv, frame_kvi,
    frame_rkvi, frame_o, frame_oi, frame_roi, frame_h, frame_hi, frame_hi_pre, frame_rhi, frame_rhi_pre, frame_m0, frame_m0i, frame_rm0i,
    frame_m1, frame_m1i, frame_rm1i, frame_mkv, frame_mkvi, frame_rmkvi, preserves, algebraic, preserves_q, algebraic_q, preserves_kv, algebraic_kv, preserves_o, algebraic_o,
    preserves_h, algebraic_h, preserves_m0, algebraic_m0, preserves_m1, algebraic_m1, preserves_mkv, algebraic_mkv⟩

end Cert.Proof

end
